-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v9) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_v39) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v36) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v41) = v0 c
          ∧ r.2.mem ((c.tc : Thread Cert.Reference24Ideal.nD Cert.Reference24Ideal.τ).loc Cert.Reference24Ideal.main_v42) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v51) = v0 c
          ∧ r.2.mem ((c.tc : Thread Cert.Reference25Ideal.nD Cert.Reference25Ideal.τ).loc Cert.Reference25Ideal.main_v52) = v1 c
          ∧ r.2.mem ((c.tc : Thread Cert.Reference25Ideal.nD Cert.Reference25Ideal.τ).loc Cert.Reference25Ideal.main_v53) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v52) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v2_4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2_4) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v57) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite_qk : Cert.Pre_finite_qk.Facts) (hPre_finite_ffn : Cert.Pre_finite_ffn.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite_ffn.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S8192x2048 .f32) (main_arg1 : FVec F S8192x2048 .bf16) (main_arg2 : FVec F S2048x5632 .bf16) (main_arg3 : FVec F S2048x5632 .bf16) (main_arg4 : FVec F S5632x2048 .bf16) : IVec S8192x2048 1 × IVec S8192x2048 1 × IVec S2048x5632 1 × IVec S5632x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := (extf .f32 · bitsLt_bf16_f32) main_arg1
  let main_v4 : FVec F S8192x2048 .f32 := Host.absf main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S2048x5632 .f32 := (extf .f32 · bitsLt_bf16_f32) main_arg3
  let main_v8 : FVec F S2048x5632 .f32 := Host.absf main_v7
  let main_cst_1 : FVec F S_ .f32 := constant S_ .f32 0x7F800000#32
  let main_v9 : FVec F S2048x5632 .f32 := broadcastInDim S2048x5632 ![] bcast_S_S2048x5632 main_cst_1
  let main_v10 : IVec S2048x5632 1 := cmpf .olt main_v8 main_v9
  let main_v11 : FVec F S5632x2048 .f32 := (extf .f32 · bitsLt_bf16_f32) main_arg4
  let main_v12 : FVec F S5632x2048 .f32 := Host.absf main_v11
  let main_cst_2 : FVec F S_ .f32 := constant S_ .f32 0x7F800000#32
  let main_v13 : FVec F S5632x2048 .f32 := broadcastInDim S5632x2048 ![] bcast_S_S5632x2048 main_cst_2
  let main_v14 : IVec S5632x2048 1 := cmpf .olt main_v12 main_v13
  (main_v2, main_v6, main_v10, main_v14)
-- ==== Pre_finite_qk.lean ====
abbrev S8192x2048 : Shape := ⟨2, ![8192, 2048]⟩
abbrev S256x4096 : Shape := ⟨2, ![256, 4096]⟩
abbrev S256x2048 : Shape := ⟨2, ![256, 2048]⟩
abbrev S_ : Shape := ⟨0, ![]⟩

class Facts : Prop where
  slices_S256x4096_S256x2048_0_0 : S256x4096.Slices ![0, 0] S256x2048
  bitsLt_bf16_f32 : FTy.bits .bf16 < FTy.bits .f32
  bcast_S_S8192x2048 : S_.BroadcastsInDim S8192x2048 (![] : Fin 0 → Fin S8192x2048.rank)
  bcast_S_S256x2048 : S_.BroadcastsInDim S256x2048 (![] : Fin 0 → Fin S256x2048.rank)

variable [Facts]

def fn {F : FTy → Type} [FloatOps F] (main_arg0 : FVec F S8192x2048 .bf16) (main_arg1 : FVec F S256x4096 .bf16) (main_arg2 : FVec F S8192x2048 .bf16) : IVec S8192x2048 1 × IVec S256x2048 1 :=
  let main_v0 : FVec F S256x2048 .bf16 := (extractStridedSlice S256x2048 ![0, 0] · slices_S256x4096_S256x2048_0_0) main_arg1
  let main_v1 : FVec F S8192x2048 .f32 := (extf .f32 · bitsLt_bf16_f32) main_arg0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S256x2048 .f32 := (extf .f32 · bitsLt_bf16_f32) main_v0
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  (main_v4, main_v8)
-- ==== Kernel.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S256x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x2048 : Shape := ⟨2, ![8192, 2048]⟩
abbrev S256x4096 : Shape := ⟨2, ![256, 4096]⟩
abbrev S1x8192x4x512 : Shape := ⟨4, ![1, 8192, 4, 512]⟩
abbrev S256x2048 : Shape := ⟨2, ![256, 2048]⟩
abbrev S1x256x4x512 : Shape := ⟨4, ![1, 256, 4, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x512x8192 : Shape := ⟨4, ![1, 4, 512, 8192]⟩
abbrev S1x4x512x256 : Shape := ⟨4, ![1, 4, 512, 256]⟩
abbrev S4x8192 : Shape := ⟨2, ![4, 8192]⟩
abbrev S1x4x256x512 : Shape := ⟨4, ![1, 4, 256, 512]⟩
abbrev S1x4x8192x512 : Shape := ⟨4, ![1, 4, 8192, 512]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .f32⟩
  | .hbm, ⟨4, _⟩ => ⟨S256x4096, .f32⟩
  | .hbm, ⟨5, _⟩ => ⟨S8192x2048, .f32⟩
  | .hbm, ⟨6, _⟩ => ⟨S1x8192x4x512, .f32⟩
  | .hbm, ⟨7, _⟩ => ⟨S256x2048, .f32⟩
  | .hbm, ⟨8, _⟩ => ⟨S1x256x4x512, .f32⟩
  | .hbm, ⟨9, _⟩ => ⟨S256x2048, .f32⟩
  | .hbm, ⟨10, _⟩ => ⟨S1x256x4x512, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S1x4x8192x1, .f32⟩
  | .hbm, ⟨18, _⟩ => ⟨S1x4x8192x256, .f32⟩
  | .hbm, ⟨19, _⟩ => ⟨S1x4x8192x256, .i1⟩
  | .hbm, ⟨20, _⟩ => ⟨S1x4x8192x256, .f32⟩
  | .hbm, ⟨21, _⟩ => ⟨S_, .f32⟩
  | .hbm, ⟨22, _⟩ => ⟨S1x4x8192, .f32⟩
  | .hbm, ⟨23, _⟩ => ⟨S_, .f32⟩
  | .hbm, ⟨24, _⟩ => ⟨S1x4x8192, .f32⟩
  | .hbm, ⟨25, _⟩ => ⟨S1x4x8192, .f32⟩
  | .hbm, ⟨26, _⟩ => ⟨S_, .f32⟩
  | .hbm, ⟨27, _⟩ => ⟨S1x4x8192, .f32⟩
  | .hbm, ⟨28, _⟩ => ⟨S1x4x8192, .i1⟩
  | .hbm, ⟨29, _⟩ => ⟨S_, .f32⟩
  | .hbm, ⟨30, _⟩ => ⟨S1x4x8192, .f32⟩
  | .hbm, ⟨31, _⟩ => ⟨S1x4x8192, .i1⟩
  | .hbm, ⟨32, _⟩ => ⟨S_, .f32⟩
  | .hbm, ⟨33, _⟩ => ⟨S1x4x8192, .f32⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S1x4x8192, .f32⟩
  | .hbm, ⟨39, _⟩ => ⟨S1x4x8192, .f32⟩
  | .hbm, ⟨40, _⟩ => ⟨S1x4x8192x1, .f32⟩
  | .hbm, ⟨41, _⟩ => ⟨S1x4x8192x256, .f32⟩
  | .hbm, ⟨42, _⟩ => ⟨S1x4x8192x256, .f32⟩
  | .hbm, ⟨43, _⟩ => ⟨S1x4x8192x256, .f32⟩
  | .hbm, ⟨44, _⟩ => ⟨S_, .f32⟩
  | .hbm, ⟨45, _⟩ => ⟨S1x4x8192, .f32⟩
  | .hbm, ⟨46, _⟩ => ⟨S1x4x8192x1, .f32⟩
  | .hbm, ⟨47, _⟩ => ⟨S1x4x8192x256, .f32⟩
  | .hbm, ⟨48, _⟩ => ⟨S1x4x8192x256, .f32⟩
  | .hbm, ⟨49, _⟩ => ⟨S1x4x8192x1, .f32⟩
  | .hbm, ⟨50, _⟩ => ⟨S_, .f32⟩
  | .hbm, ⟨51, _⟩ => ⟨S1x4x8192x1, .f32⟩
  | .hbm, ⟨52, _⟩ => ⟨S1x4x8192x1, .f32⟩
  | .hbm, ⟨53, _⟩ => ⟨S1x4x512x8192, .f32⟩
  | .hbm, ⟨54, _⟩ => ⟨S1x8192x4x512, .f32⟩
  | .hbm, ⟨55, _⟩ => ⟨S8192x2048, .f32⟩
  | .hbm, ⟨56, _⟩ => ⟨S1x8192x4x512, .f32⟩
  | .hbm, ⟨57, _⟩ => ⟨S1x4x512x8192, .f32⟩
  | .hbm, ⟨58, _⟩ => ⟨S1x4x8192x256, .f32⟩
  | .hbm, ⟨59, _⟩ => ⟨S1x4x512x256, .f32⟩
  | .hbm, ⟨60, _⟩ => ⟨S1x256x4x512, .f32⟩
  | .hbm, ⟨61, _⟩ => ⟨S1x4x8192x256, .f32⟩
  | .hbm, ⟨62, _⟩ => ⟨S1x4x8192x256, .f32⟩
  | .hbm, ⟨63, _⟩ => ⟨S1x4x8192x256, .f32⟩
  | .hbm, ⟨64, _⟩ => ⟨S_, .f32⟩
  | .hbm, ⟨65, _⟩ => ⟨S1x4x8192, .f32⟩
  | .hbm, ⟨66, _⟩ => ⟨S1x4x8192x1, .f32⟩
  | .hbm, ⟨67, _⟩ => ⟨S1x4x8192x1, .f32⟩
  | .hbm, ⟨68, _⟩ => ⟨S1x4x8192x256, .f32⟩
  | .hbm, ⟨69, _⟩ => ⟨S1x4x8192x256, .f32⟩
  | .hbm, ⟨70, _⟩ => ⟨S_, .f32⟩
  | .hbm, ⟨71, _⟩ => ⟨S4x8192, .f32⟩
  | .hbm, ⟨72, _⟩ => ⟨S1x4x8192, .f32⟩
  | .hbm, ⟨73, _⟩ => ⟨S1x4x8192x256, .f32⟩
  | .hbm, ⟨74, _⟩ => ⟨S1x4x8192x256, .f32⟩
  | .hbm, ⟨75, _⟩ => ⟨S1x4x8192x256, .f32⟩
  | .hbm, ⟨76, _⟩ => ⟨S_, .f32⟩
  | .hbm, ⟨77, _⟩ => ⟨S1x4x8192x256, .f32⟩
  | .hbm, ⟨78, _⟩ => ⟨S1x4x8192x256, .f32⟩
  | .hbm, ⟨79, _⟩ => ⟨S1x4x256x512, .f32⟩
  | .hbm, ⟨80, _⟩ => ⟨S1x256x4x512, .f32⟩
  | .hbm, ⟨81, _⟩ => ⟨S1x4x8192x512, .f32⟩
  | .hbm, ⟨82, _⟩ => ⟨S1x8192x4x512, .f32⟩
  | .hbm, ⟨83, _⟩ => ⟨S256x2048, .f32⟩
  | .hbm, ⟨84, _⟩ => ⟨S_, .f32⟩
  | .hbm, ⟨85, _⟩ => ⟨S256x4096, .f32⟩
  | .hbm, ⟨86, _⟩ => ⟨S256x2048, .f32⟩
  | .hbm, ⟨87, _⟩ => ⟨S_, .f32⟩
  | .hbm, ⟨88, _⟩ => ⟨S256x4096, .f32⟩
  | .hbm, ⟨89, _⟩ => ⟨S256x4096, .f32⟩
  | .hbm, ⟨90, _⟩ => ⟨S8192x2048, .f32⟩
  | .hbm, ⟨91, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S8192x5632 : Shape := ⟨2, ![8192, 5632]⟩
abbrev S8192x8x704 : Shape := ⟨3, ![8192, 8, 704]⟩
abbrev S8x8192x704 : Shape := ⟨3, ![8, 8192, 704]⟩
abbrev S512x2048 : Shape := ⟨2, ![512, 2048]⟩
abbrev S1x512x704 : Shape := ⟨3, ![1, 512, 704]⟩
abbrev S1x2048x704 : Shape := ⟨3, ![1, 2048, 704]⟩
abbrev S1x704x2048 : Shape := ⟨3, ![1, 704, 2048]⟩
abbrev S512x704 : Shape := ⟨2, ![512, 704]⟩
abbrev S704x2048 : Shape := ⟨2, ![704, 2048]⟩
abbrev S2048x704 : Shape := ⟨2, ![2048, 704]⟩

abbrev nBuf : Space → Nat
  | .hbm => 23
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x8x704, .bf16⟩
  | .hbm, ⟨6, _⟩ => ⟨S8x2048x704, .bf16⟩
  | .hbm, ⟨7, _⟩ => ⟨S2048x8x704, .bf16⟩
  | .hbm, ⟨8, _⟩ => ⟨S8x2048x704, .bf16⟩
  | .hbm, ⟨9, _⟩ => ⟨S8x704x2048, .bf16⟩
  | .hbm, ⟨10, _⟩ => ⟨S8192x5632, .f32⟩
  | .hbm, ⟨11, _⟩ => ⟨S8192x5632, .bf16⟩
  | .hbm, ⟨12, _⟩ => ⟨S8192x5632, .f32⟩
  | .hbm, ⟨13, _⟩ => ⟨S8192x5632, .bf16⟩
  | .hbm, ⟨14, _⟩ => ⟨S8192x8x704, .bf16⟩
  | .hbm, ⟨15, _⟩ => ⟨S8x8192x704, .bf16⟩
  | .hbm, ⟨16, _⟩ => ⟨S8192x8x704, .bf16⟩
  | .hbm, ⟨17, _⟩ => ⟨S8x8192x704, .bf16⟩
  | .hbm, ⟨18, _⟩ => ⟨S8192x2048, .f32⟩
  | .hbm, ⟨19, _⟩ => ⟨S8192x2048, .bf16⟩
  | .hbm, ⟨20, _⟩ => ⟨S8x8192x704, .bf16⟩
  | .hbm, ⟨21, _⟩ => ⟨S8x8192x704, .bf16⟩
  | .hbm, ⟨22, _⟩ => ⟨S8x8192x704, .bf16⟩
  | .local _ .vmem, ⟨0, _⟩ => ⟨S512x2048, .f32⟩
  | .local _ .vmem, ⟨1, _⟩ => ⟨S512x2048, .f32⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x2048, .bf16⟩
  | .local _ .vmem, ⟨11, _⟩ => ⟨S1x704x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x704, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x8x704, .f32⟩
  | .hbm, ⟨44, _⟩ => ⟨S8x8192x704, .f32⟩
  | .hbm, ⟨45, _⟩ => ⟨S8192x8x704, .f32⟩
  | .hbm, ⟨46, _⟩ => ⟨S8x8192x704, .f32⟩
  | .hbm, ⟨47, _⟩ => ⟨S8192x8x704, .f32⟩
  | .hbm, ⟨48, _⟩ => ⟨S8x8192x704, .f32⟩
  | .hbm, ⟨49, _⟩ => ⟨S8192x2048, .bf16⟩
  | .hbm, ⟨50, _⟩ => ⟨S8x8192x704, .bf16⟩
  | .hbm, ⟨51, _⟩ => ⟨S8x8192x704, .bf16⟩
  | .hbm, ⟨52, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S8x704x2048 : Shape := ⟨3, ![8, 704, 2048]⟩
abbrev S2048x8x704 : Shape := ⟨3, ![2048, 8, 704]⟩
abbrev S8x2048x704 : Shape := ⟨3, ![8, 2048, 704]⟩
abbrev S8x8192x704 : Shape := ⟨3, ![8, 8192, 704]⟩
abbrev S512x2048 : Shape := ⟨2, ![512, 2048]⟩
abbrev S1x2048x704 : Shape := ⟨3, ![1, 2048, 704]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S256x2048 : Shape := ⟨2, ![256, 2048]⟩
abbrev S2048x704 : Shape := ⟨2, ![2048, 704]⟩
abbrev S256x704 : Shape := ⟨2, ![256, 704]⟩
abbrev S1x256x704 : Shape := ⟨3, ![1, 256, 704]⟩
abbrev S704x2048 : Shape := ⟨2, ![704, 2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8x704x2048, .bf16⟩
  | .hbm, ⟨6, _⟩ => ⟨S2048x8x704, .bf16⟩
  | .hbm, ⟨7, _⟩ => ⟨S8x2048x704, .bf16⟩
  | .hbm, ⟨8, _⟩ => ⟨S2048x8x704, .bf16⟩
  | .hbm, ⟨9, _⟩ => ⟨S8x2048x704, .bf16⟩
  | .hbm, ⟨10, _⟩ => ⟨S8192x2048, .f32⟩
  | .hbm, ⟨11, _⟩ => ⟨S8192x2048, .bf16⟩
  | .hbm, ⟨12, _⟩ => ⟨S8x8192x704, .bf16⟩
  | .hbm, ⟨13, _⟩ => ⟨S8x8192x704, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x704x2048, .bf16⟩
  | .local _ .vmem, ⟨8, _⟩ => ⟨S1x704x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x8x704, .f32⟩
  | .hbm, ⟨43, _⟩ => ⟨S8x8192x704, .f32⟩
  | .hbm, ⟨44, _⟩ => ⟨S8192x8x704, .f32⟩
  | .hbm, ⟨45, _⟩ => ⟨S8x8192x704, .f32⟩
  | .hbm, ⟨46, _⟩ => ⟨S8192x2048, .bf16⟩
  | .hbm, ⟨47, _⟩ => ⟨S8x8192x704, .bf16⟩
  | .hbm, ⟨48, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel4.lean ====
abbrev S1x2048x704 : Shape := ⟨3, ![1, 2048, 704]⟩
abbrev S4x704x2048 : Shape := ⟨3, ![4, 704, 2048]⟩
abbrev S1x704x2048 : Shape := ⟨3, ![1, 704, 2048]⟩
abbrev S704x2048 : Shape := ⟨2, ![704, 2048]⟩
abbrev S88x2048 : Shape := ⟨2, ![88, 2048]⟩
abbrev S4x88x2048 : Shape := ⟨3, ![4, 88, 2048]⟩
abbrev S1x88x2048 : Shape := ⟨3, ![1, 88, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x704x2048, .bf16⟩
  | .hbm, ⟨4, _⟩ => ⟨S1x704x2048, .f32⟩
  | .hbm, ⟨5, _⟩ => ⟨S704x2048, .f32⟩
  | .hbm, ⟨6, _⟩ => ⟨S1x704x2048, .f32⟩
  | .hbm, ⟨7, _⟩ => ⟨S704x2048, .f32⟩
  | .hbm, ⟨8, _⟩ => ⟨S1x704x2048, .f32⟩
  | .hbm, ⟨9, _⟩ => ⟨S704x2048, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S704x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S4x88x2048, .bf16⟩
  | .local _ .vmem, ⟨7, _⟩ => ⟨S4x88x2048, .bf16⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x88x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel4Ideal.lean ====
abbrev S1x2048x704 : Shape := ⟨3, ![1, 2048, 704]⟩
abbrev S4x704x2048 : Shape := ⟨3, ![4, 704, 2048]⟩
abbrev S1x704x2048 : Shape := ⟨3, ![1, 704, 2048]⟩
abbrev S704x2048 : Shape := ⟨2, ![704, 2048]⟩
abbrev S88x2048 : Shape := ⟨2, ![88, 2048]⟩
abbrev S4x88x2048 : Shape := ⟨3, ![4, 88, 2048]⟩
abbrev S1x88x2048 : Shape := ⟨3, ![1, 88, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x704x2048, .bf16⟩
  | .hbm, ⟨4, _⟩ => ⟨S1x704x2048, .f32⟩
  | .hbm, ⟨5, _⟩ => ⟨S704x2048, .f32⟩
  | .hbm, ⟨6, _⟩ => ⟨S1x704x2048, .f32⟩
  | .hbm, ⟨7, _⟩ => ⟨S704x2048, .f32⟩
  | .hbm, ⟨8, _⟩ => ⟨S1x704x2048, .f32⟩
  | .hbm, ⟨9, _⟩ => ⟨S704x2048, .f32⟩
  | .hbm, ⟨10, _⟩ => ⟨S704x2048, .f32⟩
  | .hbm, ⟨11, _⟩ => ⟨S704x2048, .f32⟩
  | .hbm, ⟨12, _⟩ => ⟨S704x2048, .f32⟩
  | .hbm, ⟨13, _⟩ => ⟨S704x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S4x88x2048, .bf16⟩
  | .local _ .vmem, ⟨7, _⟩ => ⟨S4x88x2048, .bf16⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x88x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1x2048x704 : Shape := ⟨3, ![1, 2048, 704]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x704x2048, .bf16⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S1x704x2048, .f32⟩
  | .hbm, ⟨8, _⟩ => ⟨S1x2048x704, .f32⟩
  | .hbm, ⟨9, _⟩ => ⟨S_, .f32⟩
  | .hbm, ⟨10, _⟩ => ⟨S1x2048x704, .f32⟩
  | .hbm, ⟨11, _⟩ => ⟨S1x2048x704, .f32⟩
  | .hbm, ⟨12, _⟩ => ⟨S_, .f32⟩
  | .hbm, ⟨13, _⟩ => ⟨S1x2048x704, .f32⟩
  | .hbm, ⟨14, _⟩ => ⟨S1x2048x704, .f32⟩
  | .hbm, ⟨15, _⟩ => ⟨S1x2048x704, .f32⟩
  | .hbm, ⟨16, _⟩ => ⟨S_, .f32⟩
  | .hbm, ⟨17, _⟩ => ⟨S1x2048x704, .f32⟩
  | .hbm, ⟨18, _⟩ => ⟨S1x2048x704, .f32⟩
  | .hbm, ⟨19, _⟩ => ⟨S1x2048x704, .f32⟩
  | .hbm, ⟨20, _⟩ => ⟨S_, .f32⟩
  | .hbm, ⟨21, _⟩ => ⟨S1x2048x704, .f32⟩
  | .hbm, ⟨22, _⟩ => ⟨S1x2048x704, .f32⟩
  | .hbm, ⟨23, _⟩ => ⟨S1x2048x704, .f32⟩
  | .hbm, ⟨24, _⟩ => ⟨S_, .f32⟩
  | .hbm, ⟨25, _⟩ => ⟨S1x2048x704, .f32⟩
  | .hbm, ⟨26, _⟩ => ⟨S1x2048x704, .f32⟩
  | .hbm, ⟨27, _⟩ => ⟨S_, .f32⟩
  | .hbm, ⟨28, _⟩ => ⟨S1x2048x704, .f32⟩
  | .hbm, ⟨29, _⟩ => ⟨S1x2048x704, .f32⟩
  | .hbm, ⟨30, _⟩ => ⟨S1x2048x704, .f32⟩
  | .hbm, ⟨31, _⟩ => ⟨S_, .f32⟩
  | .hbm, ⟨32, _⟩ => ⟨S1x2048x704, .f32⟩
  | .hbm, ⟨33, _⟩ => ⟨S1x2048x704, .f32⟩
  | .hbm, ⟨34, _⟩ => ⟨S1x2048x704, .f32⟩
  | .hbm, ⟨35, _⟩ => ⟨S_, .f32⟩
  | .hbm, ⟨36, _⟩ => ⟨S1x2048x704, .f32⟩
  | .hbm, ⟨37, _⟩ => ⟨S1x2048x704, .f32⟩
  | .hbm, ⟨38, _⟩ => ⟨S1x2048x704, .f32⟩
  | .hbm, ⟨39, _⟩ => ⟨S_, .f32⟩
  | .hbm, ⟨40, _⟩ => ⟨S1x2048x704, .f32⟩
  | .hbm, ⟨41, _⟩ => ⟨S1x2048x704, .f32⟩
  | .hbm, ⟨42, _⟩ => ⟨S1x704x2048, .f32⟩
  | .hbm, ⟨43, _⟩ => ⟨S704x2048, .f32⟩
  | .hbm, ⟨44, _⟩ => ⟨S1x704x2048, .f32⟩
  | .hbm, ⟨45, _⟩ => ⟨S704x2048, .f32⟩
  | .hbm, ⟨46, _⟩ => ⟨S1x704x2048, .f32⟩
  | .hbm, ⟨47, _⟩ => ⟨S704x2048, .f32⟩
  | .hbm, ⟨48, _⟩ => ⟨S1x704x2048, .f32⟩
  | .hbm, ⟨49, _⟩ => ⟨S704x2048, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel5.lean ====
abbrev S1x704x2048 : Shape := ⟨3, ![1, 704, 2048]⟩
abbrev S4x704x2048 : Shape := ⟨3, ![4, 704, 2048]⟩
abbrev S704x2048 : Shape := ⟨2, ![704, 2048]⟩
abbrev S88x2048 : Shape := ⟨2, ![88, 2048]⟩
abbrev S4x88x2048 : Shape := ⟨3, ![4, 88, 2048]⟩
abbrev S1x88x2048 : Shape := ⟨3, ![1, 88, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S4x704x2048, .bf16⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S4x88x2048, .bf16⟩
  | .local _ .vmem, ⟨7, _⟩ => ⟨S4x88x2048, .bf16⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x88x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
abbrev S1x704x2048 : Shape := ⟨3, ![1, 704, 2048]⟩
abbrev S4x704x2048 : Shape := ⟨3, ![4, 704, 2048]⟩
abbrev S704x2048 : Shape := ⟨2, ![704, 2048]⟩
abbrev S88x2048 : Shape := ⟨2, ![88, 2048]⟩
abbrev S4x88x2048 : Shape := ⟨3, ![4, 88, 2048]⟩
abbrev S1x88x2048 : Shape := ⟨3, ![1, 88, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S4x704x2048, .bf16⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S4x88x2048, .bf16⟩
  | .local _ .vmem, ⟨7, _⟩ => ⟨S4x88x2048, .bf16⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x88x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1x704x2048 : Shape := ⟨3, ![1, 704, 2048]⟩
abbrev S4x704x2048 : Shape := ⟨3, ![4, 704, 2048]⟩
abbrev S_ : Shape := ⟨0, ![]⟩
abbrev S704x2048 : Shape := ⟨2, ![704, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S4x704x2048, .bf16⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S_, .f32⟩
  | .hbm, ⟨14, _⟩ => ⟨S704x2048, .f32⟩
  | .hbm, ⟨15, _⟩ => ⟨S704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S704x2048, .f32⟩
  | .hbm, ⟨40, _⟩ => ⟨S_, .f32⟩
  | .hbm, ⟨41, _⟩ => ⟨S704x2048, .f32⟩
  | .hbm, ⟨42, _⟩ => ⟨S704x2048, .f32⟩
  | _, _ => ⟨S1x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel6.lean ====
abbrev S1x2048x416 : Shape := ⟨3, ![1, 2048, 416]⟩
abbrev S8x416x2048 : Shape := ⟨3, ![8, 416, 2048]⟩
abbrev S1x416x2048 : Shape := ⟨3, ![1, 416, 2048]⟩
abbrev S416x2048 : Shape := ⟨2, ![416, 2048]⟩
abbrev S104x2048 : Shape := ⟨2, ![104, 2048]⟩
abbrev S8x104x2048 : Shape := ⟨3, ![8, 104, 2048]⟩
abbrev S1x104x2048 : Shape := ⟨3, ![1, 104, 2048]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x416, .f32⟩
  | .hbm, ⟨1, _⟩ => ⟨S1x2048x416, .f32⟩
  | .hbm, ⟨2, _⟩ => ⟨S1x2048x416, .f32⟩
  | .hbm, ⟨3, _⟩ => ⟨S8x416x2048, .bf16⟩
  | .hbm, ⟨4, _⟩ => ⟨S1x416x2048, .f32⟩
  | .hbm, ⟨5, _⟩ => ⟨S416x2048, .f32⟩
  | .hbm, ⟨6, _⟩ => ⟨S1x416x2048, .f32⟩
  | .hbm, ⟨7, _⟩ => ⟨S416x2048, .f32⟩
  | .hbm, ⟨8, _⟩ => ⟨S1x416x2048, .f32⟩
  | .hbm, ⟨9, _⟩ => ⟨S416x2048, .f32⟩
  | .hbm, ⟨10, _⟩ => ⟨S416x2048, .f32⟩
  | .hbm, ⟨11, _⟩ => ⟨S416x2048, .f32⟩
  | .hbm, ⟨12, _⟩ => ⟨S416x2048, .f32⟩
  | .hbm, ⟨13, _⟩ => ⟨S416x2048, .f32⟩
  | .local _ .vmem, ⟨0, _⟩ => ⟨S104x2048, .f32⟩
  | .local _ .vmem, ⟨1, _⟩ => ⟨S104x2048, .f32⟩
  | .local _ .vmem, ⟨2, _⟩ => ⟨S104x2048, .f32⟩
  | .local _ .vmem, ⟨3, _⟩ => ⟨S104x2048, .f32⟩
  | .local _ .vmem, ⟨4, _⟩ => ⟨S104x2048, .f32⟩
  | .local _ .vmem, ⟨5, _⟩ => ⟨S104x2048, .f32⟩
  | .local _ .vmem, ⟨6, _⟩ => ⟨S8x104x2048, .bf16⟩
  | .local _ .vmem, ⟨7, _⟩ => ⟨S8x104x2048, .bf16⟩
  | .local _ .vmem, ⟨8, _⟩ => ⟨S104x2048, .f32⟩
  | .local _ .vmem, ⟨9, _⟩ => ⟨S104x2048, .f32⟩
  | .local _ .vmem, ⟨10, _⟩ => ⟨S104x2048, .f32⟩
  | .local _ .vmem, ⟨11, _⟩ => ⟨S104x2048, .f32⟩
  | .local _ .vmem, ⟨12, _⟩ => ⟨S104x2048, .f32⟩
  | .local _ .vmem, ⟨13, _⟩ => ⟨S104x2048, .f32⟩
  | .local _ .vmem, ⟨14, _⟩ => ⟨S104x2048, .f32⟩
  | .local _ .vmem, ⟨15, _⟩ => ⟨S104x2048, .f32⟩
  | _, _ => ⟨S1x2048x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S104x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S104x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S104x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x104x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S104x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S104x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S104x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S104x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1x2048x416 : Shape := ⟨3, ![1, 2048, 416]⟩
abbrev S8x416x2048 : Shape := ⟨3, ![8, 416, 2048]⟩
abbrev S_ : Shape := ⟨0, ![]⟩
abbrev S416x2048 : Shape := ⟨2, ![416, 2048]⟩
abbrev S1x416x2048 : Shape := ⟨3, ![1, 416, 2048]⟩

abbrev nBuf : Space → Nat
  | .hbm => 50
  | .vmem => 0
  | .smem => 0
  | _ => 0

abbrev bufTy : (tb : Table) → Fin (tcTables nBuf tb) → BufTy
  | .hbm, ⟨0, _⟩ => ⟨S1x2048x416, .f32⟩
  | .hbm, ⟨1, _⟩ => ⟨S1x2048x416, .f32⟩
  | .hbm, ⟨2, _⟩ => ⟨S1x2048x416, .f32⟩
  | .hbm, ⟨3, _⟩ => ⟨S8x416x2048, .bf16⟩
  | .hbm, ⟨4, _⟩ => ⟨S8x416x2048, .f32⟩
  | .hbm, ⟨5, _⟩ => ⟨S_, .f32⟩
  | .hbm, ⟨6, _⟩ => ⟨S416x2048, .f32⟩
  | .hbm, ⟨7, _⟩ => ⟨S1x416x2048, .f32⟩
  | .hbm, ⟨8, _⟩ => ⟨S1x2048x416, .f32⟩
  | .hbm, ⟨9, _⟩ => ⟨S_, .f32⟩
  | .hbm, ⟨10, _⟩ => ⟨S1x2048x416, .f32⟩
  | .hbm, ⟨11, _⟩ => ⟨S1x2048x416, .f32⟩
  | .hbm, ⟨12, _⟩ => ⟨S_, .f32⟩
  | .hbm, ⟨13, _⟩ => ⟨S1x2048x416, .f32⟩
  | .hbm, ⟨14, _⟩ => ⟨S1x2048x416, .f32⟩
  | .hbm, ⟨15, _⟩ => ⟨S1x2048x416, .f32⟩
  | .hbm, ⟨16, _⟩ => ⟨S_, .f32⟩
  | .hbm, ⟨17, _⟩ => ⟨S1x2048x416, .f32⟩
  | .hbm, ⟨18, _⟩ => ⟨S1x2048x416, .f32⟩
  | .hbm, ⟨19, _⟩ => ⟨S1x2048x416, .f32⟩
  | .hbm, ⟨20, _⟩ => ⟨S_, .f32⟩
  | .hbm, ⟨21, _⟩ => ⟨S1x2048x416, .f32⟩
  | .hbm, ⟨22, _⟩ => ⟨S1x2048x416, .f32⟩
  | .hbm, ⟨23, _⟩ => ⟨S1x2048x416, .f32⟩
  | .hbm, ⟨24, _⟩ => ⟨S_, .f32⟩
  | .hbm, ⟨25, _⟩ => ⟨S1x2048x416, .f32⟩
  | .hbm, ⟨26, _⟩ => ⟨S1x2048x416, .f32⟩
  | .hbm, ⟨27, _⟩ => ⟨S_, .f32⟩
  | .hbm, ⟨28, _⟩ => ⟨S1x2048x416, .f32⟩
  | .hbm, ⟨29, _⟩ => ⟨S1x2048x416, .f32⟩
  | .hbm, ⟨30, _⟩ => ⟨S1x2048x416, .f32⟩
  | .hbm, ⟨31, _⟩ => ⟨S_, .f32⟩
  | .hbm, ⟨32, _⟩ => ⟨S1x2048x416, .f32⟩
  | .hbm, ⟨33, _⟩ => ⟨S1x2048x416, .f32⟩
  | .hbm, ⟨34, _⟩ => ⟨S1x2048x416, .f32⟩
  | .hbm, ⟨35, _⟩ => ⟨S_, .f32⟩
  | .hbm, ⟨36, _⟩ => ⟨S1x2048x416, .f32⟩
  | .hbm, ⟨37, _⟩ => ⟨S1x2048x416, .f32⟩
  | .hbm, ⟨38, _⟩ => ⟨S1x2048x416, .f32⟩
  | .hbm, ⟨39, _⟩ => ⟨S_, .f32⟩
  | .hbm, ⟨40, _⟩ => ⟨S1x2048x416, .f32⟩
  | .hbm, ⟨41, _⟩ => ⟨S1x2048x416, .f32⟩
  | .hbm, ⟨42, _⟩ => ⟨S1x416x2048, .f32⟩
  | .hbm, ⟨43, _⟩ => ⟨S416x2048, .f32⟩
  | .hbm, ⟨44, _⟩ => ⟨S1x416x2048, .f32⟩
  | .hbm, ⟨45, _⟩ => ⟨S416x2048, .f32⟩
  | .hbm, ⟨46, _⟩ => ⟨S1x416x2048, .f32⟩
  | .hbm, ⟨47, _⟩ => ⟨S416x2048, .f32⟩
  | .hbm, ⟨48, _⟩ => ⟨S1x416x2048, .f32⟩
  | .hbm, ⟨49, _⟩ => ⟨S416x2048, .f32⟩
  | _, _ => ⟨S1x2048x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel7.lean ====
abbrev S1x256x2048 : Shape := ⟨3, ![1, 256, 2048]⟩
abbrev S8x256x2048 : Shape := ⟨3, ![8, 256, 2048]⟩
abbrev S256x2048 : Shape := ⟨2, ![256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel7Ideal.lean ====
abbrev S1x256x2048 : Shape := ⟨3, ![1, 256, 2048]⟩
abbrev S8x256x2048 : Shape := ⟨3, ![8, 256, 2048]⟩
abbrev S256x2048 : Shape := ⟨2, ![256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1x256x2048 : Shape := ⟨3, ![1, 256, 2048]⟩
abbrev S8x256x2048 : Shape := ⟨3, ![8, 256, 2048]⟩
abbrev S_ : Shape := ⟨0, ![]⟩
abbrev S256x2048 : Shape := ⟨2, ![256, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel8.lean ====
abbrev S1x2048x512 : Shape := ⟨3, ![1, 2048, 512]⟩
abbrev S8x2048x512 : Shape := ⟨3, ![8, 2048, 512]⟩
abbrev S2048x512 : Shape := ⟨2, ![2048, 512]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 11
  | .vmem => 16
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512x512, .bf16⟩
  | .local _ .vmem, ⟨7, _⟩ => ⟨S8x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1x2048x512 : Shape := ⟨3, ![1, 2048, 512]⟩
abbrev S8x2048x512 : Shape := ⟨3, ![8, 2048, 512]⟩
abbrev S_ : Shape := ⟨0, ![]⟩
abbrev S2048x512 : Shape := ⟨2, ![2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S8x2048x512, .bf16⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel9.lean ====
abbrev S1280x128 : Shape := ⟨2, ![1280, 128]⟩
abbrev S8x1280x128 : Shape := ⟨3, ![8, 1280, 128]⟩
abbrev S1x1280x128 : Shape := ⟨3, ![1, 1280, 128]⟩

abbrev nBuf : Space → Nat
  | .hbm => 8
  | .vmem => 8
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S8x1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S8x1280x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S1280x128 : Shape := ⟨2, ![1280, 128]⟩
abbrev S8x1280x128 : Shape := ⟨3, ![8, 1280, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S_, .f32⟩
  | .hbm, ⟨7, _⟩ => ⟨S1280x128, .f32⟩
  | .hbm, ⟨8, _⟩ => ⟨S1280x128, .f32⟩
  | .hbm, ⟨9, _⟩ => ⟨S_, .f32⟩
  | .hbm, ⟨10, _⟩ => ⟨S1280x128, .f32⟩
  | .hbm, ⟨11, _⟩ => ⟨S1280x128, .f32⟩
  | .hbm, ⟨12, _⟩ => ⟨S1280x128, .f32⟩
  | .hbm, ⟨13, _⟩ => ⟨S_, .f32⟩
  | .hbm, ⟨14, _⟩ => ⟨S1280x128, .f32⟩
  | .hbm, ⟨15, _⟩ => ⟨S1280x128, .f32⟩
  | .hbm, ⟨16, _⟩ => ⟨S1280x128, .f32⟩
  | .hbm, ⟨17, _⟩ => ⟨S_, .f32⟩
  | .hbm, ⟨18, _⟩ => ⟨S1280x128, .f32⟩
  | .hbm, ⟨19, _⟩ => ⟨S1280x128, .f32⟩
  | .hbm, ⟨20, _⟩ => ⟨S1280x128, .f32⟩
  | .hbm, ⟨21, _⟩ => ⟨S_, .f32⟩
  | .hbm, ⟨22, _⟩ => ⟨S1280x128, .f32⟩
  | .hbm, ⟨23, _⟩ => ⟨S1280x128, .f32⟩
  | .hbm, ⟨24, _⟩ => ⟨S_, .f32⟩
  | .hbm, ⟨25, _⟩ => ⟨S1280x128, .f32⟩
  | .hbm, ⟨26, _⟩ => ⟨S1280x128, .f32⟩
  | .hbm, ⟨27, _⟩ => ⟨S1280x128, .f32⟩
  | .hbm, ⟨28, _⟩ => ⟨S_, .f32⟩
  | .hbm, ⟨29, _⟩ => ⟨S1280x128, .f32⟩
  | .hbm, ⟨30, _⟩ => ⟨S1280x128, .f32⟩
  | .hbm, ⟨31, _⟩ => ⟨S1280x128, .f32⟩
  | .hbm, ⟨32, _⟩ => ⟨S_, .f32⟩
  | .hbm, ⟨33, _⟩ => ⟨S1280x128, .f32⟩
  | .hbm, ⟨34, _⟩ => ⟨S1280x128, .f32⟩
  | .hbm, ⟨35, _⟩ => ⟨S1280x128, .f32⟩
  | .hbm, ⟨36, _⟩ => ⟨S_, .f32⟩
  | .hbm, ⟨37, _⟩ => ⟨S1280x128, .f32⟩
  | .hbm, ⟨38, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8192x2048 : Shape := ⟨2, ![8192, 2048]⟩
abbrev S2048x3328 : Shape := ⟨2, ![2048, 3328]⟩
abbrev S8192x3328 : Shape := ⟨2, ![8192, 3328]⟩
abbrev S512x2048 : Shape := ⟨2, ![512, 2048]⟩
abbrev S2048x1664 : Shape := ⟨2, ![2048, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3328, .bf16⟩
  | .hbm, ⟨2, _⟩ => ⟨S8192x3328, .f32⟩
  | .local _ .vmem, ⟨0, _⟩ => ⟨S512x2048, .bf16⟩
  | .local _ .vmem, ⟨1, _⟩ => ⟨S512x2048, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .f32⟩
  | .local _ .vmem, ⟨5, _⟩ => ⟨S512x1664, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2048x3328 : Shape := ⟨2, ![2048, 3328]⟩
abbrev S8192x3328 : Shape := ⟨2, ![8192, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3328, .bf16⟩
  | .hbm, ⟨2, _⟩ => ⟨S8192x2048, .f32⟩
  | .hbm, ⟨3, _⟩ => ⟨S2048x3328, .f32⟩
  | .hbm, ⟨4, _⟩ => ⟨S8192x3328, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S256x2048 : Shape := ⟨2, ![256, 2048]⟩
abbrev S2048x4096 : Shape := ⟨2, ![2048, 4096]⟩
abbrev S256x4096 : Shape := ⟨2, ![256, 4096]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S256x4096 : Shape := ⟨2, ![256, 4096]⟩
abbrev S2048x4096 : Shape := ⟨2, ![2048, 4096]⟩
abbrev S256x2048 : Shape := ⟨2, ![256, 2048]⟩
abbrev S512x4096 : Shape := ⟨2, ![512, 4096]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S256x2048, .f32⟩
  | .local _ .vmem, ⟨0, _⟩ => ⟨S256x4096, .f32⟩
  | .local _ .vmem, ⟨1, _⟩ => ⟨S512x4096, .bf16⟩
  | .local _ .vmem, ⟨2, _⟩ => ⟨S512x4096, .bf16⟩
  | .local _ .vmem, ⟨3, _⟩ => ⟨S256x512, .f32⟩
  | .local _ .vmem, ⟨4, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S2048x4096, .f32⟩
  | .hbm, ⟨3, _⟩ => ⟨S_, .f32⟩
  | .hbm, ⟨4, _⟩ => ⟨S256x2048, .f32⟩
  | .hbm, ⟨5, _⟩ => ⟨S256x4096, .f32⟩
  | .hbm, ⟨6, _⟩ => ⟨S256x2048, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S256x2048, .f32⟩
  | .hbm, ⟨3, _⟩ => ⟨S_, .f32⟩
  | .hbm, ⟨4, _⟩ => ⟨S2048x4096, .f32⟩
  | .hbm, ⟨5, _⟩ => ⟨S256x4096, .f32⟩
  | .hbm, ⟨6, _⟩ => ⟨S4096x2048, .f32⟩
  | .hbm, ⟨7, _⟩ => ⟨S2048x4096, .f32⟩
  | .hbm, ⟨8, _⟩ => ⟨S2048x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x3328 : Shape := ⟨2, ![8192, 3328]⟩
abbrev S2048x3328 : Shape := ⟨2, ![2048, 3328]⟩
abbrev S8192x2048 : Shape := ⟨2, ![8192, 2048]⟩
abbrev S512x3328 : Shape := ⟨2, ![512, 3328]⟩
abbrev S1024x3328 : Shape := ⟨2, ![1024, 3328]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3328, .f32⟩
  | .hbm, ⟨1, _⟩ => ⟨S2048x3328, .bf16⟩
  | .hbm, ⟨2, _⟩ => ⟨S8192x2048, .bf16⟩
  | .local _ .vmem, ⟨0, _⟩ => ⟨S512x3328, .f32⟩
  | .local _ .vmem, ⟨1, _⟩ => ⟨S512x3328, .f32⟩
  | .local _ .vmem, ⟨2, _⟩ => ⟨S1024x3328, .bf16⟩
  | .local _ .vmem, ⟨3, _⟩ => ⟨S1024x3328, .bf16⟩
  | .local _ .vmem, ⟨4, _⟩ => ⟨S512x1024, .bf16⟩
  | .local _ .vmem, ⟨5, _⟩ => ⟨S512x1024, .bf16⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x3328 : Shape := ⟨2, ![8192, 3328]⟩
abbrev S2048x3328 : Shape := ⟨2, ![2048, 3328]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S2048x3328, .bf16⟩
  | .hbm, ⟨2, _⟩ => ⟨S2048x3328, .f32⟩
  | .hbm, ⟨3, _⟩ => ⟨S_, .f32⟩
  | .hbm, ⟨4, _⟩ => ⟨S8192x2048, .f32⟩
  | .hbm, ⟨5, _⟩ => ⟨S8192x3328, .f32⟩
  | .hbm, ⟨6, _⟩ => ⟨S8192x2048, .f32⟩
  | .hbm, ⟨7, _⟩ => ⟨S8192x2048, .bf16⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x3328 : Shape := ⟨2, ![8192, 3328]⟩
abbrev S8192x2048 : Shape := ⟨2, ![8192, 2048]⟩
abbrev S3328x2048 : Shape := ⟨2, ![3328, 2048]⟩
abbrev S512x1664 : Shape := ⟨2, ![512, 1664]⟩
abbrev S512x2048 : Shape := ⟨2, ![512, 2048]⟩
abbrev S1664x2048 : Shape := ⟨2, ![1664, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x3328, .f32⟩
  | .hbm, ⟨1, _⟩ => ⟨S8192x2048, .bf16⟩
  | .hbm, ⟨2, _⟩ => ⟨S3328x2048, .bf16⟩
  | .local _ .vmem, ⟨0, _⟩ => ⟨S512x1664, .f32⟩
  | .local _ .vmem, ⟨1, _⟩ => ⟨S512x1664, .f32⟩
  | .local _ .vmem, ⟨2, _⟩ => ⟨S512x2048, .bf16⟩
  | .local _ .vmem, ⟨3, _⟩ => ⟨S512x2048, .bf16⟩
  | .local _ .vmem, ⟨4, _⟩ => ⟨S1664x2048, .bf16⟩
  | .local _ .vmem, ⟨5, _⟩ => ⟨S1664x2048, .bf16⟩
  | .local _ .vmem, ⟨6, _⟩ => ⟨S1664x2048, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x3328 : Shape := ⟨2, ![8192, 3328]⟩
abbrev S8192x2048 : Shape := ⟨2, ![8192, 2048]⟩
abbrev S_ : Shape := ⟨0, ![]⟩
abbrev S2048x3328 : Shape := ⟨2, ![2048, 3328]⟩
abbrev S3328x2048 : Shape := ⟨2, ![3328, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x3328, .f32⟩
  | .hbm, ⟨5, _⟩ => ⟨S8192x3328, .f32⟩
  | .hbm, ⟨6, _⟩ => ⟨S3328x2048, .f32⟩
  | .hbm, ⟨7, _⟩ => ⟨S2048x3328, .f32⟩
  | .hbm, ⟨8, _⟩ => ⟨S3328x2048, .f32⟩
  | .hbm, ⟨9, _⟩ => ⟨S3328x2048, .bf16⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel23.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference23Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S2048, .f32⟩
  | .hbm, ⟨32, _⟩ => ⟨S256x2048, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x2048, .f32⟩
  | .hbm, ⟨37, _⟩ => ⟨S256x2048, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel24.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference27Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel28.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x2048 : Shape := ⟨2, ![8192, 2048]⟩
abbrev S256x4096 : Shape := ⟨2, ![256, 4096]⟩
abbrev S1x8192x4x512 : Shape := ⟨4, ![1, 8192, 4, 512]⟩
abbrev S256x2048 : Shape := ⟨2, ![256, 2048]⟩
abbrev S1x256x4x512 : Shape := ⟨4, ![1, 256, 4, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x512x8192 : Shape := ⟨4, ![1, 4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .f32⟩
  | .hbm, ⟨3, _⟩ => ⟨S256x4096, .f32⟩
  | .hbm, ⟨4, _⟩ => ⟨S1x8192x4x512, .f32⟩
  | .hbm, ⟨5, _⟩ => ⟨S256x2048, .f32⟩
  | .hbm, ⟨6, _⟩ => ⟨S1x256x4x512, .f32⟩
  | .hbm, ⟨7, _⟩ => ⟨S256x2048, .f32⟩
  | .hbm, ⟨8, _⟩ => ⟨S1x256x4x512, .f32⟩
  | .hbm, ⟨9, _⟩ => ⟨S1x4x8192x256, .f32⟩
  | .hbm, ⟨10, _⟩ => ⟨S_, .f32⟩
  | .hbm, ⟨11, _⟩ => ⟨S1x4x8192x256, .f32⟩
  | .hbm, ⟨12, _⟩ => ⟨S1x4x8192x256, .f32⟩
  | .hbm, ⟨13, _⟩ => ⟨S_, .f32⟩
  | .hbm, ⟨14, _⟩ => ⟨S1x4x8192, .f32⟩
  | .hbm, ⟨15, _⟩ => ⟨S_, .f32⟩
  | .hbm, ⟨16, _⟩ => ⟨S1x4x8192, .f32⟩
  | .hbm, ⟨17, _⟩ => ⟨S1x4x8192, .f32⟩
  | .hbm, ⟨18, _⟩ => ⟨S1x4x8192x1, .f32⟩
  | .hbm, ⟨19, _⟩ => ⟨S1x4x8192x256, .f32⟩
  | .hbm, ⟨20, _⟩ => ⟨S1x4x8192x256, .f32⟩
  | .hbm, ⟨21, _⟩ => ⟨S1x4x8192x256, .f32⟩
  | .hbm, ⟨22, _⟩ => ⟨S_, .f32⟩
  | .hbm, ⟨23, _⟩ => ⟨S1x4x8192, .f32⟩
  | .hbm, ⟨24, _⟩ => ⟨S1x4x8192x1, .f32⟩
  | .hbm, ⟨25, _⟩ => ⟨S1x4x8192x256, .f32⟩
  | .hbm, ⟨26, _⟩ => ⟨S1x4x8192x256, .f32⟩
  | .hbm, ⟨27, _⟩ => ⟨S1x4x512x8192, .f32⟩
  | .hbm, ⟨28, _⟩ => ⟨S1x8192x4x512, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel29.lean ====
abbrev S8192x3328 : Shape := ⟨2, ![8192, 3328]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S8192x1024 : Shape := ⟨2, ![8192, 1024]⟩
abbrev S512x2048 : Shape := ⟨2, ![512, 2048]⟩
abbrev S512x1024 : Shape := ⟨2, ![512, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 7
  | .vmem => 8
  | .smem => 0
  | _ => 0

abbrev bufTy : (tb : Table) → Fin (tcTables nBuf tb) → BufTy
  | .hbm, ⟨0, _⟩ => ⟨S8192x3328, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S128x8, .f32⟩
  | .hbm, ⟨6, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S8x128x128, .f32⟩
  | .local _ .vmem, ⟨4, _⟩ => ⟨S128x8, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x3328 : Shape := ⟨2, ![8192, 3328]⟩
abbrev S1x1024 : Shape := ⟨2, ![1, 1024]⟩
abbrev S8x128x128 : Shape := ⟨3, ![8, 128, 128]⟩
abbrev S8x128 : Shape := ⟨2, ![8, 128]⟩
abbrev S8192x2048 : Shape := ⟨2, ![8192, 2048]⟩
abbrev S1024 : Shape := ⟨1, ![1024]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S8192x2048, .f32⟩
  | .hbm, ⟨6, _⟩ => ⟨S1024, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S64x128x8x128, .f32⟩
  | .hbm, ⟨35, _⟩ => ⟨S_, .i1⟩
  | .hbm, ⟨36, _⟩ => ⟨S128x128, .i1⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .i1⟩
  | .hbm, ⟨44, _⟩ => ⟨S128x128, .i1⟩
  | .hbm, ⟨45, _⟩ => ⟨S128x128, .i1⟩
  | .hbm, ⟨46, _⟩ => ⟨S1x128x128, .i1⟩
  | .hbm, ⟨47, _⟩ => ⟨S_, .f32⟩
  | .hbm, ⟨48, _⟩ => ⟨S8x128x128, .f32⟩
  | .hbm, ⟨49, _⟩ => ⟨S8x128x128, .i1⟩
  | .hbm, ⟨50, _⟩ => ⟨S8x128x128, .f32⟩
  | .hbm, ⟨51, _⟩ => ⟨S8x64x128x128, .f32⟩
  | .hbm, ⟨52, _⟩ => ⟨S64x128x8x128, .f32⟩
  | .hbm, ⟨53, _⟩ => ⟨S128x8, .f32⟩
  | .hbm, ⟨54, _⟩ => ⟨S1x128x8x1, .f32⟩
  | .hbm, ⟨55, _⟩ => ⟨S64x128x8x128, .f32⟩
  | .hbm, ⟨56, _⟩ => ⟨S64x128x8x128, .f32⟩
  | .hbm, ⟨57, _⟩ => ⟨S8192x1024, .f32⟩
  | .hbm, ⟨58, _⟩ => ⟨S8192x1024, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_0 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel30.lean ====
abbrev S8192x3328 : Shape := ⟨2, ![8192, 3328]⟩
abbrev S8192x256 : Shape := ⟨2, ![8192, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S8192x3328, .f32⟩
  | .hbm, ⟨1, _⟩ => ⟨S8192x256, .f32⟩
  | .hbm, ⟨2, _⟩ => ⟨S8192x3328, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8192x3328 : Shape := ⟨2, ![8192, 3328]⟩
abbrev S8192x256 : Shape := ⟨2, ![8192, 256]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S8192x256, .f32⟩
  | .hbm, ⟨2, _⟩ => ⟨S8192x3072, .f32⟩
  | .hbm, ⟨3, _⟩ => ⟨S8192x3328, .f32⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S512x2048 : Shape := ⟨2, ![512, 2048]⟩
abbrev S512x1024 : Shape := ⟨2, ![512, 1024]⟩
abbrev S128x128 : Shape := ⟨2, ![128, 128]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x3328, .f32⟩
  | .hbm, ⟨1, _⟩ => ⟨S8192x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S8x128x128, .f32⟩
  | .hbm, ⟨7, _⟩ => ⟨S128x8, .f32⟩
  | .hbm, ⟨8, _⟩ => ⟨S8192x2048, .f32⟩
  | .hbm, ⟨9, _⟩ => ⟨S8x128x128, .f32⟩
  | .hbm, ⟨10, _⟩ => ⟨S128x8, .f32⟩
  | .hbm, ⟨11, _⟩ => ⟨S1x1024, .f32⟩
  | .hbm, ⟨12, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128x128, .f32⟩
  | .local _ .vmem, ⟨6, _⟩ => ⟨S8x128x128, .f32⟩
  | .local _ .vmem, ⟨7, _⟩ => ⟨S128x8, .f32⟩
  | .local _ .vmem, ⟨8, _⟩ => ⟨S1x1024, .f32⟩
  | .local _ .vmem, ⟨9, _⟩ => ⟨S512x2048, .f32⟩
  | .local _ .vmem, ⟨10, _⟩ => ⟨S512x2048, .f32⟩
  | .local _ .vmem, ⟨11, _⟩ => ⟨S8x128x128, .f32⟩
  | .local _ .vmem, ⟨12, _⟩ => ⟨S128x8, .f32⟩
  | .local _ .vmem, ⟨13, _⟩ => ⟨S1x1024, .f32⟩
  | .local _ .vmem, ⟨14, _⟩ => ⟨S1x1024, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference31Ideal.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S8192x2048, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S8192x2048, .f32⟩
  | .hbm, ⟨7, _⟩ => ⟨S1024, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S64x128x8x128, .f32⟩
  | .hbm, ⟨36, _⟩ => ⟨S_, .i1⟩
  | .hbm, ⟨37, _⟩ => ⟨S128x128, .i1⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S1x128x128, .i1⟩
  | .hbm, ⟨48, _⟩ => ⟨S_, .f32⟩
  | .hbm, ⟨49, _⟩ => ⟨S8x128x128, .f32⟩
  | .hbm, ⟨50, _⟩ => ⟨S8x128x128, .i1⟩
  | .hbm, ⟨51, _⟩ => ⟨S8x128x128, .f32⟩
  | .hbm, ⟨52, _⟩ => ⟨S8x64x128x128, .f32⟩
  | .hbm, ⟨53, _⟩ => ⟨S64x128x8x128, .f32⟩
  | .hbm, ⟨54, _⟩ => ⟨S128x8, .f32⟩
  | .hbm, ⟨55, _⟩ => ⟨S1x128x8x1, .f32⟩
  | .hbm, ⟨56, _⟩ => ⟨S64x128x8x128, .f32⟩
  | .hbm, ⟨57, _⟩ => ⟨S64x128x8x128, .f32⟩
  | .hbm, ⟨58, _⟩ => ⟨S8192x1024, .f32⟩
  | .hbm, ⟨59, _⟩ => ⟨S8192x1024, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1024, .f32⟩
  | .hbm, ⟨84, _⟩ => ⟨S1x1024, .f32⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Proof.FfnSpec.lean ====
/- The mathematics of the feed-forward input gradient over the extended reals: the hidden gradients at one entry, the five
   result arrays as functions of the argument arrays, and the two shapes of the gate's gradient. No program is mentioned. -/
module

public import Idealize.ShloMosaic.Lib.Pointwise
public import Idealize.ShloMosaic.PureOps.Ideal.Laws
public import Idealize.ShloMosaic.Lib.IdealHost
public import Idealize.ShloMosaic.Lib.Pipeline.ValueKit

@[expose] public section

set_option maxRecDepth 16384

noncomputable section

namespace Cert.FfnMath

open Idealize.ShloMosaic

abbrev SRow : Shape := ⟨2, ![8192, 2048]⟩
abbrev SIn : Shape := ⟨2, ![2048, 5632]⟩
abbrev SOut : Shape := ⟨2, ![5632, 2048]⟩
abbrev SHid : Shape := ⟨3, ![8, 8192, 704]⟩

/-- Hidden column `f` of shard `j`. -/
def col (j : Fin 8) (f : Fin 704) : Fin 5632 := ⟨j.val * 704 + f, by omega⟩

/-- The float ½. -/
def half : EReal := Ideal.ofBits .f32 0x3F000000#32

/-- A pre-activation. -/
def pre (N : FVec Ideal SRow .bf16) (W : FVec Ideal SIn .bf16) (r : Fin 8192) (f : Fin 5632) : EReal :=
  ∑ k : Fin 2048, N (ix2 r k) * W (ix2 k f)

/-- The gradient of the hidden row: the halved cotangent through `w_down`. -/
def dhid (DH : FVec Ideal SRow .f32) (WD : FVec Ideal SOut .bf16) (r : Fin 8192) (f : Fin 5632) : EReal :=
  ∑ k : Fin 2048, half * DH (ix2 r k) * WD (ix2 f k)

/-- The gate's gradient at one entry, from the gate `a`, the up projection `b` and the hidden gradient `d`. -/
def dgate (a b d : EReal) : EReal :=
  d * b * (Ideal.logistic a * (1 + a * (1 - Ideal.logistic a)))
/-- The up projection's. -/
def dup (a d : EReal) : EReal := d * (a * Ideal.logistic a)
/-- The hidden entry itself. -/
def hid (a b : EReal) : EReal := a * Ideal.logistic a * b

variable (DH : FVec Ideal SRow .f32) (N : FVec Ideal SRow .bf16) (WG WU : FVec Ideal SIn .bf16) (WD : FVec Ideal SOut .bf16)

/-- The gate's gradient, -/
def DA (r : Fin 8192) (f : Fin 5632) : EReal := dgate (pre N WG r f) (pre N WU r f) (dhid DH WD r f)
/-- the up projection's, -/
def DB (r : Fin 8192) (f : Fin 5632) : EReal := dup (pre N WG r f) (dhid DH WD r f)
/-- and the hidden row. -/
def HID (r : Fin 8192) (f : Fin 5632) : EReal := hid (pre N WG r f) (pre N WU r f)

/-- The halved cotangent. -/
def DFarr : FVec Ideal SRow .bf16 := fun i => half * DH i
/-- The hidden arrays as the eight shards. -/
def DAarr : FVec Ideal SHid .bf16 := fun i => DA DH N WG WU WD (i 1) (col (i 0) (i 2))
def DBarr : FVec Ideal SHid .bf16 := fun i => DB DH N WG WD (i 1) (col (i 0) (i 2))
def HIDarr : FVec Ideal SHid .bf16 := fun i => HID N WG WU (i 1) (col (i 0) (i 2))
/-- One hidden column's part in the gradient of the normed input. -/
def dnTerm (r : Fin 8192) (k : Fin 2048) (f : Fin 5632) : EReal :=
  DA DH N WG WU WD r f * WG (ix2 k f) + DB DH N WG WD r f * WU (ix2 k f)
/-- The gradient of the normed input. -/
def DNarr : FVec Ideal SRow .f32 := fun i => ∑ f : Fin 5632, dnTerm DH N WG WU WD (i 0) (i 1) f

/-! ## The gate's gradient in the other shape -/

/-- The gate's gradient as the differentiation of `x * logistic x` writes it: one term for each factor. -/
def dgate' (a b d : EReal) : EReal :=
  d * b * Ideal.logistic a + a * (d * b) * (Ideal.logistic a * (1 - Ideal.logistic a))

/-- The two shapes agree at every gate, `±∞` included, once the hidden gradient and the up projection are real. -/
theorem dgate'_eq (a : EReal) (b d : ℝ) : dgate' a b d = dgate a b d := by
  unfold dgate' dgate
  rw [← EReal.coe_mul]
  generalize d * b = x
  induction a with
  | bot =>
    simp
  | top =>
    have h' : (1 : EReal) - 1 = 0 := by
      rw [← EReal.coe_one, ← EReal.coe_sub, sub_self, EReal.coe_zero]
    rw [Ideal.logistic_top, h']; simp
  | coe a =>
    have h : ∃ s : ℝ, Ideal.logistic a = s := by
      refine ⟨(1 + Real.exp (-a))⁻¹, ?_⟩
      have hp : (1 : ℝ) + Real.exp (-a) ≠ 0 := by positivity
      rw [Ideal.logistic, ← EReal.coe_neg, Ideal.exp_coe, ← EReal.coe_one, ← EReal.coe_add, Ideal.div,
        if_neg (by exact_mod_cast hp), ← EReal.coe_inv, ← EReal.coe_mul, one_mul]
    obtain ⟨s, hs⟩ := h
    rw [hs, ← EReal.coe_one]
    simp only [← EReal.coe_mul, ← EReal.coe_sub, ← EReal.coe_add]
    congr 1; ring

/-- A finite sum of products of reals is real. -/
theorem real_dot {n : ℕ} (f g : Fin n → EReal) (hf : ∀ k, ∃ r : ℝ, f k = r) (hg : ∀ k, ∃ r : ℝ, g k = r) :
    ∃ r : ℝ, ∑ k, f k * g k = r := by
  choose x hx using hf
  choose y hy using hg
  induction n with
  | zero => exact ⟨0, by simp⟩
  | succ n ih =>
    obtain ⟨r, hr⟩ := ih (fun k => f k.succ) (fun k => g k.succ) (fun k => x k.succ) (fun k => hx _) (fun k => y k.succ) (fun k => hy _)
    exact ⟨x 0 * y 0 + r, by rw [Fin.sum_univ_succ, hr, hx, hy, EReal.coe_add, EReal.coe_mul]⟩

theorem half_real : ∃ c : ℝ, half = c := by
  refine ⟨1 / 2, ?_⟩
  simp [half, Ideal.ofBits, Ideal.ieee, -EReal.coe_mul]; norm_num

theorem dhid_real (hD : ∀ i, ∃ r : ℝ, DH i = r) (hW : ∀ i, ∃ r : ℝ, WD i = r) (r : Fin 8192) (f : Fin 5632) :
    ∃ x : ℝ, dhid DH WD r f = x := by
  refine real_dot _ _ (fun k => ?_) (fun k => hW _)
  obtain ⟨c, hc⟩ := half_real
  obtain ⟨d, hd⟩ := hD (ix2 r k)
  exact ⟨c * d, by rw [hc, hd, EReal.coe_mul]⟩

theorem pre_real (hN : ∀ i, ∃ r : ℝ, N i = r) (hW : ∀ i, ∃ r : ℝ, WU i = r) (r : Fin 8192) (f : Fin 5632) :
    ∃ x : ℝ, pre N WU r f = x :=
  real_dot _ _ (fun k => hN _) (fun k => hW _)

/-- The eight shards' sums are the sum over all hidden columns. -/
theorem sum_shards (g : Fin 5632 → EReal) : ∑ j : Fin 8, ∑ f : Fin 704, g (col j f) = ∑ f, g f :=
  Fin.sum_mul_add_fin 8 704 g

end Cert.FfnMath
end
-- ==== Proof.AdamSpec.lean ====
/- The optimiser's update of one entry: the moments and the step, with the constants as the programs hold them. -/
module

public import proofs.«01_k».proof.Proof.FfnSpec

@[expose] public section

noncomputable section

namespace Cert.Optimiser

open Idealize.ShloMosaic

/-- The new mean of an entry's gradients. -/
abbrev newMean (m g : EReal) : EReal := Ideal.ofBits .f32 0x3F666666#32 * m + Ideal.ofBits .f32 0x3DCCCCCD#32 * g
/-- The new mean of their squares. -/
abbrev newSquare (v g : EReal) : EReal := Ideal.ofBits .f32 0x3F7FBE77#32 * v + Ideal.ofBits .f32 0x3A83126F#32 * (g * g)
/-- The step of an entry `w` whose new means are `m` and `v`. -/
abbrev move (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

end Cert.Optimiser

end
-- ==== Proof.Adam4.lean ====
/- Call 4: the optimiser's update of the four gate and up projections, turned, read over the reals. -/
module

public import proofs.«01_k».proof.Proof.Gen.Kernel4Ideal.Value
public import Idealize.ShloMosaic.Lib.Pipeline.ValueKit
public import Idealize.ShloMosaic.Lib.Pipeline.ReadBack
public import proofs.«01_k».proof.Defs
public import proofs.«01_k».proof.Proof.Gen.Reference4Ideal.Run
public import Idealize.ShloMosaic.Adequacy
public import Idealize.ShloMosaic.Init
public import proofs.«01_k».proof.Proof.AdamSpec

@[expose] public section

set_option maxRecDepth 16384

noncomputable section

namespace Cert.Kernel4Ideal.Adam

open Cert.Kernel4Ideal Cert.Kernel4Ideal.Gen Cert.Kernel4Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1x2048x704 .f32 := m ((c : Thread nD τ).loc main_arg0)
abbrev Ma (c : Dev nD) : FVec Ideal S1x2048x704 .f32 := m ((c : Thread nD τ).loc main_arg1)
abbrev Va (c : Dev nD) : FVec Ideal S1x2048x704 .f32 := m ((c : Thread nD τ).loc main_arg2)
abbrev Ga (c : Dev nD) : FVec Ideal S4x704x2048 .bf16 := m ((c : Thread nD τ).loc main_arg3)

/-- The gradient, and the arrays the update leaves. -/
def GRAD (g : FVec Ideal S4x704x2048 .bf16) : FVec Ideal S704x2048 .f32 := fun i => ∑ s : Fin 4, g (ix3 s (i 0) (i 1))
def MEAN (w : FVec Ideal S1x2048x704 .f32) (g : FVec Ideal S4x704x2048 .bf16) : FVec Ideal S704x2048 .f32 :=
  fun i => newMean (w (ix3 0 (i 1) (i 0))) (GRAD g i)
def SQUARE (w : FVec Ideal S1x2048x704 .f32) (g : FVec Ideal S4x704x2048 .bf16) : FVec Ideal S704x2048 .f32 :=
  fun i => newSquare (w (ix3 0 (i 1) (i 0))) (GRAD g i)
def STEP (w u v : FVec Ideal S1x2048x704 .f32) (g : FVec Ideal S4x704x2048 .bf16) : FVec Ideal S704x2048 .f32 :=
  fun i => move (w (ix3 0 (i 1) (i 0))) (MEAN u g i) (SQUARE v g i)

theorem out4_at (x0 x1 x2 : FVec Ideal S88x2048 .f32) (x3 : FVec Ideal S4x88x2048 .bf16) (r : Fin 88) (k : Fin 2048) :
    (show FVec Ideal S88x2048 .f32 from out0_4 (F := Ideal) x0 x1 x2 x3) (ix2 r k) = (∑ s : Fin 4, x3 (ix3 s r k)) := by
  frame_out
  rw [Fin.sum_univ_four]
  pointwise [k0_pay1, k0_pay2, k0_pay3, k0_pay4, k0_pay5, k0_pay6]

theorem out5_at (x0 x1 x2 : FVec Ideal S88x2048 .f32) (x3 : FVec Ideal S4x88x2048 .bf16) (r : Fin 88) (k : Fin 2048) :
    (show FVec Ideal S88x2048 .f32 from out0_5 (F := Ideal) x0 x1 x2 x3) (ix2 r k) = move (x0 (ix2 r k)) (newMean (x1 (ix2 r k)) (∑ s : Fin 4, x3 (ix3 s r k))) (newSquare (x2 (ix2 r k)) (∑ s : Fin 4, x3 (ix3 s r k))) := by
  frame_out
  rw [Fin.sum_univ_four]
  pointwise [k0_pay1, k0_pay2, k0_pay3, k0_pay4, k0_pay5, k0_pay6]

theorem out6_at (x0 x1 x2 : FVec Ideal S88x2048 .f32) (x3 : FVec Ideal S4x88x2048 .bf16) (r : Fin 88) (k : Fin 2048) :
    (show FVec Ideal S88x2048 .f32 from out0_6 (F := Ideal) x0 x1 x2 x3) (ix2 r k) = newMean (x1 (ix2 r k)) (∑ s : Fin 4, x3 (ix3 s r k)) := by
  frame_out
  rw [Fin.sum_univ_four]
  pointwise [k0_pay1, k0_pay2, k0_pay3, k0_pay4, k0_pay5, k0_pay6]

theorem out7_at (x0 x1 x2 : FVec Ideal S88x2048 .f32) (x3 : FVec Ideal S4x88x2048 .bf16) (r : Fin 88) (k : Fin 2048) :
    (show FVec Ideal S88x2048 .f32 from out0_7 (F := Ideal) x0 x1 x2 x3) (ix2 r k) = newSquare (x2 (ix2 r k)) (∑ s : Fin 4, x3 (ix3 s r k)) := by
  frame_out
  rw [Fin.sum_univ_four]
  pointwise [k0_pay1, k0_pay2, k0_pay3, k0_pay4, k0_pay5, k0_pay6]

/-- A weight as the host lays it out for the call. -/
def view (w : FVec Ideal S1x2048x704 .f32) : FVec Ideal S704x2048 .f32 := shapeCast _ (transpose S1x704x2048 [0, 2, 1] w transposes_S1x2048x704_S1x704x2048_0_2_1) shapeCasts_S1x704x2048_S704x2048
theorem view_at (w : FVec Ideal S1x2048x704 .f32) (p : Fin 704) (q : Fin 2048) : view w (ix2 p q) = w (ix3 0 q p) := by
  pointwise [view]
theorem V_W (c : Dev nD) : V m c main_v1 = view (Wa m c) := by
  unfold_abbrev_sides
  after_results
  rfl
theorem V_M (c : Dev nD) : V m c main_v3 = view (Ma m c) := by
  unfold_abbrev_sides
  after_results
  rfl
theorem V_V (c : Dev nD) : V m c main_v5 = view (Va m c) := by
  unfold_abbrev_sides
  after_results
  rfl

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 88) : Fin 704 := ⟨t.val * 88 + r.val, by have := lt_of_lt_of_eq t.isLt N_0; omega⟩

theorem entry (t : Fin cfg0.N) (y : S88x2048.Idx) (i : S704x2048.Idx) (hi0 : (i 0 : ℕ) = t.val * 88 + y 0) (hi1 : (i 1 : ℕ) = y 1) :
    ∃ (r : Fin 88) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 88) (k : Fin 2048) :
    (show FVec Ideal S88x2048 .f32 from iblk m c 0 t) (ix2 r k) = (Wa m c) (ix3 0 k (row t r)) := by
  rw [← view_at (Wa m c) (row t r) k, ← V_W]
  blk_point [iblk, idx_at t, row]
theorem blk_M (c : Dev nD) (t : Fin cfg0.N) (r : Fin 88) (k : Fin 2048) :
    (show FVec Ideal S88x2048 .f32 from iblk m c 1 t) (ix2 r k) = (Ma m c) (ix3 0 k (row t r)) := by
  rw [← view_at (Ma m c) (row t r) k, ← V_M]
  blk_point [iblk, idx_at t, row]
theorem blk_V (c : Dev nD) (t : Fin cfg0.N) (r : Fin 88) (k : Fin 2048) :
    (show FVec Ideal S88x2048 .f32 from iblk m c 2 t) (ix2 r k) = (Va m c) (ix3 0 k (row t r)) := by
  rw [← view_at (Va m c) (row t r) k, ← V_V]
  blk_point [iblk, idx_at t, row]
theorem blk_G (c : Dev nD) (t : Fin cfg0.N) (r : Fin 88) (k : Fin 2048) :
    (∑ s : Fin 4, (show FVec Ideal S4x88x2048 .bf16 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel4Ideal.Adam

namespace Cert.Reference4Ideal.Adam

open Cert.Reference4Ideal Cert.Reference4Ideal.Gen Idealize.ShloMosaic Idealize.ShloMosaic.TcCoe Idealize.SL.Sem Idealize.ShloMosaic.StableHlo

variable (w u v : FVec Ideal S1x2048x704 .f32) (g : FVec Ideal S4x704x2048 .bf16)

/-- The partial gradients' sum, and a constant on every entry. -/
abbrev gsum : FVec Ideal S1x2048x704 .f32 := transpose S1x2048x704 [0, 2, 1] (broadcastInDim S1x704x2048 ![1, 2] bcast_S704x2048_S1x704x2048_1_2 (Host.reduceAdd (extf .f32 g bitsLt_bf16_f32) (constant S_ .f32 0x00000000#32) reducesTo_S4x704x2048_S704x2048_d0 h_S_)) transposes_S1x704x2048_S1x2048x704_0_2_1
abbrev cst (x : BitVec 32) : FVec Ideal S1x2048x704 .f32 := broadcastInDim S1x2048x704 ![] bcast_S_S1x2048x704 (constant S_ .f32 x)

/-- The reference's four arrays, entry by entry. -/
theorem grad_eq : (show FVec Ideal S704x2048 .f32 from shapeCast _ (transpose S1x704x2048 [0, 2, 1] (gsum g) transposes_S1x2048x704_S1x704x2048_0_2_1) shapeCasts_S1x704x2048_S704x2048) = Cert.Kernel4Ideal.Adam.GRAD g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem step_eq : (show FVec Ideal S704x2048 .f32 from shapeCast _ (transpose S1x704x2048 [0, 2, 1] (mulf (cst 0xBA83126F#32) (addf (Host.divf (Host.divf (addf (mulf (cst 0x3F666666#32) u) (mulf (cst 0x3DCCCCCD#32) (gsum g))) (cst 0x3F26BD02#32)) (addf (Host.sqrt (Host.divf (addf (mulf (cst 0x3F7FBE77#32) v) (mulf (cst 0x3A83126F#32) (mulf (gsum g) (gsum g)))) (cst 0x3C231ACC#32))) (cst 0x322BCC77#32))) (mulf (cst 0x3C23D70A#32) w))) transposes_S1x2048x704_S1x704x2048_0_2_1) shapeCasts_S1x704x2048_S704x2048) = Cert.Kernel4Ideal.Adam.STEP w u v g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem mean_eq : (show FVec Ideal S704x2048 .f32 from shapeCast _ (transpose S1x704x2048 [0, 2, 1] (addf (mulf (cst 0x3F666666#32) u) (mulf (cst 0x3DCCCCCD#32) (gsum g))) transposes_S1x2048x704_S1x704x2048_0_2_1) shapeCasts_S1x704x2048_S704x2048) = Cert.Kernel4Ideal.Adam.MEAN u g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem square_eq : (show FVec Ideal S704x2048 .f32 from shapeCast _ (transpose S1x704x2048 [0, 2, 1] (addf (mulf (cst 0x3F7FBE77#32) v) (mulf (cst 0x3A83126F#32) (mulf (gsum g) (gsum g)))) transposes_S1x2048x704_S1x704x2048_0_2_1) shapeCasts_S1x704x2048_S704x2048) = Cert.Kernel4Ideal.Adam.SQUARE v g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl

end Cert.Reference4Ideal.Adam

namespace Cert.Optimiser
open Idealize.ShloMosaic Idealize.SL.Sem

theorem frame4 : Cert.quiescent_Reference4Ideal := by
  intro m g _
  run_from Cert.Reference4Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value4 : Cert.algebraic_Kernel4Ideal_Reference4Ideal := by
  intro m g m' g' hpre hagree
  refine ⟨fun c => Cert.Kernel4Ideal.Adam.GRAD (Cert.Kernel4Ideal.Adam.Ga m c),
    fun c => Cert.Kernel4Ideal.Adam.STEP (Cert.Kernel4Ideal.Adam.Wa m c) (Cert.Kernel4Ideal.Adam.Ma m c) (Cert.Kernel4Ideal.Adam.Va m c) (Cert.Kernel4Ideal.Adam.Ga m c),
    fun c => Cert.Kernel4Ideal.Adam.MEAN (Cert.Kernel4Ideal.Adam.Ma m c) (Cert.Kernel4Ideal.Adam.Ga m c), fun c => Cert.Kernel4Ideal.Adam.SQUARE (Cert.Kernel4Ideal.Adam.Va m c) (Cert.Kernel4Ideal.Adam.Ga m c), ?_, ?_⟩
  · run_from Cert.Kernel4Ideal.Gen.run_main m g
    · exact Cert.Kernel4Ideal.Adam.final4 m c
    · exact Cert.Kernel4Ideal.Adam.final5 m c
    · exact Cert.Kernel4Ideal.Adam.final6 m c
    · exact Cert.Kernel4Ideal.Adam.final7 m c
  · refine θ_run_mono (Cert.Reference4Ideal.Value.run m' g') ?_
    intro r h c
    obtain ⟨h1, h2, h3, h4, h5, h6, h7, h8⟩ := h c
    obtain ⟨a0, a1, a2, a3⟩ := hagree c
    refine ⟨h1.trans ((Cert.Reference4Ideal.Adam.grad_eq _).trans ?_), h2.trans ((Cert.Reference4Ideal.Adam.step_eq _ _ _ _).trans ?_),
      h3.trans ((Cert.Reference4Ideal.Adam.mean_eq _ _).trans ?_), h4.trans ((Cert.Reference4Ideal.Adam.square_eq _ _).trans ?_), h5, h6, h7, h8⟩
    · rw [a3]
    · rw [a0, a1, a2, a3]
    · rw [a1, a3]
    · rw [a2, a3]

end Cert.Optimiser

end
-- ==== Proof.Adam5.lean ====
/- Call 5: the optimiser's update of the two down projections, read over the reals. -/
module

public import proofs.«01_k».proof.Proof.Gen.Kernel5Ideal.Value
public import Idealize.ShloMosaic.Lib.Pipeline.ValueKit
public import Idealize.ShloMosaic.Lib.Pipeline.ReadBack
public import proofs.«01_k».proof.Defs
public import proofs.«01_k».proof.Proof.Gen.Reference5Ideal.Run
public import Idealize.ShloMosaic.Adequacy
public import Idealize.ShloMosaic.Init
public import proofs.«01_k».proof.Proof.AdamSpec

@[expose] public section

set_option maxRecDepth 16384

noncomputable section

namespace Cert.Kernel5Ideal.Adam

open Cert.Kernel5Ideal Cert.Kernel5Ideal.Gen Cert.Kernel5Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1x704x2048 .f32 := m ((c : Thread nD τ).loc main_arg0)
abbrev Ma (c : Dev nD) : FVec Ideal S1x704x2048 .f32 := m ((c : Thread nD τ).loc main_arg1)
abbrev Va (c : Dev nD) : FVec Ideal S1x704x2048 .f32 := m ((c : Thread nD τ).loc main_arg2)
abbrev Ga (c : Dev nD) : FVec Ideal S4x704x2048 .bf16 := m ((c : Thread nD τ).loc main_arg3)

/-- The gradient, and the arrays the update leaves. -/
def GRAD (g : FVec Ideal S4x704x2048 .bf16) : FVec Ideal S704x2048 .f32 := fun i => ∑ s : Fin 4, g (ix3 s (i 0) (i 1))
def MEAN (w : FVec Ideal S1x704x2048 .f32) (g : FVec Ideal S4x704x2048 .bf16) : FVec Ideal S704x2048 .f32 :=
  fun i => newMean (w (ix3 0 (i 0) (i 1))) (GRAD g i)
def SQUARE (w : FVec Ideal S1x704x2048 .f32) (g : FVec Ideal S4x704x2048 .bf16) : FVec Ideal S704x2048 .f32 :=
  fun i => newSquare (w (ix3 0 (i 0) (i 1))) (GRAD g i)
def STEP (w u v : FVec Ideal S1x704x2048 .f32) (g : FVec Ideal S4x704x2048 .bf16) : FVec Ideal S704x2048 .f32 :=
  fun i => move (w (ix3 0 (i 0) (i 1))) (MEAN u g i) (SQUARE v g i)

theorem out4_at (x0 x1 x2 : FVec Ideal S88x2048 .f32) (x3 : FVec Ideal S4x88x2048 .bf16) (r : Fin 88) (k : Fin 2048) :
    (show FVec Ideal S88x2048 .f32 from out0_4 (F := Ideal) x0 x1 x2 x3) (ix2 r k) = (∑ s : Fin 4, x3 (ix3 s r k)) := by
  frame_out
  rw [Fin.sum_univ_four]
  pointwise [k0_pay1, k0_pay2, k0_pay3, k0_pay4, k0_pay5, k0_pay6]

theorem out5_at (x0 x1 x2 : FVec Ideal S88x2048 .f32) (x3 : FVec Ideal S4x88x2048 .bf16) (r : Fin 88) (k : Fin 2048) :
    (show FVec Ideal S88x2048 .f32 from out0_5 (F := Ideal) x0 x1 x2 x3) (ix2 r k) = move (x0 (ix2 r k)) (newMean (x1 (ix2 r k)) (∑ s : Fin 4, x3 (ix3 s r k))) (newSquare (x2 (ix2 r k)) (∑ s : Fin 4, x3 (ix3 s r k))) := by
  frame_out
  rw [Fin.sum_univ_four]
  pointwise [k0_pay1, k0_pay2, k0_pay3, k0_pay4, k0_pay5, k0_pay6]

theorem out6_at (x0 x1 x2 : FVec Ideal S88x2048 .f32) (x3 : FVec Ideal S4x88x2048 .bf16) (r : Fin 88) (k : Fin 2048) :
    (show FVec Ideal S88x2048 .f32 from out0_6 (F := Ideal) x0 x1 x2 x3) (ix2 r k) = newMean (x1 (ix2 r k)) (∑ s : Fin 4, x3 (ix3 s r k)) := by
  frame_out
  rw [Fin.sum_univ_four]
  pointwise [k0_pay1, k0_pay2, k0_pay3, k0_pay4, k0_pay5, k0_pay6]

theorem out7_at (x0 x1 x2 : FVec Ideal S88x2048 .f32) (x3 : FVec Ideal S4x88x2048 .bf16) (r : Fin 88) (k : Fin 2048) :
    (show FVec Ideal S88x2048 .f32 from out0_7 (F := Ideal) x0 x1 x2 x3) (ix2 r k) = newSquare (x2 (ix2 r k)) (∑ s : Fin 4, x3 (ix3 s r k)) := by
  frame_out
  rw [Fin.sum_univ_four]
  pointwise [k0_pay1, k0_pay2, k0_pay3, k0_pay4, k0_pay5, k0_pay6]

/-- A weight as the host lays it out for the call. -/
def view (w : FVec Ideal S1x704x2048 .f32) : FVec Ideal S704x2048 .f32 := shapeCast _ w shapeCasts_S1x704x2048_S704x2048
theorem view_at (w : FVec Ideal S1x704x2048 .f32) (p : Fin 704) (q : Fin 2048) : view w (ix2 p q) = w (ix3 0 p q) := by
  pointwise [view]
theorem V_W (c : Dev nD) : V m c main_v0 = view (Wa m c) := by
  unfold_abbrev_sides
  after_results
  rfl
theorem V_M (c : Dev nD) : V m c main_v1 = view (Ma m c) := by
  unfold_abbrev_sides
  after_results
  rfl
theorem V_V (c : Dev nD) : V m c main_v2 = view (Va m c) := by
  unfold_abbrev_sides
  after_results
  rfl

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 88) : Fin 704 := ⟨t.val * 88 + r.val, by have := lt_of_lt_of_eq t.isLt N_0; omega⟩

theorem entry (t : Fin cfg0.N) (y : S88x2048.Idx) (i : S704x2048.Idx) (hi0 : (i 0 : ℕ) = t.val * 88 + y 0) (hi1 : (i 1 : ℕ) = y 1) :
    ∃ (r : Fin 88) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 88) (k : Fin 2048) :
    (show FVec Ideal S88x2048 .f32 from iblk m c 0 t) (ix2 r k) = (Wa m c) (ix3 0 (row t r) k) := by
  rw [← view_at (Wa m c) (row t r) k, ← V_W]
  blk_point [iblk, idx_at t, row]
theorem blk_M (c : Dev nD) (t : Fin cfg0.N) (r : Fin 88) (k : Fin 2048) :
    (show FVec Ideal S88x2048 .f32 from iblk m c 1 t) (ix2 r k) = (Ma m c) (ix3 0 (row t r) k) := by
  rw [← view_at (Ma m c) (row t r) k, ← V_M]
  blk_point [iblk, idx_at t, row]
theorem blk_V (c : Dev nD) (t : Fin cfg0.N) (r : Fin 88) (k : Fin 2048) :
    (show FVec Ideal S88x2048 .f32 from iblk m c 2 t) (ix2 r k) = (Va m c) (ix3 0 (row t r) k) := by
  rw [← view_at (Va m c) (row t r) k, ← V_V]
  blk_point [iblk, idx_at t, row]
theorem blk_G (c : Dev nD) (t : Fin cfg0.N) (r : Fin 88) (k : Fin 2048) :
    (∑ s : Fin 4, (show FVec Ideal S4x88x2048 .bf16 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S88x2048.Idx) (i : S704x2048.Idx) (hi0 : (i 0 : ℕ) = t.val * 88 + y 0) (hi1 : (i 1 : ℕ) = y 1) :
    (show FVec Ideal S88x2048 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel5Ideal.Adam

namespace Cert.Reference5Ideal.Adam

open Cert.Reference5Ideal Cert.Reference5Ideal.Gen Idealize.ShloMosaic Idealize.ShloMosaic.TcCoe Idealize.SL.Sem Idealize.ShloMosaic.StableHlo

variable (w u v : FVec Ideal S1x704x2048 .f32) (g : FVec Ideal S4x704x2048 .bf16)

/-- The partial gradients' sum, and a constant on every entry. -/
abbrev gsum : FVec Ideal S704x2048 .f32 := Host.reduceAdd (extf .f32 g bitsLt_bf16_f32) (constant S_ .f32 0x00000000#32) reducesTo_S4x704x2048_S704x2048_d0 h_S_
abbrev cst (x : BitVec 32) : FVec Ideal S704x2048 .f32 := broadcastInDim S704x2048 ![] bcast_S_S704x2048 (constant S_ .f32 x)

/-- The reference's four arrays, entry by entry. -/
theorem grad_eq : (show FVec Ideal S704x2048 .f32 from Host.reduceAdd (extf .f32 g bitsLt_bf16_f32) (constant S_ .f32 0x00000000#32) reducesTo_S4x704x2048_S704x2048_d0 h_S_) = Cert.Kernel5Ideal.Adam.GRAD g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem step_eq : (show FVec Ideal S704x2048 .f32 from mulf (cst 0xBA83126F#32) (addf (Host.divf (Host.divf (addf (mulf (cst 0x3F666666#32) (shapeCast _ u shapeCasts_S1x704x2048_S704x2048)) (mulf (cst 0x3DCCCCCD#32) (gsum g))) (cst 0x3F26BD02#32)) (addf (Host.sqrt (Host.divf (addf (mulf (cst 0x3F7FBE77#32) (shapeCast _ v shapeCasts_S1x704x2048_S704x2048)) (mulf (cst 0x3A83126F#32) (mulf (gsum g) (gsum g)))) (cst 0x3C231ACC#32))) (cst 0x322BCC77#32))) (mulf (cst 0x3C23D70A#32) (shapeCast _ w shapeCasts_S1x704x2048_S704x2048)))) = Cert.Kernel5Ideal.Adam.STEP w u v g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem mean_eq : (show FVec Ideal S704x2048 .f32 from addf (mulf (cst 0x3F666666#32) (shapeCast _ u shapeCasts_S1x704x2048_S704x2048)) (mulf (cst 0x3DCCCCCD#32) (gsum g))) = Cert.Kernel5Ideal.Adam.MEAN u g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl
theorem square_eq : (show FVec Ideal S704x2048 .f32 from addf (mulf (cst 0x3F7FBE77#32) (shapeCast _ v shapeCasts_S1x704x2048_S704x2048)) (mulf (cst 0x3A83126F#32) (mulf (gsum g) (gsum g)))) = Cert.Kernel5Ideal.Adam.SQUARE v g := by
  funext i
  obtain ⟨p, q, rfl⟩ : ∃ (p : Fin 704) (q : Fin 2048), i = ix2 p q :=
    ⟨i 0, i 1, by funext a; match a with | ⟨0, _⟩ => rfl | ⟨1, _⟩ => rfl⟩
  pointwise [gsum, cst, Host.divf, Host.sqrt]
  rfl

end Cert.Reference5Ideal.Adam

namespace Cert.Optimiser
open Idealize.ShloMosaic Idealize.SL.Sem

theorem frame5 : Cert.quiescent_Reference5Ideal := by
  intro m g _
  run_from Cert.Reference5Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value5 : Cert.algebraic_Kernel5Ideal_Reference5Ideal := by
  intro m g m' g' hpre hagree
  refine ⟨fun c => Cert.Kernel5Ideal.Adam.GRAD (Cert.Kernel5Ideal.Adam.Ga m c),
    fun c => Cert.Kernel5Ideal.Adam.STEP (Cert.Kernel5Ideal.Adam.Wa m c) (Cert.Kernel5Ideal.Adam.Ma m c) (Cert.Kernel5Ideal.Adam.Va m c) (Cert.Kernel5Ideal.Adam.Ga m c),
    fun c => Cert.Kernel5Ideal.Adam.MEAN (Cert.Kernel5Ideal.Adam.Ma m c) (Cert.Kernel5Ideal.Adam.Ga m c), fun c => Cert.Kernel5Ideal.Adam.SQUARE (Cert.Kernel5Ideal.Adam.Va m c) (Cert.Kernel5Ideal.Adam.Ga m c), ?_, ?_⟩
  · run_from Cert.Kernel5Ideal.Gen.run_main m g
    · exact Cert.Kernel5Ideal.Adam.final4 m c
    · exact Cert.Kernel5Ideal.Adam.final5 m c
    · exact Cert.Kernel5Ideal.Adam.final6 m c
    · exact Cert.Kernel5Ideal.Adam.final7 m c
  · refine θ_run_mono (Cert.Reference5Ideal.Value.run m' g') ?_
    intro r h c
    obtain ⟨h1, h2, h3, h4, h5, h6, h7, h8⟩ := h c
    obtain ⟨a0, a1, a2, a3⟩ := hagree c
    refine ⟨h1.trans ((Cert.Reference5Ideal.Adam.grad_eq _).trans ?_), h2.trans ((Cert.Reference5Ideal.Adam.step_eq _ _ _ _).trans ?_),
      h3.trans ((Cert.Reference5Ideal.Adam.mean_eq _ _).trans ?_), h4.trans ((Cert.Reference5Ideal.Adam.square_eq _ _).trans ?_), h5, h6, h7, h8⟩
    · rw [a3]
    · rw [a0, a1, a2, a3]
    · rw [a1, a3]
    · rw [a2, a3]

end Cert.Optimiser

end
-- ==== Proof.Adam6.lean ====
/- Call 6: the optimiser's update of the input projection, turned, read over the reals. -/
module

public import proofs.«01_k».proof.Proof.Gen.Kernel6Ideal.Value
public import Idealize.ShloMosaic.Lib.Pipeline.ValueKit
public import Idealize.ShloMosaic.Lib.Pipeline.ReadBack
public import proofs.«01_k».proof.Defs
public import proofs.«01_k».proof.Proof.Gen.Reference6Ideal.Run
public import Idealize.ShloMosaic.Adequacy
public import Idealize.ShloMosaic.Init
public import proofs.«01_k».proof.Proof.AdamSpec

@[expose] public section

set_option maxRecDepth 16384

noncomputable section

namespace Cert.Kernel6Ideal.Adam

open Cert.Kernel6Ideal Cert.Kernel6Ideal.Gen Cert.Kernel6Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1x2048x416 .f32 := m ((c : Thread nD τ).loc main_arg0)
abbrev Ma (c : Dev nD) : FVec Ideal S1x2048x416 .f32 := m ((c : Thread nD τ).loc main_arg1)
abbrev Va (c : Dev nD) : FVec Ideal S1x2048x416 .f32 := m ((c : Thread nD τ).loc main_arg2)
abbrev Ga (c : Dev nD) : FVec Ideal S8x416x2048 .bf16 := m ((c : Thread nD τ).loc main_arg3)

/-- The gradient, and the arrays the update leaves. -/
def GRAD (g : FVec Ideal S8x416x2048 .bf16) : FVec Ideal S416x2048 .f32 := fun i => ∑ s : Fin 8, g (ix3 s (i 0) (i 1))
def MEAN (w : FVec Ideal S1x2048x416 .f32) (g : FVec Ideal S8x416x2048 .bf16) : FVec Ideal S416x2048 .f32 :=
  fun i => newMean (w (ix3 0 (i 1) (i 0))) (GRAD g i)
def SQUARE (w : FVec Ideal S1x2048x416 .f32) (g : FVec Ideal S8x416x2048 .bf16) : FVec Ideal S416x2048 .f32 :=
  fun i => newSquare (w (ix3 0 (i 1) (i 0))) (GRAD g i)
def STEP (w u v : FVec Ideal S1x2048x416 .f32) (g : FVec Ideal S8x416x2048 .bf16) : FVec Ideal S416x2048 .f32 :=
  fun i => move (w (ix3 0 (i 1) (i 0))) (MEAN u g i) (SQUARE v g i)

theorem out4_at (x0 x1 x2 : FVec Ideal S104x2048 .f32) (x3 : FVec Ideal S8x104x2048 .bf16) (r : Fin 104) (k : Fin 2048) :
    (show FVec Ideal S104x2048 .f32 from out0_4 (F := Ideal) x0 x1 x2 x3) (ix2 r k) = (∑ s : Fin 8, x3 (ix3 s r k)) := by
  frame_out
  rw [Fin.sum_univ_eight]
  pointwise [k0_pay1, k0_pay2, k0_pay3, k0_pay4, k0_pay5, k0_pay6, k0_pay7]

theorem out5_at (x0 x1 x2 : FVec Ideal S104x2048 .f32) (x3 : FVec Ideal S8x104x2048 .bf16) (r : Fin 104) (k : Fin 2048) :
    (show FVec Ideal S104x2048 .f32 from out0_5 (F := Ideal) x0 x1 x2 x3) (ix2 r k) = move (x0 (ix2 r k)) (newMean (x1 (ix2 r k)) (∑ s : Fin 8, x3 (ix3 s r k))) (newSquare (x2 (ix2 r k)) (∑ s : Fin 8, x3 (ix3 s r k))) := by
  frame_out
  rw [Fin.sum_univ_eight]
  pointwise [k0_pay1, k0_pay2, k0_pay3, k0_pay4, k0_pay5, k0_pay6, k0_pay7]

theorem out6_at (x0 x1 x2 : FVec Ideal S104x2048 .f32) (x3 : FVec Ideal S8x104x2048 .bf16) (r : Fin 104) (k : Fin 2048) :
    (show FVec Ideal S104x2048 .f32 from out0_6 (F := Ideal) x0 x1 x2 x3) (ix2 r k) = newMean (x1 (ix2 r k)) (∑ s : Fin 8, x3 (ix3 s r k)) := by
  frame_out
  rw [Fin.sum_univ_eight]
  pointwise [k0_pay1, k0_pay2, k0_pay3, k0_pay4, k0_pay5, k0_pay6, k0_pay7]

theorem out7_at (x0 x1 x2 : FVec Ideal S104x2048 .f32) (x3 : FVec Ideal S8x104x2048 .bf16) (r : Fin 104) (k : Fin 2048) :
    (show FVec Ideal S104x2048 .f32 from out0_7 (F := Ideal) x0 x1 x2 x3) (ix2 r k) = newSquare (x2 (ix2 r k)) (∑ s : Fin 8, x3 (ix3 s r k)) := by
  frame_out
  rw [Fin.sum_univ_eight]
  pointwise [k0_pay1, k0_pay2, k0_pay3, k0_pay4, k0_pay5, k0_pay6, k0_pay7]

/-- A weight as the host lays it out for the call. -/
def view (w : FVec Ideal S1x2048x416 .f32) : FVec Ideal S416x2048 .f32 := shapeCast _ (transpose S1x416x2048 [0, 2, 1] w transposes_S1x2048x416_S1x416x2048_0_2_1) shapeCasts_S1x416x2048_S416x2048
theorem view_at (w : FVec Ideal S1x2048x416 .f32) (p : Fin 416) (q : Fin 2048) : view w (ix2 p q) = w (ix3 0 q p) := by
  pointwise [view]
theorem V_W (c : Dev nD) : V m c main_v1 = view (Wa m c) := by
  unfold_abbrev_sides
  after_results
  rfl
theorem V_M (c : Dev nD) : V m c main_v3 = view (Ma m c) := by
  unfold_abbrev_sides
  after_results
  rfl
theorem V_V (c : Dev nD) : V m c main_v5 = view (Va m c) := by
  unfold_abbrev_sides
  after_results
  rfl

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 104) : Fin 416 := ⟨t.val * 104 + r.val, by have := lt_of_lt_of_eq t.isLt N_0; omega⟩

theorem entry (t : Fin cfg0.N) (y : S104x2048.Idx) (i : S416x2048.Idx) (hi0 : (i 0 : ℕ) = t.val * 104 + y 0) (hi1 : (i 1 : ℕ) = y 1) :
    ∃ (r : Fin 104) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 104) (k : Fin 2048) :
    (show FVec Ideal S104x2048 .f32 from iblk m c 0 t) (ix2 r k) = (Wa m c) (ix3 0 k (row t r)) := by
  rw [← view_at (Wa m c) (row t r) k, ← V_W]
  blk_point [iblk, idx_at t, row]
theorem blk_M (c : Dev nD) (t : Fin cfg0.N) (r : Fin 104) (k : Fin 2048) :
    (show FVec Ideal S104x2048 .f32 from iblk m c 1 t) (ix2 r k) = (Ma m c) (ix3 0 k (row t r)) := by
  rw [← view_at (Ma m c) (row t r) k, ← V_M]
  blk_point [iblk, idx_at t, row]
theorem blk_V (c : Dev nD) (t : Fin cfg0.N) (r : Fin 104) (k : Fin 2048) :
    (show FVec Ideal S104x2048 .f32 from iblk m c 2 t) (ix2 r k) = (Va m c) (ix3 0 k (row t r)) := by
  rw [← view_at (Va m c) (row t r) k, ← V_V]
  blk_point [iblk, idx_at t, row]
theorem blk_G (c : Dev nD) (t : Fin cfg0.N) (r : Fin 104) (k : Fin 2048) :
    (∑ s : Fin 8, (show FVec Ideal S8x104x2048 .bf16 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S104x2048.Idx) (i : S416x2048.Idx) (hi0 : (i 0 : ℕ) = t.val * 104 + y 0) (hi1 : (i 1 : ℕ) = y 1) :
    (show FVec Ideal S104x2048 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S104x2048.Idx) (i : S416x2048.Idx) (hi0 : (i 0 : ℕ) = t.val * 104 + y 0) (hi1 : (i 1 : ℕ) = y 1) :
    (show FVec Ideal S104x2048 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S104x2048.Idx) (i : S416x2048.Idx) (hi0 : (i 0 : ℕ) = t.val * 104 + y 0) (hi1 : (i 1 : ℕ) = y 1) :
    (show FVec Ideal S104x2048 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S104x2048.Idx) (i : S416x2048.Idx) (hi0 : (i 0 : ℕ) = t.val * 104 + y 0) (hi1 : (i 1 : ℕ) = y 1) :
    (show FVec Ideal S104x2048 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel6Ideal.Adam

namespace Cert.Reference6Ideal.Adam

open Cert.Reference6Ideal Cert.Reference6Ideal.Gen Idealize.ShloMosaic Idealize.ShloMosaic.TcCoe Idealize.SL.Sem Idealize.ShloMosaic.StableHlo

variable (w u v : FVec Ideal S1x2048x416 .f32) (g : FVec Ideal S8x416x2048 .bf16)

/-- The partial gradients' sum, and a constant on every entry. -/
abbrev gsum : FVec Ideal S1x2048x416 .f32 := transpose S1x2048x416 [0, 2, 1] (broadcastInDim S1x416x2048 ![1, 2] bcast_S416x2048_S1x416x2048_1_2 (Host.reduceAdd (extf .f32 g bitsLt_bf16_f32) (constant S_ .f32 0x00000000#32) reducesTo_S8x416x2048_S416x2048_d0 h_S_)) transposes_S1x416x2048_S1x2048x416_0_2_1
abbrev cst (x : BitVec 32) : FVec Ideal S1x2048x416 .f32 := broadcastInDim S1x2048x416 ![] bcast_S_S1x2048x416 (constant S_ .f32 x)

/-- The reference's four arrays, entry by entry. -/
theorem grad_eq : (show FVec Ideal S416x2048 .f32 from shapeCast _ (transpose S1x416x2048 [0, 2, 1] (gsum g) transposes_S1x2048x416_S1x416x2048_0_2_1) shapeCasts_S1x416x2048_S416x2048) = Cert.Kernel6Ideal.Adam.GRAD g := by
  funext i
  obtain ⟨p, q, rfl⟩ : ∃ (p : Fin 416) (q : Fin 2048), i = ix2 p q :=
    ⟨i 0, i 1, by funext a; match a with | ⟨0, _⟩ => rfl | ⟨1, _⟩ => rfl⟩
  pointwise [gsum, cst, Host.divf, Host.sqrt]
  rfl
theorem step_eq : (show FVec Ideal S416x2048 .f32 from shapeCast _ (transpose S1x416x2048 [0, 2, 1] (mulf (cst 0xBA83126F#32) (addf (Host.divf (Host.divf (addf (mulf (cst 0x3F666666#32) u) (mulf (cst 0x3DCCCCCD#32) (gsum g))) (cst 0x3F26BD02#32)) (addf (Host.sqrt (Host.divf (addf (mulf (cst 0x3F7FBE77#32) v) (mulf (cst 0x3A83126F#32) (mulf (gsum g) (gsum g)))) (cst 0x3C231ACC#32))) (cst 0x322BCC77#32))) (mulf (cst 0x3C23D70A#32) w))) transposes_S1x2048x416_S1x416x2048_0_2_1) shapeCasts_S1x416x2048_S416x2048) = Cert.Kernel6Ideal.Adam.STEP w u v g := by
  funext i
  obtain ⟨p, q, rfl⟩ : ∃ (p : Fin 416) (q : Fin 2048), i = ix2 p q :=
    ⟨i 0, i 1, by funext a; match a with | ⟨0, _⟩ => rfl | ⟨1, _⟩ => rfl⟩
  pointwise [gsum, cst, Host.divf, Host.sqrt]
  rfl
theorem mean_eq : (show FVec Ideal S416x2048 .f32 from shapeCast _ (transpose S1x416x2048 [0, 2, 1] (addf (mulf (cst 0x3F666666#32) u) (mulf (cst 0x3DCCCCCD#32) (gsum g))) transposes_S1x2048x416_S1x416x2048_0_2_1) shapeCasts_S1x416x2048_S416x2048) = Cert.Kernel6Ideal.Adam.MEAN u g := by
  funext i
  obtain ⟨p, q, rfl⟩ : ∃ (p : Fin 416) (q : Fin 2048), i = ix2 p q :=
    ⟨i 0, i 1, by funext a; match a with | ⟨0, _⟩ => rfl | ⟨1, _⟩ => rfl⟩
  pointwise [gsum, cst, Host.divf, Host.sqrt]
  rfl
theorem square_eq : (show FVec Ideal S416x2048 .f32 from shapeCast _ (transpose S1x416x2048 [0, 2, 1] (addf (mulf (cst 0x3F7FBE77#32) v) (mulf (cst 0x3A83126F#32) (mulf (gsum g) (gsum g)))) transposes_S1x2048x416_S1x416x2048_0_2_1) shapeCasts_S1x416x2048_S416x2048) = Cert.Kernel6Ideal.Adam.SQUARE v g := by
  funext i
  obtain ⟨p, q, rfl⟩ : ∃ (p : Fin 416) (q : Fin 2048), i = ix2 p q :=
    ⟨i 0, i 1, by funext a; match a with | ⟨0, _⟩ => rfl | ⟨1, _⟩ => rfl⟩
  pointwise [gsum, cst, Host.divf, Host.sqrt]
  rfl

end Cert.Reference6Ideal.Adam

namespace Cert.Optimiser
open Idealize.ShloMosaic Idealize.SL.Sem

theorem frame6 : Cert.quiescent_Reference6Ideal := by
  intro m g _
  run_from Cert.Reference6Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value6 : Cert.algebraic_Kernel6Ideal_Reference6Ideal := by
  intro m g m' g' hpre hagree
  refine ⟨fun c => Cert.Kernel6Ideal.Adam.GRAD (Cert.Kernel6Ideal.Adam.Ga m c),
    fun c => Cert.Kernel6Ideal.Adam.STEP (Cert.Kernel6Ideal.Adam.Wa m c) (Cert.Kernel6Ideal.Adam.Ma m c) (Cert.Kernel6Ideal.Adam.Va m c) (Cert.Kernel6Ideal.Adam.Ga m c),
    fun c => Cert.Kernel6Ideal.Adam.MEAN (Cert.Kernel6Ideal.Adam.Ma m c) (Cert.Kernel6Ideal.Adam.Ga m c), fun c => Cert.Kernel6Ideal.Adam.SQUARE (Cert.Kernel6Ideal.Adam.Va m c) (Cert.Kernel6Ideal.Adam.Ga m c), ?_, ?_⟩
  · run_from Cert.Kernel6Ideal.Gen.run_main m g
    · exact Cert.Kernel6Ideal.Adam.final4 m c
    · exact Cert.Kernel6Ideal.Adam.final5 m c
    · exact Cert.Kernel6Ideal.Adam.final6 m c
    · exact Cert.Kernel6Ideal.Adam.final7 m c
  · refine θ_run_mono (Cert.Reference6Ideal.Value.run m' g') ?_
    intro r h c
    obtain ⟨h1, h2, h3, h4, h5, h6, h7, h8⟩ := h c
    obtain ⟨a0, a1, a2, a3⟩ := hagree c
    refine ⟨h1.trans ((Cert.Reference6Ideal.Adam.grad_eq _).trans ?_), h2.trans ((Cert.Reference6Ideal.Adam.step_eq _ _ _ _).trans ?_),
      h3.trans ((Cert.Reference6Ideal.Adam.mean_eq _ _).trans ?_), h4.trans ((Cert.Reference6Ideal.Adam.square_eq _ _).trans ?_), h5, h6, h7, h8⟩
    · rw [a3]
    · rw [a0, a1, a2, a3]
    · rw [a1, a3]
    · rw [a2, a3]

end Cert.Optimiser

end
-- ==== Proof.Adam7.lean ====
/- Call 7: the optimiser's update of the three square projections, read over the reals. -/
module

public import proofs.«01_k».proof.Proof.Gen.Kernel7Ideal.Value
public import Idealize.ShloMosaic.Lib.Pipeline.ValueKit
public import Idealize.ShloMosaic.Lib.Pipeline.ReadBack
public import proofs.«01_k».proof.Defs
public import proofs.«01_k».proof.Proof.Gen.Reference7Ideal.Run
public import Idealize.ShloMosaic.Adequacy
public import Idealize.ShloMosaic.Init
public import proofs.«01_k».proof.Proof.AdamSpec

@[expose] public section

set_option maxRecDepth 16384

noncomputable section

namespace Cert.Kernel7Ideal.Adam

open Cert.Kernel7Ideal Cert.Kernel7Ideal.Gen Cert.Kernel7Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1x256x2048 .f32 := m ((c : Thread nD τ).loc main_arg0)
abbrev Ma (c : Dev nD) : FVec Ideal S1x256x2048 .f32 := m ((c : Thread nD τ).loc main_arg1)
abbrev Va (c : Dev nD) : FVec Ideal S1x256x2048 .f32 := m ((c : Thread nD τ).loc main_arg2)
abbrev Ga (c : Dev nD) : FVec Ideal S8x256x2048 .bf16 := m ((c : Thread nD τ).loc main_arg3)

/-- The gradient, and the arrays the update leaves. -/
def GRAD (g : FVec Ideal S8x256x2048 .bf16) : FVec Ideal S256x2048 .f32 := fun i => ∑ s : Fin 8, g (ix3 s (i 0) (i 1))
def MEAN (w : FVec Ideal S1x256x2048 .f32) (g : FVec Ideal S8x256x2048 .bf16) : FVec Ideal S256x2048 .f32 :=
  fun i => newMean (w (ix3 0 (i 0) (i 1))) (GRAD g i)
def SQUARE (w : FVec Ideal S1x256x2048 .f32) (g : FVec Ideal S8x256x2048 .bf16) : FVec Ideal S256x2048 .f32 :=
  fun i => newSquare (w (ix3 0 (i 0) (i 1))) (GRAD g i)
def STEP (w u v : FVec Ideal S1x256x2048 .f32) (g : FVec Ideal S8x256x2048 .bf16) : FVec Ideal S256x2048 .f32 :=
  fun i => move (w (ix3 0 (i 0) (i 1))) (MEAN u g i) (SQUARE v g i)

theorem out4_at (x0 x1 x2 : FVec Ideal S128x2048 .f32) (x3 : FVec Ideal S8x128x2048 .bf16) (r : Fin 128) (k : Fin 2048) :
    (show FVec Ideal S128x2048 .f32 from out0_4 (F := Ideal) x0 x1 x2 x3) (ix2 r k) = (∑ s : Fin 8, x3 (ix3 s r k)) := by
  frame_out
  rw [Fin.sum_univ_eight]
  pointwise [k0_pay1, k0_pay2, k0_pay3, k0_pay4, k0_pay5, k0_pay6, k0_pay7]

theorem out5_at (x0 x1 x2 : FVec Ideal S128x2048 .f32) (x3 : FVec Ideal S8x128x2048 .bf16) (r : Fin 128) (k : Fin 2048) :
    (show FVec Ideal S128x2048 .f32 from out0_5 (F := Ideal) x0 x1 x2 x3) (ix2 r k) = move (x0 (ix2 r k)) (newMean (x1 (ix2 r k)) (∑ s : Fin 8, x3 (ix3 s r k))) (newSquare (x2 (ix2 r k)) (∑ s : Fin 8, x3 (ix3 s r k))) := by
  frame_out
  rw [Fin.sum_univ_eight]
  pointwise [k0_pay1, k0_pay2, k0_pay3, k0_pay4, k0_pay5, k0_pay6, k0_pay7]

theorem out6_at (x0 x1 x2 : FVec Ideal S128x2048 .f32) (x3 : FVec Ideal S8x128x2048 .bf16) (r : Fin 128) (k : Fin 2048) :
    (show FVec Ideal S128x2048 .f32 from out0_6 (F := Ideal) x0 x1 x2 x3) (ix2 r k) = newMean (x1 (ix2 r k)) (∑ s : Fin 8, x3 (ix3 s r k)) := by
  frame_out
  rw [Fin.sum_univ_eight]
  pointwise [k0_pay1, k0_pay2, k0_pay3, k0_pay4, k0_pay5, k0_pay6, k0_pay7]

theorem out7_at (x0 x1 x2 : FVec Ideal S128x2048 .f32) (x3 : FVec Ideal S8x128x2048 .bf16) (r : Fin 128) (k : Fin 2048) :
    (show FVec Ideal S128x2048 .f32 from out0_7 (F := Ideal) x0 x1 x2 x3) (ix2 r k) = newSquare (x2 (ix2 r k)) (∑ s : Fin 8, x3 (ix3 s r k)) := by
  frame_out
  rw [Fin.sum_univ_eight]
  pointwise [k0_pay1, k0_pay2, k0_pay3, k0_pay4, k0_pay5, k0_pay6, k0_pay7]

/-- A weight as the host lays it out for the call. -/
def view (w : FVec Ideal S1x256x2048 .f32) : FVec Ideal S256x2048 .f32 := shapeCast _ w shapeCasts_S1x256x2048_S256x2048
theorem view_at (w : FVec Ideal S1x256x2048 .f32) (p : Fin 256) (q : Fin 2048) : view w (ix2 p q) = w (ix3 0 p q) := by
  pointwise [view]
theorem V_W (c : Dev nD) : V m c main_v0 = view (Wa m c) := by
  unfold_abbrev_sides
  after_results
  rfl
theorem V_M (c : Dev nD) : V m c main_v1 = view (Ma m c) := by
  unfold_abbrev_sides
  after_results
  rfl
theorem V_V (c : Dev nD) : V m c main_v2 = view (Va m c) := by
  unfold_abbrev_sides
  after_results
  rfl

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 128) : Fin 256 := ⟨t.val * 128 + r.val, by have := lt_of_lt_of_eq t.isLt N_0; omega⟩

theorem entry (t : Fin cfg0.N) (y : S128x2048.Idx) (i : S256x2048.Idx) (hi0 : (i 0 : ℕ) = t.val * 128 + y 0) (hi1 : (i 1 : ℕ) = y 1) :
    ∃ (r : Fin 128) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 128) (k : Fin 2048) :
    (show FVec Ideal S128x2048 .f32 from iblk m c 0 t) (ix2 r k) = (Wa m c) (ix3 0 (row t r) k) := by
  rw [← view_at (Wa m c) (row t r) k, ← V_W]
  blk_point [iblk, idx_at t, row]
theorem blk_M (c : Dev nD) (t : Fin cfg0.N) (r : Fin 128) (k : Fin 2048) :
    (show FVec Ideal S128x2048 .f32 from iblk m c 1 t) (ix2 r k) = (Ma m c) (ix3 0 (row t r) k) := by
  rw [← view_at (Ma m c) (row t r) k, ← V_M]
  blk_point [iblk, idx_at t, row]
theorem blk_V (c : Dev nD) (t : Fin cfg0.N) (r : Fin 128) (k : Fin 2048) :
    (show FVec Ideal S128x2048 .f32 from iblk m c 2 t) (ix2 r k) = (Va m c) (ix3 0 (row t r) k) := by
  rw [← view_at (Va m c) (row t r) k, ← V_V]
  blk_point [iblk, idx_at t, row]
theorem blk_G (c : Dev nD) (t : Fin cfg0.N) (r : Fin 128) (k : Fin 2048) :
    (∑ s : Fin 8, (show FVec Ideal S8x128x2048 .bf16 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S128x2048.Idx) (i : S256x2048.Idx) (hi0 : (i 0 : ℕ) = t.val * 128 + y 0) (hi1 : (i 1 : ℕ) = y 1) :
    (show FVec Ideal S128x2048 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S128x2048.Idx) (i : S256x2048.Idx) (hi0 : (i 0 : ℕ) = t.val * 128 + y 0) (hi1 : (i 1 : ℕ) = y 1) :
    (show FVec Ideal S128x2048 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S128x2048.Idx) (i : S256x2048.Idx) (hi0 : (i 0 : ℕ) = t.val * 128 + y 0) (hi1 : (i 1 : ℕ) = y 1) :
    (show FVec Ideal S128x2048 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S128x2048.Idx) (i : S256x2048.Idx) (hi0 : (i 0 : ℕ) = t.val * 128 + y 0) (hi1 : (i 1 : ℕ) = y 1) :
    (show FVec Ideal S128x2048 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel7Ideal.Adam

namespace Cert.Reference7Ideal.Adam

open Cert.Reference7Ideal Cert.Reference7Ideal.Gen Idealize.ShloMosaic Idealize.ShloMosaic.TcCoe Idealize.SL.Sem Idealize.ShloMosaic.StableHlo

variable (w u v : FVec Ideal S1x256x2048 .f32) (g : FVec Ideal S8x256x2048 .bf16)

/-- The partial gradients' sum, and a constant on every entry. -/
abbrev gsum : FVec Ideal S256x2048 .f32 := Host.reduceAdd (extf .f32 g bitsLt_bf16_f32) (constant S_ .f32 0x00000000#32) reducesTo_S8x256x2048_S256x2048_d0 h_S_
abbrev cst (x : BitVec 32) : FVec Ideal S256x2048 .f32 := broadcastInDim S256x2048 ![] bcast_S_S256x2048 (constant S_ .f32 x)

/-- The reference's four arrays, entry by entry. -/
theorem grad_eq : (show FVec Ideal S256x2048 .f32 from Host.reduceAdd (extf .f32 g bitsLt_bf16_f32) (constant S_ .f32 0x00000000#32) reducesTo_S8x256x2048_S256x2048_d0 h_S_) = Cert.Kernel7Ideal.Adam.GRAD g := by
  funext i
  obtain ⟨p, q, rfl⟩ : ∃ (p : Fin 256) (q : Fin 2048), i = ix2 p q :=
    ⟨i 0, i 1, by funext a; match a with | ⟨0, _⟩ => rfl | ⟨1, _⟩ => rfl⟩
  pointwise [gsum, cst, Host.divf, Host.sqrt]
  rfl
theorem step_eq : (show FVec Ideal S256x2048 .f32 from mulf (cst 0xBA83126F#32) (addf (Host.divf (Host.divf (addf (mulf (cst 0x3F666666#32) (shapeCast _ u shapeCasts_S1x256x2048_S256x2048)) (mulf (cst 0x3DCCCCCD#32) (gsum g))) (cst 0x3F26BD02#32)) (addf (Host.sqrt (Host.divf (addf (mulf (cst 0x3F7FBE77#32) (shapeCast _ v shapeCasts_S1x256x2048_S256x2048)) (mulf (cst 0x3A83126F#32) (mulf (gsum g) (gsum g)))) (cst 0x3C231ACC#32))) (cst 0x322BCC77#32))) (mulf (cst 0x3C23D70A#32) (shapeCast _ w shapeCasts_S1x256x2048_S256x2048)))) = Cert.Kernel7Ideal.Adam.STEP w u v g := by
  funext i
  obtain ⟨p, q, rfl⟩ : ∃ (p : Fin 256) (q : Fin 2048), i = ix2 p q :=
    ⟨i 0, i 1, by funext a; match a with | ⟨0, _⟩ => rfl | ⟨1, _⟩ => rfl⟩
  pointwise [gsum, cst, Host.divf, Host.sqrt]
  rfl
theorem mean_eq : (show FVec Ideal S256x2048 .f32 from addf (mulf (cst 0x3F666666#32) (shapeCast _ u shapeCasts_S1x256x2048_S256x2048)) (mulf (cst 0x3DCCCCCD#32) (gsum g))) = Cert.Kernel7Ideal.Adam.MEAN u g := by
  funext i
  obtain ⟨p, q, rfl⟩ : ∃ (p : Fin 256) (q : Fin 2048), i = ix2 p q :=
    ⟨i 0, i 1, by funext a; match a with | ⟨0, _⟩ => rfl | ⟨1, _⟩ => rfl⟩
  pointwise [gsum, cst, Host.divf, Host.sqrt]
  rfl
theorem square_eq : (show FVec Ideal S256x2048 .f32 from addf (mulf (cst 0x3F7FBE77#32) (shapeCast _ v shapeCasts_S1x256x2048_S256x2048)) (mulf (cst 0x3A83126F#32) (mulf (gsum g) (gsum g)))) = Cert.Kernel7Ideal.Adam.SQUARE v g := by
  funext i
  obtain ⟨p, q, rfl⟩ : ∃ (p : Fin 256) (q : Fin 2048), i = ix2 p q :=
    ⟨i 0, i 1, by funext a; match a with | ⟨0, _⟩ => rfl | ⟨1, _⟩ => rfl⟩
  pointwise [gsum, cst, Host.divf, Host.sqrt]
  rfl

end Cert.Reference7Ideal.Adam

namespace Cert.Optimiser
open Idealize.ShloMosaic Idealize.SL.Sem

theorem frame7 : Cert.quiescent_Reference7Ideal := by
  intro m g _
  run_from Cert.Reference7Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value7 : Cert.algebraic_Kernel7Ideal_Reference7Ideal := by
  intro m g m' g' hpre hagree
  refine ⟨fun c => Cert.Kernel7Ideal.Adam.GRAD (Cert.Kernel7Ideal.Adam.Ga m c),
    fun c => Cert.Kernel7Ideal.Adam.STEP (Cert.Kernel7Ideal.Adam.Wa m c) (Cert.Kernel7Ideal.Adam.Ma m c) (Cert.Kernel7Ideal.Adam.Va m c) (Cert.Kernel7Ideal.Adam.Ga m c),
    fun c => Cert.Kernel7Ideal.Adam.MEAN (Cert.Kernel7Ideal.Adam.Ma m c) (Cert.Kernel7Ideal.Adam.Ga m c), fun c => Cert.Kernel7Ideal.Adam.SQUARE (Cert.Kernel7Ideal.Adam.Va m c) (Cert.Kernel7Ideal.Adam.Ga m c), ?_, ?_⟩
  · run_from Cert.Kernel7Ideal.Gen.run_main m g
    · exact Cert.Kernel7Ideal.Adam.final4 m c
    · exact Cert.Kernel7Ideal.Adam.final5 m c
    · exact Cert.Kernel7Ideal.Adam.final6 m c
    · exact Cert.Kernel7Ideal.Adam.final7 m c
  · refine θ_run_mono (Cert.Reference7Ideal.Value.run m' g') ?_
    intro r h c
    obtain ⟨h1, h2, h3, h4, h5, h6, h7, h8⟩ := h c
    obtain ⟨a0, a1, a2, a3⟩ := hagree c
    refine ⟨h1.trans ((Cert.Reference7Ideal.Adam.grad_eq _).trans ?_), h2.trans ((Cert.Reference7Ideal.Adam.step_eq _ _ _ _).trans ?_),
      h3.trans ((Cert.Reference7Ideal.Adam.mean_eq _ _).trans ?_), h4.trans ((Cert.Reference7Ideal.Adam.square_eq _ _).trans ?_), h5, h6, h7, h8⟩
    · rw [a3]
    · rw [a0, a1, a2, a3]
    · rw [a1, a3]
    · rw [a2, a3]

end Cert.Optimiser

end
-- ==== Proof.Adam8.lean ====
/- Call 8: the optimiser's update of the key and value projection, read over the reals. -/
module

public import proofs.«01_k».proof.Proof.Gen.Kernel8Ideal.Value
public import Idealize.ShloMosaic.Lib.Pipeline.ValueKit
public import Idealize.ShloMosaic.Lib.Pipeline.ReadBack
public import proofs.«01_k».proof.Defs
public import proofs.«01_k».proof.Proof.Gen.Reference8Ideal.Run
public import Idealize.ShloMosaic.Adequacy
public import Idealize.ShloMosaic.Init
public import proofs.«01_k».proof.Proof.AdamSpec

@[expose] public section

set_option maxRecDepth 16384

noncomputable section

namespace Cert.Kernel8Ideal.Adam

open Cert.Kernel8Ideal Cert.Kernel8Ideal.Gen Cert.Kernel8Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1x2048x512 .f32 := m ((c : Thread nD τ).loc main_arg0)
abbrev Ma (c : Dev nD) : FVec Ideal S1x2048x512 .f32 := m ((c : Thread nD τ).loc main_arg1)
abbrev Va (c : Dev nD) : FVec Ideal S1x2048x512 .f32 := m ((c : Thread nD τ).loc main_arg2)
abbrev Ga (c : Dev nD) : FVec Ideal S8x2048x512 .bf16 := m ((c : Thread nD τ).loc main_arg3)

/-- The gradient, and the arrays the update leaves. -/
def GRAD (g : FVec Ideal S8x2048x512 .bf16) : FVec Ideal S2048x512 .f32 := fun i => ∑ s : Fin 8, g (ix3 s (i 0) (i 1))
def MEAN (w : FVec Ideal S1x2048x512 .f32) (g : FVec Ideal S8x2048x512 .bf16) : FVec Ideal S2048x512 .f32 :=
  fun i => newMean (w (ix3 0 (i 0) (i 1))) (GRAD g i)
def SQUARE (w : FVec Ideal S1x2048x512 .f32) (g : FVec Ideal S8x2048x512 .bf16) : FVec Ideal S2048x512 .f32 :=
  fun i => newSquare (w (ix3 0 (i 0) (i 1))) (GRAD g i)
def STEP (w u v : FVec Ideal S1x2048x512 .f32) (g : FVec Ideal S8x2048x512 .bf16) : FVec Ideal S2048x512 .f32 :=
  fun i => move (w (ix3 0 (i 0) (i 1))) (MEAN u g i) (SQUARE v g i)

theorem out4_at (x0 x1 x2 : FVec Ideal S512x512 .f32) (x3 : FVec Ideal S8x512x512 .bf16) (r : Fin 512) (k : Fin 512) :
    (show FVec Ideal S512x512 .f32 from out0_4 (F := Ideal) x0 x1 x2 x3) (ix2 r k) = (∑ s : Fin 8, x3 (ix3 s r k)) := by
  frame_out
  rw [Fin.sum_univ_eight]
  pointwise [k0_pay1, k0_pay2, k0_pay3, k0_pay4, k0_pay5, k0_pay6, k0_pay7]

theorem out5_at (x0 x1 x2 : FVec Ideal S512x512 .f32) (x3 : FVec Ideal S8x512x512 .bf16) (r : Fin 512) (k : Fin 512) :
    (show FVec Ideal S512x512 .f32 from out0_5 (F := Ideal) x0 x1 x2 x3) (ix2 r k) = move (x0 (ix2 r k)) (newMean (x1 (ix2 r k)) (∑ s : Fin 8, x3 (ix3 s r k))) (newSquare (x2 (ix2 r k)) (∑ s : Fin 8, x3 (ix3 s r k))) := by
  frame_out
  rw [Fin.sum_univ_eight]
  pointwise [k0_pay1, k0_pay2, k0_pay3, k0_pay4, k0_pay5, k0_pay6, k0_pay7]

theorem out6_at (x0 x1 x2 : FVec Ideal S512x512 .f32) (x3 : FVec Ideal S8x512x512 .bf16) (r : Fin 512) (k : Fin 512) :
    (show FVec Ideal S512x512 .f32 from out0_6 (F := Ideal) x0 x1 x2 x3) (ix2 r k) = newMean (x1 (ix2 r k)) (∑ s : Fin 8, x3 (ix3 s r k)) := by
  frame_out
  rw [Fin.sum_univ_eight]
  pointwise [k0_pay1, k0_pay2, k0_pay3, k0_pay4, k0_pay5, k0_pay6, k0_pay7]

theorem out7_at (x0 x1 x2 : FVec Ideal S512x512 .f32) (x3 : FVec Ideal S8x512x512 .bf16) (r : Fin 512) (k : Fin 512) :
    (show FVec Ideal S512x512 .f32 from out0_7 (F := Ideal) x0 x1 x2 x3) (ix2 r k) = newSquare (x2 (ix2 r k)) (∑ s : Fin 8, x3 (ix3 s r k)) := by
  frame_out
  rw [Fin.sum_univ_eight]
  pointwise [k0_pay1, k0_pay2, k0_pay3, k0_pay4, k0_pay5, k0_pay6, k0_pay7]

/-- A weight as the host lays it out for the call. -/
def view (w : FVec Ideal S1x2048x512 .f32) : FVec Ideal S2048x512 .f32 := shapeCast _ w shapeCasts_S1x2048x512_S2048x512
theorem view_at (w : FVec Ideal S1x2048x512 .f32) (p : Fin 2048) (q : Fin 512) : view w (ix2 p q) = w (ix3 0 p q) := by
  pointwise [view]
theorem V_W (c : Dev nD) : V m c main_v0 = view (Wa m c) := by
  unfold_abbrev_sides
  after_results
  rfl
theorem V_M (c : Dev nD) : V m c main_v1 = view (Ma m c) := by
  unfold_abbrev_sides
  after_results
  rfl
theorem V_V (c : Dev nD) : V m c main_v2 = view (Va m c) := by
  unfold_abbrev_sides
  after_results
  rfl

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 512) : Fin 2048 := ⟨t.val * 512 + r.val, by have := lt_of_lt_of_eq t.isLt N_0; omega⟩

theorem entry (t : Fin cfg0.N) (y : S512x512.Idx) (i : S2048x512.Idx) (hi0 : (i 0 : ℕ) = t.val * 512 + y 0) (hi1 : (i 1 : ℕ) = y 1) :
    ∃ (r : Fin 512) (k : Fin 512), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 512) (k : Fin 512) :
    (show FVec Ideal S512x512 .f32 from iblk m c 0 t) (ix2 r k) = (Wa m c) (ix3 0 (row t r) k) := by
  rw [← view_at (Wa m c) (row t r) k, ← V_W]
  blk_point [iblk, idx_at t, row]
theorem blk_M (c : Dev nD) (t : Fin cfg0.N) (r : Fin 512) (k : Fin 512) :
    (show FVec Ideal S512x512 .f32 from iblk m c 1 t) (ix2 r k) = (Ma m c) (ix3 0 (row t r) k) := by
  rw [← view_at (Ma m c) (row t r) k, ← V_M]
  blk_point [iblk, idx_at t, row]
theorem blk_V (c : Dev nD) (t : Fin cfg0.N) (r : Fin 512) (k : Fin 512) :
    (show FVec Ideal S512x512 .f32 from iblk m c 2 t) (ix2 r k) = (Va m c) (ix3 0 (row t r) k) := by
  rw [← view_at (Va m c) (row t r) k, ← V_V]
  blk_point [iblk, idx_at t, row]
theorem blk_G (c : Dev nD) (t : Fin cfg0.N) (r : Fin 512) (k : Fin 512) :
    (∑ s : Fin 8, (show FVec Ideal S8x512x512 .bf16 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S512x512.Idx) (i : S2048x512.Idx) (hi0 : (i 0 : ℕ) = t.val * 512 + y 0) (hi1 : (i 1 : ℕ) = y 1) :
    (show FVec Ideal S512x512 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S512x512.Idx) (i : S2048x512.Idx) (hi0 : (i 0 : ℕ) = t.val * 512 + y 0) (hi1 : (i 1 : ℕ) = y 1) :
    (show FVec Ideal S512x512 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S512x512.Idx) (i : S2048x512.Idx) (hi0 : (i 0 : ℕ) = t.val * 512 + y 0) (hi1 : (i 1 : ℕ) = y 1) :
    (show FVec Ideal S512x512 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S512x512.Idx) (i : S2048x512.Idx) (hi0 : (i 0 : ℕ) = t.val * 512 + y 0) (hi1 : (i 1 : ℕ) = y 1) :
    (show FVec Ideal S512x512 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel8Ideal.Adam

namespace Cert.Reference8Ideal.Adam

open Cert.Reference8Ideal Cert.Reference8Ideal.Gen Idealize.ShloMosaic Idealize.ShloMosaic.TcCoe Idealize.SL.Sem Idealize.ShloMosaic.StableHlo

variable (w u v : FVec Ideal S1x2048x512 .f32) (g : FVec Ideal S8x2048x512 .bf16)

/-- The partial gradients' sum, and a constant on every entry. -/
abbrev gsum : FVec Ideal S2048x512 .f32 := Host.reduceAdd (extf .f32 g bitsLt_bf16_f32) (constant S_ .f32 0x00000000#32) reducesTo_S8x2048x512_S2048x512_d0 h_S_
abbrev cst (x : BitVec 32) : FVec Ideal S2048x512 .f32 := broadcastInDim S2048x512 ![] bcast_S_S2048x512 (constant S_ .f32 x)

/-- The reference's four arrays, entry by entry. -/
theorem grad_eq : (show FVec Ideal S2048x512 .f32 from Host.reduceAdd (extf .f32 g bitsLt_bf16_f32) (constant S_ .f32 0x00000000#32) reducesTo_S8x2048x512_S2048x512_d0 h_S_) = Cert.Kernel8Ideal.Adam.GRAD g := by
  funext i
  obtain ⟨p, q, rfl⟩ : ∃ (p : Fin 2048) (q : Fin 512), i = ix2 p q :=
    ⟨i 0, i 1, by funext a; match a with | ⟨0, _⟩ => rfl | ⟨1, _⟩ => rfl⟩
  pointwise [gsum, cst, Host.divf, Host.sqrt]
  rfl
theorem step_eq : (show FVec Ideal S2048x512 .f32 from mulf (cst 0xBA83126F#32) (addf (Host.divf (Host.divf (addf (mulf (cst 0x3F666666#32) (shapeCast _ u shapeCasts_S1x2048x512_S2048x512)) (mulf (cst 0x3DCCCCCD#32) (gsum g))) (cst 0x3F26BD02#32)) (addf (Host.sqrt (Host.divf (addf (mulf (cst 0x3F7FBE77#32) (shapeCast _ v shapeCasts_S1x2048x512_S2048x512)) (mulf (cst 0x3A83126F#32) (mulf (gsum g) (gsum g)))) (cst 0x3C231ACC#32))) (cst 0x322BCC77#32))) (mulf (cst 0x3C23D70A#32) (shapeCast _ w shapeCasts_S1x2048x512_S2048x512)))) = Cert.Kernel8Ideal.Adam.STEP w u v g := by
  funext i
  obtain ⟨p, q, rfl⟩ : ∃ (p : Fin 2048) (q : Fin 512), i = ix2 p q :=
    ⟨i 0, i 1, by funext a; match a with | ⟨0, _⟩ => rfl | ⟨1, _⟩ => rfl⟩
  pointwise [gsum, cst, Host.divf, Host.sqrt]
  rfl
theorem mean_eq : (show FVec Ideal S2048x512 .f32 from addf (mulf (cst 0x3F666666#32) (shapeCast _ u shapeCasts_S1x2048x512_S2048x512)) (mulf (cst 0x3DCCCCCD#32) (gsum g))) = Cert.Kernel8Ideal.Adam.MEAN u g := by
  funext i
  obtain ⟨p, q, rfl⟩ : ∃ (p : Fin 2048) (q : Fin 512), i = ix2 p q :=
    ⟨i 0, i 1, by funext a; match a with | ⟨0, _⟩ => rfl | ⟨1, _⟩ => rfl⟩
  pointwise [gsum, cst, Host.divf, Host.sqrt]
  rfl
theorem square_eq : (show FVec Ideal S2048x512 .f32 from addf (mulf (cst 0x3F7FBE77#32) (shapeCast _ v shapeCasts_S1x2048x512_S2048x512)) (mulf (cst 0x3A83126F#32) (mulf (gsum g) (gsum g)))) = Cert.Kernel8Ideal.Adam.SQUARE v g := by
  funext i
  obtain ⟨p, q, rfl⟩ : ∃ (p : Fin 2048) (q : Fin 512), i = ix2 p q :=
    ⟨i 0, i 1, by funext a; match a with | ⟨0, _⟩ => rfl | ⟨1, _⟩ => rfl⟩
  pointwise [gsum, cst, Host.divf, Host.sqrt]
  rfl

end Cert.Reference8Ideal.Adam

namespace Cert.Optimiser
open Idealize.ShloMosaic Idealize.SL.Sem

theorem frame8 : Cert.quiescent_Reference8Ideal := by
  intro m g _
  run_from Cert.Reference8Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value8 : Cert.algebraic_Kernel8Ideal_Reference8Ideal := by
  intro m g m' g' hpre hagree
  refine ⟨fun c => Cert.Kernel8Ideal.Adam.GRAD (Cert.Kernel8Ideal.Adam.Ga m c),
    fun c => Cert.Kernel8Ideal.Adam.STEP (Cert.Kernel8Ideal.Adam.Wa m c) (Cert.Kernel8Ideal.Adam.Ma m c) (Cert.Kernel8Ideal.Adam.Va m c) (Cert.Kernel8Ideal.Adam.Ga m c),
    fun c => Cert.Kernel8Ideal.Adam.MEAN (Cert.Kernel8Ideal.Adam.Ma m c) (Cert.Kernel8Ideal.Adam.Ga m c), fun c => Cert.Kernel8Ideal.Adam.SQUARE (Cert.Kernel8Ideal.Adam.Va m c) (Cert.Kernel8Ideal.Adam.Ga m c), ?_, ?_⟩
  · run_from Cert.Kernel8Ideal.Gen.run_main m g
    · exact Cert.Kernel8Ideal.Adam.final4 m c
    · exact Cert.Kernel8Ideal.Adam.final5 m c
    · exact Cert.Kernel8Ideal.Adam.final6 m c
    · exact Cert.Kernel8Ideal.Adam.final7 m c
  · refine θ_run_mono (Cert.Reference8Ideal.Value.run m' g') ?_
    intro r h c
    obtain ⟨h1, h2, h3, h4, h5, h6, h7, h8⟩ := h c
    obtain ⟨a0, a1, a2, a3⟩ := hagree c
    refine ⟨h1.trans ((Cert.Reference8Ideal.Adam.grad_eq _).trans ?_), h2.trans ((Cert.Reference8Ideal.Adam.step_eq _ _ _ _).trans ?_),
      h3.trans ((Cert.Reference8Ideal.Adam.mean_eq _ _).trans ?_), h4.trans ((Cert.Reference8Ideal.Adam.square_eq _ _).trans ?_), h5, h6, h7, h8⟩
    · rw [a3]
    · rw [a0, a1, a2, a3]
    · rw [a1, a3]
    · rw [a2, a3]

end Cert.Optimiser

end
-- ==== Proof.Adam9.lean ====
/- Call 9: the optimiser's update of the packed small weights, read over the reals. -/
module

public import proofs.«01_k».proof.Proof.Gen.Kernel9Ideal.Value
public import Idealize.ShloMosaic.Lib.Pipeline.ValueKit
public import Idealize.ShloMosaic.Lib.Pipeline.ReadBack
public import proofs.«01_k».proof.Defs
public import proofs.«01_k».proof.Proof.Gen.Reference9Ideal.Run
public import Idealize.ShloMosaic.Adequacy
public import Idealize.ShloMosaic.Init
public import proofs.«01_k».proof.Proof.AdamSpec

@[expose] public section

set_option maxRecDepth 16384

noncomputable section

namespace Cert.Kernel9Ideal.Adam

open Cert.Kernel9Ideal Cert.Kernel9Ideal.Gen Cert.Kernel9Ideal.Facts Idealize.ShloMosaic Idealize.ShloMosaic.TcCoe Idealize.SL.Sem
open Idealize.ShloMosaic.Pipeline (Dat)
open Cert.Optimiser

variable (m : (ℓ : Loc nD τ sig) → Buf (Elt Ideal) ℓ)

/-- The weight, its two means, and the partial gradients received. -/
abbrev Wa (c : Dev nD) : FVec Ideal S1280x128 .f32 := m ((c : Thread nD τ).loc main_arg0)
abbrev Ma (c : Dev nD) : FVec Ideal S1280x128 .f32 := m ((c : Thread nD τ).loc main_arg1)
abbrev Va (c : Dev nD) : FVec Ideal S1280x128 .f32 := m ((c : Thread nD τ).loc main_arg2)
abbrev Ga (c : Dev nD) : FVec Ideal S8x1280x128 .f32 := m ((c : Thread nD τ).loc main_arg3)

/-- The gradient, and the arrays the update leaves. -/
def GRAD (g : FVec Ideal S8x1280x128 .f32) : FVec Ideal S1280x128 .f32 := fun i => ∑ s : Fin 8, g (ix3 s (i 0) (i 1))
def MEAN (w : FVec Ideal S1280x128 .f32) (g : FVec Ideal S8x1280x128 .f32) : FVec Ideal S1280x128 .f32 :=
  fun i => newMean (w (ix2 (i 0) (i 1))) (GRAD g i)
def SQUARE (w : FVec Ideal S1280x128 .f32) (g : FVec Ideal S8x1280x128 .f32) : FVec Ideal S1280x128 .f32 :=
  fun i => newSquare (w (ix2 (i 0) (i 1))) (GRAD g i)
def STEP (w u v : FVec Ideal S1280x128 .f32) (g : FVec Ideal S8x1280x128 .f32) : FVec Ideal S1280x128 .f32 :=
  fun i => move (w (ix2 (i 0) (i 1))) (MEAN u g i) (SQUARE v g i)

theorem out4_at (x0 x1 x2 : FVec Ideal S1280x128 .f32) (x3 : FVec Ideal S8x1280x128 .f32) (r : Fin 1280) (k : Fin 128) :
    (show FVec Ideal S1280x128 .f32 from out0_4 (F := Ideal) x0 x1 x2 x3) (ix2 r k) = (∑ s : Fin 8, x3 (ix3 s r k)) := by
  frame_out
  rw [Fin.sum_univ_eight]
  pointwise [k0_pay1, k0_pay2, k0_pay3, k0_pay4, k0_pay5, k0_pay6]

theorem out5_at (x0 x1 x2 : FVec Ideal S1280x128 .f32) (x3 : FVec Ideal S8x1280x128 .f32) (r : Fin 1280) (k : Fin 128) :
    (show FVec Ideal S1280x128 .f32 from out0_5 (F := Ideal) x0 x1 x2 x3) (ix2 r k) = move (x0 (ix2 r k)) (newMean (x1 (ix2 r k)) (∑ s : Fin 8, x3 (ix3 s r k))) (newSquare (x2 (ix2 r k)) (∑ s : Fin 8, x3 (ix3 s r k))) := by
  frame_out
  rw [Fin.sum_univ_eight]
  pointwise [k0_pay1, k0_pay2, k0_pay3, k0_pay4, k0_pay5, k0_pay6]

theorem out6_at (x0 x1 x2 : FVec Ideal S1280x128 .f32) (x3 : FVec Ideal S8x1280x128 .f32) (r : Fin 1280) (k : Fin 128) :
    (show FVec Ideal S1280x128 .f32 from out0_6 (F := Ideal) x0 x1 x2 x3) (ix2 r k) = newMean (x1 (ix2 r k)) (∑ s : Fin 8, x3 (ix3 s r k)) := by
  frame_out
  rw [Fin.sum_univ_eight]
  pointwise [k0_pay1, k0_pay2, k0_pay3, k0_pay4, k0_pay5, k0_pay6]

theorem out7_at (x0 x1 x2 : FVec Ideal S1280x128 .f32) (x3 : FVec Ideal S8x1280x128 .f32) (r : Fin 1280) (k : Fin 128) :
    (show FVec Ideal S1280x128 .f32 from out0_7 (F := Ideal) x0 x1 x2 x3) (ix2 r k) = newSquare (x2 (ix2 r k)) (∑ s : Fin 8, x3 (ix3 s r k)) := by
  frame_out
  rw [Fin.sum_univ_eight]
  pointwise [k0_pay1, k0_pay2, k0_pay3, k0_pay4, k0_pay5, k0_pay6]

set_option maxRecDepth 65536 in
theorem idx_at : ∀ t : Fin cfg0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0] :=
  (by decide +kernel : ∀ t : Fin grid0.N, win0_0.index t = ![t.val, 0] ∧ win0_1.index t = ![t.val, 0] ∧ win0_2.index t = ![t.val, 0] ∧ win0_4.index t = ![t.val, 0] ∧ win0_5.index t = ![t.val, 0] ∧ win0_6.index t = ![t.val, 0] ∧ win0_7.index t = ![t.val, 0] ∧ win0_3.index t = ![0, t.val, 0])

def row (t : Fin cfg0.N) (r : Fin 1280) : Fin 1280 := ⟨t.val * 1280 + r.val, by have := lt_of_lt_of_eq t.isLt N_0; omega⟩

theorem entry (t : Fin cfg0.N) (y : S1280x128.Idx) (i : S1280x128.Idx) (hi0 : (i 0 : ℕ) = t.val * 1280 + y 0) (hi1 : (i 1 : ℕ) = y 1) :
    ∃ (r : Fin 1280) (k : Fin 128), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

/-- A grid point's blocks are rows of the arrays. -/
theorem blk_W (c : Dev nD) (t : Fin cfg0.N) (r : Fin 1280) (k : Fin 128) :
    (show FVec Ideal S1280x128 .f32 from iblk m c 0 t) (ix2 r k) = (Wa m c) (ix2 (row t r) k) := by
  blk_point [iblk, V_main_arg0, idx_at t, row]
theorem blk_M (c : Dev nD) (t : Fin cfg0.N) (r : Fin 1280) (k : Fin 128) :
    (show FVec Ideal S1280x128 .f32 from iblk m c 1 t) (ix2 r k) = (Ma m c) (ix2 (row t r) k) := by
  blk_point [iblk, V_main_arg1, idx_at t, row]
theorem blk_V (c : Dev nD) (t : Fin cfg0.N) (r : Fin 1280) (k : Fin 128) :
    (show FVec Ideal S1280x128 .f32 from iblk m c 2 t) (ix2 r k) = (Va m c) (ix2 (row t r) k) := by
  blk_point [iblk, V_main_arg2, idx_at t, row]
theorem blk_G (c : Dev nD) (t : Fin cfg0.N) (r : Fin 1280) (k : Fin 128) :
    (∑ s : Fin 8, (show FVec Ideal S8x1280x128 .f32 from iblk m c 3 t) (ix3 s r k)) = GRAD (Ga m c) (ix2 (row t r) k) := by
  refine Finset.sum_congr rfl fun s _ => ?_
  blk_point [iblk, V_main_arg3, idx_at t, row]

theorem point4 (c : Dev nD) (t : Fin cfg0.N) (y : S1280x128.Idx) (i : S1280x128.Idx) (hi0 : (i 0 : ℕ) = t.val * 1280 + y 0) (hi1 : (i 1 : ℕ) = y 1) :
    (show FVec Ideal S1280x128 .f32 from out0_4 (iblk m c 0 t) (iblk m c 1 t) (iblk m c 2 t) (iblk m c 3 t)) y = GRAD (Ga m c) i := by
  obtain ⟨r, k, rfl, rfl⟩ := entry t y i hi0 hi1
  exact (out4_at _ _ _ _ r k).trans (blk_G m c t r k)
theorem final4 (c : Dev nD) : (dats m 0 c).arrAt 4 (cfgs 0).N = GRAD (Ga m c) := by
  refine (dats m 0 c).arrAt_eq_of_covers 4 _ (by decide +kernel) fun t hf y => ?_
  blk_simp
  rw [after0_4]
  refine point4 m c t y _ ?_ ?_ <;> blk_simp [idx_at t]

theorem point5 (c : Dev nD) (t : Fin cfg0.N) (y : S1280x128.Idx) (i : S1280x128.Idx) (hi0 : (i 0 : ℕ) = t.val * 1280 + y 0) (hi1 : (i 1 : ℕ) = y 1) :
    (show FVec Ideal S1280x128 .f32 from out0_5 (iblk m c 0 t) (iblk m c 1 t) (iblk m c 2 t) (iblk m c 3 t)) y = STEP (Wa m c) (Ma m c) (Va m c) (Ga m c) i := by
  obtain ⟨r, k, rfl, rfl⟩ := entry t y i hi0 hi1
  exact (out5_at _ _ _ _ r k).trans (congr (congrArg₂ move (blk_W m c t r k) (congrArg₂ newMean (blk_M m c t r k) (blk_G m c t r k))) (congrArg₂ newSquare (blk_V m c t r k) (blk_G m c t r k)))
theorem final5 (c : Dev nD) : (dats m 0 c).arrAt 5 (cfgs 0).N = STEP (Wa m c) (Ma m c) (Va m c) (Ga m c) := by
  refine (dats m 0 c).arrAt_eq_of_covers 5 _ (by decide +kernel) fun t hf y => ?_
  blk_simp
  rw [after0_5]
  refine point5 m c t y _ ?_ ?_ <;> blk_simp [idx_at t]

theorem point6 (c : Dev nD) (t : Fin cfg0.N) (y : S1280x128.Idx) (i : S1280x128.Idx) (hi0 : (i 0 : ℕ) = t.val * 1280 + y 0) (hi1 : (i 1 : ℕ) = y 1) :
    (show FVec Ideal S1280x128 .f32 from out0_6 (iblk m c 0 t) (iblk m c 1 t) (iblk m c 2 t) (iblk m c 3 t)) y = MEAN (Ma m c) (Ga m c) i := by
  obtain ⟨r, k, rfl, rfl⟩ := entry t y i hi0 hi1
  exact (out6_at _ _ _ _ r k).trans (congrArg₂ newMean (blk_M m c t r k) (blk_G m c t r k))
theorem final6 (c : Dev nD) : (dats m 0 c).arrAt 6 (cfgs 0).N = MEAN (Ma m c) (Ga m c) := by
  refine (dats m 0 c).arrAt_eq_of_covers 6 _ (by decide +kernel) fun t hf y => ?_
  blk_simp
  rw [after0_6]
  refine point6 m c t y _ ?_ ?_ <;> blk_simp [idx_at t]

theorem point7 (c : Dev nD) (t : Fin cfg0.N) (y : S1280x128.Idx) (i : S1280x128.Idx) (hi0 : (i 0 : ℕ) = t.val * 1280 + y 0) (hi1 : (i 1 : ℕ) = y 1) :
    (show FVec Ideal S1280x128 .f32 from out0_7 (iblk m c 0 t) (iblk m c 1 t) (iblk m c 2 t) (iblk m c 3 t)) y = SQUARE (Va m c) (Ga m c) i := by
  obtain ⟨r, k, rfl, rfl⟩ := entry t y i hi0 hi1
  exact (out7_at _ _ _ _ r k).trans (congrArg₂ newSquare (blk_V m c t r k) (blk_G m c t r k))
theorem final7 (c : Dev nD) : (dats m 0 c).arrAt 7 (cfgs 0).N = SQUARE (Va m c) (Ga m c) := by
  refine (dats m 0 c).arrAt_eq_of_covers 7 _ (by decide +kernel) fun t hf y => ?_
  blk_simp
  rw [after0_7]
  refine point7 m c t y _ ?_ ?_ <;> blk_simp [idx_at t]

end Cert.Kernel9Ideal.Adam

namespace Cert.Reference9Ideal.Adam

open Cert.Reference9Ideal Cert.Reference9Ideal.Gen Idealize.ShloMosaic Idealize.ShloMosaic.TcCoe Idealize.SL.Sem Idealize.ShloMosaic.StableHlo

variable (w u v : FVec Ideal S1280x128 .f32) (g : FVec Ideal S8x1280x128 .f32)

/-- The partial gradients' sum, and a constant on every entry. -/
abbrev gsum : FVec Ideal S1280x128 .f32 := Host.reduceAdd g (constant S_ .f32 0x00000000#32) reducesTo_S8x1280x128_S1280x128_d0 h_S_
abbrev cst (x : BitVec 32) : FVec Ideal S1280x128 .f32 := broadcastInDim S1280x128 ![] bcast_S_S1280x128 (constant S_ .f32 x)

/-- The reference's four arrays, entry by entry. -/
theorem grad_eq : (show FVec Ideal S1280x128 .f32 from Host.reduceAdd g (constant S_ .f32 0x00000000#32) reducesTo_S8x1280x128_S1280x128_d0 h_S_) = Cert.Kernel9Ideal.Adam.GRAD g := by
  funext i
  obtain ⟨p, q, rfl⟩ : ∃ (p : Fin 1280) (q : Fin 128), i = ix2 p q :=
    ⟨i 0, i 1, by funext a; match a with | ⟨0, _⟩ => rfl | ⟨1, _⟩ => rfl⟩
  pointwise [gsum, cst, Host.divf, Host.sqrt]
  rfl
theorem step_eq : (show FVec Ideal S1280x128 .f32 from mulf (cst 0xBA83126F#32) (addf (Host.divf (Host.divf (addf (mulf (cst 0x3F666666#32) u) (mulf (cst 0x3DCCCCCD#32) (gsum g))) (cst 0x3F26BD02#32)) (addf (Host.sqrt (Host.divf (addf (mulf (cst 0x3F7FBE77#32) v) (mulf (cst 0x3A83126F#32) (mulf (gsum g) (gsum g)))) (cst 0x3C231ACC#32))) (cst 0x322BCC77#32))) (mulf (cst 0x3C23D70A#32) w))) = Cert.Kernel9Ideal.Adam.STEP w u v g := by
  funext i
  obtain ⟨p, q, rfl⟩ : ∃ (p : Fin 1280) (q : Fin 128), i = ix2 p q :=
    ⟨i 0, i 1, by funext a; match a with | ⟨0, _⟩ => rfl | ⟨1, _⟩ => rfl⟩
  pointwise [gsum, cst, Host.divf, Host.sqrt]
  rfl
theorem mean_eq : (show FVec Ideal S1280x128 .f32 from addf (mulf (cst 0x3F666666#32) u) (mulf (cst 0x3DCCCCCD#32) (gsum g))) = Cert.Kernel9Ideal.Adam.MEAN u g := by
  funext i
  obtain ⟨p, q, rfl⟩ : ∃ (p : Fin 1280) (q : Fin 128), i = ix2 p q :=
    ⟨i 0, i 1, by funext a; match a with | ⟨0, _⟩ => rfl | ⟨1, _⟩ => rfl⟩
  pointwise [gsum, cst, Host.divf, Host.sqrt]
  rfl
theorem square_eq : (show FVec Ideal S1280x128 .f32 from addf (mulf (cst 0x3F7FBE77#32) v) (mulf (cst 0x3A83126F#32) (mulf (gsum g) (gsum g)))) = Cert.Kernel9Ideal.Adam.SQUARE v g := by
  funext i
  obtain ⟨p, q, rfl⟩ : ∃ (p : Fin 1280) (q : Fin 128), i = ix2 p q :=
    ⟨i 0, i 1, by funext a; match a with | ⟨0, _⟩ => rfl | ⟨1, _⟩ => rfl⟩
  pointwise [gsum, cst, Host.divf, Host.sqrt]
  rfl

end Cert.Reference9Ideal.Adam

namespace Cert.Optimiser
open Idealize.ShloMosaic Idealize.SL.Sem

theorem frame9 : Cert.quiescent_Reference9Ideal := by
  intro m g _
  run_from Cert.Reference9Ideal.Value.run m g
  · exact fun _ => ⟨trivial, trivial, trivial, trivial⟩
  · exact sem_eq_zero_of_no_sems (by decide) _

set_option maxRecDepth 65536 in
set_option maxHeartbeats 4000000 in
/-- The kernel and the reference end with the same gradient, step and means. -/
theorem value9 : Cert.algebraic_Kernel9Ideal_Reference9Ideal := by
  intro m g m' g' hpre hagree
  refine ⟨fun c => Cert.Kernel9Ideal.Adam.GRAD (Cert.Kernel9Ideal.Adam.Ga m c),
    fun c => Cert.Kernel9Ideal.Adam.STEP (Cert.Kernel9Ideal.Adam.Wa m c) (Cert.Kernel9Ideal.Adam.Ma m c) (Cert.Kernel9Ideal.Adam.Va m c) (Cert.Kernel9Ideal.Adam.Ga m c),
    fun c => Cert.Kernel9Ideal.Adam.MEAN (Cert.Kernel9Ideal.Adam.Ma m c) (Cert.Kernel9Ideal.Adam.Ga m c), fun c => Cert.Kernel9Ideal.Adam.SQUARE (Cert.Kernel9Ideal.Adam.Va m c) (Cert.Kernel9Ideal.Adam.Ga m c), ?_, ?_⟩
  · run_from Cert.Kernel9Ideal.Gen.run_main m g
    · exact Cert.Kernel9Ideal.Adam.final4 m c
    · exact Cert.Kernel9Ideal.Adam.final5 m c
    · exact Cert.Kernel9Ideal.Adam.final6 m c
    · exact Cert.Kernel9Ideal.Adam.final7 m c
  · refine θ_run_mono (Cert.Reference9Ideal.Value.run m' g') ?_
    intro r h c
    obtain ⟨h1, h2, h3, h4, h5, h6, h7, h8⟩ := h c
    obtain ⟨a0, a1, a2, a3⟩ := hagree c
    refine ⟨h1.trans ((Cert.Reference9Ideal.Adam.grad_eq _).trans ?_), h2.trans ((Cert.Reference9Ideal.Adam.step_eq _ _ _ _).trans ?_),
      h3.trans ((Cert.Reference9Ideal.Adam.mean_eq _ _).trans ?_), h4.trans ((Cert.Reference9Ideal.Adam.square_eq _ _).trans ?_), h5, h6, h7, h8⟩
    · rw [a3]
    · rw [a0, a1, a2, a3]
    · rw [a1, a3]
    · rw [a2, a3]

end Cert.Optimiser

end
-- ==== Proof.Mm10.lean ====
/- Call 10: the input projection, read over the reals. -/
module

public import proofs.«01_k».proof.Proof.Gen.Kernel10Ideal.Value
public import Idealize.ShloMosaic.Lib.Pipeline.ValueKit
public import Idealize.ShloMosaic.Lib.Pipeline.ReadBack
public import proofs.«01_k».proof.Defs
public import proofs.«01_k».proof.Proof.Gen.Reference10Ideal.Run
public import Idealize.ShloMosaic.Adequacy
public import Idealize.ShloMosaic.Init
public import proofs.«01_k».proof.Proof.FfnSpec

@[expose] public section

set_option maxRecDepth 16384

noncomputable section

namespace Cert.Kernel10Ideal.Product

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .bf16 := m ((c : Thread nD τ).loc main_arg0)
abbrev Ba (c : Dev nD) : FVec Ideal S2048x3328 .bf16 := m ((c : Thread nD τ).loc main_arg1)

/-- The array the call is to leave: entry by entry the sum of products. -/
def PROD (a : FVec Ideal S8192x2048 .bf16) (b : FVec Ideal S2048x3328 .bf16) : FVec Ideal S8192x3328 .f32 :=
  fun i => ∑ j : Fin 2048, a (ix2 (i 0) j) * b (ix2 j (i 1))

theorem pay_at (a : FVec Ideal S512x2048 .bf16) (b : FVec Ideal S2048x1664 .bf16) (r : Fin 512) (k : Fin 1664) :
    k0_pay1 (F := Ideal) a b (ix2 r k) = ∑ j : Fin 2048, a (ix2 r j) * b (ix2 j k) := by
  pointwise [k0_pay1]

set_option maxRecDepth 65536 in
theorem idx_at : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- What a grid point writes is its block of the array. -/
theorem point (c : Dev nD) (t : Fin cfg0.N) (y : S512x1664.Idx) (i : S8192x3328.Idx)
    (hi0 : (i 0 : ℕ) = t.val / 2 * 512 + y 0) (hi1 : (i 1 : ℕ) = t.val % 2 * 1664 + y 1) :
    (show FVec Ideal S512x1664 .f32 from out0_2 (iblk m c 0 t) (iblk m c 1 t)) y = PROD (Aa m c) (Ba m c) i := by
  frame_out
  obtain ⟨r, k, rfl⟩ : ∃ (r : Fin 512) (k : Fin 1664), y = ix2 r k :=
    ⟨y 0, y 1, by funext a; match a with | ⟨0, _⟩ => rfl | ⟨1, _⟩ => rfl⟩
  have e0 : (i 0 : ℕ) = t.val / 2 * 512 + r.val := hi0
  have e1 : (i 1 : ℕ) = t.val % 2 * 1664 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel10Ideal.Product

namespace Cert.Reference10Ideal.Product

open Cert.Reference10Ideal Cert.Reference10Ideal.Gen Cert.Reference10Ideal.Facts Idealize.ShloMosaic Idealize.ShloMosaic.TcCoe Idealize.SL.Sem

/-- The reference's array, entry by entry. -/
theorem ref_eq (a : FVec Ideal S8192x2048 .bf16) (b : FVec Ideal S2048x3328 .bf16) :
    Host.dotGeneral dot_S8192x2048_S2048x3328_S8192x3328_1_0_0_1_n_n none (extf .f32 a bitsLt_bf16_f32) (extf .f32 b bitsLt_bf16_f32)
      = Cert.Kernel10Ideal.Product.PROD a b := by
  funext i
  obtain ⟨p, k, rfl⟩ : ∃ (p : Fin 8192) (k : Fin 3328), i = ix2 p k :=
    ⟨i 0, i 1, by funext a; match a with | ⟨0, _⟩ => rfl | ⟨1, _⟩ => rfl⟩
  show _ = ∑ j : Fin 2048, a (ix2 p j) * b (ix2 j k)
  pointwise

end Cert.Reference10Ideal.Product

namespace Cert.Products
open Idealize.ShloMosaic Idealize.SL.Sem

theorem frame10 : Cert.quiescent_Reference10Ideal := by
  intro m g _
  run_from Cert.Reference10Ideal.Value.run m g
  · exact fun _ => ⟨trivial, trivial⟩
  · exact sem_eq_zero_of_no_sems (by decide) _

set_option maxRecDepth 65536 in
set_option maxHeartbeats 4000000 in
/-- The kernel and the reference end with the same array. -/
theorem value10 : Cert.algebraic_Kernel10Ideal_Reference10Ideal := by
  pair_intro
  · run_from Cert.Kernel10Ideal.Gen.run_main m g
  · run_from Cert.Reference10Ideal.Value.run m' g'
    exact (Cert.Reference10Ideal.Product.ref_eq _ _).trans (Cert.Kernel10Ideal.Product.final m c).symm

end Cert.Products

end
-- ==== Proof.Mm11.lean ====
/- Call 11: an output projection with its residual, read over the reals. -/
module

public import proofs.«01_k».proof.Proof.Gen.Kernel11Ideal.Value
public import Idealize.ShloMosaic.Lib.Pipeline.ValueKit
public import Idealize.ShloMosaic.Lib.Pipeline.ReadBack
public import proofs.«01_k».proof.Defs
public import proofs.«01_k».proof.Proof.Gen.Reference11Ideal.Run
public import Idealize.ShloMosaic.Adequacy
public import Idealize.ShloMosaic.Init
public import proofs.«01_k».proof.Proof.FfnSpec

@[expose] public section

set_option maxRecDepth 16384

noncomputable section

namespace Cert.Kernel11Ideal.Product

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .bf16 := m ((c : Thread nD τ).loc main_arg0)
abbrev Ba (c : Dev nD) : FVec Ideal S2048x2048 .bf16 := m ((c : Thread nD τ).loc main_arg1)
abbrev Ra (c : Dev nD) : FVec Ideal S8192x2048 .f32 := m ((c : Thread nD τ).loc main_arg2)

/-- The array the call is to leave: entry by entry the sum of products, and the residual. -/
def PROD (a : FVec Ideal S8192x2048 .bf16) (b : FVec Ideal S2048x2048 .bf16) (r : FVec Ideal S8192x2048 .f32) : FVec Ideal S8192x2048 .f32 :=
  fun i => (∑ j : Fin 2048, a (ix2 (i 0) j) * b (ix2 j (i 1))) + r i

theorem pay_at (a : FVec Ideal S512x2048 .bf16) (b : FVec Ideal S2048x2048 .bf16) (d : FVec Ideal S512x2048 .f32) (r : Fin 512) (k : Fin 2048) :
    k0_pay1 (F := Ideal) a b d (ix2 r k) = (∑ j : Fin 2048, a (ix2 r j) * b (ix2 j k)) + d (ix2 r k) := by
  pointwise [k0_pay1]

set_option maxRecDepth 65536 in
theorem idx_at : ∀ t : Fin cfg0.N, win0_0.index t = ![t.val / 1, 0] ∧ win0_1.index t = ![0, t.val % 1]
    ∧ win0_2.index t = ![t.val / 1, t.val % 1] ∧ win0_3.index t = ![t.val / 1, t.val % 1] :=
  (by decide +kernel : ∀ t : Fin grid0.N, win0_0.index t = ![t.val / 1, 0] ∧ win0_1.index t = ![0, t.val % 1]
    ∧ win0_2.index t = ![t.val / 1, t.val % 1] ∧ win0_3.index t = ![t.val / 1, t.val % 1])

/-- What a grid point writes is its block of the array. -/
theorem point (c : Dev nD) (t : Fin cfg0.N) (y : S512x2048.Idx) (i : S8192x2048.Idx)
    (hi0 : (i 0 : ℕ) = t.val / 1 * 512 + y 0) (hi1 : (i 1 : ℕ) = t.val % 1 * 2048 + y 1) :
    (show FVec Ideal S512x2048 .f32 from out0_3 (iblk m c 0 t) (iblk m c 1 t) (iblk m c 2 t)) y = PROD (Aa m c) (Ba m c) (Ra m c) i := by
  frame_out
  obtain ⟨r, k, rfl⟩ : ∃ (r : Fin 512) (k : Fin 2048), y = ix2 r k :=
    ⟨y 0, y 1, by funext a; match a with | ⟨0, _⟩ => rfl | ⟨1, _⟩ => rfl⟩
  have e0 : (i 0 : ℕ) = t.val / 1 * 512 + r.val := hi0
  have e1 : (i 1 : ℕ) = t.val % 1 * 2048 + k.val := hi1
  refine (pay_at _ _ _ r k).trans (congrArg₂ (· + ·) (Finset.sum_congr rfl fun j _ => congrArg₂ (· * ·) ?_ ?_) ?_)
  · blk_point [iblk, V_main_arg0, idx_at t]
  · blk_point [iblk, V_main_arg1, idx_at t]
  · blk_point [iblk, V_main_arg2, idx_at t]

/-- The array after the whole grid. -/
theorem final (c : Dev nD) : (dats m 0 c).arrAt 3 (cfgs 0).N = PROD (Aa m c) (Ba m c) (Ra m c) := by
  refine (dats m 0 c).arrAt_eq_of_covers 3 _ (by decide +kernel) fun t hf y => ?_
  blk_simp
  rw [after0_3]
  refine point m c t y _ ?_ ?_ <;> blk_simp [idx_at t]

end Cert.Kernel11Ideal.Product

namespace Cert.Reference11Ideal.Product

open Cert.Reference11Ideal Cert.Reference11Ideal.Gen Cert.Reference11Ideal.Facts Idealize.ShloMosaic Idealize.ShloMosaic.TcCoe Idealize.SL.Sem

/-- The reference's array, entry by entry. -/
theorem ref_eq (a : FVec Ideal S8192x2048 .bf16) (b : FVec Ideal S2048x2048 .bf16) (r : FVec Ideal S8192x2048 .f32) :
    addf r (Host.dotGeneral dot_S8192x2048_S2048x2048_S8192x2048_1_0_0_1_n_n none (extf .f32 a bitsLt_bf16_f32) (extf .f32 b bitsLt_bf16_f32))
      = Cert.Kernel11Ideal.Product.PROD a b r := by
  funext i
  obtain ⟨p, k, rfl⟩ : ∃ (p : Fin 8192) (k : Fin 2048), i = ix2 p k :=
    ⟨i 0, i 1, by funext a; match a with | ⟨0, _⟩ => rfl | ⟨1, _⟩ => rfl⟩
  show _ = (∑ j : Fin 2048, a (ix2 p j) * b (ix2 j k)) + r (ix2 p k)
  pointwise
  exact add_comm _ _

end Cert.Reference11Ideal.Product

namespace Cert.Products
open Idealize.ShloMosaic Idealize.SL.Sem

theorem frame11 : Cert.quiescent_Reference11Ideal := by
  intro m g _
  run_from Cert.Reference11Ideal.Value.run m g
  · exact fun _ => ⟨trivial, trivial, trivial⟩
  · exact sem_eq_zero_of_no_sems (by decide) _

set_option maxRecDepth 65536 in
set_option maxHeartbeats 4000000 in
/-- The kernel and the reference end with the same array. -/
theorem value11 : Cert.algebraic_Kernel11Ideal_Reference11Ideal := by
  pair_intro
  · run_from Cert.Kernel11Ideal.Gen.run_main m g
  · run_from Cert.Reference11Ideal.Value.run m' g'
    exact (Cert.Reference11Ideal.Product.ref_eq _ _ _).trans (Cert.Kernel11Ideal.Product.final m c).symm

end Cert.Products

end
-- ==== Proof.Mm12.lean ====
/- Call 12: the query projection of the cross attention, read over the reals. -/
module

public import proofs.«01_k».proof.Proof.Gen.Kernel12Ideal.Value
public import Idealize.ShloMosaic.Lib.Pipeline.ValueKit
public import Idealize.ShloMosaic.Lib.Pipeline.ReadBack
public import proofs.«01_k».proof.Defs
public import proofs.«01_k».proof.Proof.Gen.Reference12Ideal.Run
public import Idealize.ShloMosaic.Adequacy
public import Idealize.ShloMosaic.Init
public import proofs.«01_k».proof.Proof.FfnSpec

@[expose] public section

set_option maxRecDepth 16384

noncomputable section

namespace Cert.Kernel12Ideal.Product

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .bf16 := m ((c : Thread nD τ).loc main_arg0)
abbrev Ba (c : Dev nD) : FVec Ideal S2048x2048 .bf16 := m ((c : Thread nD τ).loc main_arg1)

/-- The array the call is to leave: entry by entry the sum of products. -/
def PROD (a : FVec Ideal S8192x2048 .bf16) (b : FVec Ideal S2048x2048 .bf16) : FVec Ideal S8192x2048 .bf16 :=
  fun i => ∑ j : Fin 2048, a (ix2 (i 0) j) * b (ix2 j (i 1))

theorem pay_at (a : FVec Ideal S512x2048 .bf16) (b : FVec Ideal S2048x2048 .bf16) (r : Fin 512) (k : Fin 2048) :
    k0_pay1 (F := Ideal) a b (ix2 r k) = ∑ j : Fin 2048, a (ix2 r j) * b (ix2 j k) := by
  pointwise [k0_pay1]

set_option maxRecDepth 65536 in
theorem idx_at : ∀ t : Fin cfg0.N, win0_0.index t = ![t.val / 1, 0] ∧ win0_1.index t = ![0, t.val % 1]
    ∧ win0_2.index t = ![t.val / 1, t.val % 1] :=
  (by decide +kernel : ∀ t : Fin grid0.N, win0_0.index t = ![t.val / 1, 0] ∧ win0_1.index t = ![0, t.val % 1]
    ∧ win0_2.index t = ![t.val / 1, t.val % 1])

/-- What a grid point writes is its block of the array. -/
theorem point (c : Dev nD) (t : Fin cfg0.N) (y : S512x2048.Idx) (i : S8192x2048.Idx)
    (hi0 : (i 0 : ℕ) = t.val / 1 * 512 + y 0) (hi1 : (i 1 : ℕ) = t.val % 1 * 2048 + y 1) :
    (show FVec Ideal S512x2048 .bf16 from out0_2 (iblk m c 0 t) (iblk m c 1 t)) y = PROD (Aa m c) (Ba m c) i := by
  frame_out
  obtain ⟨r, k, rfl⟩ : ∃ (r : Fin 512) (k : Fin 2048), y = ix2 r k :=
    ⟨y 0, y 1, by funext a; match a with | ⟨0, _⟩ => rfl | ⟨1, _⟩ => rfl⟩
  have e0 : (i 0 : ℕ) = t.val / 1 * 512 + r.val := hi0
  have e1 : (i 1 : ℕ) = t.val % 1 * 2048 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel12Ideal.Product

namespace Cert.Reference12Ideal.Product

open Cert.Reference12Ideal Cert.Reference12Ideal.Gen Cert.Reference12Ideal.Facts Idealize.ShloMosaic Idealize.ShloMosaic.TcCoe Idealize.SL.Sem

/-- The reference's array, entry by entry. -/
theorem ref_eq (a : FVec Ideal S8192x2048 .bf16) (b : FVec Ideal S2048x2048 .bf16) :
    truncf .bf16 (Host.dotGeneral dot_S8192x2048_S2048x2048_S8192x2048_1_0_0_1_n_n none (extf .f32 a bitsLt_bf16_f32) (extf .f32 b bitsLt_bf16_f32)) bitsLt_bf16_f32
      = Cert.Kernel12Ideal.Product.PROD a b := by
  funext i
  obtain ⟨p, k, rfl⟩ : ∃ (p : Fin 8192) (k : Fin 2048), i = ix2 p k :=
    ⟨i 0, i 1, by funext a; match a with | ⟨0, _⟩ => rfl | ⟨1, _⟩ => rfl⟩
  show _ = ∑ j : Fin 2048, a (ix2 p j) * b (ix2 j k)
  pointwise

end Cert.Reference12Ideal.Product

namespace Cert.Products
open Idealize.ShloMosaic Idealize.SL.Sem

theorem frame12 : Cert.quiescent_Reference12Ideal := by
  intro m g _
  run_from Cert.Reference12Ideal.Value.run m g
  · exact fun _ => ⟨trivial, trivial⟩
  · exact sem_eq_zero_of_no_sems (by decide) _

set_option maxRecDepth 65536 in
set_option maxHeartbeats 4000000 in
/-- The kernel and the reference end with the same array. -/
theorem value12 : Cert.algebraic_Kernel12Ideal_Reference12Ideal := by
  pair_intro
  · run_from Cert.Kernel12Ideal.Gen.run_main m g
  · run_from Cert.Reference12Ideal.Value.run m' g'
    exact (Cert.Reference12Ideal.Product.ref_eq _ _).trans (Cert.Kernel12Ideal.Product.final m c).symm

end Cert.Products

end
-- ==== Proof.Mm13.lean ====
/- Call 13: the key and value projection of the memory, read over the reals. -/
module

public import proofs.«01_k».proof.Proof.Gen.Kernel13Ideal.Value
public import Idealize.ShloMosaic.Lib.Pipeline.ValueKit
public import Idealize.ShloMosaic.Lib.Pipeline.ReadBack
public import proofs.«01_k».proof.Defs
public import proofs.«01_k».proof.Proof.Gen.Reference13Ideal.Run
public import Idealize.ShloMosaic.Adequacy
public import Idealize.ShloMosaic.Init
public import proofs.«01_k».proof.Proof.FfnSpec

@[expose] public section

set_option maxRecDepth 16384

noncomputable section

namespace Cert.Kernel13Ideal.Product

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S256x2048 .bf16 := m ((c : Thread nD τ).loc main_arg0)
abbrev Ba (c : Dev nD) : FVec Ideal S2048x4096 .bf16 := m ((c : Thread nD τ).loc main_arg1)

/-- The array the call is to leave: entry by entry the sum of products. -/
def PROD (a : FVec Ideal S256x2048 .bf16) (b : FVec Ideal S2048x4096 .bf16) : FVec Ideal S256x4096 .bf16 :=
  fun i => ∑ j : Fin 2048, a (ix2 (i 0) j) * b (ix2 j (i 1))

theorem pay_at (a : FVec Ideal S256x2048 .bf16) (b : FVec Ideal S2048x512 .bf16) (r : Fin 256) (k : Fin 512) :
    k0_pay1 (F := Ideal) a b (ix2 r k) = ∑ j : Fin 2048, a (ix2 r j) * b (ix2 j k) := by
  pointwise [k0_pay1]

set_option maxRecDepth 65536 in
theorem idx_at : ∀ t : Fin cfg0.N, win0_0.index t = ![t.val / 8, 0] ∧ win0_1.index t = ![0, t.val % 8]
    ∧ win0_2.index t = ![t.val / 8, t.val % 8] :=
  (by decide +kernel : ∀ t : Fin grid0.N, win0_0.index t = ![t.val / 8, 0] ∧ win0_1.index t = ![0, t.val % 8]
    ∧ win0_2.index t = ![t.val / 8, t.val % 8])

/-- What a grid point writes is its block of the array. -/
theorem point (c : Dev nD) (t : Fin cfg0.N) (y : S256x512.Idx) (i : S256x4096.Idx)
    (hi0 : (i 0 : ℕ) = t.val / 8 * 256 + y 0) (hi1 : (i 1 : ℕ) = t.val % 8 * 512 + y 1) :
    (show FVec Ideal S256x512 .bf16 from out0_2 (iblk m c 0 t) (iblk m c 1 t)) y = PROD (Aa m c) (Ba m c) i := by
  frame_out
  obtain ⟨r, k, rfl⟩ : ∃ (r : Fin 256) (k : Fin 512), y = ix2 r k :=
    ⟨y 0, y 1, by funext a; match a with | ⟨0, _⟩ => rfl | ⟨1, _⟩ => rfl⟩
  have e0 : (i 0 : ℕ) = t.val / 8 * 256 + r.val := hi0
  have e1 : (i 1 : ℕ) = t.val % 8 * 512 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel13Ideal.Product

namespace Cert.Reference13Ideal.Product

open Cert.Reference13Ideal Cert.Reference13Ideal.Gen Cert.Reference13Ideal.Facts Idealize.ShloMosaic Idealize.ShloMosaic.TcCoe Idealize.SL.Sem

/-- The reference's array, entry by entry. -/
theorem ref_eq (a : FVec Ideal S256x2048 .bf16) (b : FVec Ideal S2048x4096 .bf16) :
    truncf .bf16 (Host.dotGeneral dot_S256x2048_S2048x4096_S256x4096_1_0_0_1_n_n none (extf .f32 a bitsLt_bf16_f32) (extf .f32 b bitsLt_bf16_f32)) bitsLt_bf16_f32
      = Cert.Kernel13Ideal.Product.PROD a b := by
  funext i
  obtain ⟨p, k, rfl⟩ : ∃ (p : Fin 256) (k : Fin 4096), i = ix2 p k :=
    ⟨i 0, i 1, by funext a; match a with | ⟨0, _⟩ => rfl | ⟨1, _⟩ => rfl⟩
  show _ = ∑ j : Fin 2048, a (ix2 p j) * b (ix2 j k)
  pointwise

end Cert.Reference13Ideal.Product

namespace Cert.Products
open Idealize.ShloMosaic Idealize.SL.Sem

theorem frame13 : Cert.quiescent_Reference13Ideal := by
  intro m g _
  run_from Cert.Reference13Ideal.Value.run m g
  · exact fun _ => ⟨trivial, trivial⟩
  · exact sem_eq_zero_of_no_sems (by decide) _

set_option maxRecDepth 65536 in
set_option maxHeartbeats 4000000 in
/-- The kernel and the reference end with the same array. -/
theorem value13 : Cert.algebraic_Kernel13Ideal_Reference13Ideal := by
  pair_intro
  · run_from Cert.Kernel13Ideal.Gen.run_main m g
  · run_from Cert.Reference13Ideal.Value.run m' g'
    exact (Cert.Reference13Ideal.Product.ref_eq _ _).trans (Cert.Kernel13Ideal.Product.final m c).symm

end Cert.Products

end
-- ==== Proof.Mm14.lean ====
/- Call 14: the gradient through the cross attention output projection, read over the reals. -/
module

public import proofs.«01_k».proof.Proof.Gen.Kernel14Ideal.Value
public import Idealize.ShloMosaic.Lib.Pipeline.ValueKit
public import Idealize.ShloMosaic.Lib.Pipeline.ReadBack
public import proofs.«01_k».proof.Defs
public import proofs.«01_k».proof.Proof.Gen.Reference14Ideal.Run
public import Idealize.ShloMosaic.Adequacy
public import Idealize.ShloMosaic.Init
public import proofs.«01_k».proof.Proof.FfnSpec

@[expose] public section

set_option maxRecDepth 16384

noncomputable section

namespace Cert.Kernel14Ideal.Product

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .f32 := m ((c : Thread nD τ).loc main_arg0)
abbrev Ba (c : Dev nD) : FVec Ideal S2048x2048 .bf16 := m ((c : Thread nD τ).loc main_arg1)

/-- The array the call is to leave: entry by entry the sum of products. -/
def PROD (a : FVec Ideal S8192x2048 .f32) (b : FVec Ideal S2048x2048 .bf16) : FVec Ideal S8192x2048 .bf16 :=
  fun i => ∑ j : Fin 2048, a (ix2 (i 0) j) * b (ix2 (i 1) j)

theorem pay_at (a : FVec Ideal S512x2048 .f32) (b : FVec Ideal S2048x2048 .bf16) (r : Fin 512) (k : Fin 2048) :
    k0_pay1 (F := Ideal) a b (ix2 r k) = ∑ j : Fin 2048, a (ix2 r j) * b (ix2 k j) := by
  pointwise [k0_pay1]

set_option maxRecDepth 65536 in
theorem idx_at : ∀ t : Fin cfg0.N, win0_0.index t = ![t.val / 1, 0] ∧ win0_1.index t = ![t.val % 1, 0]
    ∧ win0_2.index t = ![t.val / 1, t.val % 1] :=
  (by decide +kernel : ∀ t : Fin grid0.N, win0_0.index t = ![t.val / 1, 0] ∧ win0_1.index t = ![t.val % 1, 0]
    ∧ win0_2.index t = ![t.val / 1, t.val % 1])

/-- What a grid point writes is its block of the array. -/
theorem point (c : Dev nD) (t : Fin cfg0.N) (y : S512x2048.Idx) (i : S8192x2048.Idx)
    (hi0 : (i 0 : ℕ) = t.val / 1 * 512 + y 0) (hi1 : (i 1 : ℕ) = t.val % 1 * 2048 + y 1) :
    (show FVec Ideal S512x2048 .bf16 from out0_2 (iblk m c 0 t) (iblk m c 1 t)) y = PROD (Aa m c) (Ba m c) i := by
  frame_out
  obtain ⟨r, k, rfl⟩ : ∃ (r : Fin 512) (k : Fin 2048), y = ix2 r k :=
    ⟨y 0, y 1, by funext a; match a with | ⟨0, _⟩ => rfl | ⟨1, _⟩ => rfl⟩
  have e0 : (i 0 : ℕ) = t.val / 1 * 512 + r.val := hi0
  have e1 : (i 1 : ℕ) = t.val % 1 * 2048 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel14Ideal.Product

namespace Cert.Reference14Ideal.Product

open Cert.Reference14Ideal Cert.Reference14Ideal.Gen Cert.Reference14Ideal.Facts Idealize.ShloMosaic Idealize.ShloMosaic.TcCoe Idealize.SL.Sem

/-- The reference's array, entry by entry. -/
theorem ref_eq (a : FVec Ideal S8192x2048 .f32) (b : FVec Ideal S2048x2048 .bf16) :
    truncf .bf16 (Host.dotGeneral dot_S8192x2048_S2048x2048_S8192x2048_1_1_0_0_n_n none a (extf .f32 b bitsLt_bf16_f32)) bitsLt_bf16_f32
      = Cert.Kernel14Ideal.Product.PROD a b := by
  funext i
  obtain ⟨p, k, rfl⟩ : ∃ (p : Fin 8192) (k : Fin 2048), i = ix2 p k :=
    ⟨i 0, i 1, by funext a; match a with | ⟨0, _⟩ => rfl | ⟨1, _⟩ => rfl⟩
  show _ = ∑ j : Fin 2048, a (ix2 p j) * b (ix2 k j)
  pointwise

end Cert.Reference14Ideal.Product

namespace Cert.Products
open Idealize.ShloMosaic Idealize.SL.Sem

theorem frame14 : Cert.quiescent_Reference14Ideal := by
  intro m g _
  run_from Cert.Reference14Ideal.Value.run m g
  · exact fun _ => ⟨trivial, trivial⟩
  · exact sem_eq_zero_of_no_sems (by decide) _

set_option maxRecDepth 65536 in
set_option maxHeartbeats 4000000 in
/-- The kernel and the reference end with the same array. -/
theorem value14 : Cert.algebraic_Kernel14Ideal_Reference14Ideal := by
  pair_intro
  · run_from Cert.Kernel14Ideal.Gen.run_main m g
  · run_from Cert.Reference14Ideal.Value.run m' g'
    exact (Cert.Reference14Ideal.Product.ref_eq _ _).trans (Cert.Kernel14Ideal.Product.final m c).symm

end Cert.Products

end
-- ==== Proof.Mm15.lean ====
/- Call 15: the weight gradient of an output projection, read over the reals. -/
module

public import proofs.«01_k».proof.Proof.Gen.Kernel15Ideal.Value
public import Idealize.ShloMosaic.Lib.Pipeline.ValueKit
public import Idealize.ShloMosaic.Lib.Pipeline.ReadBack
public import proofs.«01_k».proof.Defs
public import proofs.«01_k».proof.Proof.Gen.Reference15Ideal.Run
public import Idealize.ShloMosaic.Adequacy
public import Idealize.ShloMosaic.Init
public import proofs.«01_k».proof.Proof.FfnSpec

@[expose] public section

set_option maxRecDepth 16384

noncomputable section

namespace Cert.Kernel15Ideal.Product

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .bf16 := m ((c : Thread nD τ).loc main_arg0)
abbrev Ba (c : Dev nD) : FVec Ideal S8192x2048 .f32 := m ((c : Thread nD τ).loc main_arg1)

/-- The array the call is to leave: entry by entry the sum of products. -/
def PROD (a : FVec Ideal S8192x2048 .bf16) (b : FVec Ideal S8192x2048 .f32) : FVec Ideal S2048x2048 .bf16 :=
  fun i => ∑ j : Fin 8192, a (ix2 j (i 0)) * b (ix2 j (i 1))

/-- The sum of products over one group of 512 rows. -/
def chunk (a : FVec Ideal S8192x2048 .bf16) (b : FVec Ideal S8192x2048 .f32) (p : Fin 2048) (q : Fin 2048) (s : Fin 16) : EReal :=
  ∑ j : Fin 512, a (ix2 ⟨s.val * 512 + j.val, by omega⟩ p) * b (ix2 ⟨s.val * 512 + j.val, by omega⟩ q)

theorem chunks (a : FVec Ideal S8192x2048 .bf16) (b : FVec Ideal S8192x2048 .f32) (p : Fin 2048) (q : Fin 2048) :
    ∑ s : Fin 16, chunk a b p q s = ∑ j : Fin 8192, a (ix2 j p) * b (ix2 j q) :=
  Fin.sum_mul_add_fin 16 512 fun j => a (ix2 j p) * b (ix2 j q)

theorem zero_at (r : Fin 2048) (k : Fin 1024) : k0_pay1 (F := Ideal) (ix2 r k) = 0 := by
  pointwise [k0_pay1]

theorem add_at (d : FVec Ideal S2048x1024 .f32) (a : FVec Ideal S512x2048 .bf16) (b : FVec Ideal S512x1024 .f32) (r : Fin 2048) (k : Fin 1024) :
    k0_pay2 (F := Ideal) d a b (ix2 r k) = d (ix2 r k) + ∑ j : Fin 512, a (ix2 j r) * b (ix2 j k) := by
  pointwise [k0_pay2]

theorem cast_at (d : FVec Ideal S2048x1024 .f32) (r : Fin 2048) (k : Fin 1024) :
    k0_pay3 (F := Ideal) d (ix2 r k) = d (ix2 r k) := by
  pointwise [k0_pay3]

set_option maxRecDepth 65536 in
theorem idx_at : ∀ t : Fin cfg0.N, win0_0.index t = ![t.val % 16, t.val / 32] ∧ win0_1.index t = ![t.val % 16, t.val / 16 % 2]
    ∧ win0_2.index t = ![t.val / 32, t.val / 16 % 2] :=
  (by decide +kernel : ∀ t : Fin grid0.N, win0_0.index t = ![t.val % 16, t.val / 32] ∧ win0_1.index t = ![t.val % 16, t.val / 16 % 2]
    ∧ win0_2.index t = ![t.val / 32, t.val / 16 % 2])

theorem points (t : Fin cfg0.N) : t.val < 32 := lt_of_lt_of_eq t.isLt N_0

/-- The place of a block's row, of its column, and of its group of rows, at a grid point. -/
def prow (t : Fin cfg0.N) (r : Fin 2048) : Fin 2048 := ⟨t.val / 32 * 2048 + r.val, by have := points t; omega⟩
def pcol (t : Fin cfg0.N) (k : Fin 1024) : Fin 2048 := ⟨t.val / 16 % 2 * 1024 + k.val, by omega⟩
def pgrp (t : Fin cfg0.N) : Fin 16 := ⟨t.val % 16, by omega⟩

theorem chunk_at (c : Dev nD) (t : Fin cfg0.N) (r : Fin 2048) (k : Fin 1024) :
    ∑ j : Fin 512, (show FVec Ideal S512x2048 .bf16 from iblk m c 0 t) (ix2 j r) * (show FVec Ideal S512x1024 .f32 from iblk m c 1 t) (ix2 j k)
      = chunk (Aa m c) (Ba m c) (prow t r) (pcol t k) (pgrp t) := by
  refine Finset.sum_congr rfl fun j _ => congrArg₂ (· * ·) ?_ ?_
  · blk_point [iblk, V_main_arg0, idx_at t, prow, pgrp]
  · blk_point [iblk, V_main_arg1, idx_at t, pcol, pgrp]

/-- The running sum starts from zero at a block's first group, -/
theorem sum_first (c : Dev nD) (t : Fin cfg0.N) (h : t.val % 16 = 0) (r : Fin 2048) (k : Fin 1024) :
    (show FVec Ideal S2048x1024 .f32 from (outsAt0 m c t.val t.isLt).2) (ix2 r k) = chunk (Aa m c) (Ba m c) (prow t r) (pcol t k) (pgrp t) := by
  have h1 : ¬t.val % 16 = 15 := by omega
  rw [outsAt0_A m c t h h1]
  frame_out
  refine (add_at _ _ _ r k).trans ?_
  rw [chunk_at]
  refine (congrArg (· + _) ?_).trans (zero_add _)
  exact zero_at r k

/-- and takes one group more at each later one. -/
theorem sum_next (c : Dev nD) (t : Fin cfg0.N) (h : ¬t.val % 16 = 0) (r : Fin 2048) (k : Fin 1024) :
    (show FVec Ideal S2048x1024 .f32 from (outsAt0 m c t.val t.isLt).2) (ix2 r k)
      = (show FVec Ideal S2048x1024 .f32 from (outsAt0 m c (t.val - 1) (Nat.lt_of_le_of_lt (Nat.sub_le _ _) t.isLt)).2) (ix2 r k) + chunk (Aa m c) (Ba m c) (prow t r) (pcol t k) (pgrp t) := by
  by_cases h1 : t.val % 16 = 15
  · rw [outsAt0_C m c t h h1]
    frame_out
    refine (add_at _ _ _ r k).trans ?_
    rw [chunk_at]
    exact congrArg (· + _) (congrFun (Memref.IsWhole.read_unread (Memref.isWhole_whole _) _) _)
  · rw [outsAt0_B m c t h h1]
    frame_out
    refine (add_at _ _ _ r k).trans ?_
    rw [chunk_at]
    exact congrArg (· + _) (congrFun (Memref.IsWhole.read_unread (Memref.isWhole_whole _) _) _)

/-- The block written at a block's last group is the running sum. -/
theorem sum_last (c : Dev nD) (t : Fin cfg0.N) (h : t.val % 16 = 15) (r : Fin 2048) (k : Fin 1024) :
    (show FVec Ideal S2048x1024 .bf16 from (outsAt0 m c t.val t.isLt).1) (ix2 r k) = (show FVec Ideal S2048x1024 .f32 from (outsAt0 m c t.val t.isLt).2) (ix2 r k) := by
  have h0 : ¬t.val % 16 = 0 := by omega
  rw [outsAt0_C m c t h0 h]
  frame_out
  exact cast_at _ r k

def before (t : Fin cfg0.N) : Fin cfg0.N := ⟨t.val - 1, Nat.lt_of_le_of_lt (Nat.sub_le _ _) t.isLt⟩
def nth (s : ℕ) : Fin 16 := ⟨s % 16, by omega⟩

theorem before_row (t : Fin cfg0.N) (h : ¬t.val % 16 = 0) (r : Fin 2048) : prow (before t) r = prow t r := by
  apply Fin.ext
  show (t.val - 1) / 32 * 2048 + r.val = t.val / 32 * 2048 + r.val
  omega
theorem before_col (t : Fin cfg0.N) (h : ¬t.val % 16 = 0) (k : Fin 1024) : pcol (before t) k = pcol t k := by
  apply Fin.ext
  show (t.val - 1) / 16 % 2 * 1024 + k.val = t.val / 16 % 2 * 1024 + k.val
  omega

/-- After group `j` the running sum holds the first `j + 1` groups. -/
theorem sum_at (c : Dev nD) (r : Fin 2048) (k : Fin 1024) : ∀ (j : ℕ) (t : Fin cfg0.N), t.val % 16 = j →
    (show FVec Ideal S2048x1024 .f32 from (outsAt0 m c t.val t.isLt).2) (ix2 r k) = ∑ s ∈ Finset.range (j + 1), chunk (Aa m c) (Ba m c) (prow t r) (pcol t k) (nth s)
  | 0, t, h => by
    rw [Finset.sum_range_one, sum_first m c t h, show pgrp t = nth 0 from Fin.ext h]
  | j + 1, t, h => by
    have h0 : ¬t.val % 16 = 0 := by omega
    have e : pgrp t = nth (j + 1) := Fin.ext (by show t.val % 16 = (j + 1) % 16; omega)
    have ih := sum_at c r k j (before t) (by show (t.val - 1) % 16 = j; omega)
    rw [before_row t h0, before_col t h0] at ih
    rw [Finset.sum_range_succ, ← e, ← ih]
    exact sum_next m c t h0 r k

/-- What the last group of a block writes is that block of the array. -/
theorem point (c : Dev nD) (t : Fin cfg0.N) (h : t.val % 16 = 15) (y : S2048x1024.Idx) (i : S2048x2048.Idx)
    (hi0 : (i 0 : ℕ) = t.val / 32 * 2048 + y 0) (hi1 : (i 1 : ℕ) = t.val / 16 % 2 * 1024 + y 1) :
    (show FVec Ideal S2048x1024 .bf16 from (outsAt0 m c t.val t.isLt).1) y = PROD (Aa m c) (Ba m c) i := by
  obtain ⟨r, k, rfl⟩ : ∃ (r : Fin 2048) (k : Fin 1024), y = ix2 r k :=
    ⟨y 0, y 1, by funext a; match a with | ⟨0, _⟩ => rfl | ⟨1, _⟩ => rfl⟩
  have ei : i = ix2 (prow t r) (pcol t k) := by
    funext a; apply Fin.ext
    match a with | ⟨0, _⟩ => exact hi0 | ⟨1, _⟩ => exact hi1
  rw [ei]
  refine (sum_last m c t h r k).trans ((sum_at m c r k 15 t h).trans ?_)
  rw [Finset.sum_range]
  refine (Finset.sum_congr rfl fun s _ => ?_).trans (chunks (Aa m c) (Ba m c) (prow t r) (pcol t k))
  rw [show nth s.val = s from Fin.ext (Nat.mod_eq_of_lt s.isLt)]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  have hl := (flush0_2 t).mp hf
  blk_simp
  rw [after0_2]
  refine point m c t hl y _ ?_ ?_ <;> blk_simp [idx_at t]

end Cert.Kernel15Ideal.Product

namespace Cert.Reference15Ideal.Product

open Cert.Reference15Ideal Cert.Reference15Ideal.Gen Cert.Reference15Ideal.Facts Idealize.ShloMosaic Idealize.ShloMosaic.TcCoe Idealize.SL.Sem

/-- The reference's array, entry by entry. -/
theorem ref_eq (a : FVec Ideal S8192x2048 .bf16) (b : FVec Ideal S8192x2048 .f32) :
    truncf .bf16 (transpose S2048x2048 [1, 0] (Host.dotGeneral dot_S8192x2048_S8192x2048_S2048x2048_0_0_1_1_n_n none b (extf .f32 a bitsLt_bf16_f32)) transposes_S2048x2048_S2048x2048_1_0) bitsLt_bf16_f32
      = Cert.Kernel15Ideal.Product.PROD a b := by
  funext i
  obtain ⟨p, k, rfl⟩ : ∃ (p : Fin 2048) (k : Fin 2048), i = ix2 p k :=
    ⟨i 0, i 1, by funext a; match a with | ⟨0, _⟩ => rfl | ⟨1, _⟩ => rfl⟩
  show _ = ∑ j : Fin 8192, a (ix2 j p) * b (ix2 j k)
  pointwise
  exact Finset.sum_congr rfl fun _ _ => mul_comm _ _

end Cert.Reference15Ideal.Product

namespace Cert.Products
open Idealize.ShloMosaic Idealize.SL.Sem

theorem frame15 : Cert.quiescent_Reference15Ideal := by
  intro m g _
  run_from Cert.Reference15Ideal.Value.run m g
  · exact fun _ => ⟨trivial, trivial⟩
  · exact sem_eq_zero_of_no_sems (by decide) _

set_option maxRecDepth 65536 in
set_option maxHeartbeats 4000000 in
/-- The kernel and the reference end with the same array. -/
theorem value15 : Cert.algebraic_Kernel15Ideal_Reference15Ideal := by
  pair_intro
  · run_from Cert.Kernel15Ideal.Gen.run_main m g
  · run_from Cert.Reference15Ideal.Value.run m' g'
    exact (Cert.Reference15Ideal.Product.ref_eq _ _).trans (Cert.Kernel15Ideal.Product.final m c).symm

end Cert.Products

end
-- ==== Proof.Mm16.lean ====
/- Call 16: the weight gradient of the query projection, read over the reals. -/
module

public import proofs.«01_k».proof.Proof.Gen.Kernel16Ideal.Value
public import Idealize.ShloMosaic.Lib.Pipeline.ValueKit
public import Idealize.ShloMosaic.Lib.Pipeline.ReadBack
public import proofs.«01_k».proof.Defs
public import proofs.«01_k».proof.Proof.Gen.Reference16Ideal.Run
public import Idealize.ShloMosaic.Adequacy
public import Idealize.ShloMosaic.Init
public import proofs.«01_k».proof.Proof.FfnSpec

@[expose] public section

set_option maxRecDepth 16384

noncomputable section

namespace Cert.Kernel16Ideal.Product

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .bf16 := m ((c : Thread nD τ).loc main_arg0)
abbrev Ba (c : Dev nD) : FVec Ideal S8192x2048 .bf16 := m ((c : Thread nD τ).loc main_arg1)

/-- The array the call is to leave: entry by entry the sum of products. -/
def PROD (a : FVec Ideal S8192x2048 .bf16) (b : FVec Ideal S8192x2048 .bf16) : FVec Ideal S2048x2048 .bf16 :=
  fun i => ∑ j : Fin 8192, a (ix2 j (i 0)) * b (ix2 j (i 1))

/-- The sum of products over one group of 512 rows. -/
def chunk (a : FVec Ideal S8192x2048 .bf16) (b : FVec Ideal S8192x2048 .bf16) (p : Fin 2048) (q : Fin 2048) (s : Fin 16) : EReal :=
  ∑ j : Fin 512, a (ix2 ⟨s.val * 512 + j.val, by omega⟩ p) * b (ix2 ⟨s.val * 512 + j.val, by omega⟩ q)

theorem chunks (a : FVec Ideal S8192x2048 .bf16) (b : FVec Ideal S8192x2048 .bf16) (p : Fin 2048) (q : Fin 2048) :
    ∑ s : Fin 16, chunk a b p q s = ∑ j : Fin 8192, a (ix2 j p) * b (ix2 j q) :=
  Fin.sum_mul_add_fin 16 512 fun j => a (ix2 j p) * b (ix2 j q)

theorem zero_at (r : Fin 2048) (k : Fin 1024) : k0_pay1 (F := Ideal) (ix2 r k) = 0 := by
  pointwise [k0_pay1]

theorem add_at (d : FVec Ideal S2048x1024 .f32) (a : FVec Ideal S512x2048 .bf16) (b : FVec Ideal S512x1024 .bf16) (r : Fin 2048) (k : Fin 1024) :
    k0_pay2 (F := Ideal) d a b (ix2 r k) = d (ix2 r k) + ∑ j : Fin 512, a (ix2 j r) * b (ix2 j k) := by
  pointwise [k0_pay2]

theorem cast_at (d : FVec Ideal S2048x1024 .f32) (r : Fin 2048) (k : Fin 1024) :
    k0_pay3 (F := Ideal) d (ix2 r k) = d (ix2 r k) := by
  pointwise [k0_pay3]

set_option maxRecDepth 65536 in
theorem idx_at : ∀ t : Fin cfg0.N, win0_0.index t = ![t.val % 16, t.val / 32] ∧ win0_1.index t = ![t.val % 16, t.val / 16 % 2]
    ∧ win0_2.index t = ![t.val / 32, t.val / 16 % 2] :=
  (by decide +kernel : ∀ t : Fin grid0.N, win0_0.index t = ![t.val % 16, t.val / 32] ∧ win0_1.index t = ![t.val % 16, t.val / 16 % 2]
    ∧ win0_2.index t = ![t.val / 32, t.val / 16 % 2])

theorem points (t : Fin cfg0.N) : t.val < 32 := lt_of_lt_of_eq t.isLt N_0

/-- The place of a block's row, of its column, and of its group of rows, at a grid point. -/
def prow (t : Fin cfg0.N) (r : Fin 2048) : Fin 2048 := ⟨t.val / 32 * 2048 + r.val, by have := points t; omega⟩
def pcol (t : Fin cfg0.N) (k : Fin 1024) : Fin 2048 := ⟨t.val / 16 % 2 * 1024 + k.val, by omega⟩
def pgrp (t : Fin cfg0.N) : Fin 16 := ⟨t.val % 16, by omega⟩

theorem chunk_at (c : Dev nD) (t : Fin cfg0.N) (r : Fin 2048) (k : Fin 1024) :
    ∑ j : Fin 512, (show FVec Ideal S512x2048 .bf16 from iblk m c 0 t) (ix2 j r) * (show FVec Ideal S512x1024 .bf16 from iblk m c 1 t) (ix2 j k)
      = chunk (Aa m c) (Ba m c) (prow t r) (pcol t k) (pgrp t) := by
  refine Finset.sum_congr rfl fun j _ => congrArg₂ (· * ·) ?_ ?_
  · blk_point [iblk, V_main_arg0, idx_at t, prow, pgrp]
  · blk_point [iblk, V_main_arg1, idx_at t, pcol, pgrp]

/-- The running sum starts from zero at a block's first group, -/
theorem sum_first (c : Dev nD) (t : Fin cfg0.N) (h : t.val % 16 = 0) (r : Fin 2048) (k : Fin 1024) :
    (show FVec Ideal S2048x1024 .f32 from (outsAt0 m c t.val t.isLt).2) (ix2 r k) = chunk (Aa m c) (Ba m c) (prow t r) (pcol t k) (pgrp t) := by
  have h1 : ¬t.val % 16 = 15 := by omega
  rw [outsAt0_A m c t h h1]
  frame_out
  refine (add_at _ _ _ r k).trans ?_
  rw [chunk_at]
  refine (congrArg (· + _) ?_).trans (zero_add _)
  exact zero_at r k

/-- and takes one group more at each later one. -/
theorem sum_next (c : Dev nD) (t : Fin cfg0.N) (h : ¬t.val % 16 = 0) (r : Fin 2048) (k : Fin 1024) :
    (show FVec Ideal S2048x1024 .f32 from (outsAt0 m c t.val t.isLt).2) (ix2 r k)
      = (show FVec Ideal S2048x1024 .f32 from (outsAt0 m c (t.val - 1) (Nat.lt_of_le_of_lt (Nat.sub_le _ _) t.isLt)).2) (ix2 r k) + chunk (Aa m c) (Ba m c) (prow t r) (pcol t k) (pgrp t) := by
  by_cases h1 : t.val % 16 = 15
  · rw [outsAt0_C m c t h h1]
    frame_out
    refine (add_at _ _ _ r k).trans ?_
    rw [chunk_at]
    exact congrArg (· + _) (congrFun (Memref.IsWhole.read_unread (Memref.isWhole_whole _) _) _)
  · rw [outsAt0_B m c t h h1]
    frame_out
    refine (add_at _ _ _ r k).trans ?_
    rw [chunk_at]
    exact congrArg (· + _) (congrFun (Memref.IsWhole.read_unread (Memref.isWhole_whole _) _) _)

/-- The block written at a block's last group is the running sum. -/
theorem sum_last (c : Dev nD) (t : Fin cfg0.N) (h : t.val % 16 = 15) (r : Fin 2048) (k : Fin 1024) :
    (show FVec Ideal S2048x1024 .bf16 from (outsAt0 m c t.val t.isLt).1) (ix2 r k) = (show FVec Ideal S2048x1024 .f32 from (outsAt0 m c t.val t.isLt).2) (ix2 r k) := by
  have h0 : ¬t.val % 16 = 0 := by omega
  rw [outsAt0_C m c t h0 h]
  frame_out
  exact cast_at _ r k

def before (t : Fin cfg0.N) : Fin cfg0.N := ⟨t.val - 1, Nat.lt_of_le_of_lt (Nat.sub_le _ _) t.isLt⟩
def nth (s : ℕ) : Fin 16 := ⟨s % 16, by omega⟩

theorem before_row (t : Fin cfg0.N) (h : ¬t.val % 16 = 0) (r : Fin 2048) : prow (before t) r = prow t r := by
  apply Fin.ext
  show (t.val - 1) / 32 * 2048 + r.val = t.val / 32 * 2048 + r.val
  omega
theorem before_col (t : Fin cfg0.N) (h : ¬t.val % 16 = 0) (k : Fin 1024) : pcol (before t) k = pcol t k := by
  apply Fin.ext
  show (t.val - 1) / 16 % 2 * 1024 + k.val = t.val / 16 % 2 * 1024 + k.val
  omega

/-- After group `j` the running sum holds the first `j + 1` groups. -/
theorem sum_at (c : Dev nD) (r : Fin 2048) (k : Fin 1024) : ∀ (j : ℕ) (t : Fin cfg0.N), t.val % 16 = j →
    (show FVec Ideal S2048x1024 .f32 from (outsAt0 m c t.val t.isLt).2) (ix2 r k) = ∑ s ∈ Finset.range (j + 1), chunk (Aa m c) (Ba m c) (prow t r) (pcol t k) (nth s)
  | 0, t, h => by
    rw [Finset.sum_range_one, sum_first m c t h, show pgrp t = nth 0 from Fin.ext h]
  | j + 1, t, h => by
    have h0 : ¬t.val % 16 = 0 := by omega
    have e : pgrp t = nth (j + 1) := Fin.ext (by show t.val % 16 = (j + 1) % 16; omega)
    have ih := sum_at c r k j (before t) (by show (t.val - 1) % 16 = j; omega)
    rw [before_row t h0, before_col t h0] at ih
    rw [Finset.sum_range_succ, ← e, ← ih]
    exact sum_next m c t h0 r k

/-- What the last group of a block writes is that block of the array. -/
theorem point (c : Dev nD) (t : Fin cfg0.N) (h : t.val % 16 = 15) (y : S2048x1024.Idx) (i : S2048x2048.Idx)
    (hi0 : (i 0 : ℕ) = t.val / 32 * 2048 + y 0) (hi1 : (i 1 : ℕ) = t.val / 16 % 2 * 1024 + y 1) :
    (show FVec Ideal S2048x1024 .bf16 from (outsAt0 m c t.val t.isLt).1) y = PROD (Aa m c) (Ba m c) i := by
  obtain ⟨r, k, rfl⟩ : ∃ (r : Fin 2048) (k : Fin 1024), y = ix2 r k :=
    ⟨y 0, y 1, by funext a; match a with | ⟨0, _⟩ => rfl | ⟨1, _⟩ => rfl⟩
  have ei : i = ix2 (prow t r) (pcol t k) := by
    funext a; apply Fin.ext
    match a with | ⟨0, _⟩ => exact hi0 | ⟨1, _⟩ => exact hi1
  rw [ei]
  refine (sum_last m c t h r k).trans ((sum_at m c r k 15 t h).trans ?_)
  rw [Finset.sum_range]
  refine (Finset.sum_congr rfl fun s _ => ?_).trans (chunks (Aa m c) (Ba m c) (prow t r) (pcol t k))
  rw [show nth s.val = s from Fin.ext (Nat.mod_eq_of_lt s.isLt)]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  have hl := (flush0_2 t).mp hf
  blk_simp
  rw [after0_2]
  refine point m c t hl y _ ?_ ?_ <;> blk_simp [idx_at t]

end Cert.Kernel16Ideal.Product

namespace Cert.Reference16Ideal.Product

open Cert.Reference16Ideal Cert.Reference16Ideal.Gen Cert.Reference16Ideal.Facts Idealize.ShloMosaic Idealize.ShloMosaic.TcCoe Idealize.SL.Sem

/-- The reference's array, entry by entry. -/
theorem ref_eq (a : FVec Ideal S8192x2048 .bf16) (b : FVec Ideal S8192x2048 .bf16) :
    truncf .bf16 (transpose S2048x2048 [1, 0] (Host.dotGeneral dot_S8192x2048_S8192x2048_S2048x2048_0_0_1_1_n_n none (extf .f32 b bitsLt_bf16_f32) (extf .f32 a bitsLt_bf16_f32)) transposes_S2048x2048_S2048x2048_1_0) bitsLt_bf16_f32
      = Cert.Kernel16Ideal.Product.PROD a b := by
  funext i
  obtain ⟨p, k, rfl⟩ : ∃ (p : Fin 2048) (k : Fin 2048), i = ix2 p k :=
    ⟨i 0, i 1, by funext a; match a with | ⟨0, _⟩ => rfl | ⟨1, _⟩ => rfl⟩
  show _ = ∑ j : Fin 8192, a (ix2 j p) * b (ix2 j k)
  pointwise
  exact Finset.sum_congr rfl fun _ _ => mul_comm _ _

end Cert.Reference16Ideal.Product

namespace Cert.Products
open Idealize.ShloMosaic Idealize.SL.Sem

theorem frame16 : Cert.quiescent_Reference16Ideal := by
  intro m g _
  run_from Cert.Reference16Ideal.Value.run m g
  · exact fun _ => ⟨trivial, trivial⟩
  · exact sem_eq_zero_of_no_sems (by decide) _

set_option maxRecDepth 65536 in
set_option maxHeartbeats 4000000 in
/-- The kernel and the reference end with the same array. -/
theorem value16 : Cert.algebraic_Kernel16Ideal_Reference16Ideal := by
  pair_intro
  · run_from Cert.Kernel16Ideal.Gen.run_main m g
  · run_from Cert.Reference16Ideal.Value.run m' g'
    exact (Cert.Reference16Ideal.Product.ref_eq _ _).trans (Cert.Kernel16Ideal.Product.final m c).symm

end Cert.Products

end
-- ==== Proof.Mm17.lean ====
/- Call 17: the gradient of the memory, read over the reals. -/
module

public import proofs.«01_k».proof.Proof.Gen.Kernel17Ideal.Value
public import Idealize.ShloMosaic.Lib.Pipeline.ValueKit
public import Idealize.ShloMosaic.Lib.Pipeline.ReadBack
public import proofs.«01_k».proof.Defs
public import proofs.«01_k».proof.Proof.Gen.Reference17Ideal.Run
public import Idealize.ShloMosaic.Adequacy
public import Idealize.ShloMosaic.Init
public import proofs.«01_k».proof.Proof.FfnSpec

@[expose] public section

set_option maxRecDepth 16384

noncomputable section

namespace Cert.Kernel17Ideal.Product

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S256x4096 .f32 := m ((c : Thread nD τ).loc main_arg0)
abbrev Ba (c : Dev nD) : FVec Ideal S2048x4096 .bf16 := m ((c : Thread nD τ).loc main_arg1)

/-- The array the call is to leave: entry by entry the sum of products. -/
def PROD (a : FVec Ideal S256x4096 .f32) (b : FVec Ideal S2048x4096 .bf16) : FVec Ideal S256x2048 .f32 :=
  fun i => ∑ j : Fin 4096, a (ix2 (i 0) j) * b (ix2 (i 1) j)

theorem pay_at (a : FVec Ideal S256x4096 .f32) (b : FVec Ideal S512x4096 .bf16) (r : Fin 256) (k : Fin 512) :
    k0_pay1 (F := Ideal) a b (ix2 r k) = ∑ j : Fin 4096, a (ix2 r j) * b (ix2 k j) := by
  pointwise [k0_pay1]

set_option maxRecDepth 65536 in
theorem idx_at : ∀ t : Fin cfg0.N, win0_0.index t = ![t.val / 4, 0] ∧ win0_1.index t = ![t.val % 4, 0]
    ∧ win0_2.index t = ![t.val / 4, t.val % 4] :=
  (by decide +kernel : ∀ t : Fin grid0.N, win0_0.index t = ![t.val / 4, 0] ∧ win0_1.index t = ![t.val % 4, 0]
    ∧ win0_2.index t = ![t.val / 4, t.val % 4])

/-- What a grid point writes is its block of the array. -/
theorem point (c : Dev nD) (t : Fin cfg0.N) (y : S256x512.Idx) (i : S256x2048.Idx)
    (hi0 : (i 0 : ℕ) = t.val / 4 * 256 + y 0) (hi1 : (i 1 : ℕ) = t.val % 4 * 512 + y 1) :
    (show FVec Ideal S256x512 .f32 from out0_2 (iblk m c 0 t) (iblk m c 1 t)) y = PROD (Aa m c) (Ba m c) i := by
  frame_out
  obtain ⟨r, k, rfl⟩ : ∃ (r : Fin 256) (k : Fin 512), y = ix2 r k :=
    ⟨y 0, y 1, by funext a; match a with | ⟨0, _⟩ => rfl | ⟨1, _⟩ => rfl⟩
  have e0 : (i 0 : ℕ) = t.val / 4 * 256 + r.val := hi0
  have e1 : (i 1 : ℕ) = t.val % 4 * 512 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel17Ideal.Product

namespace Cert.Reference17Ideal.Product

open Cert.Reference17Ideal Cert.Reference17Ideal.Gen Cert.Reference17Ideal.Facts Idealize.ShloMosaic Idealize.ShloMosaic.TcCoe Idealize.SL.Sem

/-- The reference's array, entry by entry. -/
theorem ref_eq (a : FVec Ideal S256x4096 .f32) (b : FVec Ideal S2048x4096 .bf16) :
    Host.dotGeneral dot_S256x4096_S2048x4096_S256x2048_1_1_0_0_n_n none a (extf .f32 b bitsLt_bf16_f32)
      = Cert.Kernel17Ideal.Product.PROD a b := by
  funext i
  obtain ⟨p, k, rfl⟩ : ∃ (p : Fin 256) (k : Fin 2048), i = ix2 p k :=
    ⟨i 0, i 1, by funext a; match a with | ⟨0, _⟩ => rfl | ⟨1, _⟩ => rfl⟩
  show _ = ∑ j : Fin 4096, a (ix2 p j) * b (ix2 k j)
  pointwise

end Cert.Reference17Ideal.Product

namespace Cert.Products
open Idealize.ShloMosaic Idealize.SL.Sem

theorem frame17 : Cert.quiescent_Reference17Ideal := by
  intro m g _
  run_from Cert.Reference17Ideal.Value.run m g
  · exact fun _ => ⟨trivial, trivial⟩
  · exact sem_eq_zero_of_no_sems (by decide) _

set_option maxRecDepth 65536 in
set_option maxHeartbeats 4000000 in
/-- The kernel and the reference end with the same array. -/
theorem value17 : Cert.algebraic_Kernel17Ideal_Reference17Ideal := by
  pair_intro
  · run_from Cert.Kernel17Ideal.Gen.run_main m g
  · run_from Cert.Reference17Ideal.Value.run m' g'
    exact (Cert.Reference17Ideal.Product.ref_eq _ _).trans (Cert.Kernel17Ideal.Product.final m c).symm

end Cert.Products

end
-- ==== Proof.Mm18.lean ====
/- Call 18: the weight gradient of the key and value projection, read over the reals. -/
module

public import proofs.«01_k».proof.Proof.Gen.Kernel18Ideal.Value
public import Idealize.ShloMosaic.Lib.Pipeline.ValueKit
public import Idealize.ShloMosaic.Lib.Pipeline.ReadBack
public import proofs.«01_k».proof.Defs
public import proofs.«01_k».proof.Proof.Gen.Reference18Ideal.Run
public import Idealize.ShloMosaic.Adequacy
public import Idealize.ShloMosaic.Init
public import proofs.«01_k».proof.Proof.FfnSpec

@[expose] public section

set_option maxRecDepth 16384

noncomputable section

namespace Cert.Kernel18Ideal.Product

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S256x2048 .bf16 := m ((c : Thread nD τ).loc main_arg0)
abbrev Ba (c : Dev nD) : FVec Ideal S256x4096 .f32 := m ((c : Thread nD τ).loc main_arg1)

/-- The array the call is to leave: entry by entry the sum of products. -/
def PROD (a : FVec Ideal S256x2048 .bf16) (b : FVec Ideal S256x4096 .f32) : FVec Ideal S2048x4096 .bf16 :=
  fun i => ∑ j : Fin 256, a (ix2 j (i 0)) * b (ix2 j (i 1))

/-- The sum of products over one group of 256 rows. -/
def chunk (a : FVec Ideal S256x2048 .bf16) (b : FVec Ideal S256x4096 .f32) (p : Fin 2048) (q : Fin 4096) (s : Fin 1) : EReal :=
  ∑ j : Fin 256, a (ix2 ⟨s.val * 256 + j.val, by omega⟩ p) * b (ix2 ⟨s.val * 256 + j.val, by omega⟩ q)

theorem chunks (a : FVec Ideal S256x2048 .bf16) (b : FVec Ideal S256x4096 .f32) (p : Fin 2048) (q : Fin 4096) :
    ∑ s : Fin 1, chunk a b p q s = ∑ j : Fin 256, a (ix2 j p) * b (ix2 j q) :=
  Fin.sum_mul_add_fin 1 256 fun j => a (ix2 j p) * b (ix2 j q)

theorem zero_at (r : Fin 1024) (k : Fin 1024) : k0_pay1 (F := Ideal) (ix2 r k) = 0 := by
  pointwise [k0_pay1]

theorem add_at (d : FVec Ideal S1024x1024 .f32) (a : FVec Ideal S256x1024 .bf16) (b : FVec Ideal S256x1024 .f32) (r : Fin 1024) (k : Fin 1024) :
    k0_pay2 (F := Ideal) d a b (ix2 r k) = d (ix2 r k) + ∑ j : Fin 256, a (ix2 j r) * b (ix2 j k) := by
  pointwise [k0_pay2]

theorem cast_at (d : FVec Ideal S1024x1024 .f32) (r : Fin 1024) (k : Fin 1024) :
    k0_pay3 (F := Ideal) d (ix2 r k) = d (ix2 r k) := by
  pointwise [k0_pay3]

set_option maxRecDepth 65536 in
theorem idx_at : ∀ t : Fin cfg0.N, win0_0.index t = ![t.val % 1, t.val / 4] ∧ win0_1.index t = ![t.val % 1, t.val / 1 % 4]
    ∧ win0_2.index t = ![t.val / 4, t.val / 1 % 4] :=
  (by decide +kernel : ∀ t : Fin grid0.N, win0_0.index t = ![t.val % 1, t.val / 4] ∧ win0_1.index t = ![t.val % 1, t.val / 1 % 4]
    ∧ win0_2.index t = ![t.val / 4, t.val / 1 % 4])

theorem points (t : Fin cfg0.N) : t.val < 8 := lt_of_lt_of_eq t.isLt N_0

/-- The place of a block's row, of its column, and of its group of rows, at a grid point. -/
def prow (t : Fin cfg0.N) (r : Fin 1024) : Fin 2048 := ⟨t.val / 4 * 1024 + r.val, by have := points t; omega⟩
def pcol (t : Fin cfg0.N) (k : Fin 1024) : Fin 4096 := ⟨t.val / 1 % 4 * 1024 + k.val, by omega⟩
def pgrp (t : Fin cfg0.N) : Fin 1 := ⟨t.val % 1, by omega⟩

theorem chunk_at (c : Dev nD) (t : Fin cfg0.N) (r : Fin 1024) (k : Fin 1024) :
    ∑ j : Fin 256, (show FVec Ideal S256x1024 .bf16 from iblk m c 0 t) (ix2 j r) * (show FVec Ideal S256x1024 .f32 from iblk m c 1 t) (ix2 j k)
      = chunk (Aa m c) (Ba m c) (prow t r) (pcol t k) (pgrp t) := by
  refine Finset.sum_congr rfl fun j _ => congrArg₂ (· * ·) ?_ ?_
  · blk_point [iblk, V_main_arg0, idx_at t, prow, pgrp]
  · blk_point [iblk, V_main_arg1, idx_at t, pcol, pgrp]

/-- What a grid point writes is its block of the array. -/
theorem point (c : Dev nD) (t : Fin cfg0.N) (y : S1024x1024.Idx) (i : S2048x4096.Idx)
    (hi0 : (i 0 : ℕ) = t.val / 4 * 1024 + y 0) (hi1 : (i 1 : ℕ) = t.val / 1 % 4 * 1024 + y 1) :
    (show FVec Ideal S1024x1024 .bf16 from outsAt0 m c t) y = PROD (Aa m c) (Ba m c) i := by
  obtain ⟨r, k, rfl⟩ : ∃ (r : Fin 1024) (k : Fin 1024), y = ix2 r k :=
    ⟨y 0, y 1, by funext a; match a with | ⟨0, _⟩ => rfl | ⟨1, _⟩ => rfl⟩
  have ei : i = ix2 (prow t r) (pcol t k) := by
    funext a; apply Fin.ext
    match a with | ⟨0, _⟩ => exact hi0 | ⟨1, _⟩ => exact hi1
  rw [ei]
  unfold outsAt0
  frame_out
  refine (cast_at _ r k).trans ((add_at _ _ _ r k).trans ?_)
  rw [chunk_at]
  refine (congrArg (· + _) (zero_at r k)).trans ((zero_add _).trans ?_)
  refine Eq.trans ?_ (chunks (Aa m c) (Ba m c) (prow t r) (pcol t k))
  rw [Fin.sum_univ_one]
  exact congrArg _ (Subsingleton.elim (α := Fin 1) _ _)

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel18Ideal.Product

namespace Cert.Reference18Ideal.Product

open Cert.Reference18Ideal Cert.Reference18Ideal.Gen Cert.Reference18Ideal.Facts Idealize.ShloMosaic Idealize.ShloMosaic.TcCoe Idealize.SL.Sem

/-- The reference's array, entry by entry. -/
theorem ref_eq (a : FVec Ideal S256x2048 .bf16) (b : FVec Ideal S256x4096 .f32) :
    truncf .bf16 (transpose S2048x4096 [1, 0] (Host.dotGeneral dot_S256x4096_S256x2048_S4096x2048_0_0_1_1_n_n none b (extf .f32 a bitsLt_bf16_f32)) transposes_S4096x2048_S2048x4096_1_0) bitsLt_bf16_f32
      = Cert.Kernel18Ideal.Product.PROD a b := by
  funext i
  obtain ⟨p, k, rfl⟩ : ∃ (p : Fin 2048) (k : Fin 4096), i = ix2 p k :=
    ⟨i 0, i 1, by funext a; match a with | ⟨0, _⟩ => rfl | ⟨1, _⟩ => rfl⟩
  show _ = ∑ j : Fin 256, a (ix2 j p) * b (ix2 j k)
  pointwise
  exact Finset.sum_congr rfl fun _ _ => mul_comm _ _

end Cert.Reference18Ideal.Product

namespace Cert.Products
open Idealize.ShloMosaic Idealize.SL.Sem

theorem frame18 : Cert.quiescent_Reference18Ideal := by
  intro m g _
  run_from Cert.Reference18Ideal.Value.run m g
  · exact fun _ => ⟨trivial, trivial⟩
  · exact sem_eq_zero_of_no_sems (by decide) _

set_option maxRecDepth 65536 in
set_option maxHeartbeats 4000000 in
/-- The kernel and the reference end with the same array. -/
theorem value18 : Cert.algebraic_Kernel18Ideal_Reference18Ideal := by
  pair_intro
  · run_from Cert.Kernel18Ideal.Gen.run_main m g
  · run_from Cert.Reference18Ideal.Value.run m' g'
    exact (Cert.Reference18Ideal.Product.ref_eq _ _).trans (Cert.Kernel18Ideal.Product.final m c).symm

end Cert.Products

end
-- ==== Proof.Mm19.lean ====
/- Call 19: the gradient through the output projection, read over the reals. -/
module

public import proofs.«01_k».proof.Proof.Gen.Kernel19Ideal.Value
public import Idealize.ShloMosaic.Lib.Pipeline.ValueKit
public import Idealize.ShloMosaic.Lib.Pipeline.ReadBack
public import proofs.«01_k».proof.Defs
public import proofs.«01_k».proof.Proof.Gen.Reference19Ideal.Run
public import Idealize.ShloMosaic.Adequacy
public import Idealize.ShloMosaic.Init
public import proofs.«01_k».proof.Proof.FfnSpec

@[expose] public section

set_option maxRecDepth 16384

noncomputable section

namespace Cert.Kernel19Ideal.Product

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x2048 .f32 := m ((c : Thread nD τ).loc main_arg0)
abbrev Ba (c : Dev nD) : FVec Ideal S2048x2048 .bf16 := m ((c : Thread nD τ).loc main_arg1)

/-- The array the call is to leave: entry by entry the sum of products. -/
def PROD (a : FVec Ideal S8192x2048 .f32) (b : FVec Ideal S2048x2048 .bf16) : FVec Ideal S8192x2048 .f32 :=
  fun i => ∑ j : Fin 2048, a (ix2 (i 0) j) * b (ix2 (i 1) j)

theorem pay_at (a : FVec Ideal S512x2048 .f32) (b : FVec Ideal S2048x2048 .bf16) (r : Fin 512) (k : Fin 2048) :
    k0_pay1 (F := Ideal) a b (ix2 r k) = ∑ j : Fin 2048, a (ix2 r j) * b (ix2 k j) := by
  pointwise [k0_pay1]

set_option maxRecDepth 65536 in
theorem idx_at : ∀ t : Fin cfg0.N, win0_0.index t = ![t.val / 1, 0] ∧ win0_1.index t = ![t.val % 1, 0]
    ∧ win0_2.index t = ![t.val / 1, t.val % 1] :=
  (by decide +kernel : ∀ t : Fin grid0.N, win0_0.index t = ![t.val / 1, 0] ∧ win0_1.index t = ![t.val % 1, 0]
    ∧ win0_2.index t = ![t.val / 1, t.val % 1])

/-- What a grid point writes is its block of the array. -/
theorem point (c : Dev nD) (t : Fin cfg0.N) (y : S512x2048.Idx) (i : S8192x2048.Idx)
    (hi0 : (i 0 : ℕ) = t.val / 1 * 512 + y 0) (hi1 : (i 1 : ℕ) = t.val % 1 * 2048 + y 1) :
    (show FVec Ideal S512x2048 .f32 from out0_2 (iblk m c 0 t) (iblk m c 1 t)) y = PROD (Aa m c) (Ba m c) i := by
  frame_out
  obtain ⟨r, k, rfl⟩ : ∃ (r : Fin 512) (k : Fin 2048), y = ix2 r k :=
    ⟨y 0, y 1, by funext a; match a with | ⟨0, _⟩ => rfl | ⟨1, _⟩ => rfl⟩
  have e0 : (i 0 : ℕ) = t.val / 1 * 512 + r.val := hi0
  have e1 : (i 1 : ℕ) = t.val % 1 * 2048 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel19Ideal.Product

namespace Cert.Reference19Ideal.Product

open Cert.Reference19Ideal Cert.Reference19Ideal.Gen Cert.Reference19Ideal.Facts Idealize.ShloMosaic Idealize.ShloMosaic.TcCoe Idealize.SL.Sem

/-- The reference's array, entry by entry. -/
theorem ref_eq (a : FVec Ideal S8192x2048 .f32) (b : FVec Ideal S2048x2048 .bf16) :
    Host.dotGeneral dot_S8192x2048_S2048x2048_S8192x2048_1_1_0_0_n_n none a (extf .f32 b bitsLt_bf16_f32)
      = Cert.Kernel19Ideal.Product.PROD a b := by
  funext i
  obtain ⟨p, k, rfl⟩ : ∃ (p : Fin 8192) (k : Fin 2048), i = ix2 p k :=
    ⟨i 0, i 1, by funext a; match a with | ⟨0, _⟩ => rfl | ⟨1, _⟩ => rfl⟩
  show _ = ∑ j : Fin 2048, a (ix2 p j) * b (ix2 k j)
  pointwise

end Cert.Reference19Ideal.Product

namespace Cert.Products
open Idealize.ShloMosaic Idealize.SL.Sem

theorem frame19 : Cert.quiescent_Reference19Ideal := by
  intro m g _
  run_from Cert.Reference19Ideal.Value.run m g
  · exact fun _ => ⟨trivial, trivial⟩
  · exact sem_eq_zero_of_no_sems (by decide) _

set_option maxRecDepth 65536 in
set_option maxHeartbeats 4000000 in
/-- The kernel and the reference end with the same array. -/
theorem value19 : Cert.algebraic_Kernel19Ideal_Reference19Ideal := by
  pair_intro
  · run_from Cert.Kernel19Ideal.Gen.run_main m g
  · run_from Cert.Reference19Ideal.Value.run m' g'
    exact (Cert.Reference19Ideal.Product.ref_eq _ _).trans (Cert.Kernel19Ideal.Product.final m c).symm

end Cert.Products

end
-- ==== Proof.Mm20.lean ====
/- Call 20: the gradient through the input projection, read over the reals. -/
module

public import proofs.«01_k».proof.Proof.Gen.Kernel20Ideal.Value
public import Idealize.ShloMosaic.Lib.Pipeline.ValueKit
public import Idealize.ShloMosaic.Lib.Pipeline.ReadBack
public import proofs.«01_k».proof.Defs
public import proofs.«01_k».proof.Proof.Gen.Reference20Ideal.Run
public import Idealize.ShloMosaic.Adequacy
public import Idealize.ShloMosaic.Init
public import proofs.«01_k».proof.Proof.FfnSpec

@[expose] public section

set_option maxRecDepth 16384

noncomputable section

namespace Cert.Kernel20Ideal.Product

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x3328 .f32 := m ((c : Thread nD τ).loc main_arg0)
abbrev Ba (c : Dev nD) : FVec Ideal S2048x3328 .bf16 := m ((c : Thread nD τ).loc main_arg1)

/-- The array the call is to leave: entry by entry the sum of products. -/
def PROD (a : FVec Ideal S8192x3328 .f32) (b : FVec Ideal S2048x3328 .bf16) : FVec Ideal S8192x2048 .bf16 :=
  fun i => ∑ j : Fin 3328, a (ix2 (i 0) j) * b (ix2 (i 1) j)

theorem pay_at (a : FVec Ideal S512x3328 .f32) (b : FVec Ideal S1024x3328 .bf16) (r : Fin 512) (k : Fin 1024) :
    k0_pay1 (F := Ideal) a b (ix2 r k) = ∑ j : Fin 3328, a (ix2 r j) * b (ix2 k j) := by
  pointwise [k0_pay1]

set_option maxRecDepth 65536 in
theorem idx_at : ∀ t : Fin cfg0.N, win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2])

/-- What a grid point writes is its block of the array. -/
theorem point (c : Dev nD) (t : Fin cfg0.N) (y : S512x1024.Idx) (i : S8192x2048.Idx)
    (hi0 : (i 0 : ℕ) = t.val / 2 * 512 + y 0) (hi1 : (i 1 : ℕ) = t.val % 2 * 1024 + y 1) :
    (show FVec Ideal S512x1024 .bf16 from out0_2 (iblk m c 0 t) (iblk m c 1 t)) y = PROD (Aa m c) (Ba m c) i := by
  frame_out
  obtain ⟨r, k, rfl⟩ : ∃ (r : Fin 512) (k : Fin 1024), y = ix2 r k :=
    ⟨y 0, y 1, by funext a; match a with | ⟨0, _⟩ => rfl | ⟨1, _⟩ => rfl⟩
  have e0 : (i 0 : ℕ) = t.val / 2 * 512 + r.val := hi0
  have e1 : (i 1 : ℕ) = t.val % 2 * 1024 + k.val := hi1
  refine (pay_at _ _ r k).trans (Finset.sum_congr rfl fun j _ => congrArg₂ (· * ·) ?_ ?_)
  · blk_point [iblk, V_main_arg0, idx_at t]
  · blk_point [iblk, V_main_arg1, idx_at t]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  blk_simp
  rw [after0_2]
  refine point m c t y _ ?_ ?_ <;> blk_simp [idx_at t]

end Cert.Kernel20Ideal.Product

namespace Cert.Reference20Ideal.Product

open Cert.Reference20Ideal Cert.Reference20Ideal.Gen Cert.Reference20Ideal.Facts Idealize.ShloMosaic Idealize.ShloMosaic.TcCoe Idealize.SL.Sem

/-- The reference's array, entry by entry. -/
theorem ref_eq (a : FVec Ideal S8192x3328 .f32) (b : FVec Ideal S2048x3328 .bf16) :
    truncf .bf16 (Host.dotGeneral dot_S8192x3328_S2048x3328_S8192x2048_1_1_0_0_n_n none a (extf .f32 b bitsLt_bf16_f32)) bitsLt_bf16_f32
      = Cert.Kernel20Ideal.Product.PROD a b := by
  funext i
  obtain ⟨p, k, rfl⟩ : ∃ (p : Fin 8192) (k : Fin 2048), i = ix2 p k :=
    ⟨i 0, i 1, by funext a; match a with | ⟨0, _⟩ => rfl | ⟨1, _⟩ => rfl⟩
  show _ = ∑ j : Fin 3328, a (ix2 p j) * b (ix2 k j)
  pointwise

end Cert.Reference20Ideal.Product

namespace Cert.Products
open Idealize.ShloMosaic Idealize.SL.Sem

theorem frame20 : Cert.quiescent_Reference20Ideal := by
  intro m g _
  run_from Cert.Reference20Ideal.Value.run m g
  · exact fun _ => ⟨trivial, trivial⟩
  · exact sem_eq_zero_of_no_sems (by decide) _

set_option maxRecDepth 65536 in
set_option maxHeartbeats 4000000 in
/-- The kernel and the reference end with the same array. -/
theorem value20 : Cert.algebraic_Kernel20Ideal_Reference20Ideal := by
  pair_intro
  · run_from Cert.Kernel20Ideal.Gen.run_main m g
  · run_from Cert.Reference20Ideal.Value.run m' g'
    exact (Cert.Reference20Ideal.Product.ref_eq _ _).trans (Cert.Kernel20Ideal.Product.final m c).symm

end Cert.Products

end
-- ==== Proof.Mm21.lean ====
/- Call 21: the weight gradient of the input projection, read over the reals. -/
module

public import proofs.«01_k».proof.Proof.Gen.Kernel21Ideal.Value
public import Idealize.ShloMosaic.Lib.Pipeline.ValueKit
public import Idealize.ShloMosaic.Lib.Pipeline.ReadBack
public import proofs.«01_k».proof.Defs
public import proofs.«01_k».proof.Proof.Gen.Reference21Ideal.Run
public import Idealize.ShloMosaic.Adequacy
public import Idealize.ShloMosaic.Init
public import proofs.«01_k».proof.Proof.FfnSpec

@[expose] public section

set_option maxRecDepth 16384

noncomputable section

namespace Cert.Kernel21Ideal.Product

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

abbrev Aa (c : Dev nD) : FVec Ideal S8192x3328 .f32 := m ((c : Thread nD τ).loc main_arg0)
abbrev Ba (c : Dev nD) : FVec Ideal S8192x2048 .bf16 := m ((c : Thread nD τ).loc main_arg1)

/-- The array the call is to leave: entry by entry the sum of products. -/
def PROD (a : FVec Ideal S8192x3328 .f32) (b : FVec Ideal S8192x2048 .bf16) : FVec Ideal S3328x2048 .bf16 :=
  fun i => ∑ j : Fin 8192, a (ix2 j (i 0)) * b (ix2 j (i 1))

/-- The sum of products over one group of 512 rows. -/
def chunk (a : FVec Ideal S8192x3328 .f32) (b : FVec Ideal S8192x2048 .bf16) (p : Fin 3328) (q : Fin 2048) (s : Fin 16) : EReal :=
  ∑ j : Fin 512, a (ix2 ⟨s.val * 512 + j.val, by omega⟩ p) * b (ix2 ⟨s.val * 512 + j.val, by omega⟩ q)

theorem chunks (a : FVec Ideal S8192x3328 .f32) (b : FVec Ideal S8192x2048 .bf16) (p : Fin 3328) (q : Fin 2048) :
    ∑ s : Fin 16, chunk a b p q s = ∑ j : Fin 8192, a (ix2 j p) * b (ix2 j q) :=
  Fin.sum_mul_add_fin 16 512 fun j => a (ix2 j p) * b (ix2 j q)

theorem zero_at (r : Fin 1664) (k : Fin 2048) : k0_pay1 (F := Ideal) (ix2 r k) = 0 := by
  pointwise [k0_pay1]

theorem add_at (d : FVec Ideal S1664x2048 .f32) (a : FVec Ideal S512x1664 .f32) (b : FVec Ideal S512x2048 .bf16) (r : Fin 1664) (k : Fin 2048) :
    k0_pay2 (F := Ideal) d a b (ix2 r k) = d (ix2 r k) + ∑ j : Fin 512, a (ix2 j r) * b (ix2 j k) := by
  pointwise [k0_pay2]

theorem cast_at (d : FVec Ideal S1664x2048 .f32) (r : Fin 1664) (k : Fin 2048) :
    k0_pay3 (F := Ideal) d (ix2 r k) = d (ix2 r k) := by
  pointwise [k0_pay3]

set_option maxRecDepth 65536 in
theorem idx_at : ∀ t : Fin cfg0.N, win0_0.index t = ![t.val % 16, t.val / 16] ∧ win0_1.index t = ![t.val % 16, t.val / 16 % 1]
    ∧ win0_2.index t = ![t.val / 16, t.val / 16 % 1] :=
  (by decide +kernel : ∀ t : Fin grid0.N, win0_0.index t = ![t.val % 16, t.val / 16] ∧ win0_1.index t = ![t.val % 16, t.val / 16 % 1]
    ∧ win0_2.index t = ![t.val / 16, t.val / 16 % 1])

theorem points (t : Fin cfg0.N) : t.val < 32 := lt_of_lt_of_eq t.isLt N_0

/-- The place of a block's row, of its column, and of its group of rows, at a grid point. -/
def prow (t : Fin cfg0.N) (r : Fin 1664) : Fin 3328 := ⟨t.val / 16 * 1664 + r.val, by have := points t; omega⟩
def pcol (t : Fin cfg0.N) (k : Fin 2048) : Fin 2048 := ⟨t.val / 16 % 1 * 2048 + k.val, by omega⟩
def pgrp (t : Fin cfg0.N) : Fin 16 := ⟨t.val % 16, by omega⟩

theorem chunk_at (c : Dev nD) (t : Fin cfg0.N) (r : Fin 1664) (k : Fin 2048) :
    ∑ j : Fin 512, (show FVec Ideal S512x1664 .f32 from iblk m c 0 t) (ix2 j r) * (show FVec Ideal S512x2048 .bf16 from iblk m c 1 t) (ix2 j k)
      = chunk (Aa m c) (Ba m c) (prow t r) (pcol t k) (pgrp t) := by
  refine Finset.sum_congr rfl fun j _ => congrArg₂ (· * ·) ?_ ?_
  · blk_point [iblk, V_main_arg0, idx_at t, prow, pgrp]
  · blk_point [iblk, V_main_arg1, idx_at t, pcol, pgrp]

/-- The running sum starts from zero at a block's first group, -/
theorem sum_first (c : Dev nD) (t : Fin cfg0.N) (h : t.val % 16 = 0) (r : Fin 1664) (k : Fin 2048) :
    (show FVec Ideal S1664x2048 .f32 from (outsAt0 m c t.val t.isLt).2) (ix2 r k) = chunk (Aa m c) (Ba m c) (prow t r) (pcol t k) (pgrp t) := by
  have h1 : ¬t.val % 16 = 15 := by omega
  rw [outsAt0_A m c t h h1]
  frame_out
  refine (add_at _ _ _ r k).trans ?_
  rw [chunk_at]
  refine (congrArg (· + _) ?_).trans (zero_add _)
  exact zero_at r k

/-- and takes one group more at each later one. -/
theorem sum_next (c : Dev nD) (t : Fin cfg0.N) (h : ¬t.val % 16 = 0) (r : Fin 1664) (k : Fin 2048) :
    (show FVec Ideal S1664x2048 .f32 from (outsAt0 m c t.val t.isLt).2) (ix2 r k)
      = (show FVec Ideal S1664x2048 .f32 from (outsAt0 m c (t.val - 1) (Nat.lt_of_le_of_lt (Nat.sub_le _ _) t.isLt)).2) (ix2 r k) + chunk (Aa m c) (Ba m c) (prow t r) (pcol t k) (pgrp t) := by
  by_cases h1 : t.val % 16 = 15
  · rw [outsAt0_C m c t h h1]
    frame_out
    refine (add_at _ _ _ r k).trans ?_
    rw [chunk_at]
    exact congrArg (· + _) (congrFun (Memref.IsWhole.read_unread (Memref.isWhole_whole _) _) _)
  · rw [outsAt0_B m c t h h1]
    frame_out
    refine (add_at _ _ _ r k).trans ?_
    rw [chunk_at]
    exact congrArg (· + _) (congrFun (Memref.IsWhole.read_unread (Memref.isWhole_whole _) _) _)

/-- The block written at a block's last group is the running sum. -/
theorem sum_last (c : Dev nD) (t : Fin cfg0.N) (h : t.val % 16 = 15) (r : Fin 1664) (k : Fin 2048) :
    (show FVec Ideal S1664x2048 .bf16 from (outsAt0 m c t.val t.isLt).1) (ix2 r k) = (show FVec Ideal S1664x2048 .f32 from (outsAt0 m c t.val t.isLt).2) (ix2 r k) := by
  have h0 : ¬t.val % 16 = 0 := by omega
  rw [outsAt0_C m c t h0 h]
  frame_out
  exact cast_at _ r k

def before (t : Fin cfg0.N) : Fin cfg0.N := ⟨t.val - 1, Nat.lt_of_le_of_lt (Nat.sub_le _ _) t.isLt⟩
def nth (s : ℕ) : Fin 16 := ⟨s % 16, by omega⟩

theorem before_row (t : Fin cfg0.N) (h : ¬t.val % 16 = 0) (r : Fin 1664) : prow (before t) r = prow t r := by
  apply Fin.ext
  show (t.val - 1) / 16 * 1664 + r.val = t.val / 16 * 1664 + r.val
  omega
theorem before_col (t : Fin cfg0.N) (h : ¬t.val % 16 = 0) (k : Fin 2048) : pcol (before t) k = pcol t k := by
  apply Fin.ext
  show (t.val - 1) / 16 % 1 * 2048 + k.val = t.val / 16 % 1 * 2048 + k.val
  omega

/-- After group `j` the running sum holds the first `j + 1` groups. -/
theorem sum_at (c : Dev nD) (r : Fin 1664) (k : Fin 2048) : ∀ (j : ℕ) (t : Fin cfg0.N), t.val % 16 = j →
    (show FVec Ideal S1664x2048 .f32 from (outsAt0 m c t.val t.isLt).2) (ix2 r k) = ∑ s ∈ Finset.range (j + 1), chunk (Aa m c) (Ba m c) (prow t r) (pcol t k) (nth s)
  | 0, t, h => by
    rw [Finset.sum_range_one, sum_first m c t h, show pgrp t = nth 0 from Fin.ext h]
  | j + 1, t, h => by
    have h0 : ¬t.val % 16 = 0 := by omega
    have e : pgrp t = nth (j + 1) := Fin.ext (by show t.val % 16 = (j + 1) % 16; omega)
    have ih := sum_at c r k j (before t) (by show (t.val - 1) % 16 = j; omega)
    rw [before_row t h0, before_col t h0] at ih
    rw [Finset.sum_range_succ, ← e, ← ih]
    exact sum_next m c t h0 r k

/-- What the last group of a block writes is that block of the array. -/
theorem point (c : Dev nD) (t : Fin cfg0.N) (h : t.val % 16 = 15) (y : S1664x2048.Idx) (i : S3328x2048.Idx)
    (hi0 : (i 0 : ℕ) = t.val / 16 * 1664 + y 0) (hi1 : (i 1 : ℕ) = t.val / 16 % 1 * 2048 + y 1) :
    (show FVec Ideal S1664x2048 .bf16 from (outsAt0 m c t.val t.isLt).1) y = PROD (Aa m c) (Ba m c) i := by
  obtain ⟨r, k, rfl⟩ : ∃ (r : Fin 1664) (k : Fin 2048), y = ix2 r k :=
    ⟨y 0, y 1, by funext a; match a with | ⟨0, _⟩ => rfl | ⟨1, _⟩ => rfl⟩
  have ei : i = ix2 (prow t r) (pcol t k) := by
    funext a; apply Fin.ext
    match a with | ⟨0, _⟩ => exact hi0 | ⟨1, _⟩ => exact hi1
  rw [ei]
  refine (sum_last m c t h r k).trans ((sum_at m c r k 15 t h).trans ?_)
  rw [Finset.sum_range]
  refine (Finset.sum_congr rfl fun s _ => ?_).trans (chunks (Aa m c) (Ba m c) (prow t r) (pcol t k))
  rw [show nth s.val = s from Fin.ext (Nat.mod_eq_of_lt s.isLt)]

/-- The array after the whole grid. -/
theorem final (c : Dev nD) : (dats m 0 c).arrAt 2 (cfgs 0).N = PROD (Aa m c) (Ba m c) := by
  refine (dats m 0 c).arrAt_eq_of_covers 2 _ (by decide +kernel) fun t hf y => ?_
  have hl := (flush0_2 t).mp hf
  blk_simp
  rw [after0_2]
  refine point m c t hl y _ ?_ ?_ <;> blk_simp [idx_at t]

end Cert.Kernel21Ideal.Product

namespace Cert.Reference21Ideal.Product

open Cert.Reference21Ideal Cert.Reference21Ideal.Gen Cert.Reference21Ideal.Facts Idealize.ShloMosaic Idealize.ShloMosaic.TcCoe Idealize.SL.Sem

/-- The reference's array, entry by entry. -/
theorem ref_eq (a : FVec Ideal S8192x3328 .f32) (b : FVec Ideal S8192x2048 .bf16) :
    truncf .bf16 (transpose S3328x2048 [1, 0] (transpose S2048x3328 [1, 0] (Host.dotGeneral dot_S8192x3328_S8192x2048_S3328x2048_0_0_1_1_n_n none a (extf .f32 b bitsLt_bf16_f32)) transposes_S3328x2048_S2048x3328_1_0) transposes_S2048x3328_S3328x2048_1_0) bitsLt_bf16_f32
      = Cert.Kernel21Ideal.Product.PROD a b := by
  funext i
  obtain ⟨p, k, rfl⟩ : ∃ (p : Fin 3328) (k : Fin 2048), i = ix2 p k :=
    ⟨i 0, i 1, by funext a; match a with | ⟨0, _⟩ => rfl | ⟨1, _⟩ => rfl⟩
  show _ = ∑ j : Fin 8192, a (ix2 j p) * b (ix2 j k)
  pointwise

end Cert.Reference21Ideal.Product

namespace Cert.Products
open Idealize.ShloMosaic Idealize.SL.Sem

theorem frame21 : Cert.quiescent_Reference21Ideal := by
  intro m g _
  run_from Cert.Reference21Ideal.Value.run m g
  · exact fun _ => ⟨trivial, trivial⟩
  · exact sem_eq_zero_of_no_sems (by decide) _

set_option maxRecDepth 65536 in
set_option maxHeartbeats 4000000 in
/-- The kernel and the reference end with the same array. -/
theorem value21 : Cert.algebraic_Kernel21Ideal_Reference21Ideal := by
  pair_intro
  · run_from Cert.Kernel21Ideal.Gen.run_main m g
  · run_from Cert.Reference21Ideal.Value.run m' g'
    exact (Cert.Reference21Ideal.Product.ref_eq _ _).trans (Cert.Kernel21Ideal.Product.final m c).symm

end Cert.Products

end
-- ==== Proof.HalfSpec.lean ====
/- The mathematics of a feed-forward half over the extended reals: its four result arrays as functions of the argument
   arrays. No program is mentioned. -/
module

public import proofs.«01_k».proof.Proof.FfnSpec

@[expose] public section

set_option maxRecDepth 16384

noncomputable section

namespace Cert.HalfMath

open Idealize.ShloMosaic Cert.FfnMath

abbrev SGain : Shape := ⟨2, ![1, 2048]⟩

variable (H : FVec Ideal SRow .f32) (G : FVec Ideal SGain .f32) (WG WU : FVec Ideal SIn .bf16) (WD : FVec Ideal SOut .bf16)

/-- The reciprocal root mean square of one row's squares' sum `s`. -/
def scale (s : EReal) : EReal :=
  Ideal.rsqrt (Ideal.div s (Ideal.ofBits .f32 0x45000000#32) + Ideal.ofBits .f32 0x3727C5AC#32)

/-- The normed rows. -/
def NORM : FVec Ideal SRow .bf16 := fun i =>
  H i * scale (∑ k : Fin 2048, H (ix2 (i 0) k) * H (ix2 (i 0) k)) * G (ix2 0 (i 1))

/-- One hidden column's part of the down projection. -/
def outTerm (N : FVec Ideal SRow .bf16) (r : Fin 8192) (k : Fin 2048) (f : Fin 5632) : EReal :=
  hid (pre N WG r f) (pre N WU r f) * WD (ix2 f k)

/-- The residual rows plus half the feed-forward block. -/
def OUT (N : FVec Ideal SRow .bf16) : FVec Ideal SRow .f32 := fun i =>
  H i + half * ∑ f : Fin 5632, outTerm WG WU WD N (i 0) (i 1) f

/-- A pre-activation as the eight shards. -/
def PRE (N : FVec Ideal SRow .bf16) (W : FVec Ideal SIn .bf16) : FVec Ideal SHid .bf16 := fun i =>
  pre N W (i 1) (col (i 0) (i 2))

end Cert.HalfMath
end
-- ==== Proof.NormSpec.lean ====
/- The mathematics of a norm's backward pass over the extended reals: one row's input gradient in the two shapes in which
   it is written, and their equality. No program is mentioned. -/
module

public import proofs.«01_k».proof.Proof.HalfSpec

@[expose] public section

set_option maxRecDepth 16384

noncomputable section

namespace Cert.NormMath

open Idealize.ShloMosaic

/-- The row's length as a float, the norm's ε, and −½. -/
def wide : EReal := Ideal.ofBits .f32 0x45000000#32
def eps : EReal := Ideal.ofBits .f32 0x3727C5AC#32
def mhalf : EReal := Ideal.ofBits .f32 0xBF000000#32

/-- The mean square of a row plus ε, from its squares' sum, and its reciprocal root. -/
def msq (s : EReal) : EReal := Ideal.div s wide + eps
def rms (s : EReal) : EReal := Ideal.rsqrt (msq s)

/-- The input gradient at column `k` from the row `x` and the gained cotangent `t`: the cotangent less its part along the normed row. -/
def dnorm {n : ℕ} (x t : Fin n → EReal) (k : Fin n) : EReal :=
  rms (∑ j, x j * x j) * (t k - x k * rms (∑ j, x j * x j)
    * Ideal.div (∑ j, t j * (x j * rms (∑ j, x j * x j))) wide)

/-- The cotangent of the mean square, as differentiation writes it. -/
def dmean {n : ℕ} (x t : Fin n → EReal) : EReal :=
  Ideal.div ((∑ j, x j * t j) * (mhalf * Ideal.div (rms (∑ j, x j * x j)) (msq (∑ j, x j * x j)))) wide

/-- The input gradient as differentiation writes it: one term from the product and two from the square. -/
def dnorm' {n : ℕ} (x t : Fin n → EReal) (k : Fin n) : EReal :=
  t k * rms (∑ j, x j * x j) + x k * dmean x t + dmean x t * x k

theorem wide_eq : wide = ((2048 : ℝ) : EReal) := by
  simp [wide, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_eq : ∃ e : ℝ, 0 < e ∧ eps = (e : EReal) := by
  refine ⟨10995116 * (2 : ℝ) ^ (-40 : ℤ), by positivity, ?_⟩
  simp [eps, Ideal.ofBits, Ideal.ieee, -EReal.coe_mul]

/-- A square is not negative, -/
theorem sq_nonneg' (x : EReal) : 0 ≤ x * x := by
  induction x with
  | bot => simp
  | top => simp
  | coe x => exact_mod_cast mul_self_nonneg x

/-- and a row with an infinite entry has an infinite sum of squares. -/
theorem sum_top {n : ℕ} (x : Fin n → EReal) (j : Fin n) (h : ¬∃ r : ℝ, x j = r) : ∑ j, x j * x j = ⊤ := by
  have hj : x j * x j = ⊤ := by
    generalize x j = y at h
    induction y with
    | bot => simp
    | top => simp
    | coe y => exact absurd ⟨y, rfl⟩ h
  refine top_le_iff.mp (hj ▸ ?_)
  exact Finset.single_le_sum (f := fun j => x j * x j) (fun i _ => sq_nonneg' (x i)) (Finset.mem_univ j)

theorem two_times (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add, two_mul]

/-- A positive real factor distributes over a sum, -/
theorem pos_mul_add {r : ℝ} (h : 0 ≤ r) (a b : EReal) : (r : EReal) * (a + b) = r * a + r * b :=
  EReal.left_distrib_of_nonneg_of_ne_top (by exact_mod_cast h) (EReal.coe_ne_top r) a b
/-- and over a finite one. -/
theorem pos_mul_sum {r : ℝ} (h : 0 ≤ r) {n : ℕ} (f : Fin n → EReal) : (r : EReal) * ∑ j, f j = ∑ j, (r : EReal) * f j := by
  induction n with
  | zero => simp
  | succ n ih => rw [Fin.sum_univ_succ, Fin.sum_univ_succ, pos_mul_add h, ih]

theorem sum_coe {n : ℕ} (f : Fin n → ℝ) : ∑ j, (f j : EReal) = ((∑ j, f j : ℝ) : EReal) := by
  induction n with
  | zero => simp
  | succ n ih => rw [Fin.sum_univ_succ, Fin.sum_univ_succ, ih, EReal.coe_add]

/-- The two shapes agree on every row, the infinite ones included. -/
theorem dnorm'_eq {n : ℕ} (x t : Fin n → EReal) (k : Fin n) : dnorm' x t k = dnorm x t k := by
  by_cases hx : ∀ j, ∃ r : ℝ, x j = r
  · choose y hy using hx
    obtain rfl : x = fun j => (y j : EReal) := funext hy
    obtain ⟨e, he, hE⟩ := eps_eq
    have hs : ∑ j, (y j : EReal) * (y j : EReal) = ((∑ j, y j * y j : ℝ) : EReal) := by
      exact sum_coe fun j => y j * y j
    have hn : 0 ≤ ∑ j, y j * y j := Finset.sum_nonneg fun j _ => mul_self_nonneg (y j)
    generalize ∑ j, y j * y j = s at hs hn
    have hv : 0 < s * (1 / 2048) + e := by positivity
    have hm : msq (s : EReal) = ((s * (1 / 2048) + e : ℝ) : EReal) := by
      rw [msq, hE, wide_eq, Ideal.div_coe (by norm_num), EReal.coe_add, EReal.coe_mul]
    have hr : rms (s : EReal) = (((Real.sqrt (s * (1 / 2048) + e))⁻¹ : ℝ) : EReal) := by
      rw [rms, hm, Ideal.rsqrt_coe, if_neg hv.not_gt, if_neg hv.ne']
    simp only [dnorm', dnorm, dmean, hs, hr, hm, wide_eq, mhalf_eq]
    generalize hV : s * (1 / 2048) + e = v at hv
    have hq : 0 < (Real.sqrt v)⁻¹ := inv_pos.mpr (Real.sqrt_pos.mpr hv)
    have hqv : 1 / v = (Real.sqrt v)⁻¹ * (Real.sqrt v)⁻¹ := by
      rw [← mul_inv, Real.mul_self_sqrt hv.le, one_div]
    generalize (Real.sqrt v)⁻¹ = q at hq hqv
    have hS : ∑ j, t j * ((y j : EReal) * (q : EReal)) = (q : EReal) * ∑ j, (y j : EReal) * t j := by
      rw [pos_mul_sum hq.le]
      exact Finset.sum_congr rfl fun j _ => by rw [mul_comm (t j), mul_comm (y j : EReal), mul_assoc]
    rw [hS]
    generalize ∑ j, (y j : EReal) * t j = S
    rw [Ideal.div_coe hv.ne', Ideal.div_coe (by norm_num), Ideal.div_coe (by norm_num), hqv,
      sub_eq_add_neg, pos_mul_add hq.le, mul_comm (t k), add_assoc]
    congr 1
    have e1 : (y k : EReal) * (S * (((-(1 / 2) : ℝ) : EReal) * ((q : EReal) * ((q * q : ℝ) : EReal))) * ((1 / 2048 : ℝ) : EReal))
        = S * ((y k * (-(1 / 2) * (q * (q * q))) * (1 / 2048) : ℝ) : EReal) := by
      simp only [EReal.coe_mul]; ac_rfl
    rw [mul_comm (S * _ * _) (y k : EReal), e1, two_times, mul_left_comm, ← EReal.coe_mul, ← EReal.neg_mul, mul_left_comm]
    rw [← EReal.coe_mul, ← EReal.coe_neg]
    have e2 : ((q : ℝ) : EReal) * (((-(y k * q) : ℝ) : EReal) * ((q : EReal) * S * ((1 / 2048 : ℝ) : EReal)))
        = S * ((q * (-(y k * q)) * q * (1 / 2048) : ℝ) : EReal) := by
      simp only [EReal.coe_mul]; ac_rfl
    first | rw [e2] | rw [mul_left_comm, e2]
    congr 2; ring
  · obtain ⟨j, hj⟩ := not_forall.mp hx
    have hs := sum_top x j hj
    have hm : msq ⊤ = ⊤ := by
      obtain ⟨e, he, hE⟩ := eps_eq
      rw [msq, hE, wide_eq, Ideal.div_coe (by norm_num), EReal.top_mul_coe_of_pos (by norm_num)]; rfl
    have hr : rms ⊤ = 0 := by rw [rms, hm]; rfl
    simp [dnorm', dnorm, dmean, hs, hr, hm, Ideal.div, wide_eq]

/-! ## The arrays -/

/-- An array of `M` rows, and a gain. -/
abbrev rows (M : ℕ) : Shape := ⟨2, ![M, 2048]⟩
abbrev gain : Shape := ⟨2, ![1, 2048]⟩

variable {M : ℕ} {a b : FTy}

/-- A row of an array; its squares' sum; and the same row under a gain. -/
def row (H : FVec Ideal (rows M) a) (r : Fin M) : Fin 2048 → EReal := fun j => H (ix2 r j)
def sqs (H : FVec Ideal (rows M) a) (r : Fin M) : EReal := ∑ j : Fin 2048, H (ix2 r j) * H (ix2 r j)
def gained (D : FVec Ideal (rows M) b) (G : FVec Ideal gain .f32) (r : Fin M) : Fin 2048 → EReal :=
  fun j => D (ix2 r j) * G (ix2 0 j)

/-- The norm's input gradient. -/
def DNORM (H : FVec Ideal (rows M) a) (G : FVec Ideal gain .f32) (D : FVec Ideal (rows M) b) : FVec Ideal (rows M) .f32 :=
  fun i => dnorm (row H (i 0)) (gained D G (i 0)) (i 1)

/-- One row's part of the gain's gradient. -/
def dgTerm (H : FVec Ideal (rows M) a) (D : FVec Ideal (rows M) b) (k : Fin 2048) (r : Fin M) : EReal :=
  D (ix2 r k) * (H (ix2 r k) * rms (sqs H r))
/-- The gain's gradient. -/
def DGAIN (H : FVec Ideal (rows M) a) (D : FVec Ideal (rows M) b) : FVec Ideal gain .f32 :=
  fun i => ∑ r : Fin M, dgTerm H D (i 1) r

end Cert.NormMath
end
-- ==== Proof.Norm22.lean ====
/- Call 22: a norm's input gradient with its residual, and its gain's partial gradient, read over the reals. -/
module

public import proofs.«01_k».proof.Proof.Gen.Kernel22Ideal.Value
public import Idealize.ShloMosaic.Lib.Pipeline.ValueKit
public import Idealize.ShloMosaic.Lib.Pipeline.ReadBack
public import proofs.«01_k».proof.Defs
public import proofs.«01_k».proof.Proof.Gen.Reference22Ideal.Run
public import Idealize.ShloMosaic.Adequacy
public import Idealize.ShloMosaic.Init
public import proofs.«01_k».proof.Proof.NormSpec

@[expose] public section

set_option maxRecDepth 16384

noncomputable section

namespace Cert.Kernel22Ideal.Norm

open Cert.Kernel22Ideal Cert.Kernel22Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Ha (c : Dev nD) : FVec Ideal S8192x2048 .f32 := m ((c : Thread nD τ).loc main_arg0)
abbrev Ga (c : Dev nD) : FVec Ideal S1x2048 .f32 := m ((c : Thread nD τ).loc main_arg1)
abbrev Da (c : Dev nD) : FVec Ideal S8192x2048 .bf16 := m ((c : Thread nD τ).loc main_arg2)
abbrev Ra (c : Dev nD) : FVec Ideal S8192x2048 .f32 := m ((c : Thread nD τ).loc main_arg3)

theorem scale_at (h : FVec Ideal S256x2048 .f32) (r : Fin 256) : k0_pay2 (F := Ideal) h (ix2 r 0) = rms (sqs h r) := by
  pointwise [k0_pay2]; rfl

theorem xhat_at (h : FVec Ideal S256x2048 .f32) (r : Fin 256) (k : Fin 2048) :
    k0_pay3 (F := Ideal) h (ix2 r k) = h (ix2 r k) * rms (sqs h r) := by
  rw [← scale_at]; pointwise [k0_pay3]

theorem dnorm_at (h : FVec Ideal S256x2048 .f32) (d : FVec Ideal S256x2048 .bf16) (g : FVec Ideal S1x2048 .f32) (r : Fin 256) (k : Fin 2048) :
    k0_pay7 (F := Ideal) h d g (ix2 r k) = dnorm (row h r) (gained d g r) k := by
  have e : k0_pay7 (F := Ideal) h d g (ix2 r k) = k0_pay2 (F := Ideal) h (ix2 r 0) * (d (ix2 r k) * g (ix2 0 k) - k0_pay3 (F := Ideal) h (ix2 r k)
      * Ideal.div (∑ j : Fin 2048, d (ix2 r j) * g (ix2 0 j) * k0_pay3 (F := Ideal) h (ix2 r j)) wide) := by
    pointwise [k0_pay7, k0_pay4]; rfl
  rw [e]; simp only [xhat_at, scale_at]; rfl

theorem zero_at (k : Fin 2048) : k0_pay5 (F := Ideal) (ix2 0 k) = 0 := by
  pointwise [k0_pay5]

theorem add_at (h : FVec Ideal S256x2048 .f32) (d : FVec Ideal S256x2048 .bf16) (s : FVec Ideal S1x2048 .f32) (k : Fin 2048) :
    k0_pay6 (F := Ideal) h d s (ix2 0 k) = s (ix2 0 k) + ∑ r : Fin 256, dgTerm h d k r := by
  have e : k0_pay6 (F := Ideal) h d s (ix2 0 k) = s (ix2 0 k) + ∑ r : Fin 256, d (ix2 r k) * k0_pay3 (F := Ideal) h (ix2 r k) := by
    pointwise [k0_pay6, k0_pay4]
  rw [e]; simp only [xhat_at]; rfl

theorem idx_at : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0])

theorem points (t : Fin cfg0.N) : t.val < 32 := lt_of_lt_of_eq t.isLt N_0

/-- The array row of a block's row. -/
def arow (t : Fin cfg0.N) (r : Fin 256) : Fin 8192 := ⟨t.val * 256 + r.val, by have := points t; omega⟩

theorem blk_h (c : Dev nD) (t : Fin cfg0.N) (r : Fin 256) (k : Fin 2048) :
    (show FVec Ideal S256x2048 .f32 from iblk m c 0 t) (ix2 r k) = Ha m c (ix2 (arow t r) k) := by
  blk_point [iblk, V_main_arg0, idx_at t, arow]
theorem blk_g (c : Dev nD) (t : Fin cfg0.N) (k : Fin 2048) :
    (show FVec Ideal S1x2048 .f32 from iblk m c 1 t) (ix2 0 k) = Ga m c (ix2 0 k) := by
  blk_point [iblk, V_main_arg1, idx_at t]
theorem blk_d (c : Dev nD) (t : Fin cfg0.N) (r : Fin 256) (k : Fin 2048) :
    (show FVec Ideal S256x2048 .bf16 from iblk m c 2 t) (ix2 r k) = Da m c (ix2 (arow t r) k) := by
  blk_point [iblk, V_main_arg2, idx_at t, arow]
theorem blk_r (c : Dev nD) (t : Fin cfg0.N) (r : Fin 256) (k : Fin 2048) :
    (show FVec Ideal S256x2048 .f32 from iblk m c 3 t) (ix2 r k) = Ra m c (ix2 (arow t r) k) := by
  blk_point [iblk, V_main_arg3, idx_at t, arow]

theorem sqs_blk (c : Dev nD) (t : Fin cfg0.N) (r : Fin 256) :
    sqs (show FVec Ideal S256x2048 .f32 from iblk m c 0 t) r = sqs (Ha m c) (arow t r) :=
  Finset.sum_congr rfl fun j _ => congrArg₂ (· * ·) (blk_h m c t r j) (blk_h m c t r j)
theorem term_blk (c : Dev nD) (t : Fin cfg0.N) (k : Fin 2048) (r : Fin 256) :
    dgTerm (show FVec Ideal S256x2048 .f32 from iblk m c 0 t) (show FVec Ideal S256x2048 .bf16 from iblk m c 2 t) k r
      = dgTerm (Ha m c) (Da m c) k (arow t r) :=
  congrArg₂ (· * ·) (blk_d m c t r k) (congrArg₂ (fun x s => x * rms s) (blk_h m c t r k) (sqs_blk m c t r))
theorem dnorm_blk (c : Dev nD) (t : Fin cfg0.N) (r : Fin 256) (k : Fin 2048) :
    dnorm (row (show FVec Ideal S256x2048 .f32 from iblk m c 0 t) r) (gained (show FVec Ideal S256x2048 .bf16 from iblk m c 2 t) (show FVec Ideal S1x2048 .f32 from iblk m c 1 t) r) k
      = dnorm (row (Ha m c) (arow t r)) (gained (Da m c) (Ga m c) (arow t r)) k :=
  congrArg₂ (fun x t => dnorm x t k) (funext fun j => blk_h m c t r j)
    (funext fun j => congrArg₂ (· * ·) (blk_d m c t r j) (blk_g m c t j))

/-- The input gradient's array. -/
def DH (H : FVec Ideal S8192x2048 .f32) (G : FVec Ideal S1x2048 .f32) (D : FVec Ideal S8192x2048 .bf16) (R : FVec Ideal S8192x2048 .f32) :
    FVec Ideal S8192x2048 .f32 := fun i => R i + DNORM H G D i

theorem dh_at (c : Dev nD) (t : Fin cfg0.N) (r : Fin 256) (k : Fin 2048) :
    (show FVec Ideal S256x2048 .f32 from (outsAt0 m c t.val t.isLt).1) (ix2 r k) = DH (Ha m c) (Ga m c) (Da m c) (Ra m c) (ix2 (arow t r) k) := by
  have e : ∀ u : FVec Ideal S256x2048 .f32, u (ix2 r k) = Ra m c (ix2 (arow t r) k) → k0_pay1 (F := Ideal) (k0_pay7 (F := Ideal) (iblk m c 0 t) (iblk m c 2 t) (iblk m c 1 t)) u (ix2 r k)
      = DH (Ha m c) (Ga m c) (Da m c) (Ra m c) (ix2 (arow t r) k) := by
    intro u hu
    have e1 : ∀ v : FVec Ideal S256x2048 .f32, k0_pay1 (F := Ideal) v u (ix2 r k) = u (ix2 r k) + v (ix2 r k) := by
      intro v; pointwise [k0_pay1]
    rw [e1, hu]
    exact congrArg (Ra m c (ix2 (arow t r) k) + ·) ((dnorm_at _ _ _ r k).trans (dnorm_blk m c t r k))
  by_cases h : t.val % 32 = 0
  · rw [outsAt0_A m c t h]
    frame_out
    exact e _ (blk_r m c t r k)
  · rw [outsAt0_B m c t h]
    frame_out
    exact e _ (blk_r m c t r k)

theorem point4 (c : Dev nD) (t : Fin cfg0.N) (y : S256x2048.Idx) (i : S8192x2048.Idx)
    (hi0 : (i 0 : ℕ) = t.val * 256 + y 0) (hi1 : (i 1 : ℕ) = y 1) :
    (show FVec Ideal S256x2048 .f32 from (outsAt0 m c t.val t.isLt).1) y = DH (Ha m c) (Ga m c) (Da m c) (Ra m c) i := by
  obtain ⟨r, k, rfl⟩ : ∃ (r : Fin 256) (k : Fin 2048), y = ix2 r k :=
    ⟨y 0, y 1, by funext a; match a with | ⟨0, _⟩ => rfl | ⟨1, _⟩ => rfl⟩
  have ei : i = ix2 (arow t r) k := by
    funext a; apply Fin.ext
    match a with | ⟨0, _⟩ => exact hi0 | ⟨1, _⟩ => exact hi1
  rw [ei]; exact dh_at m c t r k

/-- The input gradient after the whole grid. -/
theorem final4 (c : Dev nD) : (dats m 0 c).arrAt 4 (cfgs 0).N = DH (Ha m c) (Ga m c) (Da m c) (Ra m c) := by
  refine (dats m 0 c).arrAt_eq_of_covers 4 _ (by decide +kernel) fun t hf y => ?_
  blk_simp
  rw [after0_4]
  refine point4 m c t y _ ?_ ?_ <;> blk_simp [idx_at t]

/-- One block's part of the gain's gradient. -/
def part (H : FVec Ideal S8192x2048 .f32) (D : FVec Ideal S8192x2048 .bf16) (k : Fin 2048) (s : Fin 32) : EReal :=
  ∑ r : Fin 256, dgTerm H D k ⟨s.val * 256 + r.val, by omega⟩

theorem parts (H : FVec Ideal S8192x2048 .f32) (D : FVec Ideal S8192x2048 .bf16) (k : Fin 2048) :
    ∑ s : Fin 32, part H D k s = ∑ r : Fin 8192, dgTerm H D k r :=
  Fin.sum_mul_add_fin 32 256 fun r => dgTerm H D k r

def pt (t : Fin cfg0.N) : Fin 32 := ⟨t.val, points t⟩

/-- The running sum starts from zero at the first block, -/
theorem sum_first (c : Dev nD) (t : Fin cfg0.N) (h : t.val % 32 = 0) (k : Fin 2048) :
    (show FVec Ideal S1x2048 .f32 from (outsAt0 m c t.val t.isLt).2) (ix2 0 k) = part (Ha m c) (Da m c) k (pt t) := by
  rw [outsAt0_A m c t h]
  frame_out
  refine (add_at _ _ _ k).trans ?_
  refine (congrArg₂ (· + ·) (zero_at k) (Finset.sum_congr rfl fun r _ => term_blk m c t k r)).trans (zero_add _)

/-- and takes one block more at each later one. -/
theorem sum_next (c : Dev nD) (t : Fin cfg0.N) (h : ¬t.val % 32 = 0) (k : Fin 2048) :
    (show FVec Ideal S1x2048 .f32 from (outsAt0 m c t.val t.isLt).2) (ix2 0 k)
      = (show FVec Ideal S1x2048 .f32 from (outsAt0 m c (t.val - 1) (Nat.lt_of_le_of_lt (Nat.sub_le _ _) t.isLt)).2) (ix2 0 k) + part (Ha m c) (Da m c) k (pt t) := by
  rw [outsAt0_B m c t h]
  frame_out
  refine (add_at _ _ _ k).trans ?_
  exact congrArg₂ (· + ·) rfl (Finset.sum_congr rfl fun r _ => term_blk m c t k r)

def before (t : Fin cfg0.N) : Fin cfg0.N := ⟨t.val - 1, Nat.lt_of_le_of_lt (Nat.sub_le _ _) t.isLt⟩
def nth (s : ℕ) : Fin 32 := ⟨s % 32, by omega⟩

/-- After block `j` the running sum holds the first `j + 1` blocks. -/
theorem sum_at (c : Dev nD) (k : Fin 2048) : ∀ (j : ℕ) (t : Fin cfg0.N), t.val = j →
    (show FVec Ideal S1x2048 .f32 from (outsAt0 m c t.val t.isLt).2) (ix2 0 k) = ∑ s ∈ Finset.range (j + 1), part (Ha m c) (Da m c) k (nth s)
  | 0, t, h => by
    rw [Finset.sum_range_one, sum_first m c t (by omega), show pt t = nth 0 from Fin.ext h]
  | j + 1, t, h => by
    have hp := points t
    have e : pt t = nth (j + 1) := Fin.ext (by show t.val = (j + 1) % 32; omega)
    have ih := sum_at c k j (before t) (by show t.val - 1 = j; omega)
    rw [Finset.sum_range_succ, ← e, ← ih]
    exact sum_next m c t (by omega) k

theorem point5 (c : Dev nD) (t : Fin cfg0.N) (h : t.val = 31) (y : S1x2048.Idx) (i : S1x2048.Idx)
    (hi1 : (i 1 : ℕ) = y 1) :
    (show FVec Ideal S1x2048 .f32 from (outsAt0 m c t.val t.isLt).2) y = DGAIN (Ha m c) (Da m c) i := by
  obtain ⟨k, rfl⟩ : ∃ k : Fin 2048, y = ix2 0 k :=
    ⟨y 1, by funext a; match a with | ⟨0, _⟩ => exact Fin.ext (Nat.lt_one_iff.mp (y 0).isLt) | ⟨1, _⟩ => rfl⟩
  have ei : i = ix2 0 k := by
    funext a; apply Fin.ext
    match a with | ⟨0, _⟩ => exact Nat.lt_one_iff.mp (i 0).isLt | ⟨1, _⟩ => exact hi1
  rw [ei]
  refine (sum_at m c k 31 t h).trans ?_
  rw [Finset.sum_range]
  refine (Finset.sum_congr rfl fun s _ => ?_).trans (parts (Ha m c) (Da m c) k)
  rw [show nth s.val = s from Fin.ext (Nat.mod_eq_of_lt s.isLt)]

/-- The gain's gradient after the whole grid. -/
theorem final5 (c : Dev nD) : (dats m 0 c).arrAt 5 (cfgs 0).N = DGAIN (Ha m c) (Da m c) := by
  refine (dats m 0 c).arrAt_eq_of_covers 5 _ (by decide +kernel) fun t hf y => ?_
  have hl := (flush0_5 t).mp hf
  have hp := points t
  blk_simp
  rw [after0_5]
  refine point5 m c t (by omega) y _ ?_ <;> blk_simp [idx_at t]

end Cert.Kernel22Ideal.Norm

namespace Cert.Reference22Ideal.Norm

open Cert.Reference22Ideal Cert.Reference22Ideal.Gen Cert.Reference22Ideal.Facts Idealize.ShloMosaic Idealize.ShloMosaic.TcCoe Idealize.SL.Sem
open Cert.NormMath

/-- The mean square of each row plus ε, and its reciprocal root. -/
def rmsq (h : FVec Ideal S8192x2048 .f32) : FVec Ideal S8192x1 .f32 :=
  addf (Host.divf (broadcastInDim S8192x1 ![0] bcast_S8192_S8192x1_0
      (Host.reduceAdd (mulf h h) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x3727C5AC#32))
def rscale (h : FVec Ideal S8192x2048 .f32) : FVec Ideal S8192x1 .f32 := Host.rsqrt (rmsq h)
/-- The gain on every row. -/
def rgain (g : FVec Ideal S1x2048 .f32) : FVec Ideal S8192x2048 .f32 :=
  broadcastInDim S8192x2048 ![0, 1] bcast_S1x2048_S8192x2048_0_1
    (broadcastInDim S1x2048 ![1] bcast_S2048_S1x2048_1 (shapeCast _ g shapeCasts_S1x2048_S2048))
/-- The normed row before its gain. -/
def rhat (h : FVec Ideal S8192x2048 .f32) : FVec Ideal S8192x2048 .f32 :=
  mulf h (broadcastInDim S8192x2048 ![0, 1] bcast_S8192x1_S8192x2048_0_1 (rscale h))
/-- The cotangent of the mean square. -/
def rmean (h t : FVec Ideal S8192x2048 .f32) : FVec Ideal S8192 .f32 :=
  Host.reduceAdd (Host.divf (mulf (shapeCast _ (Host.reduceAdd (mulf h t) (constant S_ .f32 0x00000000#32) reducesTo_S8192x2048_S8192_d1 h_S_) shapeCasts_S8192_S8192x1)
      (mulf (broadcastInDim S8192x1 ![] bcast_S_S8192x1 (constant S_ .f32 0xBF000000#32)) (Host.divf (rscale h) (rmsq h))))
    (broadcastInDim S8192x1 ![] bcast_S_S8192x1 (constant S_ .f32 0x45000000#32)))
    (constant S_ .f32 0x00000000#32) reducesTo_S8192x1_S8192_d1 h_S_
/-- The input gradient. -/
def rdnorm (h t : FVec Ideal S8192x2048 .f32) : FVec Ideal S8192x2048 .f32 :=
  addf (addf (mulf t (broadcastInDim S8192x2048 ![0, 1] bcast_S8192x1_S8192x2048_0_1 (rscale h)))
      (mulf h (broadcastInDim S8192x2048 ![0] bcast_S8192_S8192x2048_0 (rmean h t))))
    (mulf (broadcastInDim S8192x2048 ![0] bcast_S8192_S8192x2048_0 (rmean h t)) h)
/-- The gain's gradient. -/
def rdgain (h d : FVec Ideal S8192x2048 .f32) : FVec Ideal S1x2048 .f32 :=
  broadcastInDim S1x2048 ![1] bcast_S2048_S1x2048_1 (Host.reduceAdd (shapeCast _
    (Host.reduceAdd (mulf (rhat h) d) (constant S_ .f32 0x00000000#32) reducesTo_S8192x2048_S2048_d0 h_S_) shapeCasts_S2048_S1x2048)
    (constant S_ .f32 0x00000000#32) reducesTo_S1x2048_S2048_d0 h_S_)

theorem rmsq_at (h : FVec Ideal S8192x2048 .f32) (r : Fin 8192) : rmsq h (ix2 r 0) = msq (sqs h r) := by
  pointwise [rmsq]; rfl
theorem rscale_at (h : FVec Ideal S8192x2048 .f32) (r : Fin 8192) : rscale h (ix2 r 0) = rms (sqs h r) := by
  show Ideal.rsqrt (rmsq h (ix2 r 0)) = _
  rw [rmsq_at]; rfl
theorem rgain_at (g : FVec Ideal S1x2048 .f32) (r : Fin 8192) (k : Fin 2048) : rgain g (ix2 r k) = g (ix2 0 k) := by
  pointwise [rgain]
theorem rhat_at (h : FVec Ideal S8192x2048 .f32) (r : Fin 8192) (k : Fin 2048) : rhat h (ix2 r k) = h (ix2 r k) * rms (sqs h r) := by
  rw [← rscale_at]; pointwise [rhat]
theorem rmean_at (h t : FVec Ideal S8192x2048 .f32) (r : Fin 8192) : rmean h t (ix1 r) = dmean (row h r) (row t r) := by
  have e : rmean h t (ix1 r) = Ideal.div ((∑ j : Fin 2048, h (ix2 r j) * t (ix2 r j)) * (mhalf * Ideal.div (rscale h (ix2 r 0)) (rmsq h (ix2 r 0)))) wide := by
    pointwise [rmean, Host.divf]
    exact (Fin.sum_univ_one _).trans rfl
  rw [e, rscale_at, rmsq_at]; rfl
theorem rdnorm_at (h t : FVec Ideal S8192x2048 .f32) (r : Fin 8192) (k : Fin 2048) : rdnorm h t (ix2 r k) = dnorm (row h r) (row t r) k := by
  have e : rdnorm h t (ix2 r k) = t (ix2 r k) * rscale h (ix2 r 0) + h (ix2 r k) * rmean h t (ix1 r) + rmean h t (ix1 r) * h (ix2 r k) := by
    pointwise [rdnorm]
  rw [e, rscale_at, rmean_at]
  exact dnorm'_eq (row h r) (row t r) k
theorem rdgain_at (h d : FVec Ideal S8192x2048 .f32) (k : Fin 2048) : rdgain h d (ix2 0 k) = ∑ r : Fin 8192, dgTerm h d k r := by
  have e : rdgain h d (ix2 0 k) = ∑ r : Fin 8192, rhat h (ix2 r k) * d (ix2 r k) := by
    pointwise [rdgain]
    exact Fin.sum_univ_one _
  rw [e]
  refine Finset.sum_congr rfl fun r _ => ?_
  rw [rhat_at, mul_comm]; rfl

theorem entry (i : S8192x2048.Idx) : ∃ (r : Fin 8192) (k : Fin 2048), i = ix2 r k :=
  ⟨i 0, i 1, by funext a; match a with | ⟨0, _⟩ => rfl | ⟨1, _⟩ => rfl⟩
theorem entry1 (i : S1x2048.Idx) : ∃ k : Fin 2048, i = ix2 0 k :=
  ⟨i 1, by funext a; match a with | ⟨0, _⟩ => exact Fin.ext (Nat.lt_one_iff.mp (i 0).isLt) | ⟨1, _⟩ => rfl⟩

theorem dgain_eq (h d : FVec Ideal S8192x2048 .f32) : rdgain h d = DGAIN h d := by
  funext i
  obtain ⟨k, rfl⟩ := entry1 i
  exact rdgain_at h d k

theorem dnorm_eq (h : FVec Ideal S8192x2048 .f32) (g : FVec Ideal S1x2048 .f32) (d : FVec Ideal S8192x2048 .bf16) (s : FVec Ideal S8192x2048 .f32) :
    addf s (rdnorm h (mulf (extf .f32 d bitsLt_bf16_f32) (rgain g))) = Cert.Kernel22Ideal.Norm.DH h g d s := by
  funext i
  obtain ⟨r, k, rfl⟩ := entry i
  refine congrArg (s (ix2 r k) + ·) ((rdnorm_at _ _ r k).trans ?_)
  refine congrArg (dnorm (row h r) · k) (funext fun j => ?_)
  exact congrArg (d (ix2 r j) * ·) (rgain_at g r j)

end Cert.Reference22Ideal.Norm

namespace Cert.Norms
open Idealize.ShloMosaic Idealize.SL.Sem

theorem frame22 : Cert.quiescent_Reference22Ideal := by
  intro m g _
  run_from Cert.Reference22Ideal.Value.run m g
  · exact fun _ => ⟨trivial, trivial, trivial, trivial⟩
  · exact sem_eq_zero_of_no_sems (by decide) _

set_option maxRecDepth 65536 in
set_option maxHeartbeats 4000000 in
/-- The kernel and the reference end with the same two arrays. -/
theorem value22 : Cert.algebraic_Kernel22Ideal_Reference22Ideal := by
  intro m g m' g' hpre hagree
  refine ⟨fun c => Cert.Kernel22Ideal.Norm.DH (Cert.Kernel22Ideal.Norm.Ha m c) (Cert.Kernel22Ideal.Norm.Ga m c) (Cert.Kernel22Ideal.Norm.Da m c) (Cert.Kernel22Ideal.Norm.Ra m c),
    fun c => Cert.NormMath.DGAIN (Cert.Kernel22Ideal.Norm.Ha m c) (Cert.Kernel22Ideal.Norm.Da m c), ?_, ?_⟩
  · run_from Cert.Kernel22Ideal.Gen.run_main m g
    · exact Cert.Kernel22Ideal.Norm.final4 m c
    · exact Cert.Kernel22Ideal.Norm.final5 m c
  · refine θ_run_mono (Cert.Reference22Ideal.Value.run m' g') ?_
    intro r h c
    obtain ⟨h1, h2, h3, h4, h5, h6⟩ := h c
    obtain ⟨a0, a1, a2, a3⟩ := hagree c
    refine ⟨h1.trans ((Cert.Reference22Ideal.Norm.dnorm_eq _ _ _ _).trans ?_), h2.trans ((Cert.Reference22Ideal.Norm.dgain_eq _ _).trans ?_), h3, h4, h5, h6⟩
    · rw [a0, a1, a2, a3]
    · rw [a0]; exact congrArg (Cert.NormMath.DGAIN _) a2

end Cert.Norms

end
-- ==== Proof.Norm23.lean ====
/- Call 23: the memory's norm: its input gradient and its gain's partial gradient, read over the reals. -/
module

public import proofs.«01_k».proof.Proof.Gen.Kernel23Ideal.Value
public import Idealize.ShloMosaic.Lib.Pipeline.ValueKit
public import Idealize.ShloMosaic.Lib.Pipeline.ReadBack
public import proofs.«01_k».proof.Defs
public import proofs.«01_k».proof.Proof.Gen.Reference23Ideal.Run
public import Idealize.ShloMosaic.Adequacy
public import Idealize.ShloMosaic.Init
public import proofs.«01_k».proof.Proof.NormSpec

@[expose] public section

set_option maxRecDepth 16384

noncomputable section

namespace Cert.Kernel23Ideal.Norm

open Cert.Kernel23Ideal Cert.Kernel23Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Ha (c : Dev nD) : FVec Ideal S256x2048 .f32 := m ((c : Thread nD τ).loc main_arg0)
abbrev Ga (c : Dev nD) : FVec Ideal S1x2048 .f32 := m ((c : Thread nD τ).loc main_arg1)
abbrev Da (c : Dev nD) : FVec Ideal S256x2048 .f32 := m ((c : Thread nD τ).loc main_arg2)

theorem scale_at (h : FVec Ideal S256x2048 .f32) (r : Fin 256) : k0_pay1 (F := Ideal) h (ix2 r 0) = rms (sqs h r) := by
  pointwise [k0_pay1]; rfl

theorem xhat_at (h : FVec Ideal S256x2048 .f32) (r : Fin 256) (k : Fin 2048) :
    k0_pay2 (F := Ideal) h (ix2 r k) = h (ix2 r k) * rms (sqs h r) := by
  rw [← scale_at]; pointwise [k0_pay2]

theorem dnorm_at (h d : FVec Ideal S256x2048 .f32) (g : FVec Ideal S1x2048 .f32) (r : Fin 256) (k : Fin 2048) :
    k0_pay5 (F := Ideal) h d g (ix2 r k) = dnorm (row h r) (gained d g r) k := by
  have e : k0_pay5 (F := Ideal) h d g (ix2 r k) = k0_pay1 (F := Ideal) h (ix2 r 0) * (d (ix2 r k) * g (ix2 0 k) - k0_pay2 (F := Ideal) h (ix2 r k)
      * Ideal.div (∑ j : Fin 2048, d (ix2 r j) * g (ix2 0 j) * k0_pay2 (F := Ideal) h (ix2 r j)) wide) := by
    pointwise [k0_pay5]; rfl
  rw [e]; simp only [xhat_at, scale_at]; rfl

theorem zero_at (k : Fin 2048) : k0_pay3 (F := Ideal) (ix2 0 k) = 0 := by
  pointwise [k0_pay3]

theorem add_at (h d : FVec Ideal S256x2048 .f32) (s : FVec Ideal S1x2048 .f32) (k : Fin 2048) :
    k0_pay4 (F := Ideal) h d s (ix2 0 k) = s (ix2 0 k) + ∑ r : Fin 256, dgTerm h d k r := by
  have e : k0_pay4 (F := Ideal) h d s (ix2 0 k) = s (ix2 0 k) + ∑ r : Fin 256, d (ix2 r k) * k0_pay2 (F := Ideal) h (ix2 r k) := by
    pointwise [k0_pay4]
  rw [e]; simp only [xhat_at]; rfl

theorem idx_at : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0])

theorem blk_h (c : Dev nD) (t : Fin cfg0.N) (r : Fin 256) (k : Fin 2048) :
    (show FVec Ideal S256x2048 .f32 from iblk m c 0 t) (ix2 r k) = Ha m c (ix2 r k) := by
  blk_point [iblk, V_main_arg0, idx_at t]
theorem blk_g (c : Dev nD) (t : Fin cfg0.N) (k : Fin 2048) :
    (show FVec Ideal S1x2048 .f32 from iblk m c 1 t) (ix2 0 k) = Ga m c (ix2 0 k) := by
  blk_point [iblk, V_main_arg1, idx_at t]
theorem blk_d (c : Dev nD) (t : Fin cfg0.N) (r : Fin 256) (k : Fin 2048) :
    (show FVec Ideal S256x2048 .f32 from iblk m c 2 t) (ix2 r k) = Da m c (ix2 r k) := by
  blk_point [iblk, V_main_arg2, idx_at t]

theorem sqs_blk (c : Dev nD) (t : Fin cfg0.N) (r : Fin 256) :
    sqs (show FVec Ideal S256x2048 .f32 from iblk m c 0 t) r = sqs (Ha m c) r :=
  Finset.sum_congr rfl fun j _ => congrArg₂ (· * ·) (blk_h m c t r j) (blk_h m c t r j)
theorem term_blk (c : Dev nD) (t : Fin cfg0.N) (k : Fin 2048) (r : Fin 256) :
    dgTerm (show FVec Ideal S256x2048 .f32 from iblk m c 0 t) (show FVec Ideal S256x2048 .f32 from iblk m c 2 t) k r
      = dgTerm (Ha m c) (Da m c) k r :=
  congrArg₂ (· * ·) (blk_d m c t r k) (congrArg₂ (fun x s => x * rms s) (blk_h m c t r k) (sqs_blk m c t r))
theorem dnorm_blk (c : Dev nD) (t : Fin cfg0.N) (r : Fin 256) (k : Fin 2048) :
    dnorm (row (show FVec Ideal S256x2048 .f32 from iblk m c 0 t) r) (gained (show FVec Ideal S256x2048 .f32 from iblk m c 2 t) (show FVec Ideal S1x2048 .f32 from iblk m c 1 t) r) k
      = dnorm (row (Ha m c) r) (gained (Da m c) (Ga m c) r) k :=
  congrArg₂ (fun x t => dnorm x t k) (funext fun j => blk_h m c t r j)
    (funext fun j => congrArg₂ (· * ·) (blk_d m c t r j) (blk_g m c t j))

theorem point3 (c : Dev nD) (t : Fin cfg0.N) (y : S256x2048.Idx) (i : S256x2048.Idx)
    (hi0 : (i 0 : ℕ) = y 0) (hi1 : (i 1 : ℕ) = y 1) :
    (show FVec Ideal S256x2048 .f32 from (outsAt0 m c t).1) y = DNORM (Ha m c) (Ga m c) (Da m c) i := by
  obtain ⟨r, k, rfl⟩ : ∃ (r : Fin 256) (k : Fin 2048), y = ix2 r k :=
    ⟨y 0, y 1, by funext a; match a with | ⟨0, _⟩ => rfl | ⟨1, _⟩ => rfl⟩
  have ei : i = ix2 r k := by
    funext a; apply Fin.ext
    match a with | ⟨0, _⟩ => exact hi0 | ⟨1, _⟩ => exact hi1
  rw [ei, outsAt0]
  frame_out
  exact (dnorm_at _ _ _ r k).trans (dnorm_blk m c t r k)

/-- The input gradient after the one point of the grid. -/
theorem final3 (c : Dev nD) : (dats m 0 c).arrAt 3 (cfgs 0).N = DNORM (Ha m c) (Ga m c) (Da m c) := by
  refine (dats m 0 c).arrAt_eq_of_covers 3 _ (by decide +kernel) fun t hf y => ?_
  blk_simp
  rw [after0_3]
  refine point3 m c t y _ ?_ ?_ <;> blk_simp [idx_at t]

theorem point4 (c : Dev nD) (t : Fin cfg0.N) (y : S1x2048.Idx) (i : S1x2048.Idx) (hi1 : (i 1 : ℕ) = y 1) :
    (show FVec Ideal S1x2048 .f32 from (outsAt0 m c t).2) y = DGAIN (Ha m c) (Da m c) i := by
  obtain ⟨k, rfl⟩ : ∃ k : Fin 2048, y = ix2 0 k :=
    ⟨y 1, by funext a; match a with | ⟨0, _⟩ => exact Fin.ext (Nat.lt_one_iff.mp (y 0).isLt) | ⟨1, _⟩ => rfl⟩
  have ei : i = ix2 0 k := by
    funext a; apply Fin.ext
    match a with | ⟨0, _⟩ => exact Nat.lt_one_iff.mp (i 0).isLt | ⟨1, _⟩ => exact hi1
  rw [ei, outsAt0]
  frame_out
  refine (add_at _ _ _ k).trans ?_
  refine (congrArg₂ (· + ·) (zero_at k) (Finset.sum_congr rfl fun r _ => term_blk m c t k r)).trans (zero_add _)

/-- The gain's gradient after it. -/
theorem final4 (c : Dev nD) : (dats m 0 c).arrAt 4 (cfgs 0).N = DGAIN (Ha m c) (Da m c) := by
  refine (dats m 0 c).arrAt_eq_of_covers 4 _ (by decide +kernel) fun t hf y => ?_
  blk_simp
  rw [after0_4]
  refine point4 m c t y _ ?_ <;> blk_simp [idx_at t]

end Cert.Kernel23Ideal.Norm

namespace Cert.Reference23Ideal.Norm

open Cert.Reference23Ideal Cert.Reference23Ideal.Gen Cert.Reference23Ideal.Facts Idealize.ShloMosaic Idealize.ShloMosaic.TcCoe Idealize.SL.Sem
open Cert.NormMath

/-- The mean square of each row plus ε, and its reciprocal root. -/
def rmsq (h : FVec Ideal S256x2048 .f32) : FVec Ideal S256x1 .f32 :=
  addf (Host.divf (broadcastInDim S256x1 ![0] bcast_S256_S256x1_0
      (Host.reduceAdd (mulf h h) (constant S_ .f32 0x00000000#32) reducesTo_S256x2048_S256_d1 h_S_))
    (broadcastInDim S256x1 ![] bcast_S_S256x1 (constant S_ .f32 0x45000000#32)))
    (broadcastInDim S256x1 ![] bcast_S_S256x1 (constant S_ .f32 0x3727C5AC#32))
def rscale (h : FVec Ideal S256x2048 .f32) : FVec Ideal S256x1 .f32 := Host.rsqrt (rmsq h)
/-- The gain on every row. -/
def rgain (g : FVec Ideal S1x2048 .f32) : FVec Ideal S256x2048 .f32 :=
  broadcastInDim S256x2048 ![0, 1] bcast_S1x2048_S256x2048_0_1
    (broadcastInDim S1x2048 ![1] bcast_S2048_S1x2048_1 (shapeCast _ g shapeCasts_S1x2048_S2048))
/-- The normed row before its gain. -/
def rhat (h : FVec Ideal S256x2048 .f32) : FVec Ideal S256x2048 .f32 :=
  mulf h (broadcastInDim S256x2048 ![0, 1] bcast_S256x1_S256x2048_0_1 (rscale h))
/-- The cotangent of the mean square. -/
def rmean (h t : FVec Ideal S256x2048 .f32) : FVec Ideal S256 .f32 :=
  Host.reduceAdd (Host.divf (mulf (shapeCast _ (Host.reduceAdd (mulf h t) (constant S_ .f32 0x00000000#32) reducesTo_S256x2048_S256_d1 h_S_) shapeCasts_S256_S256x1)
      (mulf (broadcastInDim S256x1 ![] bcast_S_S256x1 (constant S_ .f32 0xBF000000#32)) (Host.divf (rscale h) (rmsq h))))
    (broadcastInDim S256x1 ![] bcast_S_S256x1 (constant S_ .f32 0x45000000#32)))
    (constant S_ .f32 0x00000000#32) reducesTo_S256x1_S256_d1 h_S_
/-- The input gradient. -/
def rdnorm (h t : FVec Ideal S256x2048 .f32) : FVec Ideal S256x2048 .f32 :=
  addf (addf (mulf t (broadcastInDim S256x2048 ![0, 1] bcast_S256x1_S256x2048_0_1 (rscale h)))
      (mulf h (broadcastInDim S256x2048 ![0] bcast_S256_S256x2048_0 (rmean h t))))
    (mulf (broadcastInDim S256x2048 ![0] bcast_S256_S256x2048_0 (rmean h t)) h)
/-- The gain's gradient. -/
def rdgain (h d : FVec Ideal S256x2048 .f32) : FVec Ideal S1x2048 .f32 :=
  broadcastInDim S1x2048 ![1] bcast_S2048_S1x2048_1 (Host.reduceAdd (shapeCast _
    (Host.reduceAdd (mulf (rhat h) d) (constant S_ .f32 0x00000000#32) reducesTo_S256x2048_S2048_d0 h_S_) shapeCasts_S2048_S1x2048)
    (constant S_ .f32 0x00000000#32) reducesTo_S1x2048_S2048_d0 h_S_)

theorem rmsq_at (h : FVec Ideal S256x2048 .f32) (r : Fin 256) : rmsq h (ix2 r 0) = msq (sqs h r) := by
  pointwise [rmsq]; rfl
theorem rscale_at (h : FVec Ideal S256x2048 .f32) (r : Fin 256) : rscale h (ix2 r 0) = rms (sqs h r) := by
  show Ideal.rsqrt (rmsq h (ix2 r 0)) = _
  rw [rmsq_at]; rfl
theorem rgain_at (g : FVec Ideal S1x2048 .f32) (r : Fin 256) (k : Fin 2048) : rgain g (ix2 r k) = g (ix2 0 k) := by
  pointwise [rgain]
theorem rhat_at (h : FVec Ideal S256x2048 .f32) (r : Fin 256) (k : Fin 2048) : rhat h (ix2 r k) = h (ix2 r k) * rms (sqs h r) := by
  rw [← rscale_at]; pointwise [rhat]
theorem rmean_at (h t : FVec Ideal S256x2048 .f32) (r : Fin 256) : rmean h t (ix1 r) = dmean (row h r) (row t r) := by
  have e : rmean h t (ix1 r) = Ideal.div ((∑ j : Fin 2048, h (ix2 r j) * t (ix2 r j)) * (mhalf * Ideal.div (rscale h (ix2 r 0)) (rmsq h (ix2 r 0)))) wide := by
    pointwise [rmean, Host.divf]
    exact (Fin.sum_univ_one _).trans rfl
  rw [e, rscale_at, rmsq_at]; rfl
theorem rdnorm_at (h t : FVec Ideal S256x2048 .f32) (r : Fin 256) (k : Fin 2048) : rdnorm h t (ix2 r k) = dnorm (row h r) (row t r) k := by
  have e : rdnorm h t (ix2 r k) = t (ix2 r k) * rscale h (ix2 r 0) + h (ix2 r k) * rmean h t (ix1 r) + rmean h t (ix1 r) * h (ix2 r k) := by
    pointwise [rdnorm]
  rw [e, rscale_at, rmean_at]
  exact dnorm'_eq (row h r) (row t r) k
theorem rdgain_at (h d : FVec Ideal S256x2048 .f32) (k : Fin 2048) : rdgain h d (ix2 0 k) = ∑ r : Fin 256, dgTerm h d k r := by
  have e : rdgain h d (ix2 0 k) = ∑ r : Fin 256, rhat h (ix2 r k) * d (ix2 r k) := by
    pointwise [rdgain]
    exact Fin.sum_univ_one _
  rw [e]
  refine Finset.sum_congr rfl fun r _ => ?_
  rw [rhat_at, mul_comm]; rfl

theorem entry (i : S256x2048.Idx) : ∃ (r : Fin 256) (k : Fin 2048), i = ix2 r k :=
  ⟨i 0, i 1, by funext a; match a with | ⟨0, _⟩ => rfl | ⟨1, _⟩ => rfl⟩
theorem entry1 (i : S1x2048.Idx) : ∃ k : Fin 2048, i = ix2 0 k :=
  ⟨i 1, by funext a; match a with | ⟨0, _⟩ => exact Fin.ext (Nat.lt_one_iff.mp (i 0).isLt) | ⟨1, _⟩ => rfl⟩

theorem dgain_eq (h d : FVec Ideal S256x2048 .f32) : rdgain h d = DGAIN h d := by
  funext i
  obtain ⟨k, rfl⟩ := entry1 i
  exact rdgain_at h d k

theorem dnorm_eq (h : FVec Ideal S256x2048 .f32) (g : FVec Ideal S1x2048 .f32) (d : FVec Ideal S256x2048 .f32) :
    rdnorm h (mulf d (rgain g)) = DNORM h g d := by
  funext i
  obtain ⟨r, k, rfl⟩ := entry i
  refine (rdnorm_at _ _ r k).trans ?_
  refine congrArg (dnorm (row h r) · k) (funext fun j => ?_)
  exact congrArg (d (ix2 r j) * ·) (rgain_at g r j)

end Cert.Reference23Ideal.Norm

namespace Cert.Norms
open Idealize.ShloMosaic Idealize.SL.Sem

theorem frame23 : Cert.quiescent_Reference23Ideal := by
  intro m g _
  run_from Cert.Reference23Ideal.Value.run m g
  · exact fun _ => ⟨trivial, trivial, trivial⟩
  · exact sem_eq_zero_of_no_sems (by decide) _

set_option maxRecDepth 65536 in
set_option maxHeartbeats 4000000 in
/-- The kernel and the reference end with the same two arrays. -/
theorem value23 : Cert.algebraic_Kernel23Ideal_Reference23Ideal := by
  intro m g m' g' hpre hagree
  refine ⟨fun c => Cert.NormMath.DNORM (Cert.Kernel23Ideal.Norm.Ha m c) (Cert.Kernel23Ideal.Norm.Ga m c) (Cert.Kernel23Ideal.Norm.Da m c),
    fun c => Cert.NormMath.DGAIN (Cert.Kernel23Ideal.Norm.Ha m c) (Cert.Kernel23Ideal.Norm.Da m c), ?_, ?_⟩
  · run_from Cert.Kernel23Ideal.Gen.run_main m g
    · exact Cert.Kernel23Ideal.Norm.final3 m c
    · exact Cert.Kernel23Ideal.Norm.final4 m c
  · refine θ_run_mono (Cert.Reference23Ideal.Value.run m' g') ?_
    intro r h c
    obtain ⟨h1, h2, h3, h4, h5⟩ := h c
    obtain ⟨a0, a1, a2⟩ := hagree c
    refine ⟨h1.trans ((Cert.Reference23Ideal.Norm.dnorm_eq _ _ _).trans ?_), h2.trans ((Cert.Reference23Ideal.Norm.dgain_eq _ _).trans ?_), h3, h4, h5⟩
    · rw [a0, a1, a2]
    · rw [a0, a2]

end Cert.Norms

end
-- ==== Proof.Norm24.lean ====
/- Call 24: a product's input gradient, carried through the norm before it, and that norm's gain gradient, read over the reals. -/
module

public import proofs.«01_k».proof.Proof.Gen.Kernel24Ideal.Value
public import proofs.«01_k».proof.Proof.Gen.Reference24Ideal.Run
public import proofs.«01_k».proof.Proof.Norm22

@[expose] public section

set_option maxRecDepth 16384

noncomputable section

namespace Cert.Kernel24Ideal.Norm

open Cert.Kernel24Ideal Cert.Kernel24Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Qa (c : Dev nD) : FVec Ideal S8192x2048 .bf16 := m ((c : Thread nD τ).loc main_arg0)
abbrev Wa (c : Dev nD) : FVec Ideal S2048x2048 .bf16 := m ((c : Thread nD τ).loc main_arg1)
abbrev Ha (c : Dev nD) : FVec Ideal S8192x2048 .f32 := m ((c : Thread nD τ).loc main_arg2)
abbrev Ga (c : Dev nD) : FVec Ideal S1x2048 .f32 := m ((c : Thread nD τ).loc main_arg3)
abbrev Ra (c : Dev nD) : FVec Ideal S8192x2048 .f32 := m ((c : Thread nD τ).loc main_arg4)

/-- The product's input gradient: rows of the cotangent against rows of the weight. -/
def BACK {M : ℕ} (Q : FVec Ideal (rows M) .bf16) (W : FVec Ideal S2048x2048 .bf16) : FVec Ideal (rows M) .f32 :=
  fun i => ∑ j : Fin 2048, Q (ix2 (i 0) j) * W (ix2 (i 1) j)
/-- It on the whole array. -/
abbrev Da (c : Dev nD) : FVec Ideal S8192x2048 .f32 := BACK (Qa m c) (Wa m c)

theorem back_at (q : FVec Ideal S512x2048 .bf16) (w : FVec Ideal S2048x2048 .bf16) (r : Fin 512) (k : Fin 2048) :
    k0_pay2 (F := Ideal) q w (ix2 r k) = BACK (M := 512) q w (ix2 r k) := by
  refine Eq.trans (b := ∑ j : Fin 2048, q (ix2 r j) * w (ix2 k j)) ?_ rfl
  pointwise [k0_pay2]

theorem scale_at (h : FVec Ideal S512x2048 .f32) (r : Fin 512) : k0_pay3 (F := Ideal) h (ix2 r 0) = rms (sqs h r) := by
  pointwise [k0_pay3]; rfl

theorem xhat_at (h : FVec Ideal S512x2048 .f32) (r : Fin 512) (k : Fin 2048) :
    k0_pay4 (F := Ideal) h (ix2 r k) = h (ix2 r k) * rms (sqs h r) := by
  rw [← scale_at]; pointwise [k0_pay4]

theorem gain_at (q : FVec Ideal S512x2048 .bf16) (w : FVec Ideal S2048x2048 .bf16) (g : FVec Ideal S1x2048 .f32) (r : Fin 512) (k : Fin 2048) :
    k0_pay7 (F := Ideal) q w g (ix2 r k) = BACK (M := 512) q w (ix2 r k) * g (ix2 0 k) := by
  rw [← back_at]; pointwise [k0_pay7]

theorem mean_at (q : FVec Ideal S512x2048 .bf16) (w : FVec Ideal S2048x2048 .bf16) (h : FVec Ideal S512x2048 .f32) (g : FVec Ideal S1x2048 .f32) (r : Fin 512) (k : Fin 2048) :
    k0_pay8 (F := Ideal) q w h g (ix2 r k) = Ideal.div (∑ j : Fin 2048, BACK (M := 512) q w (ix2 r j) * g (ix2 0 j) * (h (ix2 r j) * rms (sqs h r))) wide := by
  have e : k0_pay8 (F := Ideal) q w h g (ix2 r k) = Ideal.div (∑ j : Fin 2048, k0_pay7 (F := Ideal) q w g (ix2 r j) * k0_pay4 (F := Ideal) h (ix2 r j)) wide := by
    pointwise [k0_pay8]; rfl
  rw [e]; simp only [gain_at, xhat_at]

theorem dnorm_at (q : FVec Ideal S512x2048 .bf16) (w : FVec Ideal S2048x2048 .bf16) (h : FVec Ideal S512x2048 .f32) (g : FVec Ideal S1x2048 .f32)
    (u : FVec Ideal S512x2048 .f32) (r : Fin 512) (k : Fin 2048) :
    k0_pay1 (F := Ideal) (k0_pay3 (F := Ideal) h) (k0_pay4 (F := Ideal) h) u (k0_pay7 (F := Ideal) q w g) (k0_pay8 (F := Ideal) q w h g) (ix2 r k)
      = u (ix2 r k) + dnorm (row h r) (gained (BACK (M := 512) q w) g r) k := by
  have e : ∀ (s : FVec Ideal S512x1 .f32) (x v e : FVec Ideal S512x2048 .f32), k0_pay1 (F := Ideal) s x u v e (ix2 r k)
      = u (ix2 r k) + s (ix2 r 0) * (v (ix2 r k) - x (ix2 r k) * e (ix2 r k)) := by
    intro s x v e; pointwise [k0_pay1]
  rw [e, scale_at, xhat_at, gain_at, mean_at]; rfl

theorem zero_at (k : Fin 2048) : k0_pay5 (F := Ideal) (ix2 0 k) = 0 := by
  pointwise [k0_pay5]

theorem add_at (q : FVec Ideal S512x2048 .bf16) (w : FVec Ideal S2048x2048 .bf16) (h : FVec Ideal S512x2048 .f32) (s : FVec Ideal S1x2048 .f32) (k : Fin 2048) :
    k0_pay6 (F := Ideal) q w h s (ix2 0 k) = s (ix2 0 k) + ∑ r : Fin 512, dgTerm h (BACK (M := 512) q w) k r := by
  have e : k0_pay6 (F := Ideal) q w h s (ix2 0 k) = s (ix2 0 k) + ∑ r : Fin 512, k0_pay2 (F := Ideal) q w (ix2 r k) * k0_pay4 (F := Ideal) h (ix2 r k) := by
    pointwise [k0_pay6]
  rw [e]; simp only [xhat_at, back_at]; rfl

theorem idx_at : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0])

theorem points (t : Fin cfg0.N) : t.val < 16 := lt_of_lt_of_eq t.isLt N_0

/-- The array row of a block's row. -/
def arow (t : Fin cfg0.N) (r : Fin 512) : Fin 8192 := ⟨t.val * 512 + r.val, by have := points t; omega⟩

theorem blk_q (c : Dev nD) (t : Fin cfg0.N) (r : Fin 512) (k : Fin 2048) :
    (show FVec Ideal S512x2048 .bf16 from iblk m c 0 t) (ix2 r k) = Qa m c (ix2 (arow t r) k) := by
  blk_point [iblk, V_main_arg0, idx_at t, arow]
theorem blk_w (c : Dev nD) (t : Fin cfg0.N) (r k : Fin 2048) :
    (show FVec Ideal S2048x2048 .bf16 from iblk m c 1 t) (ix2 r k) = Wa m c (ix2 r k) := by
  blk_point [iblk, V_main_arg1, idx_at t]
theorem blk_h (c : Dev nD) (t : Fin cfg0.N) (r : Fin 512) (k : Fin 2048) :
    (show FVec Ideal S512x2048 .f32 from iblk m c 2 t) (ix2 r k) = Ha m c (ix2 (arow t r) k) := by
  blk_point [iblk, V_main_arg2, idx_at t, arow]
theorem blk_g (c : Dev nD) (t : Fin cfg0.N) (k : Fin 2048) :
    (show FVec Ideal S1x2048 .f32 from iblk m c 3 t) (ix2 0 k) = Ga m c (ix2 0 k) := by
  blk_point [iblk, V_main_arg3, idx_at t]
theorem blk_r (c : Dev nD) (t : Fin cfg0.N) (r : Fin 512) (k : Fin 2048) :
    (show FVec Ideal S512x2048 .f32 from iblk m c 4 t) (ix2 r k) = Ra m c (ix2 (arow t r) k) := by
  blk_point [iblk, V_main_arg4, idx_at t, arow]

/-- The block's product. -/
abbrev db (c : Dev nD) (t : Fin cfg0.N) : FVec Ideal S512x2048 .f32 :=
  BACK (M := 512) (show FVec Ideal S512x2048 .bf16 from iblk m c 0 t) (show FVec Ideal S2048x2048 .bf16 from iblk m c 1 t)
theorem blk_d (c : Dev nD) (t : Fin cfg0.N) (r : Fin 512) (k : Fin 2048) : db m c t (ix2 r k) = Da m c (ix2 (arow t r) k) :=
  Finset.sum_congr rfl fun j _ => congrArg₂ (· * ·) (blk_q m c t r j) (blk_w m c t k j)
theorem sqs_blk (c : Dev nD) (t : Fin cfg0.N) (r : Fin 512) :
    sqs (show FVec Ideal S512x2048 .f32 from iblk m c 2 t) r = sqs (Ha m c) (arow t r) :=
  Finset.sum_congr rfl fun j _ => congrArg₂ (· * ·) (blk_h m c t r j) (blk_h m c t r j)
theorem term_blk (c : Dev nD) (t : Fin cfg0.N) (k : Fin 2048) (r : Fin 512) :
    dgTerm (show FVec Ideal S512x2048 .f32 from iblk m c 2 t) (db m c t) k r = dgTerm (Ha m c) (Da m c) k (arow t r) :=
  congrArg₂ (· * ·) (blk_d m c t r k) (congrArg₂ (fun x s => x * rms s) (blk_h m c t r k) (sqs_blk m c t r))
theorem dnorm_blk (c : Dev nD) (t : Fin cfg0.N) (r : Fin 512) (k : Fin 2048) :
    dnorm (row (show FVec Ideal S512x2048 .f32 from iblk m c 2 t) r) (gained (db m c t) (show FVec Ideal S1x2048 .f32 from iblk m c 3 t) r) k
      = dnorm (row (Ha m c) (arow t r)) (gained (Da m c) (Ga m c) (arow t r)) k :=
  congrArg₂ (fun x t => dnorm x t k) (funext fun j => blk_h m c t r j)
    (funext fun j => congrArg₂ (· * ·) (blk_d m c t r j) (blk_g m c t j))

/-- The input gradient's array. -/
def DH (H : FVec Ideal S8192x2048 .f32) (G : FVec Ideal S1x2048 .f32) (D : FVec Ideal S8192x2048 .f32) (R : FVec Ideal S8192x2048 .f32) :
    FVec Ideal S8192x2048 .f32 := fun i => R i + DNORM H G D i

theorem dh_at (c : Dev nD) (t : Fin cfg0.N) (r : Fin 512) (k : Fin 2048) :
    (show FVec Ideal S512x2048 .f32 from (outsAt0 m c t.val t.isLt).1) (ix2 r k) = DH (Ha m c) (Ga m c) (Da m c) (Ra m c) (ix2 (arow t r) k) := by
  by_cases h : t.val % 16 = 0
  · rw [outsAt0_A m c t h]
    frame_out
    exact (dnorm_at _ _ _ _ _ r k).trans (congrArg₂ (· + ·) (blk_r m c t r k) (dnorm_blk m c t r k))
  · rw [outsAt0_B m c t h]
    frame_out
    exact (dnorm_at _ _ _ _ _ r k).trans (congrArg₂ (· + ·) (blk_r m c t r k) (dnorm_blk m c t r k))

theorem point5 (c : Dev nD) (t : Fin cfg0.N) (y : S512x2048.Idx) (i : S8192x2048.Idx)
    (hi0 : (i 0 : ℕ) = t.val * 512 + y 0) (hi1 : (i 1 : ℕ) = y 1) :
    (show FVec Ideal S512x2048 .f32 from (outsAt0 m c t.val t.isLt).1) y = DH (Ha m c) (Ga m c) (Da m c) (Ra m c) i := by
  obtain ⟨r, k, rfl⟩ : ∃ (r : Fin 512) (k : Fin 2048), y = ix2 r k :=
    ⟨y 0, y 1, by funext a; match a with | ⟨0, _⟩ => rfl | ⟨1, _⟩ => rfl⟩
  have ei : i = ix2 (arow t r) k := by
    funext a; apply Fin.ext
    match a with | ⟨0, _⟩ => exact hi0 | ⟨1, _⟩ => exact hi1
  rw [ei]; exact dh_at m c t r k

/-- The input gradient after the whole grid. -/
theorem final5 (c : Dev nD) : (dats m 0 c).arrAt 5 (cfgs 0).N = DH (Ha m c) (Ga m c) (Da m c) (Ra m c) := by
  refine (dats m 0 c).arrAt_eq_of_covers 5 _ (by decide +kernel) fun t hf y => ?_
  blk_simp
  rw [after0_5]
  refine point5 m c t y _ ?_ ?_ <;> blk_simp [idx_at t]

/-- One block's part of the gain's gradient. -/
def part (H : FVec Ideal S8192x2048 .f32) (D : FVec Ideal S8192x2048 .f32) (k : Fin 2048) (s : Fin 16) : EReal :=
  ∑ r : Fin 512, dgTerm H D k ⟨s.val * 512 + r.val, by omega⟩

theorem parts (H : FVec Ideal S8192x2048 .f32) (D : FVec Ideal S8192x2048 .f32) (k : Fin 2048) :
    ∑ s : Fin 16, part H D k s = ∑ r : Fin 8192, dgTerm H D k r :=
  Fin.sum_mul_add_fin 16 512 fun r => dgTerm H D k r

def pt (t : Fin cfg0.N) : Fin 16 := ⟨t.val, points t⟩

/-- The running sum starts from zero at the first block, -/
theorem sum_first (c : Dev nD) (t : Fin cfg0.N) (h : t.val % 16 = 0) (k : Fin 2048) :
    (show FVec Ideal S1x2048 .f32 from (outsAt0 m c t.val t.isLt).2) (ix2 0 k) = part (Ha m c) (Da m c) k (pt t) := by
  rw [outsAt0_A m c t h]
  frame_out
  refine (add_at _ _ _ _ k).trans ?_
  refine (congrArg₂ (· + ·) (zero_at k) (Finset.sum_congr rfl fun r _ => term_blk m c t k r)).trans (zero_add _)

/-- and takes one block more at each later one. -/
theorem sum_next (c : Dev nD) (t : Fin cfg0.N) (h : ¬t.val % 16 = 0) (k : Fin 2048) :
    (show FVec Ideal S1x2048 .f32 from (outsAt0 m c t.val t.isLt).2) (ix2 0 k)
      = (show FVec Ideal S1x2048 .f32 from (outsAt0 m c (t.val - 1) (Nat.lt_of_le_of_lt (Nat.sub_le _ _) t.isLt)).2) (ix2 0 k) + part (Ha m c) (Da m c) k (pt t) := by
  rw [outsAt0_B m c t h]
  frame_out
  refine (add_at _ _ _ _ k).trans ?_
  exact congrArg₂ (· + ·) rfl (Finset.sum_congr rfl fun r _ => term_blk m c t k r)

def before (t : Fin cfg0.N) : Fin cfg0.N := ⟨t.val - 1, Nat.lt_of_le_of_lt (Nat.sub_le _ _) t.isLt⟩
def nth (s : ℕ) : Fin 16 := ⟨s % 16, by omega⟩

/-- After block `j` the running sum holds the first `j + 1` blocks. -/
theorem sum_at (c : Dev nD) (k : Fin 2048) : ∀ (j : ℕ) (t : Fin cfg0.N), t.val = j →
    (show FVec Ideal S1x2048 .f32 from (outsAt0 m c t.val t.isLt).2) (ix2 0 k) = ∑ s ∈ Finset.range (j + 1), part (Ha m c) (Da m c) k (nth s)
  | 0, t, h => by
    rw [Finset.sum_range_one, sum_first m c t (by omega), show pt t = nth 0 from Fin.ext h]
  | j + 1, t, h => by
    have hp := points t
    have e : pt t = nth (j + 1) := Fin.ext (by show t.val = (j + 1) % 16; omega)
    have ih := sum_at c k j (before t) (by show t.val - 1 = j; omega)
    rw [Finset.sum_range_succ, ← e, ← ih]
    exact sum_next m c t (by omega) k

theorem point6 (c : Dev nD) (t : Fin cfg0.N) (h : t.val = 15) (y : S1x2048.Idx) (i : S1x2048.Idx)
    (hi1 : (i 1 : ℕ) = y 1) :
    (show FVec Ideal S1x2048 .f32 from (outsAt0 m c t.val t.isLt).2) y = DGAIN (Ha m c) (Da m c) i := by
  obtain ⟨k, rfl⟩ : ∃ k : Fin 2048, y = ix2 0 k :=
    ⟨y 1, by funext a; match a with | ⟨0, _⟩ => exact Fin.ext (Nat.lt_one_iff.mp (y 0).isLt) | ⟨1, _⟩ => rfl⟩
  have ei : i = ix2 0 k := by
    funext a; apply Fin.ext
    match a with | ⟨0, _⟩ => exact Nat.lt_one_iff.mp (i 0).isLt | ⟨1, _⟩ => exact hi1
  rw [ei]
  refine (sum_at m c k 15 t h).trans ?_
  rw [Finset.sum_range]
  refine (Finset.sum_congr rfl fun s _ => ?_).trans (parts (Ha m c) (Da m c) k)
  rw [show nth s.val = s from Fin.ext (Nat.mod_eq_of_lt s.isLt)]

/-- The gain's gradient after the whole grid. -/
theorem final6 (c : Dev nD) : (dats m 0 c).arrAt 6 (cfgs 0).N = DGAIN (Ha m c) (Da m c) := by
  refine (dats m 0 c).arrAt_eq_of_covers 6 _ (by decide +kernel) fun t hf y => ?_
  have hl := (flush0_6 t).mp hf
  have hp := points t
  blk_simp
  rw [after0_6]
  refine point6 m c t (by omega) y _ ?_ <;> blk_simp [idx_at t]

end Cert.Kernel24Ideal.Norm

namespace Cert.Reference24Ideal.Norm

open Cert.Reference24Ideal Cert.Reference24Ideal.Gen Cert.Reference24Ideal.Facts Idealize.ShloMosaic Idealize.ShloMosaic.TcCoe Idealize.SL.Sem
open Cert.NormMath
open Cert.Reference22Ideal.Norm (rgain rhat rdnorm rdgain rgain_at rhat_at rdnorm_at rdgain_at entry entry1)

theorem dgain_eq (h d : FVec Ideal S8192x2048 .f32) : rdgain h d = DGAIN h d := by
  funext i
  obtain ⟨k, rfl⟩ := entry1 i
  exact rdgain_at h d k

/-- The reference's product is the same sum. -/
theorem back_eq (q : FVec Ideal S8192x2048 .bf16) (w : FVec Ideal S2048x2048 .bf16) :
    Host.dotGeneral dot_S8192x2048_S2048x2048_S8192x2048_1_1_0_0_n_n none (extf .f32 q bitsLt_bf16_f32) (extf .f32 w bitsLt_bf16_f32)
      = Cert.Kernel24Ideal.Norm.BACK (M := 8192) q w := by
  funext i
  obtain ⟨r, k, rfl⟩ := entry i
  refine Eq.trans (b := ∑ j : Fin 2048, q (ix2 r j) * w (ix2 k j)) ?_ rfl
  pointwise

theorem dnorm_eq (h : FVec Ideal S8192x2048 .f32) (g : FVec Ideal S1x2048 .f32) (d s : FVec Ideal S8192x2048 .f32) :
    addf s (rdnorm h (mulf d (rgain g))) = Cert.Kernel24Ideal.Norm.DH h g d s := by
  funext i
  obtain ⟨r, k, rfl⟩ := entry i
  refine congrArg (s (ix2 r k) + ·) ((rdnorm_at _ _ r k).trans ?_)
  refine congrArg (dnorm (row h r) · k) (funext fun j => ?_)
  exact congrArg (d (ix2 r j) * ·) (rgain_at g r j)

end Cert.Reference24Ideal.Norm

namespace Cert.Norms
open Idealize.ShloMosaic Idealize.SL.Sem

theorem frame24 : Cert.quiescent_Reference24Ideal := by
  intro m g _
  run_from Cert.Reference24Ideal.Value.run m g
  · exact fun _ => ⟨trivial, trivial, trivial, trivial, trivial⟩
  · exact sem_eq_zero_of_no_sems (by decide) _

set_option maxRecDepth 65536 in
set_option maxHeartbeats 4000000 in
/-- The kernel and the reference end with the same two arrays. -/
theorem value24 : Cert.algebraic_Kernel24Ideal_Reference24Ideal := by
  intro m g m' g' hpre hagree
  refine ⟨fun c => Cert.Kernel24Ideal.Norm.DH (Cert.Kernel24Ideal.Norm.Ha m c) (Cert.Kernel24Ideal.Norm.Ga m c) (Cert.Kernel24Ideal.Norm.Da m c) (Cert.Kernel24Ideal.Norm.Ra m c),
    fun c => Cert.NormMath.DGAIN (Cert.Kernel24Ideal.Norm.Ha m c) (Cert.Kernel24Ideal.Norm.Da m c), ?_, ?_⟩
  · run_from Cert.Kernel24Ideal.Gen.run_main m g
    · exact Cert.Kernel24Ideal.Norm.final5 m c
    · exact Cert.Kernel24Ideal.Norm.final6 m c
  · refine θ_run_mono (Cert.Reference24Ideal.Value.run m' g') ?_
    intro r h c
    obtain ⟨h1, h2, h3, h4, h5, h6, h7⟩ := h c
    obtain ⟨a0, a1, a2, a3, a4⟩ := hagree c
    refine ⟨h1.trans ((Cert.Reference24Ideal.Norm.dnorm_eq _ _ _ _).trans ?_), h2.trans ((Cert.Reference24Ideal.Norm.dgain_eq _ _).trans ?_), h3, h4, h5, h6, h7⟩
    · rw [Cert.Reference24Ideal.Norm.back_eq, a0, a1, a2, a3, a4]
    · rw [Cert.Reference24Ideal.Norm.back_eq, a0, a1, a2]

end Cert.Norms

end
-- ==== Proof.Norm25.lean ====
/- Call 25: the last norm and the loss: the loss, its gradient through the norm and the norm's gain gradient, read over the reals. -/
module

public import proofs.«01_k».proof.Proof.Gen.Kernel25Ideal.Value
public import proofs.«01_k».proof.Proof.Gen.Reference25Ideal.Run
public import proofs.«01_k».proof.Proof.Norm22

@[expose] public section

set_option maxRecDepth 16384

noncomputable section

namespace Cert.Kernel25Ideal.Norm

open Cert.Kernel25Ideal Cert.Kernel25Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Ha (c : Dev nD) : FVec Ideal S8192x2048 .f32 := m ((c : Thread nD τ).loc main_arg0)
abbrev Ga (c : Dev nD) : FVec Ideal S1x2048 .f32 := m ((c : Thread nD τ).loc main_arg1)
abbrev Za (c : Dev nD) : FVec Ideal S8192x2048 .f32 := m ((c : Thread nD τ).loc main_arg2)

/-- What a normed row misses its target by; the cotangent that leaves; and one row's mean squared miss. -/
def MISS {M : ℕ} (H : FVec Ideal (rows M) .f32) (G : FVec Ideal gain .f32) (Z : FVec Ideal (rows M) .f32) : FVec Ideal (rows M) .f32 :=
  fun i => H (ix2 (i 0) (i 1)) * rms (sqs H (i 0)) * G (ix2 0 (i 1)) - Z (ix2 (i 0) (i 1))
def DY {M : ℕ} (H : FVec Ideal (rows M) .f32) (G : FVec Ideal gain .f32) (Z : FVec Ideal (rows M) .f32) : FVec Ideal (rows M) .f32 :=
  fun i => MISS H G Z i * Ideal.ofBits .f32 0x3A000000#32
def half : EReal := Ideal.ofBits .f32 0x3F000000#32
def rowLoss {M : ℕ} (H : FVec Ideal (rows M) .f32) (G : FVec Ideal gain .f32) (Z : FVec Ideal (rows M) .f32) (r : Fin M) : EReal :=
  Ideal.div (∑ j : Fin 2048, MISS H G Z (ix2 r j) * MISS H G Z (ix2 r j)) wide
/-- The cotangent on the whole array, and the loss. -/
abbrev Da (c : Dev nD) : FVec Ideal S8192x2048 .f32 := DY (Ha m c) (Ga m c) (Za m c)
def LOSS (H : FVec Ideal S8192x2048 .f32) (G : FVec Ideal S1x2048 .f32) (Z : FVec Ideal S8192x2048 .f32) : FVec Ideal S1x128 .f32 :=
  fun _ => half * ∑ r : Fin 8192, rowLoss (M := 8192) H G Z r

theorem scale_at (h : FVec Ideal S256x2048 .f32) (r : Fin 256) : k0_pay3 (F := Ideal) h (ix2 r 0) = rms (sqs h r) := by
  pointwise [k0_pay3]; rfl

theorem xhat_at (h : FVec Ideal S256x2048 .f32) (r : Fin 256) (k : Fin 2048) :
    k0_pay4 (F := Ideal) h (ix2 r k) = h (ix2 r k) * rms (sqs h r) := by
  rw [← scale_at]; pointwise [k0_pay4]

theorem miss_at (h : FVec Ideal S256x2048 .f32) (g : FVec Ideal S1x2048 .f32) (z : FVec Ideal S256x2048 .f32) (r : Fin 256) (k : Fin 2048) :
    k0_pay5 (F := Ideal) h g z (ix2 r k) = MISS (M := 256) h g z (ix2 r k) := by
  have e : k0_pay5 (F := Ideal) h g z (ix2 r k) = k0_pay4 (F := Ideal) h (ix2 r k) * g (ix2 0 k) - z (ix2 r k) := by
    pointwise [k0_pay5]
  rw [e, xhat_at]; rfl

theorem dy_at (h : FVec Ideal S256x2048 .f32) (g : FVec Ideal S1x2048 .f32) (z : FVec Ideal S256x2048 .f32) (r : Fin 256) (k : Fin 2048) :
    k0_pay9 (F := Ideal) h g z (ix2 r k) = DY (M := 256) h g z (ix2 r k) := by
  have e : k0_pay9 (F := Ideal) h g z (ix2 r k) = k0_pay5 (F := Ideal) h g z (ix2 r k) * Ideal.ofBits .f32 0x3A000000#32 := by
    pointwise [k0_pay9]
  rw [e, miss_at]; rfl

theorem dnorm_at (h : FVec Ideal S256x2048 .f32) (g : FVec Ideal S1x2048 .f32) (z : FVec Ideal S256x2048 .f32) (r : Fin 256) (k : Fin 2048) :
    k0_pay2 (F := Ideal) (k0_pay3 (F := Ideal) h) (k0_pay4 (F := Ideal) h) g (k0_pay9 (F := Ideal) h g z) (ix2 r k)
      = dnorm (row h r) (gained (DY (M := 256) h g z) g r) k := by
  have e : ∀ (s : FVec Ideal S256x1 .f32) (x v : FVec Ideal S256x2048 .f32), k0_pay2 (F := Ideal) s x g v (ix2 r k)
      = s (ix2 r 0) * (v (ix2 r k) * g (ix2 0 k) - x (ix2 r k) * Ideal.div (∑ j : Fin 2048, v (ix2 r j) * g (ix2 0 j) * x (ix2 r j)) wide) := by
    intro s x v; pointwise [k0_pay2]; rfl
  rw [e]; simp only [scale_at, xhat_at, dy_at]; rfl

theorem zero_at (k : Fin 2048) : k0_pay6 (F := Ideal) (ix2 0 k) = 0 := by
  pointwise [k0_pay6]
theorem lzero_at (k : Fin 128) : k0_pay7 (F := Ideal) (ix2 0 k) = 0 := by
  pointwise [k0_pay7]

theorem add_at (h : FVec Ideal S256x2048 .f32) (g : FVec Ideal S1x2048 .f32) (z : FVec Ideal S256x2048 .f32) (s : FVec Ideal S1x2048 .f32) (k : Fin 2048) :
    k0_pay1 (F := Ideal) (k0_pay4 (F := Ideal) h) (k0_pay9 (F := Ideal) h g z) s (ix2 0 k)
      = s (ix2 0 k) + ∑ r : Fin 256, dgTerm h (DY (M := 256) h g z) k r := by
  have e : ∀ x v : FVec Ideal S256x2048 .f32, k0_pay1 (F := Ideal) x v s (ix2 0 k) = s (ix2 0 k) + ∑ r : Fin 256, v (ix2 r k) * x (ix2 r k) := by
    intro x v; pointwise [k0_pay1]
  rw [e]; simp only [xhat_at, dy_at]; rfl

theorem ladd_at (h : FVec Ideal S256x2048 .f32) (g : FVec Ideal S1x2048 .f32) (z : FVec Ideal S256x2048 .f32) (s : FVec Ideal S1x128 .f32) (k : Fin 128) :
    k0_pay8 (F := Ideal) h g z s (ix2 0 k) = s (ix2 0 k) + half * ∑ r : Fin 256, rowLoss (M := 256) h g z r := by
  have e : k0_pay8 (F := Ideal) h g z s (ix2 0 k) = s (ix2 0 k) + half * ∑ r : Fin 256,
      Ideal.div (∑ j : Fin 2048, k0_pay5 (F := Ideal) h g z (ix2 r j) * k0_pay5 (F := Ideal) h g z (ix2 r j)) wide := by
    pointwise [k0_pay8]; rfl
  rw [e]; simp only [miss_at]; rfl

theorem idx_at : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0])

theorem points (t : Fin cfg0.N) : t.val < 32 := lt_of_lt_of_eq t.isLt N_0

/-- The array row of a block's row. -/
def arow (t : Fin cfg0.N) (r : Fin 256) : Fin 8192 := ⟨t.val * 256 + r.val, by have := points t; omega⟩

theorem blk_h (c : Dev nD) (t : Fin cfg0.N) (r : Fin 256) (k : Fin 2048) :
    (show FVec Ideal S256x2048 .f32 from iblk m c 0 t) (ix2 r k) = Ha m c (ix2 (arow t r) k) := by
  blk_point [iblk, V_main_arg0, idx_at t, arow]
theorem blk_g (c : Dev nD) (t : Fin cfg0.N) (k : Fin 2048) :
    (show FVec Ideal S1x2048 .f32 from iblk m c 1 t) (ix2 0 k) = Ga m c (ix2 0 k) := by
  blk_point [iblk, V_main_arg1, idx_at t]
theorem blk_z (c : Dev nD) (t : Fin cfg0.N) (r : Fin 256) (k : Fin 2048) :
    (show FVec Ideal S256x2048 .f32 from iblk m c 2 t) (ix2 r k) = Za m c (ix2 (arow t r) k) := by
  blk_point [iblk, V_main_arg2, idx_at t, arow]

/-- The block's inputs. -/
abbrev hb (c : Dev nD) (t : Fin cfg0.N) : FVec Ideal S256x2048 .f32 := iblk m c 0 t
abbrev gb (c : Dev nD) (t : Fin cfg0.N) : FVec Ideal S1x2048 .f32 := iblk m c 1 t
abbrev zb (c : Dev nD) (t : Fin cfg0.N) : FVec Ideal S256x2048 .f32 := iblk m c 2 t

theorem sqs_blk (c : Dev nD) (t : Fin cfg0.N) (r : Fin 256) : sqs (hb m c t) r = sqs (Ha m c) (arow t r) :=
  Finset.sum_congr rfl fun j _ => congrArg₂ (· * ·) (blk_h m c t r j) (blk_h m c t r j)
theorem miss_blk (c : Dev nD) (t : Fin cfg0.N) (r : Fin 256) (k : Fin 2048) :
    MISS (M := 256) (hb m c t) (gb m c t) (zb m c t) (ix2 r k) = MISS (M := 8192) (Ha m c) (Ga m c) (Za m c) (ix2 (arow t r) k) :=
  congrArg₂ (· - ·) (congrArg₂ (· * ·) (congrArg₂ (fun x s => x * rms s) (blk_h m c t r k) (sqs_blk m c t r)) (blk_g m c t k)) (blk_z m c t r k)
/-- The block's cotangent. -/
abbrev db (c : Dev nD) (t : Fin cfg0.N) : FVec Ideal S256x2048 .f32 := DY (M := 256) (hb m c t) (gb m c t) (zb m c t)
theorem blk_d (c : Dev nD) (t : Fin cfg0.N) (r : Fin 256) (k : Fin 2048) : db m c t (ix2 r k) = Da m c (ix2 (arow t r) k) :=
  congrArg (· * Ideal.ofBits .f32 0x3A000000#32) (miss_blk m c t r k)
theorem loss_blk (c : Dev nD) (t : Fin cfg0.N) (r : Fin 256) :
    rowLoss (M := 256) (hb m c t) (gb m c t) (zb m c t) r = rowLoss (M := 8192) (Ha m c) (Ga m c) (Za m c) (arow t r) :=
  congrArg (Ideal.div · wide) (Finset.sum_congr rfl fun j _ => congrArg₂ (· * ·) (miss_blk m c t r j) (miss_blk m c t r j))
theorem term_blk (c : Dev nD) (t : Fin cfg0.N) (k : Fin 2048) (r : Fin 256) :
    dgTerm (hb m c t) (db m c t) k r = dgTerm (Ha m c) (Da m c) k (arow t r) :=
  congrArg₂ (· * ·) (blk_d m c t r k) (congrArg₂ (fun x s => x * rms s) (blk_h m c t r k) (sqs_blk m c t r))
theorem dnorm_blk (c : Dev nD) (t : Fin cfg0.N) (r : Fin 256) (k : Fin 2048) :
    dnorm (row (hb m c t) r) (gained (db m c t) (gb m c t) r) k = dnorm (row (Ha m c) (arow t r)) (gained (Da m c) (Ga m c) (arow t r)) k :=
  congrArg₂ (fun x t => dnorm x t k) (funext fun j => blk_h m c t r j)
    (funext fun j => congrArg₂ (· * ·) (blk_d m c t r j) (blk_g m c t j))

theorem dh_at (c : Dev nD) (t : Fin cfg0.N) (r : Fin 256) (k : Fin 2048) :
    (show FVec Ideal S256x2048 .f32 from (outsAt0 m c t.val t.isLt).1) (ix2 r k) = DNORM (Ha m c) (Ga m c) (Da m c) (ix2 (arow t r) k) := by
  by_cases h : t.val % 32 = 0
  · rw [outsAt0_A m c t h]
    frame_out
    exact (dnorm_at _ _ _ r k).trans (dnorm_blk m c t r k)
  · rw [outsAt0_B m c t h]
    frame_out
    exact (dnorm_at _ _ _ r k).trans (dnorm_blk m c t r k)

theorem point3 (c : Dev nD) (t : Fin cfg0.N) (y : S256x2048.Idx) (i : S8192x2048.Idx)
    (hi0 : (i 0 : ℕ) = t.val * 256 + y 0) (hi1 : (i 1 : ℕ) = y 1) :
    (show FVec Ideal S256x2048 .f32 from (outsAt0 m c t.val t.isLt).1) y = DNORM (Ha m c) (Ga m c) (Da m c) i := by
  obtain ⟨r, k, rfl⟩ : ∃ (r : Fin 256) (k : Fin 2048), y = ix2 r k :=
    ⟨y 0, y 1, by funext a; match a with | ⟨0, _⟩ => rfl | ⟨1, _⟩ => rfl⟩
  have ei : i = ix2 (arow t r) k := by
    funext a; apply Fin.ext
    match a with | ⟨0, _⟩ => exact hi0 | ⟨1, _⟩ => exact hi1
  rw [ei]; exact dh_at m c t r k

/-- The input gradient after the whole grid. -/
theorem final3 (c : Dev nD) : (dats m 0 c).arrAt 3 (cfgs 0).N = DNORM (Ha m c) (Ga m c) (Da m c) := by
  refine (dats m 0 c).arrAt_eq_of_covers 3 _ (by decide +kernel) fun t hf y => ?_
  blk_simp
  rw [after0_3]
  refine point3 m c t y _ ?_ ?_ <;> blk_simp [idx_at t]

/-- One block's part of the gain's gradient. -/
def part (H : FVec Ideal S8192x2048 .f32) (D : FVec Ideal S8192x2048 .f32) (k : Fin 2048) (s : Fin 32) : EReal :=
  ∑ r : Fin 256, dgTerm H D k ⟨s.val * 256 + r.val, by omega⟩

theorem parts (H : FVec Ideal S8192x2048 .f32) (D : FVec Ideal S8192x2048 .f32) (k : Fin 2048) :
    ∑ s : Fin 32, part H D k s = ∑ r : Fin 8192, dgTerm H D k r :=
  Fin.sum_mul_add_fin 32 256 fun r => dgTerm H D k r

def pt (t : Fin cfg0.N) : Fin 32 := ⟨t.val, points t⟩

/-- The running sum starts from zero at the first block, -/
theorem sum_first (c : Dev nD) (t : Fin cfg0.N) (h : t.val % 32 = 0) (k : Fin 2048) :
    (show FVec Ideal S1x2048 .f32 from (outsAt0 m c t.val t.isLt).2.1) (ix2 0 k) = part (Ha m c) (Da m c) k (pt t) := by
  rw [outsAt0_A m c t h]
  frame_out
  refine (add_at _ _ _ _ k).trans ?_
  refine (congrArg₂ (· + ·) (zero_at k) (Finset.sum_congr rfl fun r _ => term_blk m c t k r)).trans (zero_add _)

/-- and takes one block more at each later one. -/
theorem sum_next (c : Dev nD) (t : Fin cfg0.N) (h : ¬t.val % 32 = 0) (k : Fin 2048) :
    (show FVec Ideal S1x2048 .f32 from (outsAt0 m c t.val t.isLt).2.1) (ix2 0 k)
      = (show FVec Ideal S1x2048 .f32 from (outsAt0 m c (t.val - 1) (Nat.lt_of_le_of_lt (Nat.sub_le _ _) t.isLt)).2.1) (ix2 0 k) + part (Ha m c) (Da m c) k (pt t) := by
  rw [outsAt0_B m c t h]
  frame_out
  refine (add_at _ _ _ _ k).trans ?_
  exact congrArg₂ (· + ·) rfl (Finset.sum_congr rfl fun r _ => term_blk m c t k r)

def before (t : Fin cfg0.N) : Fin cfg0.N := ⟨t.val - 1, Nat.lt_of_le_of_lt (Nat.sub_le _ _) t.isLt⟩
def nth (s : ℕ) : Fin 32 := ⟨s % 32, by omega⟩

/-- After block `j` the running sum holds the first `j + 1` blocks. -/
theorem sum_at (c : Dev nD) (k : Fin 2048) : ∀ (j : ℕ) (t : Fin cfg0.N), t.val = j →
    (show FVec Ideal S1x2048 .f32 from (outsAt0 m c t.val t.isLt).2.1) (ix2 0 k) = ∑ s ∈ Finset.range (j + 1), part (Ha m c) (Da m c) k (nth s)
  | 0, t, h => by
    rw [Finset.sum_range_one, sum_first m c t (by omega), show pt t = nth 0 from Fin.ext h]
  | j + 1, t, h => by
    have hp := points t
    have e : pt t = nth (j + 1) := Fin.ext (by show t.val = (j + 1) % 32; omega)
    have ih := sum_at c k j (before t) (by show t.val - 1 = j; omega)
    rw [Finset.sum_range_succ, ← e, ← ih]
    exact sum_next m c t (by omega) k

theorem point4 (c : Dev nD) (t : Fin cfg0.N) (h : t.val = 31) (y : S1x2048.Idx) (i : S1x2048.Idx)
    (hi1 : (i 1 : ℕ) = y 1) :
    (show FVec Ideal S1x2048 .f32 from (outsAt0 m c t.val t.isLt).2.1) y = DGAIN (Ha m c) (Da m c) i := by
  obtain ⟨k, rfl⟩ : ∃ k : Fin 2048, y = ix2 0 k :=
    ⟨y 1, by funext a; match a with | ⟨0, _⟩ => exact Fin.ext (Nat.lt_one_iff.mp (y 0).isLt) | ⟨1, _⟩ => rfl⟩
  have ei : i = ix2 0 k := by
    funext a; apply Fin.ext
    match a with | ⟨0, _⟩ => exact Nat.lt_one_iff.mp (i 0).isLt | ⟨1, _⟩ => exact hi1
  rw [ei]
  refine (sum_at m c k 31 t h).trans ?_
  rw [Finset.sum_range]
  refine (Finset.sum_congr rfl fun s _ => ?_).trans (parts (Ha m c) (Da m c) k)
  rw [show nth s.val = s from Fin.ext (Nat.mod_eq_of_lt s.isLt)]

/-- The gain's gradient after the whole grid. -/
theorem final4 (c : Dev nD) : (dats m 0 c).arrAt 4 (cfgs 0).N = DGAIN (Ha m c) (Da m c) := by
  refine (dats m 0 c).arrAt_eq_of_covers 4 _ (by decide +kernel) fun t hf y => ?_
  have hl := (flush0_4 t).mp hf
  have hp := points t
  blk_simp
  rw [after0_4]
  refine point4 m c t (by omega) y _ ?_ <;> blk_simp [idx_at t]

/-- One block's part of the loss. -/
def lpart (H : FVec Ideal S8192x2048 .f32) (G : FVec Ideal S1x2048 .f32) (Z : FVec Ideal S8192x2048 .f32) (s : Fin 32) : EReal :=
  half * ∑ r : Fin 256, rowLoss (M := 8192) H G Z ⟨s.val * 256 + r.val, by omega⟩

theorem half_eq : half = ((1 / 2 : ℝ) : EReal) := by
  simp [half, Ideal.ofBits, Ideal.ieee, -EReal.coe_mul]; norm_num

theorem lparts (H : FVec Ideal S8192x2048 .f32) (G : FVec Ideal S1x2048 .f32) (Z : FVec Ideal S8192x2048 .f32) :
    ∑ s : Fin 32, lpart H G Z s = half * ∑ r : Fin 8192, rowLoss (M := 8192) H G Z r := by
  rw [← Fin.sum_mul_add_fin 32 256 fun r => rowLoss (M := 8192) H G Z r, half_eq, pos_mul_sum (by norm_num)]
  exact Finset.sum_congr rfl fun s _ => by rw [lpart, half_eq]

/-- The running loss starts from zero at the first block, -/
theorem loss_first (c : Dev nD) (t : Fin cfg0.N) (h : t.val % 32 = 0) (k : Fin 128) :
    (show FVec Ideal S1x128 .f32 from (outsAt0 m c t.val t.isLt).2.2) (ix2 0 k) = lpart (Ha m c) (Ga m c) (Za m c) (pt t) := by
  rw [outsAt0_A m c t h]
  frame_out
  refine (ladd_at _ _ _ _ k).trans ?_
  refine (congrArg₂ (· + ·) (lzero_at k) (congrArg (half * ·) (Finset.sum_congr rfl fun r _ => loss_blk m c t r))).trans (zero_add _)

/-- and takes one block more at each later one. -/
theorem loss_next (c : Dev nD) (t : Fin cfg0.N) (h : ¬t.val % 32 = 0) (k : Fin 128) :
    (show FVec Ideal S1x128 .f32 from (outsAt0 m c t.val t.isLt).2.2) (ix2 0 k)
      = (show FVec Ideal S1x128 .f32 from (outsAt0 m c (t.val - 1) (Nat.lt_of_le_of_lt (Nat.sub_le _ _) t.isLt)).2.2) (ix2 0 k) + lpart (Ha m c) (Ga m c) (Za m c) (pt t) := by
  rw [outsAt0_B m c t h]
  frame_out
  refine (ladd_at _ _ _ _ k).trans ?_
  exact congrArg₂ (· + ·) rfl (congrArg (half * ·) (Finset.sum_congr rfl fun r _ => loss_blk m c t r))

/-- After block `j` the running loss holds the first `j + 1` blocks. -/
theorem loss_at (c : Dev nD) (k : Fin 128) : ∀ (j : ℕ) (t : Fin cfg0.N), t.val = j →
    (show FVec Ideal S1x128 .f32 from (outsAt0 m c t.val t.isLt).2.2) (ix2 0 k) = ∑ s ∈ Finset.range (j + 1), lpart (Ha m c) (Ga m c) (Za m c) (nth s)
  | 0, t, h => by
    rw [Finset.sum_range_one, loss_first m c t (by omega), show pt t = nth 0 from Fin.ext h]
  | j + 1, t, h => by
    have hp := points t
    have e : pt t = nth (j + 1) := Fin.ext (by show t.val = (j + 1) % 32; omega)
    have ih := loss_at c k j (before t) (by show t.val - 1 = j; omega)
    rw [Finset.sum_range_succ, ← e, ← ih]
    exact loss_next m c t (by omega) k

theorem point5 (c : Dev nD) (t : Fin cfg0.N) (h : t.val = 31) (y : S1x128.Idx) (i : S1x128.Idx) :
    (show FVec Ideal S1x128 .f32 from (outsAt0 m c t.val t.isLt).2.2) y = LOSS (Ha m c) (Ga m c) (Za m c) i := by
  obtain ⟨k, rfl⟩ : ∃ k : Fin 128, y = ix2 0 k :=
    ⟨y 1, by funext a; match a with | ⟨0, _⟩ => exact Fin.ext (Nat.lt_one_iff.mp (y 0).isLt) | ⟨1, _⟩ => rfl⟩
  refine (loss_at m c k 31 t h).trans ?_
  rw [Finset.sum_range]
  refine (Finset.sum_congr rfl fun s _ => ?_).trans (lparts (Ha m c) (Ga m c) (Za m c))
  rw [show nth s.val = s from Fin.ext (Nat.mod_eq_of_lt s.isLt)]

/-- The loss after the whole grid, on every lane. -/
theorem final5 (c : Dev nD) : (dats m 0 c).arrAt 5 (cfgs 0).N = LOSS (Ha m c) (Ga m c) (Za m c) := by
  refine (dats m 0 c).arrAt_eq_of_covers 5 _ (by decide +kernel) fun t hf y => ?_
  have hl := (flush0_5 t).mp hf
  have hp := points t
  blk_simp
  rw [after0_5]
  exact point5 m c t (by omega) y _

end Cert.Kernel25Ideal.Norm

namespace Cert.Reference25Ideal.Norm

open Cert.Reference25Ideal Cert.Reference25Ideal.Gen Cert.Reference25Ideal.Facts Idealize.ShloMosaic Idealize.ShloMosaic.TcCoe Idealize.SL.Sem
open Cert.NormMath
open Cert.Reference22Ideal.Norm (rgain rhat rdnorm rdgain rgain_at rhat_at rdnorm_at rdgain_at entry entry1)

theorem dgain_eq (h d : FVec Ideal S8192x2048 .f32) : rdgain h d = DGAIN h d := by
  funext i
  obtain ⟨k, rfl⟩ := entry1 i
  exact rdgain_at h d k

/-- The miss, the squared miss's sum over all rows, and the cotangent as differentiation writes it. -/
def rmiss (h : FVec Ideal S8192x2048 .f32) (g : FVec Ideal S1x2048 .f32) (z : FVec Ideal S8192x2048 .f32) : FVec Ideal S8192x2048 .f32 :=
  subf (mulf (rhat h) (rgain g)) z
def rloss (e : FVec Ideal S8192x2048 .f32) : FVec Ideal S1x128 .f32 :=
  broadcastInDim S1x128 ![] bcast_S_S1x128 (mulf (constant S_ .f32 0x3F000000#32) (Host.reduceAdd (Host.divf
    (Host.reduceAdd (mulf e e) (constant S_ .f32 0x00000000#32) reducesTo_S8192x2048_S8192_d1 h_S_)
    (broadcastInDim S8192 ![] bcast_S_S8192 (constant S_ .f32 0x45000000#32))) (constant S_ .f32 0x00000000#32) reducesTo_S8192_S_d0 h_S_))
def rdy (e : FVec Ideal S8192x2048 .f32) : FVec Ideal S8192x2048 .f32 :=
  mulf (broadcastInDim S8192x2048 ![0] bcast_S8192_S8192x2048_0 (Host.divf (broadcastInDim S8192 ![] bcast_S_S8192
      (mulf (constant S_ .f32 0x3F000000#32) (constant S_ .f32 0x3F800000#32))) (broadcastInDim S8192 ![] bcast_S_S8192 (constant S_ .f32 0x45000000#32))))
    (mulf (broadcastInDim S8192x2048 ![] bcast_S_S8192x2048 (constant S_ .f32 0x40000000#32)) e)

open Cert.Kernel25Ideal.Norm (MISS DY LOSS half rowLoss half_eq)

theorem miss_eq (h : FVec Ideal S8192x2048 .f32) (g : FVec Ideal S1x2048 .f32) (z : FVec Ideal S8192x2048 .f32) :
    rmiss h g z = MISS (M := 8192) h g z := by
  funext i
  obtain ⟨r, k, rfl⟩ := entry i
  exact congrArg (· - z (ix2 r k)) (congrArg₂ (· * ·) (rhat_at h r k) (rgain_at g r k))

theorem two_eq : Ideal.ofBits .f32 0x40000000#32 = ((2 : ℝ) : EReal) := by
  simp [Ideal.ofBits, Ideal.ieee, -EReal.coe_mul]; norm_num
theorem width_eq : Ideal.ofBits .f32 0x3A000000#32 = ((1 / 2048 : ℝ) : EReal) := by
  simp [Ideal.ofBits, Ideal.ieee, -EReal.coe_mul]; norm_num

/-- Half of the mean's share of twice the miss is the miss over the row's length. -/
theorem share (e : EReal) : Ideal.div (half * 1) wide * (Ideal.ofBits .f32 0x40000000#32 * e) = e * Ideal.ofBits .f32 0x3A000000#32 := by
  rw [mul_one, half_eq, wide_eq, Ideal.div_coe (by norm_num), two_eq, width_eq, ← mul_assoc, ← EReal.coe_mul, ← EReal.coe_mul, mul_comm]
  congr 2; norm_num

theorem dy_eq (h : FVec Ideal S8192x2048 .f32) (g : FVec Ideal S1x2048 .f32) (z : FVec Ideal S8192x2048 .f32) :
    rdy (rmiss h g z) = DY (M := 8192) h g z := by
  rw [miss_eq]
  funext i
  obtain ⟨r, k, rfl⟩ := entry i
  refine Eq.trans ?_ (share (MISS (M := 8192) h g z (ix2 r k)))
  pointwise [rdy, Host.divf]; rfl

theorem loss_eq (h : FVec Ideal S8192x2048 .f32) (g : FVec Ideal S1x2048 .f32) (z : FVec Ideal S8192x2048 .f32) :
    rloss (rmiss h g z) = LOSS h g z := by
  rw [miss_eq]
  funext i
  obtain ⟨k, rfl⟩ : ∃ k : Fin 128, i = ix2 0 k :=
    ⟨i 1, by funext a; match a with | ⟨0, _⟩ => exact Fin.ext (Nat.lt_one_iff.mp (i 0).isLt) | ⟨1, _⟩ => rfl⟩
  have e : rloss (MISS (M := 8192) h g z) (ix2 0 k) = half * ∑ r : Fin 8192,
      Ideal.div (∑ j : Fin 2048, MISS (M := 8192) h g z (ix2 r j) * MISS (M := 8192) h g z (ix2 r j)) wide := by
    pointwise [rloss, Host.divf]; rfl
  exact e

theorem dnorm_eq (h : FVec Ideal S8192x2048 .f32) (g : FVec Ideal S1x2048 .f32) (d : FVec Ideal S8192x2048 .f32) :
    rdnorm h (mulf d (rgain g)) = DNORM h g d := by
  funext i
  obtain ⟨r, k, rfl⟩ := entry i
  refine (rdnorm_at _ _ r k).trans ?_
  refine congrArg (dnorm (row h r) · k) (funext fun j => ?_)
  exact congrArg (d (ix2 r j) * ·) (rgain_at g r j)

end Cert.Reference25Ideal.Norm

namespace Cert.Norms
open Idealize.ShloMosaic Idealize.SL.Sem

theorem frame25 : Cert.quiescent_Reference25Ideal := by
  intro m g _
  run_from Cert.Reference25Ideal.Value.run m g
  · exact fun _ => ⟨trivial, trivial, trivial⟩
  · exact sem_eq_zero_of_no_sems (by decide) _

set_option maxRecDepth 65536 in
set_option maxHeartbeats 4000000 in
/-- The kernel and the reference end with the same three arrays. -/
theorem value25 : Cert.algebraic_Kernel25Ideal_Reference25Ideal := by
  intro m g m' g' hpre hagree
  refine ⟨fun c => Cert.NormMath.DNORM (Cert.Kernel25Ideal.Norm.Ha m c) (Cert.Kernel25Ideal.Norm.Ga m c) (Cert.Kernel25Ideal.Norm.Da m c),
    fun c => Cert.NormMath.DGAIN (Cert.Kernel25Ideal.Norm.Ha m c) (Cert.Kernel25Ideal.Norm.Da m c),
    fun c => Cert.Kernel25Ideal.Norm.LOSS (Cert.Kernel25Ideal.Norm.Ha m c) (Cert.Kernel25Ideal.Norm.Ga m c) (Cert.Kernel25Ideal.Norm.Za m c), ?_, ?_⟩
  · run_from Cert.Kernel25Ideal.Gen.run_main m g
    · exact Cert.Kernel25Ideal.Norm.final3 m c
    · exact Cert.Kernel25Ideal.Norm.final4 m c
    · exact Cert.Kernel25Ideal.Norm.final5 m c
  · refine θ_run_mono (Cert.Reference25Ideal.Value.run m' g') ?_
    intro r h c
    obtain ⟨h1, h2, h3, h4, h5, h6⟩ := h c
    obtain ⟨a0, a1, a2⟩ := hagree c
    refine ⟨h1.trans ((Cert.Reference25Ideal.Norm.dnorm_eq _ _ (Cert.Reference25Ideal.Norm.rdy (Cert.Reference25Ideal.Norm.rmiss _ _ _))).trans ?_),
      h2.trans ((Cert.Reference25Ideal.Norm.dgain_eq _ (Cert.Reference25Ideal.Norm.rdy (Cert.Reference25Ideal.Norm.rmiss _ _ _))).trans ?_),
      h3.trans ((Cert.Reference25Ideal.Norm.loss_eq _ _ _).trans ?_), h4, h5, h6⟩
    · rw [Cert.Reference25Ideal.Norm.dy_eq, a0, a1, a2]
    · rw [Cert.Reference25Ideal.Norm.dy_eq, a0, a1, a2]
    · rw [a0, a1, a2]

end Cert.Norms

end
-- ==== Proof.Norm26.lean ====
/- Call 26: the norm of a block of rows, read over the reals. -/
module

public import proofs.«01_k».proof.Proof.Gen.Kernel26Ideal.Value
public import Idealize.ShloMosaic.Lib.Pipeline.ValueKit
public import Idealize.ShloMosaic.Lib.Pipeline.ReadBack
public import proofs.«01_k».proof.Defs
public import proofs.«01_k».proof.Proof.Gen.Reference26Ideal.Run
public import Idealize.ShloMosaic.Adequacy
public import Idealize.ShloMosaic.Init
public import proofs.«01_k».proof.Proof.NormSpec

@[expose] public section

set_option maxRecDepth 16384

noncomputable section

namespace Cert.Kernel26Ideal.Norm

open Cert.Kernel26Ideal Cert.Kernel26Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Ha (c : Dev nD) : FVec Ideal S8192x2048 .f32 := m ((c : Thread nD τ).loc main_arg0)
abbrev Ga (c : Dev nD) : FVec Ideal S1x2048 .f32 := m ((c : Thread nD τ).loc main_arg1)

/-- The normed rows under their gain. -/
def NORMED (H : FVec Ideal S8192x2048 .f32) (G : FVec Ideal S1x2048 .f32) : FVec Ideal S8192x2048 .bf16 :=
  fun i => H (ix2 (i 0) (i 1)) * rms (sqs (M := 8192) H (i 0)) * G (ix2 0 (i 1))

theorem pay_at (h : FVec Ideal S512x2048 .f32) (g : FVec Ideal S1x2048 .f32) (r : Fin 512) (k : Fin 2048) :
    k0_pay1 (F := Ideal) h g (ix2 r k) = h (ix2 r k) * rms (sqs (M := 512) h r) * g (ix2 0 k) := by
  pointwise [k0_pay1]; rfl

theorem idx_at : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a grid point writes is its block of the array. -/
theorem point (c : Dev nD) (t : Fin cfg0.N) (y : S512x2048.Idx) (i : S8192x2048.Idx)
    (hi0 : (i 0 : ℕ) = t.val * 512 + y 0) (hi1 : (i 1 : ℕ) = y 1) :
    (show FVec Ideal S512x2048 .bf16 from out0_2 (iblk m c 0 t) (iblk m c 1 t)) y = NORMED (Ha m c) (Ga m c) i := by
  frame_out
  obtain ⟨r, k, rfl⟩ : ∃ (r : Fin 512) (k : Fin 2048), y = ix2 r k :=
    ⟨y 0, y 1, by funext a; match a with | ⟨0, _⟩ => rfl | ⟨1, _⟩ => rfl⟩
  have e0 : (i 0 : ℕ) = t.val * 512 + r.val := hi0
  have e1 : (i 1 : ℕ) = k.val := hi1
  have hb : ∀ j : Fin 2048, (show FVec Ideal S512x2048 .f32 from iblk m c 0 t) (ix2 r j) = Ha m c (ix2 (i 0) j) := by
    intro j; blk_point [iblk, V_main_arg0, idx_at t]
  have ek : i 1 = k := Fin.ext e1
  refine (pay_at _ _ r k).trans (congrArg₂ (· * ·) (congrArg₂ (fun x s => x * rms s) ?_
    (Finset.sum_congr rfl fun j _ => congrArg₂ (· * ·) (hb j) (hb j))) ?_)
  · rw [ek]; exact hb k
  · blk_point [iblk, V_main_arg1, idx_at t]

/-- The array after the whole grid. -/
theorem final (c : Dev nD) : (dats m 0 c).arrAt 2 (cfgs 0).N = NORMED (Ha m c) (Ga m c) := by
  refine (dats m 0 c).arrAt_eq_of_covers 2 _ (by decide +kernel) fun t hf y => ?_
  blk_simp
  rw [after0_2]
  refine point m c t y _ ?_ ?_ <;> blk_simp [idx_at t]

end Cert.Kernel26Ideal.Norm

namespace Cert.Reference26Ideal.Norm

open Cert.Reference26Ideal Cert.Reference26Ideal.Gen Cert.Reference26Ideal.Facts Idealize.ShloMosaic Idealize.ShloMosaic.TcCoe Idealize.SL.Sem
open Cert.NormMath

/-- The mean square of each row plus ε, and its reciprocal root. -/
def rmsq (h : FVec Ideal S8192x2048 .f32) : FVec Ideal S8192x1 .f32 :=
  addf (Host.divf (broadcastInDim S8192x1 ![0] bcast_S8192_S8192x1_0
      (Host.reduceAdd (mulf h h) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x3727C5AC#32))
def rscale (h : FVec Ideal S8192x2048 .f32) : FVec Ideal S8192x1 .f32 := Host.rsqrt (rmsq h)
/-- The gain on every row. -/
def rgain (g : FVec Ideal S1x2048 .f32) : FVec Ideal S8192x2048 .f32 :=
  broadcastInDim S8192x2048 ![0, 1] bcast_S1x2048_S8192x2048_0_1
    (broadcastInDim S1x2048 ![1] bcast_S2048_S1x2048_1 (shapeCast _ g shapeCasts_S1x2048_S2048))
/-- The normed row before its gain. -/
def rhat (h : FVec Ideal S8192x2048 .f32) : FVec Ideal S8192x2048 .f32 :=
  mulf h (broadcastInDim S8192x2048 ![0, 1] bcast_S8192x1_S8192x2048_0_1 (rscale h))
theorem rmsq_at (h : FVec Ideal S8192x2048 .f32) (r : Fin 8192) : rmsq h (ix2 r 0) = msq (sqs h r) := by
  pointwise [rmsq]; rfl
theorem rscale_at (h : FVec Ideal S8192x2048 .f32) (r : Fin 8192) : rscale h (ix2 r 0) = rms (sqs h r) := by
  show Ideal.rsqrt (rmsq h (ix2 r 0)) = _
  rw [rmsq_at]; rfl
theorem rgain_at (g : FVec Ideal S1x2048 .f32) (r : Fin 8192) (k : Fin 2048) : rgain g (ix2 r k) = g (ix2 0 k) := by
  pointwise [rgain]
theorem rhat_at (h : FVec Ideal S8192x2048 .f32) (r : Fin 8192) (k : Fin 2048) : rhat h (ix2 r k) = h (ix2 r k) * rms (sqs h r) := by
  rw [← rscale_at]; pointwise [rhat]
theorem entry (i : S8192x2048.Idx) : ∃ (r : Fin 8192) (k : Fin 2048), i = ix2 r k :=
  ⟨i 0, i 1, by funext a; match a with | ⟨0, _⟩ => rfl | ⟨1, _⟩ => rfl⟩

theorem ref_eq (h : FVec Ideal S8192x2048 .f32) (g : FVec Ideal S1x2048 .f32) :
    truncf .bf16 (mulf (rhat h) (rgain g)) bitsLt_bf16_f32 = Cert.Kernel26Ideal.Norm.NORMED h g := by
  funext i
  obtain ⟨r, k, rfl⟩ := entry i
  exact congrArg₂ (· * ·) (rhat_at h r k) (rgain_at g r k)

end Cert.Reference26Ideal.Norm

namespace Cert.Norms
open Idealize.ShloMosaic Idealize.SL.Sem

theorem frame26 : Cert.quiescent_Reference26Ideal := by
  intro m g _
  run_from Cert.Reference26Ideal.Value.run m g
  · exact fun _ => ⟨trivial, trivial⟩
  · exact sem_eq_zero_of_no_sems (by decide) _

set_option maxRecDepth 65536 in
set_option maxHeartbeats 4000000 in
/-- The kernel and the reference end with the same array. -/
theorem value26 : Cert.algebraic_Kernel26Ideal_Reference26Ideal := by
  pair_intro
  · run_from Cert.Kernel26Ideal.Gen.run_main m g
  · run_from Cert.Reference26Ideal.Value.run m' g'
    exact (Cert.Reference26Ideal.Norm.ref_eq _ _).trans (Cert.Kernel26Ideal.Norm.final m c).symm

end Cert.Norms

end
-- ==== Proof.Norm27.lean ====
/- Call 27: the memory's norm, read over the reals. -/
module

public import proofs.«01_k».proof.Proof.Gen.Kernel27Ideal.Value
public import Idealize.ShloMosaic.Lib.Pipeline.ValueKit
public import Idealize.ShloMosaic.Lib.Pipeline.ReadBack
public import proofs.«01_k».proof.Defs
public import proofs.«01_k».proof.Proof.Gen.Reference27Ideal.Run
public import Idealize.ShloMosaic.Adequacy
public import Idealize.ShloMosaic.Init
public import proofs.«01_k».proof.Proof.NormSpec

@[expose] public section

set_option maxRecDepth 16384

noncomputable section

namespace Cert.Kernel27Ideal.Norm

open Cert.Kernel27Ideal Cert.Kernel27Ideal.Gen Idealize.ShloMosaic Idealize.ShloMosaic.TcCoe Idealize.SL.Sem
open Idealize.ShloMosaic.Pipeline (Dat)
open Cert.NormMath

variable (m : (ℓ : Loc nD τ sig) → Buf (Elt Ideal) ℓ)

abbrev Ha (c : Dev nD) : FVec Ideal S256x2048 .f32 := m ((c : Thread nD τ).loc main_arg0)
abbrev Ga (c : Dev nD) : FVec Ideal S1x2048 .f32 := m ((c : Thread nD τ).loc main_arg1)

/-- The normed rows under their gain. -/
def NORMED (H : FVec Ideal S256x2048 .f32) (G : FVec Ideal S1x2048 .f32) : FVec Ideal S256x2048 .bf16 :=
  fun i => H (ix2 (i 0) (i 1)) * rms (sqs (M := 256) H (i 0)) * G (ix2 0 (i 1))

theorem pay_at (h : FVec Ideal S256x2048 .f32) (g : FVec Ideal S1x2048 .f32) (r : Fin 256) (k : Fin 2048) :
    k0_pay1 (F := Ideal) h g (ix2 r k) = h (ix2 r k) * rms (sqs (M := 256) h r) * g (ix2 0 k) := by
  pointwise [k0_pay1]; rfl

theorem idx_at : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- What a grid point writes is its block of the array. -/
theorem point (c : Dev nD) (t : Fin cfg0.N) (y : S256x2048.Idx) (i : S256x2048.Idx)
    (hi0 : (i 0 : ℕ) = y 0) (hi1 : (i 1 : ℕ) = y 1) :
    (show FVec Ideal S256x2048 .bf16 from out0_2 (iblk m c 0 t) (iblk m c 1 t)) y = NORMED (Ha m c) (Ga m c) i := by
  frame_out
  obtain ⟨r, k, rfl⟩ : ∃ (r : Fin 256) (k : Fin 2048), y = ix2 r k :=
    ⟨y 0, y 1, by funext a; match a with | ⟨0, _⟩ => rfl | ⟨1, _⟩ => rfl⟩
  have e0 : (i 0 : ℕ) = r.val := hi0
  have e1 : (i 1 : ℕ) = k.val := hi1
  have hb : ∀ j : Fin 2048, (show FVec Ideal S256x2048 .f32 from iblk m c 0 t) (ix2 r j) = Ha m c (ix2 (i 0) j) := by
    intro j; blk_point [iblk, V_main_arg0, idx_at t]
  have ek : i 1 = k := Fin.ext e1
  refine (pay_at _ _ r k).trans (congrArg₂ (· * ·) (congrArg₂ (fun x s => x * rms s) ?_
    (Finset.sum_congr rfl fun j _ => congrArg₂ (· * ·) (hb j) (hb j))) ?_)
  · rw [ek]; exact hb k
  · blk_point [iblk, V_main_arg1, idx_at t]

/-- The array after the whole grid. -/
theorem final (c : Dev nD) : (dats m 0 c).arrAt 2 (cfgs 0).N = NORMED (Ha m c) (Ga m c) := by
  refine (dats m 0 c).arrAt_eq_of_covers 2 _ (by decide +kernel) fun t hf y => ?_
  blk_simp
  rw [after0_2]
  refine point m c t y _ ?_ ?_ <;> blk_simp [idx_at t]

end Cert.Kernel27Ideal.Norm

namespace Cert.Reference27Ideal.Norm

open Cert.Reference27Ideal Cert.Reference27Ideal.Gen Cert.Reference27Ideal.Facts Idealize.ShloMosaic Idealize.ShloMosaic.TcCoe Idealize.SL.Sem
open Cert.NormMath

/-- The mean square of each row plus ε, and its reciprocal root. -/
def rmsq (h : FVec Ideal S256x2048 .f32) : FVec Ideal S256x1 .f32 :=
  addf (Host.divf (broadcastInDim S256x1 ![0] bcast_S256_S256x1_0
      (Host.reduceAdd (mulf h h) (constant S_ .f32 0x00000000#32) reducesTo_S256x2048_S256_d1 h_S_))
    (broadcastInDim S256x1 ![] bcast_S_S256x1 (constant S_ .f32 0x45000000#32)))
    (broadcastInDim S256x1 ![] bcast_S_S256x1 (constant S_ .f32 0x3727C5AC#32))
def rscale (h : FVec Ideal S256x2048 .f32) : FVec Ideal S256x1 .f32 := Host.rsqrt (rmsq h)
/-- The gain on every row. -/
def rgain (g : FVec Ideal S1x2048 .f32) : FVec Ideal S256x2048 .f32 :=
  broadcastInDim S256x2048 ![0, 1] bcast_S1x2048_S256x2048_0_1
    (broadcastInDim S1x2048 ![1] bcast_S2048_S1x2048_1 (shapeCast _ g shapeCasts_S1x2048_S2048))
/-- The normed row before its gain. -/
def rhat (h : FVec Ideal S256x2048 .f32) : FVec Ideal S256x2048 .f32 :=
  mulf h (broadcastInDim S256x2048 ![0, 1] bcast_S256x1_S256x2048_0_1 (rscale h))
theorem rmsq_at (h : FVec Ideal S256x2048 .f32) (r : Fin 256) : rmsq h (ix2 r 0) = msq (sqs h r) := by
  pointwise [rmsq]; rfl
theorem rscale_at (h : FVec Ideal S256x2048 .f32) (r : Fin 256) : rscale h (ix2 r 0) = rms (sqs h r) := by
  show Ideal.rsqrt (rmsq h (ix2 r 0)) = _
  rw [rmsq_at]; rfl
theorem rgain_at (g : FVec Ideal S1x2048 .f32) (r : Fin 256) (k : Fin 2048) : rgain g (ix2 r k) = g (ix2 0 k) := by
  pointwise [rgain]
theorem rhat_at (h : FVec Ideal S256x2048 .f32) (r : Fin 256) (k : Fin 2048) : rhat h (ix2 r k) = h (ix2 r k) * rms (sqs h r) := by
  rw [← rscale_at]; pointwise [rhat]
theorem entry (i : S256x2048.Idx) : ∃ (r : Fin 256) (k : Fin 2048), i = ix2 r k :=
  ⟨i 0, i 1, by funext a; match a with | ⟨0, _⟩ => rfl | ⟨1, _⟩ => rfl⟩

theorem ref_eq (h : FVec Ideal S256x2048 .f32) (g : FVec Ideal S1x2048 .f32) :
    truncf .bf16 (mulf (rhat h) (rgain g)) bitsLt_bf16_f32 = Cert.Kernel27Ideal.Norm.NORMED h g := by
  funext i
  obtain ⟨r, k, rfl⟩ := entry i
  exact congrArg₂ (· * ·) (rhat_at h r k) (rgain_at g r k)

end Cert.Reference27Ideal.Norm

namespace Cert.Norms
open Idealize.ShloMosaic Idealize.SL.Sem

theorem frame27 : Cert.quiescent_Reference27Ideal := by
  intro m g _
  run_from Cert.Reference27Ideal.Value.run m g
  · exact fun _ => ⟨trivial, trivial⟩
  · exact sem_eq_zero_of_no_sems (by decide) _

set_option maxRecDepth 65536 in
set_option maxHeartbeats 4000000 in
/-- The kernel and the reference end with the same array. -/
theorem value27 : Cert.algebraic_Kernel27Ideal_Reference27Ideal := by
  pair_intro
  · run_from Cert.Kernel27Ideal.Gen.run_main m g
  · run_from Cert.Reference27Ideal.Value.run m' g'
    exact (Cert.Reference27Ideal.Norm.ref_eq _ _).trans (Cert.Kernel27Ideal.Norm.final m c).symm

end Cert.Norms

end
-- ==== Proof.XattnSpec.lean ====
/- The mathematics of the cross-attention gradient, over the extended reals: one score row (softmax and its
   gradient), and the two result arrays as functions of the three argument arrays. No program is mentioned. -/
module

public import Idealize.ShloMosaic.Lib.Pointwise

@[expose] public section

set_option maxRecDepth 16384

noncomputable section

namespace Cert.Xattn

open Idealize.ShloMosaic

/-- The score scale, `512 ^ (-1/2)` as the float word both programs print. -/
def scale : EReal := Ideal.ofBits .f32 0x3D3504F3#32

/-- The largest score of a row. -/
def peak (s : Fin 256 → EReal) : EReal := Finset.fold max (Ideal.ofBits .f32 0xFF800000#32) s Finset.univ

/-- The unnormalised weight of memory slot `j`. -/
def lift (s : Fin 256 → EReal) (j : Fin 256) : EReal := Ideal.exp (s j - peak s)

/-- The row's normaliser. -/
def mass (s : Fin 256 → EReal) : EReal := ∑ j, lift s j

/-- The softmax weight of memory slot `j`. -/
def prob (s : Fin 256 → EReal) (j : Fin 256) : EReal := Ideal.div (lift s j) (mass s)

/-- The gradient of the unscaled score of slot `j`, given the gradients `d` of the row's weights. -/
def slope (s d : Fin 256 → EReal) (j : Fin 256) : EReal :=
  prob s j * (d j - ∑ k, prob s k * d k) * scale

abbrev SRows : Shape := ⟨2, ![8192, 2048]⟩
abbrev SMem : Shape := ⟨2, ![256, 4096]⟩

/-- Key column `l` of the head that owns column `n`. -/
def kcol (n : ℕ) (hn : n < 2048) (l : Fin 512) : Fin 4096 := ⟨n / 512 * 512 + l, by omega⟩

/-- Value column `l` of the head that owns column `n`. -/
def vcol (n : ℕ) (hn : n < 2048) (l : Fin 512) : Fin 4096 := ⟨2048 + (n / 512 * 512 + l), by omega⟩

/-- Query column `l` of the head that owns column `n`. -/
def qcol (n : ℕ) (hn : n < 2048) (l : Fin 512) : Fin 2048 := ⟨n / 512 * 512 + l, by omega⟩

/-- The scores of row `s` in the head that owns column `n`. -/
def score (Q : FVec Ideal SRows .bf16) (KV : FVec Ideal SMem .bf16) (s : Fin 8192) (n : ℕ) (hn : n < 2048) (j : Fin 256) :
    EReal :=
  (∑ l : Fin 512, Q (ix2 s (qcol n hn l)) * KV (ix2 j (kcol n hn l))) * scale

/-- The gradients of row `s`'s weights in the head that owns column `n`. -/
def dweight (DO : FVec Ideal SRows .bf16) (KV : FVec Ideal SMem .bf16) (s : Fin 8192) (n : ℕ) (hn : n < 2048) (j : Fin 256) :
    EReal :=
  ∑ l : Fin 512, DO (ix2 s (qcol n hn l)) * KV (ix2 j (vcol n hn l))

/-- The gradient of the queries. -/
def DQ (Q : FVec Ideal SRows .bf16) (KV : FVec Ideal SMem .bf16) (DO : FVec Ideal SRows .bf16) : FVec Ideal SRows .bf16 :=
  fun i => ∑ j : Fin 256, slope (score Q KV (i 0) (i 1) (i 1).isLt) (dweight DO KV (i 0) (i 1) (i 1).isLt) j
    * KV (ix2 j ⟨(i 1 : ℕ), by have := (i 1).isLt; simp at this; omega⟩)

/-- What row `s` adds to the gradient of the memory's keys and values at row `j`, column `n`. -/
def dkvRow (Q : FVec Ideal SRows .bf16) (KV : FVec Ideal SMem .bf16) (DO : FVec Ideal SRows .bf16) (j : Fin 256) (n : Fin 4096)
    (s : Fin 8192) : EReal :=
  if h : (n : ℕ) < 2048 then slope (score Q KV s n h) (dweight DO KV s n h) j * Q (ix2 s ⟨n, h⟩)
  else prob (score Q KV s (n - 2048) (by omega)) j * DO (ix2 s ⟨n - 2048, by omega⟩)

/-- The gradient of the memory's keys and values. -/
def DKV (Q : FVec Ideal SRows .bf16) (KV : FVec Ideal SMem .bf16) (DO : FVec Ideal SRows .bf16) : FVec Ideal SMem .f32 :=
  fun i => ∑ s : Fin 8192, dkvRow Q KV DO (i 0) (i 1) s

end Cert.Xattn
end
-- ==== Proof.XattnRow.lean ====
/- The gradient of a softmax row, written as automatic differentiation writes it (quotient rule on the unnormalised
   weights) and as the kernel writes it (on the normalised weights): equal over the extended reals whenever the row's
   scores are real, whatever the incoming gradients are. -/
module

public import proofs.«01_k».proof.Proof.XattnSpec
public import Idealize.ShloMosaic.PureOps.Ideal.Laws
public import Idealize.ShloMosaic.Lib.IdealHost

@[expose] public section

set_option maxRecDepth 16384

noncomputable section

namespace Cert.Xattn

open Idealize.ShloMosaic

/-- A real factor that is not negative goes through a sum of extended reals. -/
theorem real_mul_sum {n : ℕ} (r : ℝ) (hr : 0 ≤ r) (f : Fin n → EReal) : (r : EReal) * ∑ k, f k = ∑ k, (r : EReal) * f k := by
  induction n with
  | zero => simp
  | succ n ih =>
    rw [Fin.sum_univ_succ, Fin.sum_univ_succ,
      EReal.left_distrib_of_nonneg_of_ne_top (by exact_mod_cast hr) (EReal.coe_ne_top r), ih]

/-- Division by a real that is not zero is multiplication by its inverse. -/
theorem div_real (x : EReal) (r : ℝ) (hr : r ≠ 0) : Ideal.div x (r : EReal) = x * ((r⁻¹ : ℝ) : EReal) := by
  rw [Ideal.div, if_neg (by exact_mod_cast hr), ← EReal.coe_inv]

/-- The word of the initial maximum is −∞. -/
theorem minus_inf : Ideal.ofBits .f32 0xFF800000#32 = (⊥ : EReal) := by
  simp [Ideal.ofBits, Ideal.ieee]

/-- The largest score bounds the initial value of the maximum. -/
theorem max_peak (s : Fin 256 → EReal) : max (Ideal.ofBits .f32 0xFF800000#32) (peak s) = peak s := by
  rw [minus_inf]; exact max_eq_right bot_le

/-- The largest of real scores is real. -/
theorem peak_real (s : Fin 256 → ℝ) : ∃ r : ℝ, peak (fun j => (s j : EReal)) = r := by
  have h1 : peak (fun j => (s j : EReal)) < ⊤ := by
    rw [peak, Finset.fold_max_lt]
    refine ⟨?_, fun j _ => EReal.coe_lt_top _⟩
    rw [minus_inf]; exact bot_lt_top
  have h2 : ((s 0 : ℝ) : EReal) ≤ peak (fun j => (s j : EReal)) := by
    rw [peak, Finset.le_fold_max]
    exact Or.inr ⟨0, Finset.mem_univ _, le_rfl⟩
  have h3 : peak (fun j => (s j : EReal)) ≠ ⊥ := fun h => by
    rw [h] at h2; exact absurd (le_bot_iff.1 h2) (EReal.coe_ne_bot _)
  exact ⟨_, (EReal.coe_toReal h1.ne h3).symm⟩

/-- Real scores have real positive unnormalised weights and a real positive normaliser. -/
theorem lift_real (s : Fin 256 → ℝ) : ∃ e : Fin 256 → ℝ, (∀ j, 0 < e j) ∧ (∀ j, lift (fun j => (s j : EReal)) j = e j) := by
  obtain ⟨r, hr⟩ := peak_real s
  refine ⟨fun j => Real.exp (s j - r), fun j => Real.exp_pos _, fun j => ?_⟩
  rw [lift, hr, ← EReal.coe_sub, Ideal.exp_coe]

/-- A sum of reals, taken among the extended reals. -/
theorem real_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem mass_real (s : Fin 256 → EReal) (e : Fin 256 → ℝ) (he : ∀ j, lift s j = e j) : mass s = ((∑ j, e j : ℝ) : EReal) := by
  rw [mass, real_sum]
  exact Finset.sum_congr rfl fun j _ => he j

/-- The quotient rule on the unnormalised weights `lift s`, as differentiation writes it. -/
def slopeQ (s d : Fin 256 → EReal) (j : Fin 256) : EReal :=
  (Ideal.div (d j) (mass s) + -∑ k, d k * Ideal.div 1 (mass s * mass s) * lift s k) * lift s j * scale

/-- The two gradients agree once the weights and the normaliser are real and positive. -/
theorem quotient_rule (d p l : Fin 256 → EReal) (m : EReal) (e : Fin 256 → ℝ) (S : ℝ) (hS0 : 0 < S) (hm : m = S) (hl : ∀ k, l k = e k)
    (hp : ∀ k, p k = Ideal.div (l k) m) (j : Fin 256) :
    (Ideal.div (d j) m + -∑ k, d k * Ideal.div 1 (m * m) * l k) * l j = p j * (d j - ∑ k, p k * d k) := by
  have hT : ∑ k, d k * Ideal.div 1 (m * m) * l k = ((S⁻¹ : ℝ) : EReal) * ∑ k, p k * d k := by
    rw [real_mul_sum _ (inv_pos.2 hS0).le]
    refine Finset.sum_congr rfl fun k _ => ?_
    rw [hp, hm, hl, ← EReal.coe_mul, div_real _ _ (mul_pos hS0 hS0).ne', div_real _ _ hS0.ne', one_mul, mul_inv, EReal.coe_mul]
    ac_rfl
  rw [hT]
  generalize ∑ k, p k * d k = T
  rw [hp, hm, hl, div_real _ _ hS0.ne', div_real _ _ hS0.ne', mul_comm (d j), sub_eq_add_neg, ← mul_neg,
    ← EReal.left_distrib_of_nonneg_of_ne_top (by exact_mod_cast (inv_pos.2 hS0).le) (EReal.coe_ne_top _)]
  ac_rfl

/-- On real scores the quotient rule is the gradient through the normalised weights. -/
theorem slopeQ_eq (s d : Fin 256 → EReal) (hs : ∀ j, ∃ r : ℝ, s j = r) (j : Fin 256) : slopeQ s d j = slope s d j := by
  choose x hx using hs
  have hx : s = fun j => (x j : EReal) := funext hx
  obtain ⟨e, hpos, he⟩ := lift_real x
  rw [← hx] at he
  have hS0 : 0 < ∑ j, e j := Finset.sum_pos (fun j _ => hpos j) ⟨0, Finset.mem_univ _⟩
  exact congrArg (· * scale) (quotient_rule d (prob s) (lift s) (mass s) e _ hS0 (mass_real s e he) he (fun _ => rfl) j)

/-- The scale is real. -/
theorem scale_real : ∃ c : ℝ, scale = c := by
  refine ⟨(1 + 3474675 / 2 ^ 23) / 2 ^ 5, ?_⟩
  simp [scale, Ideal.ofBits, Ideal.ieee, -EReal.coe_mul]; norm_num

/-- Finite queries and keys have real scores. -/
theorem score_real (Q : FVec Ideal SRows .bf16) (KV : FVec Ideal SMem .bf16) (hq : ∀ i, ∃ r : ℝ, Q i = (r : EReal))
    (hk : ∀ (j : Fin 256) (n : Fin 4096), (n : ℕ) < 2048 → ∃ r : ℝ, KV (ix2 j n) = (r : EReal))
    (s : Fin 8192) (n : ℕ) (hn : n < 2048) (j : Fin 256) : ∃ r : ℝ, score Q KV s n hn j = (r : EReal) := by
  choose q hq using hq
  have hk' : ∀ l : Fin 512, ∃ r : ℝ, KV (ix2 j (kcol n hn l)) = (r : EReal) := fun l => hk j _ (by simp only [kcol]; omega)
  choose k hk using hk'
  obtain ⟨c, hc⟩ := scale_real
  refine ⟨(∑ l : Fin 512, q (ix2 s (qcol n hn l)) * k l) * c, ?_⟩
  rw [score, hc, EReal.coe_mul, real_sum]
  congr 1
  refine Finset.sum_congr rfl fun l _ => ?_
  rw [hq, hk, EReal.coe_mul]

end Cert.Xattn
end
-- ==== Proof.Norm28.lean ====
/- Call 28: cross-attention forward, read over the reals. -/
module

public import proofs.«01_k».proof.Proof.Gen.Kernel28Ideal.Value
public import Idealize.ShloMosaic.Lib.Pipeline.ValueKit
public import Idealize.ShloMosaic.Lib.Pipeline.ReadBack
public import proofs.«01_k».proof.Defs
public import proofs.«01_k».proof.Proof.Gen.Reference28Ideal.Run
public import Idealize.ShloMosaic.Adequacy
public import Idealize.ShloMosaic.Init
public import proofs.«01_k».proof.Proof.XattnRow

@[expose] public section

set_option maxRecDepth 16384

noncomputable section

namespace Cert.Kernel28Ideal.Attend

open Cert.Kernel28Ideal Cert.Kernel28Ideal.Gen Idealize.ShloMosaic Idealize.ShloMosaic.TcCoe Idealize.SL.Sem
open Idealize.ShloMosaic.Pipeline (Dat)
open Cert.Xattn

variable (m : (ℓ : Loc nD τ sig) → Buf (Elt Ideal) ℓ)

abbrev Qa (c : Dev nD) : FVec Ideal SRows .bf16 := m ((c : Thread nD τ).loc main_arg0)
abbrev KVa (c : Dev nD) : FVec Ideal SMem .bf16 := m ((c : Thread nD τ).loc main_arg1)

/-- The array the call is to leave: the values under each row's softmax weights, head by head. -/
def OUT (Q : FVec Ideal SRows .bf16) (KV : FVec Ideal SMem .bf16) : FVec Ideal SRows .bf16 :=
  fun i => ∑ j : Fin 256, prob (score Q KV (i 0) (i 1) (i 1).isLt) j
    * KV (ix2 j ⟨2048 + (i 1 : ℕ), by have := (i 1).isLt; simp at this; omega⟩)

/-- A tile row's scores. -/
abbrev tscore (q : FVec Ideal S512x512 .bf16) (k : FVec Ideal S256x512 .bf16) (r : Fin 512) (j : Fin 256) : EReal :=
  (∑ l : Fin 512, q (ix2 r l) * k (ix2 j l)) * scale

variable (q : FVec Ideal S512x512 .bf16) (k v : FVec Ideal S256x512 .bf16)

theorem head0 (x : S512x512.Idx) : k0_pay2 (F := Ideal) q k v x = ∑ j : Fin 256, prob (tscore q k (x 0)) j * v (ix2 j (x 1)) := by
  pointwise [k0_pay2]; rfl
theorem head1 (x : S512x512.Idx) : k0_pay4 (F := Ideal) (k0_pay3 (F := Ideal) q k) v x = ∑ j : Fin 256, prob (tscore q k (x 0)) j * v (ix2 j (x 1)) := by
  pointwise [k0_pay4, k0_pay3]; rfl
theorem head2 (x : S512x512.Idx) : k0_pay5 (F := Ideal) q k v x = ∑ j : Fin 256, prob (tscore q k (x 0)) j * v (ix2 j (x 1)) := by
  pointwise [k0_pay5]; rfl
theorem head3 (x : S512x512.Idx) : k0_pay1 (F := Ideal) (k0_pay6 (F := Ideal) q k) (k0_pay7 (F := Ideal) q k) v x
    = ∑ j : Fin 256, prob (tscore q k (x 0)) j * v (ix2 j (x 1)) := by
  pointwise [k0_pay1, k0_pay6, k0_pay7]; rfl

/-- A tile's entry is the array's. -/
theorem tile (Q : FVec Ideal SRows .bf16) (KV : FVec Ideal SMem .bf16) (r e : Fin 512) (i : SRows.Idx)
    (hq : ∀ l, q (ix2 r l) = Q (ix2 (i 0) (qcol (i 1) (i 1).isLt l)))
    (hk : ∀ j l, k (ix2 j l) = KV (ix2 j (kcol (i 1) (i 1).isLt l)))
    (hv : ∀ j l, v (ix2 j l) = KV (ix2 j (vcol (i 1) (i 1).isLt l)))
    (he : (i 1 : ℕ) / 512 * 512 + e = i 1) :
    (∑ j : Fin 256, prob (tscore q k r) j * v (ix2 j e)) = OUT Q KV i := by
  have hs : tscore q k r = score Q KV (i 0) (i 1) (i 1).isLt := by
    funext j
    exact congrArg (· * scale) (Finset.sum_congr rfl fun l _ => congrArg₂ (· * ·) (hq l) (hk j l))
  rw [hs]
  refine Finset.sum_congr rfl fun j _ => ?_
  rw [hv]
  refine congrArg (fun z => _ * KV (ix2 j z)) (Fin.ext ?_)
  exact congrArg (2048 + ·) he

theorem idx_at : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a grid point writes, head by head, is its block of the array. -/
theorem point (c : Dev nD) (t : Fin cfg0.N) (y : S512x2048.Idx) (i : SRows.Idx)
    (hi0 : (i 0 : ℕ) = t.val * 512 + y 0) (hi1 : (i 1 : ℕ) = y 1) :
    (show FVec Ideal S512x2048 .bf16 from out0_2 (iblk m c 0 t) (iblk m c 1 t)) y = OUT (Qa m c) (KVa m c) i := by
  frame_out
  canon_tiles x h
  case piece0 =>
    refine (head3 _ _ _ x).trans (tile _ _ _ _ _ _ _ i ?_ ?_ ?_ (by omega)) <;> intros <;>
      blk_point [iblk, V, idx_at t, qcol, kcol, vcol]
  case piece1 =>
    refine (head2 _ _ _ x).trans (tile _ _ _ _ _ _ _ i ?_ ?_ ?_ (by omega)) <;> intros <;>
      blk_point [iblk, V, idx_at t, qcol, kcol, vcol]
  case piece2 =>
    refine (head1 _ _ _ x).trans (tile _ _ _ _ _ _ _ i ?_ ?_ ?_ (by omega)) <;> intros <;>
      blk_point [iblk, V, idx_at t, qcol, kcol, vcol]
  case piece3 =>
    refine (head0 _ _ _ x).trans (tile _ _ _ _ _ _ _ i ?_ ?_ ?_ (by omega)) <;> intros <;>
      blk_point [iblk, V, idx_at t, qcol, kcol, vcol]

/-- The array after the whole grid. -/
theorem final (c : Dev nD) : (dats m 0 c).arrAt 2 (cfgs 0).N = OUT (Qa m c) (KVa m c) := by
  refine (dats m 0 c).arrAt_eq_of_covers 2 _ (by decide +kernel) fun t hf y => ?_
  blk_simp
  rw [after0_2]
  refine point m c t y _ ?_ ?_ <;> blk_simp [idx_at t]

end Cert.Kernel28Ideal.Attend

namespace Cert.Reference28Ideal.Attend

open Cert.Reference28Ideal Cert.Reference28Ideal.Gen Cert.Reference28Ideal.Facts Idealize.ShloMosaic Idealize.ShloMosaic.TcCoe Idealize.SL.Sem
open Cert.Xattn

/-- The keys and the values head by head, the scaled scores, the unnormalised weights, the weights and the result. -/
def rk (KV : FVec Ideal S256x4096 .bf16) : FVec Ideal S1x256x4x512 .f32 :=
  shapeCast _ (extractStridedSlice S256x2048 ![0, 0] (extf .f32 KV bitsLt_bf16_f32) slices_S256x4096_S256x2048_0_0) shapeCasts_S256x2048_S1x256x4x512
def rv (KV : FVec Ideal S256x4096 .bf16) : FVec Ideal S1x256x4x512 .f32 :=
  shapeCast _ (extractStridedSlice S256x2048 ![0, 2048] (extf .f32 KV bitsLt_bf16_f32) slices_S256x4096_S256x2048_0_2048) shapeCasts_S256x2048_S1x256x4x512
def rscore (Q : FVec Ideal S8192x2048 .bf16) (KV : FVec Ideal S256x4096 .bf16) : FVec Ideal S1x4x8192x256 .f32 :=
  mulf (Host.dotGeneral dot_S1x8192x4x512_S1x256x4x512_S1x4x8192x256_3_3_1_1_02_02 none
      (shapeCast _ (extf .f32 Q bitsLt_bf16_f32) shapeCasts_S8192x2048_S1x8192x4x512) (rk KV))
    (broadcastInDim S1x4x8192x256 ![] bcast_S_S1x4x8192x256 (constant S_ .f32 0x3D3504F3#32))
def rpeak (s : FVec Ideal S1x4x8192x256 .f32) : FVec Ideal S1x4x8192 .f32 :=
  Host.reduce FloatOps.maximumf s (constant S_ .f32 0xFF800000#32) reducesTo_S1x4x8192x256_S1x4x8192_d3 h_S_
def shifted (s : FVec Ideal S1x4x8192x256 .f32) (p : FVec Ideal S1x4x8192 .f32) : FVec Ideal S1x4x8192x256 .f32 :=
  Host.exp (subf s (broadcastInDim S1x4x8192x256 ![0, 1, 2, 3] bcast_S1x4x8192x1_S1x4x8192x256_0_1_2_3
    (broadcastInDim S1x4x8192x1 ![0, 1, 2] bcast_S1x4x8192_S1x4x8192x1_0_1_2
      (maximumf (broadcastInDim S1x4x8192 ![] bcast_S_S1x4x8192 (constant S_ .f32 0xFF800000#32)) p))))
def rprob (e : FVec Ideal S1x4x8192x256 .f32) : FVec Ideal S1x4x8192x256 .f32 :=
  Host.divf e (broadcastInDim S1x4x8192x256 ![0, 1, 2, 3] bcast_S1x4x8192x1_S1x4x8192x256_0_1_2_3
    (broadcastInDim S1x4x8192x1 ![0, 1, 2] bcast_S1x4x8192_S1x4x8192x1_0_1_2
      (Host.reduceAdd e (constant S_ .f32 0x00000000#32) reducesTo_S1x4x8192x256_S1x4x8192_d3 h_S_)))
def rout (KV : FVec Ideal S256x4096 .bf16) (p : FVec Ideal S1x4x8192x256 .f32) : FVec Ideal S8192x2048 .bf16 :=
  truncf .bf16 (shapeCast _ (transpose S1x8192x4x512 [0, 3, 1, 2]
    (Host.dotGeneral dot_S1x256x4x512_S1x4x8192x256_S1x4x512x8192_1_3_3_2_02_01 none (rv KV) p)
    transposes_S1x4x512x8192_S1x8192x4x512_0_3_1_2) shapeCasts_S1x8192x4x512_S8192x2048) bitsLt_bf16_f32

theorem rscore_at (Q : FVec Ideal S8192x2048 .bf16) (KV : FVec Ideal S256x4096 .bf16) (h : Fin 4) (s : Fin 8192) (j : Fin 256) :
    rscore Q KV (ix4 0 h s j)
      = (∑ x : Fin 512, Q (ix2 s ⟨h * 512 + x, by omega⟩) * KV (ix2 j ⟨h * 512 + x, by omega⟩)) * scale := by
  pointwise [rscore, rk]
  rfl

theorem row_fold (v : S1x4x8192x256.Idx → EReal) (init : S_.Idx → EReal) (H : S1x4x8192x256.ReducesTo [3] S1x4x8192) (hS : 0 < S_.numel)
    (h : Fin 4) (s : Fin 8192) :
    Host.reduce max v init H hS (ix3 0 h s) = Finset.fold max (init (Shape.Idx.first hS)) (fun x => v (ix4 0 h s x)) Finset.univ := by
  rw [Host.reduce_eq_fold, Shape.ReducesTo.fold_fiber_r4_a3]
  rfl

theorem rpeak_at (v : FVec Ideal S1x4x8192x256 .f32) (h : Fin 4) (s : Fin 8192) :
    rpeak v (ix3 0 h s) = peak (fun x => v (ix4 0 h s x)) := by
  unfold rpeak
  have e : (FloatOps.maximumf : Ideal .f32 → Ideal .f32 → Ideal .f32) = (max : EReal → EReal → EReal) := Ideal.maximumf_eq_max
  rw [e]
  exact row_fold v _ _ _ h s

theorem shifted_at (v : FVec Ideal S1x4x8192x256 .f32) (p : FVec Ideal S1x4x8192 .f32) (h : Fin 4) (s : Fin 8192) (j : Fin 256) :
    shifted v p (ix4 0 h s j) = Ideal.exp (v (ix4 0 h s j) - max (Ideal.ofBits .f32 0xFF800000#32) (p (ix3 0 h s))) := by
  pointwise [shifted]

theorem rlift_at (v : FVec Ideal S1x4x8192x256 .f32) (h : Fin 4) (s : Fin 8192) (j : Fin 256) :
    shifted v (rpeak v) (ix4 0 h s j) = lift (fun x => v (ix4 0 h s x)) j := by
  rw [shifted_at, rpeak_at, max_peak, lift]

theorem rprob_at (e : FVec Ideal S1x4x8192x256 .f32) (h : Fin 4) (s : Fin 8192) (j : Fin 256) :
    rprob e (ix4 0 h s j) = Ideal.div (e (ix4 0 h s j)) (∑ x : Fin 256, e (ix4 0 h s x)) := by
  pointwise [rprob, Host.divf]

theorem rout_at (KV : FVec Ideal S256x4096 .bf16) (p : FVec Ideal S1x4x8192x256 .f32) (s : Fin 8192) (n : Fin 2048) :
    rout KV p (ix2 s n) = ∑ x : Fin 256, KV (ix2 x ⟨2048 + n, by omega⟩) * p (ix4 0 ⟨n / 512, by omega⟩ s x) := by
  pointwise [rout, rv]

/-- The reference's array, entry by entry. -/
theorem ref_eq (Q : FVec Ideal S8192x2048 .bf16) (KV : FVec Ideal S256x4096 .bf16) :
    rout KV (rprob (shifted (rscore Q KV) (rpeak (rscore Q KV)))) = Cert.Kernel28Ideal.Attend.OUT Q KV := by
  funext i
  obtain ⟨s, n, rfl⟩ : ∃ (s : Fin 8192) (n : Fin 2048), i = ix2 s n :=
    ⟨i 0, i 1, by funext a; match a with | ⟨0, _⟩ => rfl | ⟨1, _⟩ => rfl⟩
  rw [rout_at]
  refine Finset.sum_congr rfl fun j _ => (mul_comm _ _).trans (congrArg (· * _) ?_)
  rw [rprob_at]
  simp only [rlift_at]
  have e : (fun x => rscore Q KV (ix4 0 (⟨(n : ℕ) / 512, by omega⟩ : Fin 4) s x)) = score Q KV s n n.isLt := by
    funext x
    exact rscore_at Q KV _ s x
  rw [e]; rfl

end Cert.Reference28Ideal.Attend

namespace Cert.Norms
open Idealize.ShloMosaic Idealize.SL.Sem

theorem frame28 : Cert.quiescent_Reference28Ideal := by
  intro m g _
  run_from Cert.Reference28Ideal.Value.run m g
  · exact fun _ => ⟨trivial, trivial⟩
  · exact sem_eq_zero_of_no_sems (by decide) _

set_option maxRecDepth 65536 in
set_option maxHeartbeats 4000000 in
/-- The kernel and the reference end with the same array. -/
theorem value28 : Cert.algebraic_Kernel28Ideal_Reference28Ideal := by
  pair_intro
  · run_from Cert.Kernel28Ideal.Gen.run_main m g
  · run_from Cert.Reference28Ideal.Value.run m' g'
    exact (Cert.Reference28Ideal.Attend.ref_eq _ _).trans (Cert.Kernel28Ideal.Attend.final m c).symm

end Cert.Norms

end
-- ==== Proof.SguSpec.lean ====
/- The spatial gating of one chunk of 128 rows and the norm after it, read over the reals. -/
module

public import Idealize.ShloMosaic.PureOps.Ideal
public import Idealize.ShloMosaic.PureOps.Ideal.Laws

@[expose] public section

noncomputable section

namespace Cert.SguMath

open Idealize.ShloMosaic

/-- The exact GELU, with the constants as the floats hold them. -/
def gel (x : EReal) : EReal :=
  Ideal.ofBits .f32 0x3F000000#32 * x * (1 + Ideal.erf (x * Ideal.ofBits .f32 0x3F3504F3#32))

/-- The reciprocal root of a row's mean square plus ε, from its squares' sum. -/
def rms (s : EReal) : EReal :=
  Ideal.rsqrt (Ideal.div s (Ideal.ofBits .f32 0x44800000#32) + Ideal.ofBits .f32 0x3727C5AC#32)

/-- A row under its norm and a gain. -/
def normed (v g : Fin 1024 → EReal) (k : Fin 1024) : EReal := v k * rms (∑ j, v j * v j) * g k

/-- The group of a column. -/
def grp (k : Fin 1024) : Fin 8 := ⟨k / 128, by omega⟩

variable (z : Fin 128 → Fin 2048 → EReal) (g a : Fin 1024 → EReal) (w : Fin 8 → Fin 128 → Fin 128 → EReal) (b : Fin 8 → Fin 128 → EReal)

/-- The gated half and the mixed half of a row. -/
def left (r : Fin 128) (k : Fin 1024) : EReal := gel (z r ⟨k, by omega⟩)
def right (r : Fin 128) (k : Fin 1024) : EReal := gel (z r ⟨1024 + k, by omega⟩)

/-- The mixed half's rows, weighted by their group's causal matrix, with the row's offset. -/
def mixed (r : Fin 128) (k : Fin 1024) : EReal :=
  (∑ s : Fin 128, (if (s : ℕ) ≤ r then w (grp k) r s else 0) * normed (right z s) g k) + b (grp k) r

/-- The gated row and its norm. -/
def gated (r : Fin 128) (k : Fin 1024) : EReal := left z r k * mixed z g w b r k
def chunk (r : Fin 128) (k : Fin 1024) : EReal := normed (gated z g w b r) a k

/-- The causal mask's bit, and a select under it. -/
theorem causal : ∀ r s : Fin 128, IntOp.cmpi .sge (BitVec.ofNat 32 r) (BitVec.ofNat 32 s) = if (s : ℕ) ≤ r then 1#1 else 0#1 := by
  decide +kernel
theorem causal_mul (r s : Fin 128) (x y : EReal) :
    Scalar.select (IntOp.cmpi .sge (BitVec.ofNat 32 r) (BitVec.ofNat 32 s)) (x * y) 0 = (if (s : ℕ) ≤ r then x else 0) * y := by
  rw [causal]
  by_cases h : (s : ℕ) ≤ r
  · rw [if_pos h, if_pos h]; rfl
  · rw [if_neg h, if_neg h, zero_mul]; rfl

end Cert.SguMath

end
-- ==== Proof.SguTile.lean ====
/- Call 29: the spatial gating, what the kernel's body leaves of one chunk. -/
module

public import proofs.«01_k».proof.Proof.Gen.Kernel29Ideal.Value
public import Idealize.ShloMosaic.Lib.Pipeline.ValueKit
public import Idealize.ShloMosaic.Lib.Pipeline.ReadBack
public import proofs.«01_k».proof.Proof.SguSpec

@[expose] public section

set_option maxRecDepth 16384

noncomputable section

namespace Cert.Kernel29Ideal.Sgu

open Cert.Kernel29Ideal Cert.Kernel29Ideal.Gen Idealize.ShloMosaic Idealize.ShloMosaic.TcCoe Idealize.SL.Sem
open Cert.SguMath

/-! ## The body's chunk, one definition for its four spellings -/

def act (x : FVec Ideal S128x1024 .f32) : FVec Ideal S128x1024 .f32 :=
  mulf (mulf (broadcast S128x1024 (Scalar.ofBits .f32 0x3F000000#32)) x)
    (addf (broadcast S128x1024 (Scalar.ofBits .f32 0x3F800000#32)) (erf (mulf x (broadcast S128x1024 (Scalar.ofBits .f32 0x3F3504F3#32)))))
def nrm (v : FVec Ideal S128x1024 .f32) (g : FVec Ideal S1x1024 .f32) : FVec Ideal S128x1024 .bf16 :=
  truncf .bf16 (mulf (mulf v (broadcastTo S128x1024 (rsqrt (addf (divf
    (shapeCast S128x1 (multiReduction .add [1] S128 (mulf v v) 0x00000000#32 reduces_S128x1024_S128 (.inl rfl) rfl) shapeCasts_S128_S128x1)
    (broadcast S128x1 (Scalar.ofBits .f32 0x44800000#32))) (broadcast S128x1 (Scalar.ofBits .f32 0x3727C5AC#32)))) broadcasts_S128x1_S128x1024))
    (broadcastTo S128x1024 g broadcasts_S1x1024_S128x1024)) bitsLt_bf16_f32
def group (w : FVec Ideal S1x128x128 .f32) (n : FVec Ideal S128x128 .bf16) (b : FVec Ideal S128x1 .f32) : FVec Ideal S128x128 .f32 :=
  addf (matmul dot_S128x128_S128x128_S128x128_1_0_0_1_n_n none
    (truncf .bf16 (select (k0_pay4) (shapeCast S128x128 w shapeCasts_S1x128x128_S128x128)
      (broadcast S128x128 (Scalar.ofBits .f32 0x00000000#32))) bitsLt_bf16_f32) n (constant S128x128 .f32 0x00000000#32))
    (broadcastTo S128x128 (shapeCast S128x1 b shapeCasts_S128x1_S128x1) broadcasts_S128x1_S128x128)
def cat (p0 p1 p2 p3 p4 p5 p6 p7 : FVec Ideal S128x128 .f32) : FVec Ideal S128x1024 .f32 :=
  concatenate S128x1024 1 [⟨S128x128, p0⟩, ⟨S128x128, p1⟩, ⟨S128x128, p2⟩, ⟨S128x128, p3⟩, ⟨S128x128, p4⟩, ⟨S128x128, p5⟩, ⟨S128x128, p6⟩, ⟨S128x128, p7⟩]
    concatenates_S128x128_S128x128_S128x128_S128x128_S128x128_S128x128_S128x128_S128x128_S128x1024_d1

variable (z : FVec Ideal S128x2048 .f32) (g a : FVec Ideal S1x1024 .f32)
  (w0 w1 w2 w3 w4 w5 w6 w7 : FVec Ideal S1x128x128 .f32) (b0 b1 b2 b3 b4 b5 b6 b7 : FVec Ideal S128x1 .f32)

def lhs : FVec Ideal S128x1024 .f32 := act (extractStridedSlice S128x1024 ![0, 0] z slices_S128x2048_o0_0_S128x1024)
def rhs : FVec Ideal S128x1024 .bf16 := nrm (act (extractStridedSlice S128x1024 ![0, 1024] z slices_S128x2048_o0_1024_S128x1024)) g
def mix : FVec Ideal S128x1024 .f32 := cat
  (group w0 (extractStridedSlice S128x128 ![0, 0] (rhs z g) slices_S128x1024_o0_0_S128x128) b0)
  (group w1 (extractStridedSlice S128x128 ![0, 128] (rhs z g) slices_S128x1024_o0_128_S128x128) b1)
  (group w2 (extractStridedSlice S128x128 ![0, 256] (rhs z g) slices_S128x1024_o0_256_S128x128) b2)
  (group w3 (extractStridedSlice S128x128 ![0, 384] (rhs z g) slices_S128x1024_o0_384_S128x128) b3)
  (group w4 (extractStridedSlice S128x128 ![0, 512] (rhs z g) slices_S128x1024_o0_512_S128x128) b4)
  (group w5 (extractStridedSlice S128x128 ![0, 640] (rhs z g) slices_S128x1024_o0_640_S128x128) b5)
  (group w6 (extractStridedSlice S128x128 ![0, 768] (rhs z g) slices_S128x1024_o0_768_S128x128) b6)
  (group w7 (extractStridedSlice S128x128 ![0, 896] (rhs z g) slices_S128x1024_o0_896_S128x128) b7)
def whole : FVec Ideal S128x1024 .bf16 := nrm (mulf (lhs z) (mix z g w0 w1 w2 w3 w4 w5 w6 w7 b0 b1 b2 b3 b4 b5 b6 b7)) a

theorem chunk0 : k0_pay16 (k0_pay2 z) (k0_pay3 z g) k0_pay4 (k0_pay7 (k0_pay5 w0) (k0_pay6 z g) b0) (k0_pay8 (k0_pay3 z g) k0_pay4 w1 b1)
    (k0_pay9 (k0_pay3 z g) k0_pay4 w2 b2) (k0_pay12 (k0_pay10 (k0_pay3 z g) k0_pay4 w3) (k0_pay11 b3)) (k0_pay13 (k0_pay3 z g) k0_pay4 w4 b4)
    (k0_pay14 (k0_pay3 z g) k0_pay4 w5 b5) (k0_pay15 (k0_pay3 z g) k0_pay4 w6 b6) w7 b7 a
    = whole z g a w0 w1 w2 w3 w4 w5 w6 w7 b0 b1 b2 b3 b4 b5 b6 b7 := rfl

theorem chunk1 (N : FVec Ideal S128x1024 .bf16) (hN : N = k0_pay20 g (k0_pay17 z) k0_pay19) (Y : FVec Ideal S128x1024 .f32) (Q : FVec Ideal S128x1 .f32)
    (p0 p1 p2 p3 p4 : FVec Ideal S128x128 .f32)
    (h0 : p0 = k0_pay22 g (k0_pay17 z) k0_pay19 w0 b0) (h1 : p1 = k0_pay24 (k0_pay23 g (k0_pay17 z) k0_pay19 w1) b1)
    (h2 : p2 = k0_pay25 N k0_pay21 w2 b2) (h3 : p3 = k0_pay26 N k0_pay21 w3 b3) (h4 : p4 = k0_pay27 N k0_pay21 w4 b4)
    (hY : Y = k0_pay28 (k0_pay18 z) N k0_pay21 p0 p1 p2 p3 p4 w5 b5 w6 b6 w7 b7) (hQ : Q = k0_pay29 (k0_pay18 z) N k0_pay21 p0 p1 p2 p3 p4 w5 b5 w6 b6 w7 b7) :
    k0_pay31 Y Q k0_pay30 a = whole z g a w0 w1 w2 w3 w4 w5 w6 w7 b0 b1 b2 b3 b4 b5 b6 b7 := by
  subst hY hQ h0 h1 h2 h3 h4 hN; rfl

theorem chunk2 : k0_pay43 (k0_pay32 z) (k0_pay34 g (k0_pay33 z)) k0_pay35 (k0_pay36 g (k0_pay33 z) w0 b0) (k0_pay37 g (k0_pay33 z) w1 b1)
    (k0_pay38 g (k0_pay33 z) w2 b2) (k0_pay39 (k0_pay34 g (k0_pay33 z)) k0_pay35 w3 b3) (k0_pay40 (k0_pay34 g (k0_pay33 z)) k0_pay35 w4 b4)
    (k0_pay41 (k0_pay34 g (k0_pay33 z)) k0_pay35 w5 b5) (k0_pay42 w6) (Scalar.ofBits .f32 0x00000000#32) b6 w7 b7 a
    = whole z g a w0 w1 w2 w3 w4 w5 w6 w7 b0 b1 b2 b3 b4 b5 b6 b7 := rfl

theorem chunk3 : k0_pay1 (k0_pay44 z) (k0_pay49 (k0_pay47 z g w0) (k0_pay48 b0)) (k0_pay50 (k0_pay45 z g) k0_pay46 w1 b1)
    (k0_pay51 (k0_pay45 z g) k0_pay46 w2 b2) (k0_pay52 (k0_pay45 z g) k0_pay46 w3 b3) (k0_pay53 (k0_pay45 z g) k0_pay46 w4 b4)
    (k0_pay54 (k0_pay45 z g) k0_pay46 w5 b5) (k0_pay55 (k0_pay45 z g) k0_pay46 w6 b6) (k0_pay56 k0_pay46 w7) (k0_pay57 (k0_pay45 z g)) b7 a
    = whole z g a w0 w1 w2 w3 w4 w5 w6 w7 b0 b1 b2 b3 b4 b5 b6 b7 := rfl

/-! ## Its entries -/

theorem act_at (x : FVec Ideal S128x1024 .f32) (i : S128x1024.Idx) : act x i = gel (x i) := by
  pointwise [act]; rfl
theorem nrm_at (v : FVec Ideal S128x1024 .f32) (g : FVec Ideal S1x1024 .f32) (r : Fin 128) (k : Fin 1024) :
    nrm v g (ix2 r k) = normed (fun j => v (ix2 r j)) (fun j => g (ix2 0 j)) k := by
  pointwise [nrm]; rfl
theorem group_at (w : FVec Ideal S1x128x128 .f32) (n : FVec Ideal S128x128 .bf16) (b : FVec Ideal S128x1 .f32) (r t : Fin 128) :
    group w n b (ix2 r t) = (∑ s : Fin 128, (if (s : ℕ) ≤ r then w (ix3 0 r s) else 0) * n (ix2 s t)) + b (ix2 r 0) := by
  pointwise [group, k0_pay4]
  exact congrArg (· + _) (Finset.sum_congr rfl fun s _ => causal_mul r s _ _)

theorem cat_at (p0 p1 p2 p3 p4 p5 p6 p7 : FVec Ideal S128x128 .f32) (f : Fin 1024 → EReal) (r : Fin 128)
    (h0 : ∀ t : Fin 128, p0 (ix2 r t) = f ⟨t, by omega⟩) (h1 : ∀ t : Fin 128, p1 (ix2 r t) = f ⟨128 + t, by omega⟩)
    (h2 : ∀ t : Fin 128, p2 (ix2 r t) = f ⟨256 + t, by omega⟩) (h3 : ∀ t : Fin 128, p3 (ix2 r t) = f ⟨384 + t, by omega⟩)
    (h4 : ∀ t : Fin 128, p4 (ix2 r t) = f ⟨512 + t, by omega⟩) (h5 : ∀ t : Fin 128, p5 (ix2 r t) = f ⟨640 + t, by omega⟩)
    (h6 : ∀ t : Fin 128, p6 (ix2 r t) = f ⟨768 + t, by omega⟩) (h7 : ∀ t : Fin 128, p7 (ix2 r t) = f ⟨896 + t, by omega⟩) (k : Fin 1024) :
    cat p0 p1 p2 p3 p4 p5 p6 p7 (ix2 r k) = f k := by
  pointwise [cat]
  split_ifs <;> simp only [h0, h1, h2, h3, h4, h5, h6, h7] <;> congr 1 <;> apply Fin.ext <;> simp only <;> omega

/-- A group's entry, from the whole rows. -/
theorem group_row (Z : Fin 128 → Fin 2048 → EReal) (G : Fin 1024 → EReal) (W : Fin 8 → Fin 128 → Fin 128 → EReal) (B : Fin 8 → Fin 128 → EReal)
    (w : FVec Ideal S1x128x128 .f32) (n : FVec Ideal S128x128 .bf16) (b : FVec Ideal S128x1 .f32) (e : Fin 8) (r t : Fin 128) (k : Fin 1024)
    (hk : grp k = e) (hw : ∀ s, w (ix3 0 r s) = W e r s) (hn : ∀ s, n (ix2 s t) = normed (right Z s) G k) (hb : b (ix2 r 0) = B e r) :
    group w n b (ix2 r t) = mixed Z G W B r k := by
  subst hk
  rw [group_at, hb, mixed]
  exact congrArg (· + _) (Finset.sum_congr rfl fun s _ => by rw [hw, hn])

theorem rhs_at (r : Fin 128) (k : Fin 1024) :
    rhs z g (ix2 r k) = normed (right (fun r c => z (ix2 r c)) r) (fun j => g (ix2 0 j)) k := by
  rw [rhs, nrm_at]
  refine congrArg (fun v => normed v _ k) (funext fun j => ?_)
  rw [act_at]
  pointwise [right]

theorem lhs_at (r : Fin 128) (k : Fin 1024) : lhs z (ix2 r k) = left (fun r c => z (ix2 r c)) r k := by
  rw [lhs, act_at]
  pointwise [left]

/-- The gated rows' entry, from the chunk's rows, its groups' matrices and offsets. -/
theorem gated_at (Z : Fin 128 → Fin 2048 → EReal) (G : Fin 1024 → EReal) (W : Fin 8 → Fin 128 → Fin 128 → EReal) (B : Fin 8 → Fin 128 → EReal)
    (hz : ∀ r c, z (ix2 r c) = Z r c) (hg : ∀ k, g (ix2 0 k) = G k)
    (hw0 : ∀ r s, w0 (ix3 0 r s) = W 0 r s) (hw1 : ∀ r s, w1 (ix3 0 r s) = W 1 r s) (hw2 : ∀ r s, w2 (ix3 0 r s) = W 2 r s)
    (hw3 : ∀ r s, w3 (ix3 0 r s) = W 3 r s) (hw4 : ∀ r s, w4 (ix3 0 r s) = W 4 r s) (hw5 : ∀ r s, w5 (ix3 0 r s) = W 5 r s)
    (hw6 : ∀ r s, w6 (ix3 0 r s) = W 6 r s) (hw7 : ∀ r s, w7 (ix3 0 r s) = W 7 r s)
    (hb0 : ∀ r, b0 (ix2 r 0) = B 0 r) (hb1 : ∀ r, b1 (ix2 r 0) = B 1 r) (hb2 : ∀ r, b2 (ix2 r 0) = B 2 r) (hb3 : ∀ r, b3 (ix2 r 0) = B 3 r)
    (hb4 : ∀ r, b4 (ix2 r 0) = B 4 r) (hb5 : ∀ r, b5 (ix2 r 0) = B 5 r) (hb6 : ∀ r, b6 (ix2 r 0) = B 6 r) (hb7 : ∀ r, b7 (ix2 r 0) = B 7 r)
    (r : Fin 128) (j : Fin 1024) :
    mulf (lhs z) (mix z g w0 w1 w2 w3 w4 w5 w6 w7 b0 b1 b2 b3 b4 b5 b6 b7) (ix2 r j) = gated Z G W B r j := by
  obtain rfl : (fun r c => z (ix2 r c)) = Z := funext fun r => funext fun c => hz r c
  obtain rfl : (fun k => g (ix2 0 k)) = G := funext hg
  refine congrArg₂ (· * ·) (lhs_at z r j) ?_
  refine cat_at _ _ _ _ _ _ _ _ (mixed _ _ W B r) r ?_ ?_ ?_ ?_ ?_ ?_ ?_ ?_ j <;> intro t
  · exact group_row _ _ W B _ _ _ 0 r t _ (Fin.ext (by simp only [grp]; omega)) (hw0 r) (fun s => by rw [← rhs_at]; pointwise []) (hb0 r)
  · exact group_row _ _ W B _ _ _ 1 r t _ (Fin.ext (by simp only [grp]; omega)) (hw1 r) (fun s => by rw [← rhs_at]; pointwise []) (hb1 r)
  · exact group_row _ _ W B _ _ _ 2 r t _ (Fin.ext (by simp only [grp]; omega)) (hw2 r) (fun s => by rw [← rhs_at]; pointwise []) (hb2 r)
  · exact group_row _ _ W B _ _ _ 3 r t _ (Fin.ext (by simp only [grp]; omega)) (hw3 r) (fun s => by rw [← rhs_at]; pointwise []) (hb3 r)
  · exact group_row _ _ W B _ _ _ 4 r t _ (Fin.ext (by simp only [grp]; omega)) (hw4 r) (fun s => by rw [← rhs_at]; pointwise []) (hb4 r)
  · exact group_row _ _ W B _ _ _ 5 r t _ (Fin.ext (by simp only [grp]; omega)) (hw5 r) (fun s => by rw [← rhs_at]; pointwise []) (hb5 r)
  · exact group_row _ _ W B _ _ _ 6 r t _ (Fin.ext (by simp only [grp]; omega)) (hw6 r) (fun s => by rw [← rhs_at]; pointwise []) (hb6 r)
  · exact group_row _ _ W B _ _ _ 7 r t _ (Fin.ext (by simp only [grp]; omega)) (hw7 r) (fun s => by rw [← rhs_at]; pointwise []) (hb7 r)

end Cert.Kernel29Ideal.Sgu

end
-- ==== Proof.SguArray.lean ====
/- Call 29: the spatial gating's array, chunk by chunk. -/
module

public import proofs.«01_k».proof.Proof.SguTile

@[expose] public section

set_option maxRecDepth 16384

noncomputable section

namespace Cert.Kernel29Ideal.Sgu

open Cert.Kernel29Ideal Cert.Kernel29Ideal.Gen Idealize.ShloMosaic Idealize.ShloMosaic.TcCoe Idealize.SL.Sem
open Idealize.ShloMosaic.Pipeline (Dat)
open Cert.SguMath

variable (m : (ℓ : Loc nD τ sig) → Buf (Elt Ideal) ℓ)

abbrev Za (c : Dev nD) : FVec Ideal S8192x3328 .f32 := m ((c : Thread nD τ).loc main_arg0)
abbrev Ga (c : Dev nD) : FVec Ideal S1x1024 .f32 := m ((c : Thread nD τ).loc main_arg1)
abbrev Wa (c : Dev nD) : FVec Ideal S8x128x128 .f32 := m ((c : Thread nD τ).loc main_arg2)
abbrev Ba (c : Dev nD) : FVec Ideal S8x128 .f32 := m ((c : Thread nD τ).loc main_arg3)
abbrev Aa (c : Dev nD) : FVec Ideal S1x1024 .f32 := m ((c : Thread nD τ).loc main_arg4)

/-- A chunk's rows of the projection, and the array the call is to leave. -/
def rows (Z : FVec Ideal S8192x3328 .f32) (n : Fin 64) (r : Fin 128) (k : Fin 2048) : EReal := Z (ix2 ⟨n * 128 + r, by omega⟩ ⟨k, by omega⟩)
def OUT (Z : FVec Ideal S8192x3328 .f32) (G : FVec Ideal S1x1024 .f32) (W : FVec Ideal S8x128x128 .f32) (B : FVec Ideal S8x128 .f32)
    (A : FVec Ideal S1x1024 .f32) : FVec Ideal S8192x1024 .bf16 :=
  fun i => chunk (rows Z ⟨(i 0 : ℕ) / 128, by have := (i 0).isLt; simp at this; omega⟩) (fun k => G (ix2 0 k)) (fun k => A (ix2 0 k))
    (fun e r s => W (ix3 e r s)) (fun e r => B (ix2 e r)) ⟨(i 0 : ℕ) % 128, by omega⟩ (i 1)

theorem idx_at : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![t.val, 0] :=
  (by decide +kernel : ∀ t : Fin grid0.N, win0_0.index t = ![t.val, 0] ∧ win0_1.index t = ![0, 0] ∧ win0_2.index t = ![0, 0, 0] ∧ win0_3.index t = ![0, 0]
    ∧ win0_4.index t = ![0, 0] ∧ win0_5.index t = ![t.val, 0])

/-- The block reads: the bias, which the host transposes, a group's weights, the two norm scales. -/
abbrev bt (c : Dev nD) (t : Fin cfg0.N) (e : Fin 8) : FVec Ideal S128x1 .f32 :=
  View.ld (iblk m c 3 t) (Rect.unit (s := S128x8) ![0, (e : ℕ)] ![128, 1] (by revert e; decide))
abbrev wt (c : Dev nD) (t : Fin cfg0.N) (e : Fin 8) : FVec Ideal S1x128x128 .f32 :=
  View.ld (iblk m c 2 t) (Rect.unit (s := S8x128x128) ![(e : ℕ), 0, 0] ![1, 128, 128] (by revert e; decide))
theorem bias_at (c : Dev nD) (t : Fin cfg0.N) (e : Fin 8) (r : Fin 128) : bt m c t e (ix2 r 0) = Ba m c (ix2 e r) := by
  have hV : (show FVec Ideal S128x8 .f32 from V m c main_v0) (ix2 r e) = Ba m c (ix2 e r) := by
    unfold V
    entry_read
    pointwise
  rw [← hV]
  pointwise [bt]
  blk_point [iblk, idx_at t]
theorem weight_at (c : Dev nD) (t : Fin cfg0.N) (e : Fin 8) (r s : Fin 128) : wt m c t e (ix3 0 r s) = Wa m c (ix3 e r s) := by
  pointwise [wt]
  blk_point [iblk, V_main_arg2, idx_at t]
theorem scale_at (c : Dev nD) (t : Fin cfg0.N) (k : Fin 1024) : (show FVec Ideal S1x1024 .f32 from iblk m c 1 t) (ix2 0 k) = Ga m c (ix2 0 k) := by
  blk_point [iblk, V_main_arg1, idx_at t]
theorem after_at (c : Dev nD) (t : Fin cfg0.N) (k : Fin 1024) : (show FVec Ideal S1x1024 .f32 from iblk m c 4 t) (ix2 0 k) = Aa m c (ix2 0 k) := by
  blk_point [iblk, V_main_arg4, idx_at t]

/-- The point's rows, whole although the array is wider than the block. -/
theorem rows_at (c : Dev nD) (t : Fin cfg0.N) (q : ℕ) (hq : q < 4) (n : Fin 64) (hn : (n : ℕ) = t.val * 4 + q) (r : Fin 128) (k : Fin 2048)
    (h : ∀ a, ![q * 128, 0] a + ![128, 2048] a ≤ S512x2048.size a) :
    (show FVec Ideal S128x2048 .f32 from View.ld (X0_0 m c t) (Rect.unit (s := S512x2048) ![q * 128, 0] ![128, 2048] h)) (ix2 r k) = rows (Za m c) n r k := by
  pointwise [X0_0, Pipeline.Window.fill, dif_pos (moved0_0 t _), rows]
  blk_point [iblk, V_main_arg0, idx_at t]

/-- A chunk's entry is the array's. -/
theorem place (c : Dev nD) (t : Fin cfg0.N) (q : ℕ) (hq : q < 4) (x : S128x1024.Idx) (i : S8192x1024.Idx)
    (hi0 : (i 0 : ℕ) = (t.val * 4 + q) * 128 + x 0) (hi1 : (i 1 : ℕ) = x 1) (h : ∀ a, ![q * 128, 0] a + ![128, 2048] a ≤ S512x2048.size a)
    (f : FVec Ideal S128x1024 .bf16)
    (hf : f = whole (View.ld (X0_0 m c t) (Rect.unit (s := S512x2048) ![q * 128, 0] ![128, 2048] h)) (iblk m c 1 t) (iblk m c 4 t)
      (wt m c t 0) (wt m c t 1) (wt m c t 2) (wt m c t 3) (wt m c t 4) (wt m c t 5) (wt m c t 6) (wt m c t 7)
      (bt m c t 0) (bt m c t 1) (bt m c t 2) (bt m c t 3) (bt m c t 4) (bt m c t 5) (bt m c t 6) (bt m c t 7)) :
    f x = OUT (Za m c) (Ga m c) (Wa m c) (Ba m c) (Aa m c) i := by
  have ht : t.val < 16 := t.isLt
  obtain ⟨r, k, rfl⟩ : ∃ (r : Fin 128) (k : Fin 1024), x = ix2 r k :=
    ⟨x 0, x 1, by funext a; match a with | ⟨0, _⟩ => rfl | ⟨1, _⟩ => rfl⟩
  have e0 : (i 0 : ℕ) = (t.val * 4 + q) * 128 + r := hi0
  have e1 : i 1 = k := Fin.ext hi1
  have en : (⟨(i 0 : ℕ) / 128, by omega⟩ : Fin 64) = ⟨t.val * 4 + q, by omega⟩ := Fin.ext (by simp only [e0]; omega)
  have er : (⟨(i 0 : ℕ) % 128, by omega⟩ : Fin 128) = r := Fin.ext (by simp only [e0]; omega)
  rw [hf, OUT, e1, en, er, whole, nrm_at, chunk]
  refine congrArg₂ (fun v a => normed v a k) (funext fun j => ?_) (funext (after_at m c t))
  exact gated_at _ _ _ _ _ _ _ _ _ _ _ _ _ _ _ _ _ _ _ _ _ _ (fun r k => rows_at m c t q hq _ rfl r k h) (scale_at m c t)
    (weight_at m c t 0) (weight_at m c t 1) (weight_at m c t 2) (weight_at m c t 3) (weight_at m c t 4) (weight_at m c t 5) (weight_at m c t 6) (weight_at m c t 7)
    (bias_at m c t 0) (bias_at m c t 1) (bias_at m c t 2) (bias_at m c t 3) (bias_at m c t 4) (bias_at m c t 5) (bias_at m c t 6) (bias_at m c t 7) r j

/-- What a grid point writes, chunk by chunk, is its block of the array. -/
theorem point (c : Dev nD) (t : Fin cfg0.N) (y : S512x1024.Idx) (i : S8192x1024.Idx)
    (hi0 : (i 0 : ℕ) = t.val * 512 + y 0) (hi1 : (i 1 : ℕ) = y 1) :
    (show FVec Ideal S512x1024 .bf16 from outsAt0 m c t) y = OUT (Za m c) (Ga m c) (Wa m c) (Ba m c) (Aa m c) i := by
  rw [outsAt0]
  frame_out
  canon_tiles x h
  case piece0 => exact place m c t 3 (by omega) x i (by omega) (by omega) _ _ (chunk3 _ _ _ _ _ _ _ _ _ _ _ _ _ _ _ _ _ _ _)
  case piece1 => exact place m c t 2 (by omega) x i (by omega) (by omega) _ _ (chunk2 _ _ _ _ _ _ _ _ _ _ _ _ _ _ _ _ _ _ _)
  case piece2 =>
    exact place m c t 1 (by omega) x i (by omega) (by omega) _ _
      (chunk1 _ _ _ _ _ _ _ _ _ _ _ _ _ _ _ _ _ _ _ _ rfl _ _ _ _ _ _ _ rfl rfl rfl rfl rfl rfl rfl)
  case piece3 => exact place m c t 0 (by omega) x i (by omega) (by omega) _ _ (chunk0 _ _ _ _ _ _ _ _ _ _ _ _ _ _ _ _ _ _ _)

/-- The array after all points. -/
theorem final (c : Dev nD) : (dats m 0 c).arrAt 5 (cfgs 0).N = OUT (Za m c) (Ga m c) (Wa m c) (Ba m c) (Aa m c) := by
  refine (dats m 0 c).arrAt_eq_of_covers 5 _ (by decide +kernel) fun t hf y => ?_
  blk_simp
  rw [after0_5]
  refine point m c t y _ ?_ ?_ <;> blk_simp [idx_at t]

end Cert.Kernel29Ideal.Sgu

end
-- ==== Proof.SguRef.lean ====
/- Call 29: the reference's array, and the claim. -/
module

public import proofs.«01_k».proof.Proof.SguArray
public import proofs.«01_k».proof.Defs
public import proofs.«01_k».proof.Proof.Gen.Reference29Ideal.Run
public import Idealize.ShloMosaic.Adequacy
public import Idealize.ShloMosaic.Init

@[expose] public section

set_option maxRecDepth 16384

noncomputable section

namespace Cert.Reference29Ideal.Sgu

open Cert.Reference29Ideal Cert.Reference29Ideal.Gen Cert.Reference29Ideal.Facts Idealize.ShloMosaic Idealize.ShloMosaic.TcCoe Idealize.SL.Sem
open Cert.SguMath
open Cert.Kernel29Ideal.Sgu (rows OUT)

/-- The GELU of the left columns, and its two halves. -/
def cut (Z : FVec Ideal S8192x3328 .f32) : FVec Ideal S8192x2048 .f32 :=
  extractStridedSlice S8192x2048 ![0, 0] Z slices_S8192x3328_S8192x2048_0_0
def act (Z : FVec Ideal S8192x3328 .f32) : FVec Ideal S8192x2048 .f32 :=
  mulf (mulf (broadcastInDim S8192x2048 ![] bcast_S_S8192x2048 (constant S_ .f32 0x3F000000#32)) (cut Z))
    (Host.erfc (mulf (Host.negf (cut Z)) (broadcastInDim S8192x2048 ![] bcast_S_S8192x2048 (constant S_ .f32 0x3F3504F3#32))))
def uu (Z : FVec Ideal S8192x3328 .f32) : FVec Ideal S8192x1024 .f32 :=
  extractStridedSlice S8192x1024 ![0, 0] (act Z) slices_S8192x2048_S8192x1024_0_0
def vv (Z : FVec Ideal S8192x3328 .f32) : FVec Ideal S8192x1024 .f32 :=
  extractStridedSlice S8192x1024 ![0, 1024] (act Z) slices_S8192x2048_S8192x1024_0_1024
/-- A row's norm under a gain. -/
def nrm (v : FVec Ideal S8192x1024 .f32) (g : FVec Ideal S1x1024 .f32) : FVec Ideal S8192x1024 .f32 :=
  mulf (mulf v (broadcastInDim S8192x1024 ![0, 1] bcast_S8192x1_S8192x1024_0_1 (Host.rsqrt (addf
    (Host.divf (broadcastInDim S8192x1 ![0] bcast_S8192_S8192x1_0
        (Host.reduceAdd (mulf v v) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x3727C5AC#32))))))
    (broadcastInDim S8192x1024 ![0, 1] bcast_S1x1024_S8192x1024_0_1
      (broadcastInDim S1x1024 ![1] bcast_S1024_S1x1024_1 (shapeCast _ g shapeCasts_S1x1024_S1024)))
/-- The causal matrices, the mixed rows and the gated rows. -/
def tri : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
def masked (W : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 tri))
    W (broadcastInDim S8x128x128 ![] bcast_S_S8x128x128 (constant S_ .f32 0x00000000#32))
def dot (v : FVec Ideal S8192x1024 .f32) (W : FVec Ideal S8x128x128 .f32) : FVec Ideal S8x64x128x128 .f32 :=
  Host.dotGeneral dot_S64x128x8x128_S8x128x128_S8x64x128x128_1_2_03_1_2_0 none (shapeCast _ v shapeCasts_S8192x1024_S64x128x8x128) (masked W)
def four (v : FVec Ideal S8192x1024 .f32) (W : FVec Ideal S8x128x128 .f32) (B : FVec Ideal S8x128 .f32) : FVec Ideal S64x128x8x128 .f32 :=
  addf (transpose S64x128x8x128 [1, 3, 0, 2] (dot v W) transposes_S8x64x128x128_S64x128x8x128_1_3_0_2)
    (broadcastInDim S64x128x8x128 ![0, 1, 2, 3] bcast_S1x128x8x1_S64x128x8x128_0_1_2_3
      (broadcastInDim S1x128x8x1 ![1, 2] bcast_S128x8_S1x128x8x1_1_2 (transpose S128x8 [1, 0] B transposes_S8x128_S128x8_1_0)))

theorem act_at (Z : FVec Ideal S8192x3328 .f32) (R : Fin 8192) (c : Fin 2048) : act Z (ix2 R c) = gel (Z (ix2 R ⟨c, by omega⟩)) := by
  have h : cut Z (ix2 R c) = Z (ix2 R ⟨c, by omega⟩) := by pointwise [cut]
  rw [← h]
  pointwise [act]
  simp only [neg_mul, Ideal.hostUnary_erfc_def, Ideal.hostNegf_def, Ideal.negf_def, Ideal.mulf_def, Ideal.ofBits_def, Ideal.erfc_neg, gel]
theorem uu_at (Z : FVec Ideal S8192x3328 .f32) (R : Fin 8192) (k : Fin 1024) : uu Z (ix2 R k) = gel (Z (ix2 R ⟨k, by omega⟩)) := by
  refine Eq.trans ?_ (act_at Z R ⟨k, by omega⟩); pointwise [uu]
theorem vv_at (Z : FVec Ideal S8192x3328 .f32) (R : Fin 8192) (k : Fin 1024) : vv Z (ix2 R k) = gel (Z (ix2 R ⟨1024 + k, by omega⟩)) := by
  refine Eq.trans ?_ (act_at Z R ⟨1024 + k, by omega⟩); pointwise [vv]
theorem nrm_at (v : FVec Ideal S8192x1024 .f32) (g : FVec Ideal S1x1024 .f32) (R : Fin 8192) (k : Fin 1024) :
    nrm v g (ix2 R k) = normed (fun j => v (ix2 R j)) (fun j => g (ix2 0 j)) k := by
  pointwise [nrm]; rfl
theorem tri_at : ∀ r s : Fin 128, tri (ix2 r s) = if (s : ℕ) ≤ r then 1#1 else 0#1 := by
  intro r s; pointwise [tri]
  have h : IntOp.addi (BitVec.ofNat 32 r) 0#32 = BitVec.ofNat 32 r := BitVec.add_zero _
  rw [h, causal]
  by_cases h : (s : ℕ) ≤ r
  · rw [if_pos h]; rfl
  · rw [if_neg h]; rfl
theorem masked_at (W : FVec Ideal S8x128x128 .f32) (e : Fin 8) (r s : Fin 128) :
    masked W (ix3 e r s) = if (s : ℕ) ≤ r then W (ix3 e r s) else 0 := by
  pointwise [masked]
  rw [tri_at]
  by_cases h : (s : ℕ) ≤ r
  · rw [if_pos h, if_pos h]; rfl
  · rw [if_neg h, if_neg h]; rfl
theorem dot_at (v : FVec Ideal S8192x1024 .f32) (W : FVec Ideal S8x128x128 .f32) (e : Fin 8) (n : Fin 64) (f r : Fin 128) :
    dot v W (ix4 e n f r) = ∑ s : Fin 128, masked W (ix3 e r s) * v (ix2 ⟨n * 128 + s, by omega⟩ ⟨e * 128 + f, by omega⟩) := by
  pointwise [dot]
  exact Finset.sum_congr rfl fun s _ => mul_comm _ _
theorem four_at (v : FVec Ideal S8192x1024 .f32) (W : FVec Ideal S8x128x128 .f32) (B : FVec Ideal S8x128 .f32) (e : Fin 8) (n : Fin 64) (f r : Fin 128) :
    four v W B (ix4 n r e f) = dot v W (ix4 e n f r) + B (ix2 e r) := by
  pointwise [four]
theorem flat (x : FVec Ideal S64x128x8x128 .f32) (R : Fin 8192) (k : Fin 1024) :
    (show FVec Ideal S8192x1024 .f32 from shapeCast _ x shapeCasts_S64x128x8x128_S8192x1024) (ix2 R k)
      = x (ix4 ⟨R / 128, by omega⟩ ⟨R % 128, by omega⟩ ⟨k / 128, by omega⟩ ⟨k % 128, by omega⟩) := by
  pointwise

/-- The gated rows. -/
def gate (Z : FVec Ideal S8192x3328 .f32) (g : FVec Ideal S1x1024 .f32) (W : FVec Ideal S8x128x128 .f32) (B : FVec Ideal S8x128 .f32) : FVec Ideal S8192x1024 .f32 :=
  mulf (uu Z) (shapeCast _ (four (nrm (vv Z) g) W B) shapeCasts_S64x128x8x128_S8192x1024)
theorem gate_at (Z : FVec Ideal S8192x3328 .f32) (g : FVec Ideal S1x1024 .f32) (W : FVec Ideal S8x128x128 .f32) (B : FVec Ideal S8x128 .f32)
    (R : Fin 8192) (k : Fin 1024) : gate Z g W B (ix2 R k)
      = gated (rows Z ⟨R / 128, by omega⟩) (fun k => g (ix2 0 k)) (fun e r s => W (ix3 e r s)) (fun e r => B (ix2 e r)) ⟨R % 128, by omega⟩ k := by
  have hR : (⟨(R / 128) * 128 + R % 128, by omega⟩ : Fin 8192) = R := Fin.ext (by simp only; omega)
  have hk : (⟨(k / 128) * 128 + k % 128, by omega⟩ : Fin 1024) = k := Fin.ext (by simp only; omega)
  refine congrArg₂ (· * ·) ((uu_at Z R k).trans ?_) ((flat _ R k).trans ((four_at _ W B _ _ _ _).trans (congrArg₂ (· + ·) ((dot_at _ W _ _ _ _).trans ?_) rfl)))
  · simp only [left, rows, hR]
  · refine Finset.sum_congr rfl fun s _ => congrArg₂ (· * ·) (masked_at W _ _ s) ?_
    rw [nrm_at]
    simp only [hk, vv_at, right]
    rfl

theorem ref_eq (Z : FVec Ideal S8192x3328 .f32) (g : FVec Ideal S1x1024 .f32) (W : FVec Ideal S8x128x128 .f32) (B : FVec Ideal S8x128 .f32) (A : FVec Ideal S1x1024 .f32) :
    truncf .bf16 (nrm (gate Z g W B) A) bitsLt_bf16_f32 = OUT Z g W B A := by
  funext i
  obtain ⟨R, k, rfl⟩ : ∃ (R : Fin 8192) (k : Fin 1024), i = ix2 R k :=
    ⟨i 0, i 1, by funext a; match a with | ⟨0, _⟩ => rfl | ⟨1, _⟩ => rfl⟩
  refine (nrm_at _ A R k).trans ?_
  simp only [gate_at]
  rfl

end Cert.Reference29Ideal.Sgu

namespace Cert.Norms
open Idealize.ShloMosaic Idealize.SL.Sem

theorem frame29 : Cert.quiescent_Reference29Ideal := by
  intro m g _
  run_from Cert.Reference29Ideal.Value.run m g
  · exact fun _ => ⟨trivial, trivial, trivial, trivial, trivial⟩
  · exact sem_eq_zero_of_no_sems (by decide) _

set_option maxRecDepth 65536 in
set_option maxHeartbeats 4000000 in
/-- The kernel and the reference end with the same array. -/
theorem value29 : Cert.algebraic_Kernel29Ideal_Reference29Ideal := by
  pair_intro
  · run_from Cert.Kernel29Ideal.Gen.run_main m g
  · run_from Cert.Reference29Ideal.Value.run m' g'
    obtain ⟨a0, a1, a2, a3, a4⟩ := hagree c
    refine (Cert.Reference29Ideal.Sgu.ref_eq _ _ _ _ _).trans (Eq.trans ?_ (Cert.Kernel29Ideal.Sgu.final m c).symm)
    rw [a0, a1, a2, a3, a4]

end Cert.Norms

end
-- ==== Proof.SguB.lean ====
/- Call 31: the spatial gating's gradient: the partial gradient of the gain of the norm after it. -/
module

public import proofs.«01_k».proof.Proof.SguRef
public import proofs.«01_k».proof.Proof.Gen.Kernel31Ideal.Value
public import proofs.«01_k».proof.Proof.Gen.Reference31Ideal.Run

@[expose] public section

set_option maxRecDepth 16384

noncomputable section

namespace Cert.Kernel31Ideal.SguB

open Cert.Kernel31Ideal Cert.Kernel31Ideal.Gen Idealize.ShloMosaic Idealize.ShloMosaic.TcCoe Idealize.SL.Sem
open Idealize.ShloMosaic.Pipeline (Dat)
open Cert.SguMath
open Cert.Kernel29Ideal.Sgu (rows lhs mix gated_at)

variable (m : (ℓ : Loc nD τ sig) → Buf (Elt Ideal) ℓ)

abbrev Za (c : Dev nD) : FVec Ideal S8192x3328 .f32 := m ((c : Thread nD τ).loc main_arg0)
abbrev Da (c : Dev nD) : FVec Ideal S8192x2048 .f32 := m ((c : Thread nD τ).loc main_arg1)
abbrev Ga (c : Dev nD) : FVec Ideal S1x1024 .f32 := m ((c : Thread nD τ).loc main_arg2)
abbrev Wa (c : Dev nD) : FVec Ideal S8x128x128 .f32 := m ((c : Thread nD τ).loc main_arg3)
abbrev Ba (c : Dev nD) : FVec Ideal S8x128 .f32 := m ((c : Thread nD τ).loc main_arg4)

/-- A row under its norm, before a gain. -/
def hat (v : Fin 1024 → EReal) (k : Fin 1024) : EReal := v k * rms (∑ j, v j * v j)

/-- A chunk's part of the gain's gradient, and the array the call is to leave. -/
def cot (D : FVec Ideal S8192x2048 .f32) (n : Fin 64) (r : Fin 128) (k : Fin 1024) : EReal := D (ix2 ⟨n * 128 + r, by omega⟩ ⟨k, by omega⟩)
variable (Z : FVec Ideal S8192x3328 .f32) (D : FVec Ideal S8192x2048 .f32) (G : FVec Ideal S1x1024 .f32) (W : FVec Ideal S8x128x128 .f32) (B : FVec Ideal S8x128 .f32) in
def part (k : Fin 1024) (n : Fin 64) : EReal :=
  ∑ r : Fin 128, cot D n r k
    * hat (gated (rows Z n) (fun k => G (ix2 0 k)) (fun e r s => W (ix3 e r s)) (fun e r => B (ix2 e r)) r) k
def DGA (Z : FVec Ideal S8192x3328 .f32) (D : FVec Ideal S8192x2048 .f32) (G : FVec Ideal S1x1024 .f32) (W : FVec Ideal S8x128x128 .f32) (B : FVec Ideal S8x128 .f32) : FVec Ideal S1x1024 .f32 :=
  fun i => ∑ n : Fin 64, part Z D G W B (i 1) n

/-- One chunk's step of the running sum. -/
def yhat (v : FVec Ideal S128x1024 .f32) : FVec Ideal S128x1024 .f32 :=
  mulf v (broadcastTo S128x1024 (rsqrt (addf (divf
    (shapeCast S128x1 (multiReduction .add [1] S128 (mulf v v) 0x00000000#32 reduces_S128x1024_S128 (.inl rfl) rfl) shapeCasts_S128_S128x1)
    (broadcast S128x1 (Scalar.ofBits .f32 0x44800000#32))) (broadcast S128x1 (Scalar.ofBits .f32 0x3727C5AC#32)))) broadcasts_S128x1_S128x1024)
def acc (v d : FVec Ideal S128x1024 .f32) (s : FVec Ideal S1x1024 .f32) : FVec Ideal S1x1024 .f32 :=
  addf (shapeCast S1x1024 s shapeCasts_S1x1024_S1x1024)
    (shapeCast S1x1024 (multiReduction .add [0] S1024 (mulf d (yhat v)) 0x00000000#32 reduces_S128x1024_S1024 (.inl rfl) rfl) shapeCasts_S1024_S1x1024)

theorem yhat_at (v : FVec Ideal S128x1024 .f32) (r : Fin 128) (k : Fin 1024) : yhat v (ix2 r k) = hat (fun j => v (ix2 r j)) k := by
  pointwise [yhat]; rfl
theorem acc_at (v d : FVec Ideal S128x1024 .f32) (s : FVec Ideal S1x1024 .f32) (k : Fin 1024) :
    acc v d s (ix2 0 k) = s (ix2 0 k) + ∑ r : Fin 128, d (ix2 r k) * hat (fun j => v (ix2 r j)) k := by
  have e : acc v d s (ix2 0 k) = s (ix2 0 k) + ∑ r : Fin 128, d (ix2 r k) * yhat v (ix2 r k) := by
    pointwise [acc]
  rw [e]; simp only [yhat_at]
theorem zero_at (k : Fin 1024) : k0_pay4 (F := Ideal) (ix2 0 k) = 0 := by
  pointwise [k0_pay4]

theorem idx_at : ∀ t : Fin cfg0.N, win0_0.index t = ![t.val, 0] ∧ win0_1.index t = ![t.val, 0] ∧ win0_2.index t = ![0, 0] ∧ win0_3.index t = ![0, 0, 0]
    ∧ win0_5.index t = ![0, 0] ∧ win0_11.index t = ![0, 0] :=
  (by decide +kernel : ∀ t : Fin grid0.N, win0_0.index t = ![t.val, 0] ∧ win0_1.index t = ![t.val, 0] ∧ win0_2.index t = ![0, 0] ∧ win0_3.index t = ![0, 0, 0]
    ∧ win0_5.index t = ![0, 0] ∧ win0_11.index t = ![0, 0])

/-- The block reads: a group's offsets, which the host transposes, its weights, the norm scale, a chunk's rows. -/
abbrev bt (c : Dev nD) (t : Fin cfg0.N) (e : Fin 8) : FVec Ideal S128x1 .f32 :=
  View.ld (iblk m c 5 t) (Rect.unit (s := S128x8) ![0, (e : ℕ)] ![128, 1] (by revert e; decide))
abbrev wt (c : Dev nD) (t : Fin cfg0.N) (e : Fin 8) : FVec Ideal S1x128x128 .f32 :=
  View.ld (iblk m c 3 t) (Rect.unit (s := S8x128x128) ![(e : ℕ), 0, 0] ![1, 128, 128] (by revert e; decide))
abbrev zq (c : Dev nD) (t : Fin cfg0.N) (q : Fin 4) : FVec Ideal S128x2048 .f32 :=
  View.ld (X0_0 m c t) (Rect.unit (s := S512x2048) ![(q : ℕ) * 128, 0] ![128, 2048] (by revert q; decide))
abbrev dq (c : Dev nD) (t : Fin cfg0.N) (q : Fin 4) : FVec Ideal S128x1024 .f32 :=
  View.ld (iblk m c 1 t) (Rect.unit (s := S512x1024) ![(q : ℕ) * 128, 0] ![128, 1024] (by revert q; decide))
abbrev vq (c : Dev nD) (t : Fin cfg0.N) (q : Fin 4) : FVec Ideal S128x1024 .f32 :=
  mulf (lhs (zq m c t q)) (mix (zq m c t q) (iblk m c 2 t)
    (wt m c t 0) (wt m c t 1) (wt m c t 2) (wt m c t 3) (wt m c t 4) (wt m c t 5) (wt m c t 6) (wt m c t 7)
    (bt m c t 0) (bt m c t 1) (bt m c t 2) (bt m c t 3) (bt m c t 4) (bt m c t 5) (bt m c t 6) (bt m c t 7))

theorem bias_at (c : Dev nD) (t : Fin cfg0.N) (e : Fin 8) (r : Fin 128) : bt m c t e (ix2 r 0) = Ba m c (ix2 e r) := by
  have hV : (show FVec Ideal S128x8 .f32 from V m c main_v1) (ix2 r e) = Ba m c (ix2 e r) := by
    unfold V
    entry_read
    pointwise
  rw [← hV]
  pointwise [bt]
  blk_point [iblk, idx_at t]
theorem weight_at (c : Dev nD) (t : Fin cfg0.N) (e : Fin 8) (r s : Fin 128) : wt m c t e (ix3 0 r s) = Wa m c (ix3 e r s) := by
  pointwise [wt]
  blk_point [iblk, V_main_arg3, idx_at t]
theorem scale_at (c : Dev nD) (t : Fin cfg0.N) (k : Fin 1024) : (show FVec Ideal S1x1024 .f32 from iblk m c 2 t) (ix2 0 k) = Ga m c (ix2 0 k) := by
  blk_point [iblk, V_main_arg2, idx_at t]

/-- The chunk of the array that a point's chunk is. -/
def nth (n : ℕ) : Fin 64 := ⟨n % 64, by omega⟩
theorem nth_val (t : Fin cfg0.N) (q : Fin 4) : (nth (t.val * 4 + q) : ℕ) = t.val * 4 + q := by
  have ht : t.val < 16 := t.isLt
  simp only [nth]; omega

theorem rows_at (c : Dev nD) (t : Fin cfg0.N) (q : Fin 4) (r : Fin 128) (k : Fin 2048) :
    zq m c t q (ix2 r k) = rows (Za m c) (nth (t.val * 4 + q)) r k := by
  have hn := nth_val t q
  generalize nth (t.val * 4 + q) = n at hn
  pointwise [zq, X0_0, Pipeline.Window.fill, dif_pos (moved0_0 t _), rows]
  blk_point [iblk, V_main_arg0, idx_at t]
theorem cot_at (c : Dev nD) (t : Fin cfg0.N) (q : Fin 4) (r : Fin 128) (k : Fin 1024) :
    dq m c t q (ix2 r k) = cot (Da m c) (nth (t.val * 4 + q)) r k := by
  have hn := nth_val t q
  generalize nth (t.val * 4 + q) = n at hn
  pointwise [dq, cot]
  blk_point [iblk, V_main_arg1, idx_at t]

abbrev ptm (c : Dev nD) := part (Za m c) (Da m c) (Ga m c) (Wa m c) (Ba m c)
/-- A chunk's step adds its part. -/
theorem step (c : Dev nD) (t : Fin cfg0.N) (q : Fin 4) (s : FVec Ideal S1x1024 .f32) (k : Fin 1024) :
    acc (vq m c t q) (dq m c t q) s (ix2 0 k) = s (ix2 0 k) + ptm m c k (nth (t.val * 4 + q)) := by
  rw [acc_at]
  refine congrArg (_ + ·) (Finset.sum_congr rfl fun r _ => congrArg₂ (· * ·) (cot_at m c t q r k) (congrArg (hat · k) (funext fun j => ?_)))
  exact gated_at _ _ _ _ _ _ _ _ _ _ _ _ _ _ _ _ _ _ _ _ _ _ (rows_at m c t q) (scale_at m c t)
    (weight_at m c t 0) (weight_at m c t 1) (weight_at m c t 2) (weight_at m c t 3) (weight_at m c t 4) (weight_at m c t 5) (weight_at m c t 6) (weight_at m c t 7)
    (bias_at m c t 0) (bias_at m c t 1) (bias_at m c t 2) (bias_at m c t 3) (bias_at m c t 4) (bias_at m c t 5) (bias_at m c t 6) (bias_at m c t 7) r j

/-- The point's four steps, one after the other. -/
def four (c : Dev nD) (t : Fin cfg0.N) (s : FVec Ideal S1x1024 .f32) : FVec Ideal S1x1024 .f32 :=
  acc (vq m c t 3) (dq m c t 3) (acc (vq m c t 2) (dq m c t 2) (acc (vq m c t 1) (dq m c t 1) (acc (vq m c t 0) (dq m c t 0) s)))

theorem four_at (c : Dev nD) (t : Fin cfg0.N) (s : FVec Ideal S1x1024 .f32) (k : Fin 1024) (n : ℕ) (hn : n = t.val * 4)
    (hs : s (ix2 0 k) = ∑ j ∈ Finset.range n, ptm m c k (nth j)) :
    four m c t s (ix2 0 k) = ∑ j ∈ Finset.range (n + 4), ptm m c k (nth j) := by
  subst hn
  rw [four, step, step, step, step, hs, Finset.sum_range_succ, Finset.sum_range_succ, Finset.sum_range_succ, Finset.sum_range_succ]
  rfl

theorem first (c : Dev nD) (t : Fin cfg0.N) (h : t.val % 16 = 0) :
    (show FVec Ideal S1x1024 .f32 from (outsAt0 m c t.val t.isLt).2.2.2.2) = four m c t (k0_pay4 (F := Ideal)) := by
  rw [outsAt0_A m c t h]
  funext y
  frame_out
  rfl
theorem next (c : Dev nD) (t : Fin cfg0.N) (h : ¬t.val % 16 = 0) :
    (show FVec Ideal S1x1024 .f32 from (outsAt0 m c t.val t.isLt).2.2.2.2)
      = four m c t (outsAt0 m c (t.val - 1) (Nat.lt_of_le_of_lt (Nat.sub_le _ _) t.isLt)).2.2.2.2 := by
  rw [outsAt0_B m c t h]
  funext y
  frame_out
  rfl

/-- After point `j` the running sum holds the first `4 (j + 1)` chunks. -/
theorem sum_at (c : Dev nD) (k : Fin 1024) : ∀ (j : ℕ) (t : Fin cfg0.N), t.val = j →
    (show FVec Ideal S1x1024 .f32 from (outsAt0 m c t.val t.isLt).2.2.2.2) (ix2 0 k)
      = ∑ n ∈ Finset.range (j * 4 + 4), ptm m c k (nth n)
  | 0, t, h => by
    rw [first m c t (by omega)]
    exact four_at m c t _ k 0 (by omega) ((zero_at k).trans (Finset.sum_range_zero _).symm)
  | j + 1, t, h => by
    have ht : t.val < 16 := t.isLt
    have ih := sum_at c k j ⟨t.val - 1, Nat.lt_of_le_of_lt (Nat.sub_le _ _) t.isLt⟩ (by show t.val - 1 = j; omega)
    rw [next m c t (by omega), Nat.succ_mul]
    exact four_at m c t _ k _ (by omega) ih

theorem point (c : Dev nD) (t : Fin cfg0.N) (h : t.val = 15) (y : S1x1024.Idx) (i : S1x1024.Idx) (hi1 : (i 1 : ℕ) = y 1) :
    (show FVec Ideal S1x1024 .f32 from (outsAt0 m c t.val t.isLt).2.2.2.2) y = DGA (Za m c) (Da m c) (Ga m c) (Wa m c) (Ba m c) i := by
  obtain ⟨k, rfl⟩ : ∃ k : Fin 1024, y = ix2 0 k :=
    ⟨y 1, by funext a; match a with | ⟨0, _⟩ => exact Fin.ext (Nat.lt_one_iff.mp (y 0).isLt) | ⟨1, _⟩ => rfl⟩
  have e1 : i 1 = k := Fin.ext hi1
  rw [DGA, e1]
  refine (sum_at m c k 15 t h).trans ?_
  rw [Finset.sum_range]
  exact Finset.sum_congr rfl fun s _ => by rw [show nth s.val = s from Fin.ext (Nat.mod_eq_of_lt s.isLt)]

/-- The gain's gradient after the whole grid. -/
theorem final (c : Dev nD) : (dats m 0 c).arrAt 11 (cfgs 0).N = DGA (Za m c) (Da m c) (Ga m c) (Wa m c) (Ba m c) := by
  refine (dats m 0 c).arrAt_eq_of_covers 11 _ (by decide +kernel) fun t hf y => ?_
  have hl := (flush0_11 t).mp hf
  have ht : t.val < 16 := t.isLt
  blk_simp
  rw [after0_11]
  refine point m c t (by omega) y _ ?_ <;> blk_simp [idx_at t]

end Cert.Kernel31Ideal.SguB

namespace Cert.Reference31Ideal.SguB

open Cert.Reference31Ideal Cert.Reference31Ideal.Gen Cert.Reference31Ideal.Facts Idealize.ShloMosaic Idealize.ShloMosaic.TcCoe Idealize.SL.Sem
open Cert.SguMath
open Cert.Kernel29Ideal.Sgu (rows)
open Cert.Kernel31Ideal.SguB (hat cot part DGA)
open Cert.Reference29Ideal.Sgu (gate gate_at)

/-- The rows under their norm, and the gradient summed over them. -/
def rhat (v : FVec Ideal S8192x1024 .f32) : FVec Ideal S8192x1024 .f32 :=
  mulf v (broadcastInDim S8192x1024 ![0, 1] bcast_S8192x1_S8192x1024_0_1 (Host.rsqrt (addf
    (Host.divf (broadcastInDim S8192x1 ![0] bcast_S8192_S8192x1_0
        (Host.reduceAdd (mulf v v) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x3727C5AC#32)))))
def rterm (v : FVec Ideal S8192x1024 .f32) (D : FVec Ideal S8192x2048 .f32) : FVec Ideal S8192x1024 .f32 :=
  mulf (rhat v) (extractStridedSlice S8192x1024 ![0, 0] D slices_S8192x2048_S8192x1024_0_0)
def rgain (x : FVec Ideal S8192x1024 .f32) : FVec Ideal S1x1024 .f32 :=
  broadcastInDim S1x1024 ![1] bcast_S1024_S1x1024_1 (Host.reduceAdd (shapeCast _ (Host.reduceAdd x
      (constant S_ .f32 0x00000000#32) reducesTo_S8192x1024_S1024_d0 h_S_) shapeCasts_S1024_S1x1024)
    (constant S_ .f32 0x00000000#32) reducesTo_S1x1024_S1024_d0 h_S_)

theorem rhat_at (v : FVec Ideal S8192x1024 .f32) (R : Fin 8192) (k : Fin 1024) : rhat v (ix2 R k) = hat (fun j => v (ix2 R j)) k := by
  pointwise [rhat]; rfl
theorem rterm_at (v : FVec Ideal S8192x1024 .f32) (D : FVec Ideal S8192x2048 .f32) (R : Fin 8192) (k : Fin 1024) :
    rterm v D (ix2 R k) = D (ix2 R ⟨k, by omega⟩) * hat (fun j => v (ix2 R j)) k := by
  rw [← rhat_at, mul_comm]
  pointwise [rterm]
theorem rgain_at (x : FVec Ideal S8192x1024 .f32) (k : Fin 1024) : rgain x (ix2 0 k) = ∑ R : Fin 8192, x (ix2 R k) := by
  pointwise [rgain]
  exact Fin.sum_univ_one _

theorem ref_eq (Z : FVec Ideal S8192x3328 .f32) (D : FVec Ideal S8192x2048 .f32) (g : FVec Ideal S1x1024 .f32) (W : FVec Ideal S8x128x128 .f32)
    (B : FVec Ideal S8x128 .f32) : rgain (rterm (gate Z g W B) D) = DGA Z D g W B := by
  funext i
  obtain ⟨k, rfl⟩ : ∃ k : Fin 1024, i = ix2 0 k :=
    ⟨i 1, by funext a; match a with | ⟨0, _⟩ => exact Fin.ext (Nat.lt_one_iff.mp (i 0).isLt) | ⟨1, _⟩ => rfl⟩
  rw [rgain_at, ← Fin.sum_mul_add_fin 64 128]
  refine Finset.sum_congr rfl fun n _ => Finset.sum_congr rfl fun r _ => ?_
  rw [rterm_at]
  have e0 : (⟨(n * 128 + r : ℕ) / 128, by omega⟩ : Fin 64) = n := Fin.ext (by simp only; omega)
  have e1 : (⟨(n * 128 + r : ℕ) % 128, by omega⟩ : Fin 128) = r := Fin.ext (by simp only; omega)
  simp only [gate_at, e0, e1]
  rfl

end Cert.Reference31Ideal.SguB

namespace Cert.Norms
open Idealize.ShloMosaic Idealize.SL.Sem

theorem frame31 : Cert.quiescent_Reference31Ideal := by
  intro m g _
  run_from Cert.Reference31Ideal.Value.run m g
  · exact fun _ => ⟨trivial, trivial, trivial, trivial, trivial, trivial⟩
  · exact sem_eq_zero_of_no_sems (by decide) _

set_option maxRecDepth 65536 in
set_option maxHeartbeats 4000000 in
/-- The kernel and the reference end with the same array. -/
theorem value31 : Cert.algebraic_Kernel31Ideal_Reference31Ideal := by
  pair_intro
  · run_from Cert.Kernel31Ideal.Gen.run_main m g
  · run_from Cert.Reference31Ideal.Value.run m' g'
    obtain ⟨a0, a1, a2, a3, a4, a5⟩ := hagree c
    refine (Cert.Reference31Ideal.SguB.ref_eq _ _ _ _ _).trans (Eq.trans ?_ (Cert.Kernel31Ideal.SguB.final m c).symm)
    rw [a0, a1, a2, a3, a4]

end Cert.Norms

end
-- ==== Proof.Paste30.lean ====
/- Call 30: the pasted columns. -/
module

public import proofs.«01_k».proof.Proof.Gen.Kernel30Ideal.Value
public import Idealize.ShloMosaic.Lib.Pipeline.ValueKit
public import Idealize.ShloMosaic.Lib.Pipeline.ReadBack
public import proofs.«01_k».proof.Defs
public import proofs.«01_k».proof.Proof.Gen.Reference30Ideal.Run
public import Idealize.ShloMosaic.Adequacy
public import Idealize.ShloMosaic.Init

@[expose] public section

set_option maxRecDepth 16384

noncomputable section

namespace Cert.Kernel30Ideal.Paste

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ)

abbrev Da (c : Dev nD) : FVec Ideal S8192x3328 .f32 := m ((c : Thread nD τ).loc main_arg0)
abbrev Sa (c : Dev nD) : FVec Ideal S8192x256 .f32 := m ((c : Thread nD τ).loc main_arg1)

/-- The first array with its last 256 columns from the second. -/
def PASTED (D : FVec Ideal S8192x3328 .f32) (S : FVec Ideal S8192x256 .f32) : FVec Ideal S8192x3328 .f32 :=
  fun i => if h : 3072 ≤ (i 1 : ℕ) then S (ix2 (i 0) ⟨(i 1 : ℕ) - 3072, by have := (i 1).isLt; simp at this; omega⟩) else D i

theorem idx_at : ∀ t : Fin cfg0.N, win0_0.index t = ![t.val, 0] ∧ win0_1.index t = ![t.val, 12] :=
  (by decide +kernel : ∀ t : Fin grid0.N, win0_0.index t = ![t.val, 0] ∧ win0_1.index t = ![t.val, 12])

/-- What a grid point writes is its block of the last columns. -/
theorem point (c : Dev nD) (t : Fin cfg0.N) (y : S512x256.Idx) (i : S8192x3328.Idx)
    (hi0 : (i 0 : ℕ) = t.val * 512 + y 0) (hi1 : (i 1 : ℕ) = 12 * 256 + y 1) :
    (show FVec Ideal S512x256 .f32 from outsAt0 m c t) y = PASTED (Da m c) (Sa m c) i := by
  obtain ⟨r, k, rfl⟩ : ∃ (r : Fin 512) (k : Fin 256), y = ix2 r k :=
    ⟨y 0, y 1, by funext a; match a with | ⟨0, _⟩ => rfl | ⟨1, _⟩ => rfl⟩
  have e0 : (i 0 : ℕ) = t.val * 512 + r.val := hi0
  have e1 : (i 1 : ℕ) = 12 * 256 + k.val := hi1
  rw [outsAt0, PASTED, dif_pos (by omega)]
  frame_out
  have ek : (⟨(i 1 : ℕ) - 3072, by omega⟩ : Fin 256) = k := Fin.ext (by simp only; omega)
  rw [ek]
  blk_point [iblk, V_main_arg1, idx_at t]

/-- The array after the whole grid. -/
theorem final (c : Dev nD) : (dats m 0 c).arrAt 1 (cfgs 0).N = PASTED (Da m c) (Sa m c) := by
  refine (dats m 0 c).arrAt_eq_of_coversWhere_of_agree 1 _ (fun β => β (1 : Fin 2) = 12) (by decide +kernel) (fun t hf y => ?_) (fun j hj => ?_)
  · blk_simp
    rw [after0_1]
    refine point m c t y _ ?_ ?_ <;> blk_simp [idx_at t]
  · blk_simp [Pipeline.Window.cell_apply] at hj
    have hn : ¬ 3072 ≤ (((cfg0.win 1).arr.view.emb j : S8192x3328.Idx) 1 : ℕ) := by
      have h := ((cfg0.win 1).arr.view.emb j : S8192x3328.Idx) 1 |>.isLt
      blk_simp at h ⊢
      simp at h
      omega
    refine Eq.trans ?_ (dif_neg hn).symm
    show V m c main_v0 _ = _
    unfold V
    entry_read
    rfl

end Cert.Kernel30Ideal.Paste

namespace Cert.Reference30Ideal.Paste

open Cert.Reference30Ideal Cert.Reference30Ideal.Gen Cert.Reference30Ideal.Facts Idealize.ShloMosaic Idealize.ShloMosaic.TcCoe Idealize.SL.Sem

theorem ref_eq (D : FVec Ideal S8192x3328 .f32) (S : FVec Ideal S8192x256 .f32) :
    concatenate S8192x3328 1 [⟨S8192x3072, extractStridedSlice S8192x3072 ![0, 0] D slices_S8192x3328_S8192x3072_0_0⟩, ⟨S8192x256, S⟩]
      concatenates_S8192x3072_S8192x256_S8192x3328_d1 = Cert.Kernel30Ideal.Paste.PASTED D S := by
  funext i
  obtain ⟨r, k, rfl⟩ : ∃ (r : Fin 8192) (k : Fin 3328), i = ix2 r k :=
    ⟨i 0, i 1, by funext a; match a with | ⟨0, _⟩ => rfl | ⟨1, _⟩ => rfl⟩
  by_cases h : 3072 ≤ (k : ℕ)
  · refine Eq.trans ?_ (dif_pos (show 3072 ≤ ((ix2 r k : S8192x3328.Idx) 1 : ℕ) from h)).symm
    pointwise
    exact dif_neg (by omega)
  · refine Eq.trans ?_ (dif_neg (show ¬ 3072 ≤ ((ix2 r k : S8192x3328.Idx) 1 : ℕ) from h)).symm
    pointwise
    exact dif_pos (by omega)

end Cert.Reference30Ideal.Paste

namespace Cert.Norms
open Idealize.ShloMosaic Idealize.SL.Sem

theorem frame30 : Cert.quiescent_Reference30Ideal := by
  intro m g _
  run_from Cert.Reference30Ideal.Value.run m g
  · exact fun _ => ⟨trivial, trivial⟩
  · exact sem_eq_zero_of_no_sems (by decide) _

set_option maxRecDepth 65536 in
set_option maxHeartbeats 4000000 in
/-- The kernel and the reference end with the same array. -/
theorem value30 : Cert.algebraic_Kernel30Ideal_Reference30Ideal := by
  pair_intro
  · run_from Cert.Kernel30Ideal.Gen.run_main m g
  · run_from Cert.Reference30Ideal.Value.run m' g'
    exact (Cert.Reference30Ideal.Paste.ref_eq _ _).trans (Cert.Kernel30Ideal.Paste.final m c).symm

end Cert.Norms

end
-- ==== Proof.XattnTile.lean ====
/- What the kernel's body computes for one head on one tile of 512 rows, read at an index of the tile: each of the
   twelve stored payloads as the row mathematics of XattnSpec over the four loaded slices. -/
module

public import proofs.«01_k».proof.Proof.Gen.KernelIdeal.Skeleton
public import proofs.«01_k».proof.Proof.XattnSpec

@[expose] public section

set_option maxRecDepth 16384

noncomputable section

namespace Cert.Xattn

open Cert.KernelIdeal Cert.KernelIdeal.Gen Idealize.ShloMosaic Idealize.ShloMosaic.TcCoe Idealize.SL.Sem

/-- A tile row's scores. -/
abbrev tscore (q : Vec Ideal S512x512 .bf16) (k : Vec Ideal S256x512 .bf16) (r : Fin 512) (j : Fin 256) : EReal :=
  (∑ l : Fin 512, (show FVec Ideal S512x512 .bf16 from q) (ix2 r l) * (show FVec Ideal S256x512 .bf16 from k) (ix2 j l)) * scale

/-- A tile row's weight gradients. -/
abbrev tdweight (o : Vec Ideal S512x512 .bf16) (v : Vec Ideal S256x512 .bf16) (r : Fin 512) (j : Fin 256) : EReal :=
  ∑ l : Fin 512, (show FVec Ideal S512x512 .bf16 from o) (ix2 r l) * (show FVec Ideal S256x512 .bf16 from v) (ix2 j l)

variable (q : FVec Ideal S512x512 .bf16) (k v : FVec Ideal S256x512 .bf16) (o : FVec Ideal S512x512 .bf16)
  (acc : FVec Ideal S256x512 .f32)

/-! The stored gradient of the queries, head by head. -/

theorem dq_head0 (x : S512x512.Idx) : k0_pay9 (F := Ideal) q k v o x
    = ∑ j : Fin 256, slope (tscore q k (x 0)) (tdweight o v (x 0)) j * k (ix2 j (x 1)) := by
  pointwise [k0_pay9, k0_pay8, k0_pay7]; rfl

theorem dq_head1 (x : S512x512.Idx) :
    k0_pay15 (F := Ideal) k (k0_pay14 q k v o) (constant S512x512 FTy.f32 0#32) x
    = ∑ j : Fin 256, slope (tscore q k (x 0)) (tdweight o v (x 0)) j * k (ix2 j (x 1)) := by
  pointwise [k0_pay15, k0_pay14, k0_pay13]; rfl

theorem dq_head2 (x : S512x512.Idx) :
    k0_pay22 (F := Ideal) k (k0_pay18 q k) (k0_pay19 v o) (k0_pay20 q k v o) x
    = ∑ j : Fin 256, slope (tscore q k (x 0)) (tdweight o v (x 0)) j * k (ix2 j (x 1)) := by
  pointwise [k0_pay22, k0_pay21, k0_pay20, k0_pay19, k0_pay18]; rfl

theorem dq_head3 (x : S512x512.Idx) : k0_pay3 (F := Ideal) k v o (k0_pay25 q k) (k0_pay26 q k) x
    = ∑ j : Fin 256, slope (tscore q k (x 0)) (tdweight o v (x 0)) j * k (ix2 j (x 1)) := by
  pointwise [k0_pay3, k0_pay2, k0_pay1, k0_pay25, k0_pay26]; rfl

/-! The tile's addition to the gradient of the keys. -/

theorem dk_head0 (x : S256x512.Idx) :
    k0_pay11 (F := Ideal) q (k0_pay8 q k v o) (k0_pay10 acc) (constant S256x512 FTy.f32 0#32) x
    = acc x + ∑ r : Fin 512, slope (tscore q k r) (tdweight o v r) (x 0) * q (ix2 r (x 1)) := by
  pointwise [k0_pay11, k0_pay10, k0_pay8, k0_pay7]; rfl

theorem dk_head1 (x : S256x512.Idx) : k0_pay16 (F := Ideal) q (k0_pay14 q k v o) acc x
    = acc x + ∑ r : Fin 512, slope (tscore q k r) (tdweight o v r) (x 0) * q (ix2 r (x 1)) := by
  pointwise [k0_pay16, k0_pay14, k0_pay13]; rfl

theorem dk_head2 (x : S256x512.Idx) :
    k0_pay23 (F := Ideal) q (k0_pay18 q k) (k0_pay19 v o) (k0_pay20 q k v o) acc x
    = acc x + ∑ r : Fin 512, slope (tscore q k r) (tdweight o v r) (x 0) * q (ix2 r (x 1)) := by
  pointwise [k0_pay23, k0_pay21, k0_pay20, k0_pay19, k0_pay18]; rfl

theorem dk_head3 (x : S256x512.Idx) : k0_pay4 (F := Ideal) q v o (k0_pay25 q k) (k0_pay26 q k) acc x
    = acc x + ∑ r : Fin 512, slope (tscore q k r) (tdweight o v r) (x 0) * q (ix2 r (x 1)) := by
  pointwise [k0_pay4, k0_pay2, k0_pay1, k0_pay25, k0_pay26]; rfl

/-! The tile's addition to the gradient of the values. -/

theorem dv_head0 (x : S256x512.Idx) : k0_pay12 (F := Ideal) o (k0_pay7 q k) acc x
    = acc x + ∑ r : Fin 512, prob (tscore q k r) (x 0) * o (ix2 r (x 1)) := by
  pointwise [k0_pay12, k0_pay7]; rfl

theorem dv_head1 (x : S256x512.Idx) : k0_pay17 (F := Ideal) o (k0_pay13 q k) acc x
    = acc x + ∑ r : Fin 512, prob (tscore q k r) (x 0) * o (ix2 r (x 1)) := by
  pointwise [k0_pay17, k0_pay13]; rfl

theorem dv_head2 (x : S256x512.Idx) : k0_pay24 (F := Ideal) o (k0_pay18 q k) acc x
    = acc x + ∑ r : Fin 512, prob (tscore q k r) (x 0) * o (ix2 r (x 1)) := by
  pointwise [k0_pay24, k0_pay18]; rfl

theorem dv_head3 (x : S256x512.Idx) : k0_pay5 (F := Ideal) o (k0_pay25 q k) (k0_pay26 q k) acc x
    = acc x + ∑ r : Fin 512, prob (tscore q k r) (x 0) * o (ix2 r (x 1)) := by
  pointwise [k0_pay5, k0_pay1, k0_pay25, k0_pay26]; rfl

/-! A tile row over whole arrays: the slices are rows and columns of the arrays. -/

variable (Q DO : FVec Ideal SRows .bf16) (KV : FVec Ideal SMem .bf16)

/-- The tile's scores are the array's. -/
theorem tscore_eq (r : Fin 512) (s : Fin 8192) (n : ℕ) (hn : n < 2048)
    (hq : ∀ l, q (ix2 r l) = Q (ix2 s (qcol n hn l))) (hk : ∀ j l, k (ix2 j l) = KV (ix2 j (kcol n hn l))) :
    tscore q k r = score Q KV s n hn := by
  funext j
  exact congrArg (· * scale) (Finset.sum_congr rfl fun l _ => by
    show q (ix2 r l) * k (ix2 j l) = _
    rw [hq, hk])

/-- The tile's weight gradients are the array's. -/
theorem tdweight_eq (r : Fin 512) (s : Fin 8192) (n : ℕ) (hn : n < 2048)
    (ho : ∀ l, o (ix2 r l) = DO (ix2 s (qcol n hn l))) (hv : ∀ j l, v (ix2 j l) = KV (ix2 j (vcol n hn l))) :
    tdweight o v r = dweight DO KV s n hn := by
  funext j
  exact Finset.sum_congr rfl fun l _ => by
    show o (ix2 r l) * v (ix2 j l) = _
    rw [ho, hv]

/-- The stored gradient of the queries is the array's. -/
theorem dq_tile (r : Fin 512) (e : Fin 512) (i : SRows.Idx)
    (hq : ∀ l, q (ix2 r l) = Q (ix2 (i 0) (qcol (i 1) (i 1).isLt l)))
    (ho : ∀ l, o (ix2 r l) = DO (ix2 (i 0) (qcol (i 1) (i 1).isLt l)))
    (hk : ∀ j l, k (ix2 j l) = KV (ix2 j (kcol (i 1) (i 1).isLt l)))
    (hv : ∀ j l, v (ix2 j l) = KV (ix2 j (vcol (i 1) (i 1).isLt l)))
    (he : (i 1 : ℕ) / 512 * 512 + e = i 1) :
    (∑ j : Fin 256, slope (tscore q k r) (tdweight o v r) j * k (ix2 j e)) = DQ Q KV DO i := by
  rw [tscore_eq q k Q KV r (i 0) (i 1) (i 1).isLt hq hk, tdweight_eq v o DO KV r (i 0) (i 1) (i 1).isLt ho hv]
  refine Finset.sum_congr rfl fun j _ => ?_
  rw [hk]
  refine congrArg (fun z => _ * KV (ix2 j z)) (Fin.ext ?_)
  exact he

/-- The tile's addition to the gradient of the keys is the array rows'. -/
theorem dk_tile (j : Fin 256) (e : Fin 512) (n : Fin 4096) (hn : (n : ℕ) < 2048) (row : Fin 512 → Fin 8192)
    (hq : ∀ r l, q (ix2 r l) = Q (ix2 (row r) (qcol n hn l)))
    (ho : ∀ r l, o (ix2 r l) = DO (ix2 (row r) (qcol n hn l)))
    (hk : ∀ j l, k (ix2 j l) = KV (ix2 j (kcol n hn l)))
    (hv : ∀ j l, v (ix2 j l) = KV (ix2 j (vcol n hn l)))
    (he : (n : ℕ) / 512 * 512 + e = n) :
    (∑ r : Fin 512, slope (tscore q k r) (tdweight o v r) j * q (ix2 r e)) = ∑ r : Fin 512, dkvRow Q KV DO j n (row r) := by
  refine Finset.sum_congr rfl fun r _ => ?_
  rw [tscore_eq q k Q KV r (row r) n hn (hq r) hk, tdweight_eq v o DO KV r (row r) n hn (ho r) hv, hq, dkvRow, dif_pos hn]
  refine congrArg (fun z => _ * Q (ix2 (row r) z)) (Fin.ext ?_)
  exact he

/-- The tile's addition to the gradient of the values is the array rows'. -/
theorem dv_tile (j : Fin 256) (e : Fin 512) (n : Fin 4096) (h : ¬(n : ℕ) < 2048) (row : Fin 512 → Fin 8192)
    (hq : ∀ r l, q (ix2 r l) = Q (ix2 (row r) (qcol (n - 2048) (by omega) l)))
    (ho : ∀ r l, o (ix2 r l) = DO (ix2 (row r) (qcol (n - 2048) (by omega) l)))
    (hk : ∀ j l, k (ix2 j l) = KV (ix2 j (kcol (n - 2048) (by omega) l)))
    (he : (n - 2048 : ℕ) / 512 * 512 + e = n - 2048) :
    (∑ r : Fin 512, prob (tscore q k r) j * o (ix2 r e)) = ∑ r : Fin 512, dkvRow Q KV DO j n (row r) := by
  refine Finset.sum_congr rfl fun r _ => ?_
  rw [tscore_eq q k Q KV r (row r) (n - 2048) (by omega) (hq r) hk, ho, dkvRow, dif_neg h]
  refine congrArg (fun z => _ * DO (ix2 (row r) z)) (Fin.ext ?_)
  exact he

end Cert.Xattn
end
-- ==== Proof.XattnArray.lean ====
/- The two arrays the kernel leaves, as the functions of XattnSpec of its three argument arrays: the gradient of the
   queries tile by tile, the gradient of the memory summed over the sixteen tiles. -/
module

public import proofs.«01_k».proof.Proof.Gen.KernelIdeal.Value
public import Idealize.ShloMosaic.Lib.Pipeline.ValueKit
public import Idealize.ShloMosaic.Lib.Pipeline.ReadBack
public import proofs.«01_k».proof.Proof.XattnTile

@[expose] public section

set_option maxRecDepth 16384

noncomputable section

namespace Cert.Xattn

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The queries, the memory and the cotangent a device is launched with. -/
abbrev Qa (c : Dev nD) : FVec Ideal SRows .bf16 := m ((c : Thread nD τ).loc main_arg0)
abbrev KVa (c : Dev nD) : FVec Ideal SMem .bf16 := m ((c : Thread nD τ).loc main_arg1)
abbrev DOa (c : Dev nD) : FVec Ideal SRows .bf16 := m ((c : Thread nD τ).loc main_arg2)

/-- Tile `t` stages rows `512 t …` of the queries, of the cotangent and of the result, and the whole memory. -/
theorem idx_at : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0])

theorem dq_point (c : Dev nD) (t : Fin cfg0.N) (y : S512x2048.Idx) (i : SRows.Idx)
    (hi0 : (i 0 : ℕ) = t.val * 512 + y 0) (hi1 : (i 1 : ℕ) = y 1) :
    (outsAt0 m c t.val t.isLt).1 y = DQ (Qa m c) (KVa m c) (DOa m c) i := by
  by_cases h : t.val % 16 = 0
  · rw [outsAt0_A m c t h]
    frame_out
    canon_tiles x h
    case piece0 =>
      refine (dq_head3 _ _ _ _ x).trans (dq_tile _ _ _ _ _ _ _ _ _ i ?_ ?_ ?_ ?_ (by omega)) <;> intros <;>
        blk_point [iblk, V, idx_at t, qcol, kcol, vcol]
    case piece1 =>
      refine (dq_head2 _ _ _ _ x).trans (dq_tile _ _ _ _ _ _ _ _ _ i ?_ ?_ ?_ ?_ (by omega)) <;> intros <;>
        blk_point [iblk, V, idx_at t, qcol, kcol, vcol]
    case piece2 =>
      refine (dq_head1 _ _ _ _ x).trans (dq_tile _ _ _ _ _ _ _ _ _ i ?_ ?_ ?_ ?_ (by omega)) <;> intros <;>
        blk_point [iblk, V, idx_at t, qcol, kcol, vcol]
    case piece3 =>
      refine (dq_head0 _ _ _ _ x).trans (dq_tile _ _ _ _ _ _ _ _ _ i ?_ ?_ ?_ ?_ (by omega)) <;> intros <;>
        blk_point [iblk, V, idx_at t, qcol, kcol, vcol]
  · rw [outsAt0_B m c t h]
    frame_out
    canon_tiles x h
    case piece0 =>
      refine (dq_head3 _ _ _ _ x).trans (dq_tile _ _ _ _ _ _ _ _ _ i ?_ ?_ ?_ ?_ (by omega)) <;> intros <;>
        blk_point [iblk, V, idx_at t, qcol, kcol, vcol]
    case piece1 =>
      refine (dq_head2 _ _ _ _ x).trans (dq_tile _ _ _ _ _ _ _ _ _ i ?_ ?_ ?_ ?_ (by omega)) <;> intros <;>
        blk_point [iblk, V, idx_at t, qcol, kcol, vcol]
    case piece2 =>
      refine (dq_head1 _ _ _ _ x).trans (dq_tile _ _ _ _ _ _ _ _ _ i ?_ ?_ ?_ ?_ (by omega)) <;> intros <;>
        blk_point [iblk, V, idx_at t, qcol, kcol, vcol]
    case piece3 =>
      refine (dq_head0 _ _ _ _ x).trans (dq_tile _ _ _ _ _ _ _ _ _ i ?_ ?_ ?_ ?_ (by omega)) <;> intros <;>
        blk_point [iblk, V, idx_at t, qcol, kcol, vcol]

/-- The kernel's first array is the gradient of the queries. -/
theorem dq_final (c : Dev nD) : (dats m 0 c).arrAt 3 (cfgs 0).N = DQ (Qa m c) (KVa m c) (DOa m c) := by
  refine (dats m 0 c).arrAt_eq_of_covers 3 _ (by decide +kernel) fun t hf y => ?_
  blk_simp
  rw [after0_3]
  refine dq_point m c t y _ ?_ ?_ <;> blk_simp [idx_at t]

end Cert.Xattn
end
-- ==== Proof.CanonTake.lean ====
/- A buffer filled first and then stored over piece by piece: where the later stores already cover, the fill is not seen. -/
module

public import Idealize.ShloMosaic.Lib.Pipeline.ValueKit

@[expose] public section

noncomputable section

namespace Cert.Xattn

open Idealize.ShloMosaic Idealize.ShloMosaic.View

variable {Val : EltTy → Type} {S : Shape} {e : EltTy}

/-- Stores that come before (later in the list than) a list of stores covering `y` do not show at `y`. -/
theorem canon_append_covered [∀ e, Nonempty (Val e)] (y : S.Idx) (L' : List (Piece Val S e)) :
    ∀ L : List (Piece Val S e), (∃ p ∈ L, y ∈ p.1.set) → canon (L ++ L') y = canon L y
  | [], h => by obtain ⟨_, hp, _⟩ := h; exact absurd hp List.not_mem_nil
  | p :: L, h => by
    by_cases hy : y ∈ p.1.set
    · obtain ⟨x, rfl⟩ := p.1.exists_idx_of_mem hy
      rw [List.cons_append, show p.1.idx x = p.1.emb x from rfl, canon_cons_emb, canon_cons_emb]
    · rw [List.cons_append, canon_cons_of_not_mem _ _ hy, canon_cons_of_not_mem _ _ hy]
      refine canon_append_covered y L' L ?_
      obtain ⟨q, hq, hyq⟩ := h
      rcases List.mem_cons.mp hq with rfl | hq'
      · exact absurd hyq hy
      · exact ⟨q, hq', hyq⟩

/-- The same with the covering stores named by their number. -/
theorem canon_take [∀ e, Nonempty (Val e)] (n : ℕ) (L : List (Piece Val S e)) (y : S.Idx)
    (h : ∃ p ∈ L.take n, y ∈ p.1.set) : canon L y = canon (L.take n) y := by
  conv_lhs => rw [← List.take_append_drop n L]
  exact canon_append_covered y _ _ h

end Cert.Xattn
end
-- ==== Proof.XattnSum.lean ====
/- The gradient of the memory the kernel leaves: zeroed at the first tile, added into by all sixteen. -/
module

public import proofs.«01_k».proof.Proof.XattnArray
public import proofs.«01_k».proof.Proof.CanonTake

@[expose] public section

set_option maxRecDepth 16384

noncomputable section

namespace Cert.Xattn

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- Row `r` of tile `t`. -/
def row (t : Fin cfg0.N) (r : Fin 512) : Fin 8192 :=
  ⟨t.val * 512 + r, by have := lt_of_lt_of_eq t.isLt N_0; omega⟩

/-- What tile `t` adds at an entry. -/
def tileSum (c : Dev nD) (t : Fin cfg0.N) (y : SMem.Idx) : EReal :=
  ∑ r : Fin 512, dkvRow (Qa m c) (KVa m c) (DOa m c) (y 0) (y 1) (row t r)

theorem tileSum_at (c : Dev nD) (t : Fin cfg0.N) (y : SMem.Idx) (j : Fin 256) (h : (j : ℕ) = y 0) :
    (∑ r : Fin 512, dkvRow (Qa m c) (KVa m c) (DOa m c) j (y 1) (row t r)) = tileSum m c t y := by
  obtain rfl : j = y 0 := Fin.ext h
  rfl

theorem dkv_step (c : Dev nD) (t : Fin cfg0.N) (h : ¬t.val % 16 = 0) (y : S256x4096.Idx) :
    (outsAt0 m c t.val t.isLt).2 y
      = (show FVec Ideal S256x4096 .f32 from (outsAt0 m c (t.val - 1) (Nat.lt_of_le_of_lt (Nat.sub_le _ _) t.isLt)).2) y
        + tileSum m c t y := by
  rw [outsAt0_B m c t h]
  frame_out
  canon_tiles x h
  case piece0 =>
    refine (dv_head3 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise; blk_ext
    all_goals intros; blk_point [iblk, V, idx_at t, qcol, kcol, vcol, row]
  case piece1 =>
    refine (dk_head3 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise; blk_ext
    all_goals intros; blk_point [iblk, V, idx_at t, qcol, kcol, vcol, row]
  case piece2 =>
    refine (dv_head2 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise; blk_ext
    all_goals intros; blk_point [iblk, V, idx_at t, qcol, kcol, vcol, row]
  case piece3 =>
    refine (dk_head2 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise; blk_ext
    all_goals intros; blk_point [iblk, V, idx_at t, qcol, kcol, vcol, row]
  case piece4 =>
    refine (dv_head1 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise; blk_ext
    all_goals intros; blk_point [iblk, V, idx_at t, qcol, kcol, vcol, row]
  case piece5 =>
    refine (dk_head1 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise; blk_ext
    all_goals intros; blk_point [iblk, V, idx_at t, qcol, kcol, vcol, row]
  case piece6 =>
    refine (dv_head0 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise; blk_ext
    all_goals intros; blk_point [iblk, V, idx_at t, qcol, kcol, vcol, row]
  case piece7 =>
    refine (dk_head0 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise; blk_ext
    all_goals intros; blk_point [iblk, V, idx_at t, qcol, kcol, vcol, row]

theorem dkv_reset (c : Dev nD) (t : Fin cfg0.N) (h : t.val % 16 = 0) (y : S256x4096.Idx) :
    (outsAt0 m c t.val t.isLt).2 y = 0 + tileSum m c t y := by
  rw [outsAt0_A m c t h]
  frame_open
  simp (disch := decide) only [↓ View.readCov_skip, ↓ View.readCov_cons_toLoadRect, ↓ View.readCov_fill]
  frame_out
  refine (canon_take 8 _ y ?_).trans ?_
  · exact View.cover_of_tiled_head _ _ _ (by rfl) _
  simp only [List.take_succ_cons, List.take_zero]
  canon_tiles x h
  case piece0 =>
    refine (dv_head3 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise [k0_pay6]
    all_goals intros; blk_point [iblk, V, idx_at t, qcol, kcol, vcol, row]
  case piece1 =>
    refine (dk_head3 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise [k0_pay6]
    all_goals intros; blk_point [iblk, V, idx_at t, qcol, kcol, vcol, row]
  case piece2 =>
    refine (dv_head2 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise [k0_pay6]
    all_goals intros; blk_point [iblk, V, idx_at t, qcol, kcol, vcol, row]
  case piece3 =>
    refine (dk_head2 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise [k0_pay6]
    all_goals intros; blk_point [iblk, V, idx_at t, qcol, kcol, vcol, row]
  case piece4 =>
    refine (dv_head1 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise [k0_pay6]
    all_goals intros; blk_point [iblk, V, idx_at t, qcol, kcol, vcol, row]
  case piece5 =>
    refine (dk_head1 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise [k0_pay6]
    all_goals intros; blk_point [iblk, V, idx_at t, qcol, kcol, vcol, row]
  case piece6 =>
    refine (dv_head0 _ _ _ _ x).trans (congrArg₂ (· + ·) ?_ (dv_tile _ _ _ (Qa m c) (DOa m c) (KVa m c) (x 0) (x 1) (y 1) (by omega) (row t) ?_ ?_ ?_ (by omega)
      |>.trans (tileSum_at m c t y (x 0) h0.symm)))
    · pointwise [k0_pay6]
    all_goals intros; blk_point [iblk, V, idx_at t, qcol, kcol, vcol, row]
  case piece7 =>
    refine (dk_head0 _ _ _ _ _ x).trans (congrArg₂ (· + ·) ?_ (dk_tile _ _ _ _ (Qa m c) (DOa m c) (KVa m c) (x 0) (x 1) (y 1) (by omega) (row t) ?_ ?_ ?_ ?_ (by omega)
      |>.trans (tileSum_at m c t y (x 0) h0.symm)))
    · pointwise [k0_pay6]
    all_goals intros; blk_point [iblk, V, idx_at t, qcol, kcol, vcol, row]

/-- The kernel's second array is the gradient of the memory. -/
theorem dkv_final (c : Dev nD) : (dats m 0 c).arrAt 4 (cfgs 0).N = DKV (Qa m c) (KVa m c) (DOa m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t j => tileSum m c t j) (fun t h j => dkv_reset m c t h j) (fun t h j => dkv_step m c t h j)
    (le_of_eq N_0) t0_15 rfl j, zero_add]
  exact Fin.sum_mul_add_fin 16 512 (fun s => dkvRow (Qa m c) (KVa m c) (DOa m c) (j 0) (j 1) s)

end Cert.Xattn
end
-- ==== Proof.XattnRef.lean ====
/- The printed reference, cut into its stages (scores, unnormalised weights, normaliser, weights, weight gradients,
   score gradients) and each stage read at an index. -/
module

public import proofs.«01_k».proof.Proof.Gen.ReferenceIdeal.Run
public import proofs.«01_k».proof.Proof.XattnRow

@[expose] public section

set_option maxRecDepth 16384

noncomputable section

namespace Cert.Xattn

open Cert.ReferenceIdeal Cert.ReferenceIdeal.Gen Idealize.ShloMosaic Idealize.ShloMosaic.TcCoe Idealize.SL.Sem
open Cert.ReferenceIdeal.Facts

/-- The queries, and the keys and values, head by head. -/
def rq (Q : FVec Ideal S8192x2048 .bf16) : FVec Ideal S1x8192x4x512 .f32 :=
  shapeCast _ (extf .f32 Q bitsLt_bf16_f32) shapeCasts_S8192x2048_S1x8192x4x512
def rk (KV : FVec Ideal S256x4096 .bf16) : FVec Ideal S1x256x4x512 .f32 :=
  shapeCast _ (extractStridedSlice S256x2048 ![0, 0] (extf .f32 KV bitsLt_bf16_f32) slices_S256x4096_S256x2048_0_0)
    shapeCasts_S256x2048_S1x256x4x512
def rv (KV : FVec Ideal S256x4096 .bf16) : FVec Ideal S1x256x4x512 .f32 :=
  shapeCast _ (extractStridedSlice S256x2048 ![0, 2048] (extf .f32 KV bitsLt_bf16_f32) slices_S256x4096_S256x2048_0_2048)
    shapeCasts_S256x2048_S1x256x4x512
/-- The cotangent, head by head, rows last. -/
def rd (DO : FVec Ideal S8192x2048 .bf16) : FVec Ideal S1x4x512x8192 .f32 :=
  transpose S1x4x512x8192 [0, 2, 3, 1] (rq DO) transposes_S1x8192x4x512_S1x4x512x8192_0_2_3_1

/-- The scaled scores. -/
def rscore (Q : FVec Ideal S8192x2048 .bf16) (KV : FVec Ideal S256x4096 .bf16) : FVec Ideal S1x4x8192x256 .f32 :=
  mulf (Host.dotGeneral dot_S1x8192x4x512_S1x256x4x512_S1x4x8192x256_3_3_1_1_02_02 none (rq Q) (rk KV))
    (broadcastInDim S1x4x8192x256 ![] bcast_S_S1x4x8192x256 (constant S_ .f32 0x3D3504F3#32))

/-- The largest scores. -/
def rpeak (s : FVec Ideal S1x4x8192x256 .f32) : FVec Ideal S1x4x8192 .f32 :=
  Host.reduce FloatOps.maximumf s (constant S_ .f32 0xFF800000#32) reducesTo_S1x4x8192x256_S1x4x8192_d3 h_S_

/-- The unnormalised weights. -/
def rlift (s : FVec Ideal S1x4x8192x256 .f32) : FVec Ideal S1x4x8192x256 .f32 :=
  Host.exp (subf s (broadcastInDim S1x4x8192x256 ![0, 1, 2, 3] bcast_S1x4x8192x1_S1x4x8192x256_0_1_2_3
    (broadcastInDim S1x4x8192x1 ![0, 1, 2] bcast_S1x4x8192_S1x4x8192x1_0_1_2
      (maximumf (broadcastInDim S1x4x8192 ![] bcast_S_S1x4x8192 (constant S_ .f32 0xFF800000#32)) (rpeak s)))))

/-- The normalisers. -/
def rmass (e : FVec Ideal S1x4x8192x256 .f32) : FVec Ideal S1x4x8192x1 .f32 :=
  broadcastInDim S1x4x8192x1 ![0, 1, 2] bcast_S1x4x8192_S1x4x8192x1_0_1_2
    (Host.reduceAdd e (constant S_ .f32 0x00000000#32) reducesTo_S1x4x8192x256_S1x4x8192_d3 h_S_)

/-- The weights. -/
def rprob (e : FVec Ideal S1x4x8192x256 .f32) : FVec Ideal S1x4x8192x256 .f32 :=
  Host.divf e (broadcastInDim S1x4x8192x256 ![0, 1, 2, 3] bcast_S1x4x8192x1_S1x4x8192x256_0_1_2_3 (rmass e))

/-- The gradients of the weights. -/
def rdp (DO : FVec Ideal S8192x2048 .bf16) (KV : FVec Ideal S256x4096 .bf16) : FVec Ideal S1x4x8192x256 .f32 :=
  Host.dotGeneral dot_S1x4x512x8192_S1x256x4x512_S1x4x8192x256_2_3_3_1_01_02 none (rd DO) (rv KV)

/-- The gradients of the unscaled scores. -/
def rslope (e d : FVec Ideal S1x4x8192x256 .f32) : FVec Ideal S1x4x8192x256 .f32 :=
  mulf (mulf (addf (Host.divf d (broadcastInDim S1x4x8192x256 ![0, 1, 2, 3] bcast_S1x4x8192x1_S1x4x8192x256_0_1_2_3 (rmass e)))
      (broadcastInDim S1x4x8192x256 ![0, 1, 2] bcast_S1x4x8192_S1x4x8192x256_0_1_2
        (broadcastInDim S1x4x8192 ![1, 2] bcast_S4x8192_S1x4x8192_1_2
          (Host.reduceAdd (Host.negf (shapeCast S1x4x8192x1
            (Host.reduceAdd (mulf (mulf d (broadcastInDim S1x4x8192x256 ![0, 1, 2, 3] bcast_S1x4x8192x1_S1x4x8192x256_0_1_2_3
                (Host.divf (broadcastInDim S1x4x8192x1 ![] bcast_S_S1x4x8192x1 (constant S_ .f32 0x3F800000#32))
                  (mulf (rmass e) (rmass e))))) e)
              (constant S_ .f32 0x00000000#32) reducesTo_S1x4x8192x256_S1x4x8192_d3 h_S_)
            shapeCasts_S1x4x8192_S1x4x8192x1))
            (constant S_ .f32 0x00000000#32) reducesTo_S1x4x8192x1_S4x8192_d0_3 h_S_)))) e)
    (broadcastInDim S1x4x8192x256 ![] bcast_S_S1x4x8192x256 (constant S_ .f32 0x3D3504F3#32))

/-- The gradient of the queries from the score gradients. -/
def rdq (KV : FVec Ideal S256x4096 .bf16) (g : FVec Ideal S1x4x8192x256 .f32) : FVec Ideal S8192x2048 .bf16 :=
  truncf .bf16 (shapeCast _ (transpose S1x8192x4x512 [0, 2, 1, 3]
    (Host.dotGeneral dot_S1x4x8192x256_S1x256x4x512_S1x4x8192x512_3_1_2_3_01_02 none g (rk KV))
    transposes_S1x4x8192x512_S1x8192x4x512_0_2_1_3) shapeCasts_S1x8192x4x512_S8192x2048) bitsLt_bf16_f32

/-- The gradient of the memory from the score gradients `g` and the weights `p`. -/
def rdkv (Q DO : FVec Ideal S8192x2048 .bf16) (g p : FVec Ideal S1x4x8192x256 .f32) : FVec Ideal S256x4096 .f32 :=
  addf (pad S256x4096 ![0, 2048] ![0, 0] ![0, 0] (shapeCast _ (transpose S1x256x4x512 [0, 3, 1, 2]
      (Host.dotGeneral dot_S1x4x512x8192_S1x4x8192x256_S1x4x512x256_3_2_2_3_01_01 none (rd DO) p)
      transposes_S1x4x512x256_S1x256x4x512_0_3_1_2) shapeCasts_S1x256x4x512_S256x2048)
      (constant S_ .f32 0x00000000#32) pads_S256x2048_S256x4096_000_204800 h_S_)
    (pad S256x4096 ![0, 0] ![0, 2048] ![0, 0] (shapeCast _ (transpose S1x256x4x512 [0, 2, 1, 3]
      (Host.dotGeneral dot_S1x4x8192x256_S1x8192x4x512_S1x4x256x512_2_1_3_3_01_02 none g (rq Q))
      transposes_S1x4x256x512_S1x256x4x512_0_2_1_3) shapeCasts_S1x256x4x512_S256x2048)
      (constant S_ .f32 0x00000000#32) pads_S256x2048_S256x4096_000_020480 h_S_)

variable (m : (ℓ : Loc nD τ sig) → Buf (Elt Ideal) ℓ)

set_option maxHeartbeats 4000000 in
theorem res0_eq (c : Dev nD) : Value.res_out0 m c
    = rdq (m ((c.tc : Thread nD τ).loc main_arg1)) (rslope (rlift (rscore (m ((c.tc : Thread nD τ).loc main_arg0)) (m ((c.tc : Thread nD τ).loc main_arg1))))
        (rdp (m ((c.tc : Thread nD τ).loc main_arg2)) (m ((c.tc : Thread nD τ).loc main_arg1)))) := rfl

set_option maxHeartbeats 4000000 in
theorem res1_eq (c : Dev nD) : Value.res_out1 m c
    = rdkv (m ((c.tc : Thread nD τ).loc main_arg0)) (m ((c.tc : Thread nD τ).loc main_arg2))
        (rslope (rlift (rscore (m ((c.tc : Thread nD τ).loc main_arg0)) (m ((c.tc : Thread nD τ).loc main_arg1))))
          (rdp (m ((c.tc : Thread nD τ).loc main_arg2)) (m ((c.tc : Thread nD τ).loc main_arg1))))
        (rprob (rlift (rscore (m ((c.tc : Thread nD τ).loc main_arg0)) (m ((c.tc : Thread nD τ).loc main_arg1))))) := rfl

/-- The host's sum over the leading and trailing axes, both of size one, is its one term. -/
theorem hostReduceAdd_unit (h : S1x4x8192x1.ReducesTo [0, 3] S4x8192) (v : S1x4x8192x1.Idx → EReal) (init : EReal) (a : Fin 4)
    (b : Fin 8192) : Ideal.hostReduceAdd h v init (ix2 a b) = init + v (ix4 0 a b 0) := by
  unfold Ideal.hostReduceAdd
  congr 1
  have : (Finset.univ.filter fun i => h.drop i = ix2 a b) = {ix4 (0 : Fin 1) a b (0 : Fin 1)} := by
    ext i
    simp only [Finset.mem_filter, Finset.mem_univ, true_and, Finset.mem_singleton]
    constructor
    · intro e
      funext x; apply Fin.ext
      match x with
      | ⟨0, _⟩ => exact congrArg Fin.val (Subsingleton.elim (α := Fin 1) _ _)
      | ⟨1, _⟩ => exact congrArg Fin.val (congrFun e 0)
      | ⟨2, _⟩ => exact congrArg Fin.val (congrFun e 1)
      | ⟨3, _⟩ => exact congrArg Fin.val (Subsingleton.elim (α := Fin 1) _ _)
    · rintro rfl
      funext x; apply Fin.ext
      match x with
      | ⟨0, _⟩ => rfl
      | ⟨1, _⟩ => rfl
  rw [this, Finset.sum_singleton]

/-- The scores of row `s`, head `h`. -/
theorem rscore_at (Q : FVec Ideal S8192x2048 .bf16) (KV : FVec Ideal S256x4096 .bf16) (h : Fin 4) (s : Fin 8192) (j : Fin 256) :
    rscore Q KV (ix4 0 h s j)
      = (∑ x : Fin 512, Q (ix2 s ⟨h * 512 + x, by omega⟩) * KV (ix2 j ⟨h * 512 + x, by omega⟩)) * scale := by
  pointwise [rscore, rq, rk]
  rfl

/-- The gradients of the weights of row `s`, head `h`. -/
theorem rdp_at (D : FVec Ideal S8192x2048 .bf16) (KV : FVec Ideal S256x4096 .bf16) (h : Fin 4) (s : Fin 8192) (j : Fin 256) :
    rdp D KV (ix4 0 h s j)
      = ∑ x : Fin 512, D (ix2 s ⟨h * 512 + x, by omega⟩) * KV (ix2 j ⟨2048 + (h * 512 + x), by omega⟩) := by
  pointwise [rdp, rd, rq, rv]

/-- A fold along the memory axis, read at a row. -/
theorem reduce_row (f : EReal → EReal → EReal) [Std.Commutative f] [Std.Associative f] (v : S1x4x8192x256.Idx → EReal)
    (init : S_.Idx → EReal) (H : S1x4x8192x256.ReducesTo [3] S1x4x8192) (hS : 0 < S_.numel) (h : Fin 4) (s : Fin 8192) :
    Host.reduce f v init H hS (ix3 0 h s) = Finset.fold f (init (Shape.Idx.first hS)) (fun x => v (ix4 0 h s x)) Finset.univ := by
  rw [Host.reduce_eq_fold, Shape.ReducesTo.fold_fiber_r4_a3]
  rfl

theorem rpeak_at (v : FVec Ideal S1x4x8192x256 .f32) (h : Fin 4) (s : Fin 8192) :
    rpeak v (ix3 0 h s) = peak (fun x => v (ix4 0 h s x)) := by
  unfold rpeak
  have e : (FloatOps.maximumf : Ideal .f32 → Ideal .f32 → Ideal .f32) = (max : EReal → EReal → EReal) := Ideal.maximumf_eq_max
  rw [e]
  exact reduce_row max v _ _ _ h s

theorem shifted_exp_at (v : FVec Ideal S1x4x8192x256 .f32) (P : FVec Ideal S1x4x8192 .f32) (h : Fin 4) (s : Fin 8192) (j : Fin 256) :
    Host.exp (subf v (broadcastInDim S1x4x8192x256 ![0, 1, 2, 3] bcast_S1x4x8192x1_S1x4x8192x256_0_1_2_3
      (broadcastInDim S1x4x8192x1 ![0, 1, 2] bcast_S1x4x8192_S1x4x8192x1_0_1_2 P))) (ix4 0 h s j)
      = Ideal.exp (v (ix4 0 h s j) - P (ix3 0 h s)) := by
  pointwise

theorem max_init_at (P : FVec Ideal S1x4x8192 .f32) (h : Fin 4) (s : Fin 8192) :
    maximumf (broadcastInDim S1x4x8192 ![] bcast_S_S1x4x8192 (constant S_ .f32 0xFF800000#32)) P (ix3 0 h s)
      = max (Ideal.ofBits .f32 0xFF800000#32) (P (ix3 0 h s)) := by
  pointwise

/-- The unnormalised weights of row `s`, head `h`. -/
theorem rlift_at (v : FVec Ideal S1x4x8192x256 .f32) (h : Fin 4) (s : Fin 8192) (j : Fin 256) :
    rlift v (ix4 0 h s j) = lift (fun x => v (ix4 0 h s x)) j :=
  (shifted_exp_at v _ h s j).trans (by rw [max_init_at, rpeak_at, max_peak, lift])

theorem rmass_at (e : FVec Ideal S1x4x8192x256 .f32) (h : Fin 4) (s : Fin 8192) (j : Fin 1) :
    rmass e (ix4 0 h s j) = ∑ x : Fin 256, e (ix4 0 h s x) := by
  pointwise [rmass]

/-- The weights of row `s`, head `h`. -/
theorem rprob_at (v : FVec Ideal S1x4x8192x256 .f32) (h : Fin 4) (s : Fin 8192) (j : Fin 256) :
    rprob (rlift v) (ix4 0 h s j) = prob (fun x => v (ix4 0 h s x)) j := by
  pointwise [rprob]
  rw [rmass_at, rlift_at, prob, mass]
  simp only [rlift_at]

theorem rslope_at (e d : FVec Ideal S1x4x8192x256 .f32) (h : Fin 4) (s : Fin 8192) (j : Fin 256) :
    rslope e d (ix4 0 h s j)
      = (Ideal.div (d (ix4 0 h s j)) (rmass e (ix4 0 h s 0))
          + -∑ k : Fin 256, d (ix4 0 h s k) * Ideal.div 1 (rmass e (ix4 0 h s 0) * rmass e (ix4 0 h s 0)) * e (ix4 0 h s k))
        * e (ix4 0 h s j) * scale := by
  pointwise [rslope]
  rw [hostReduceAdd_unit]
  pointwise [Host.negf]
  rfl

/-- The gradients of the unscaled scores of row `s`, head `h`. -/
theorem rslopeQ_at (v d : FVec Ideal S1x4x8192x256 .f32) (h : Fin 4) (s : Fin 8192) (j : Fin 256) :
    rslope (rlift v) d (ix4 0 h s j) = slopeQ (fun x => v (ix4 0 h s x)) (fun x => d (ix4 0 h s x)) j := by
  rw [rslope_at, slopeQ, mass]
  simp only [rmass_at, rlift_at]

theorem rdq_at (KV : FVec Ideal S256x4096 .bf16) (g : FVec Ideal S1x4x8192x256 .f32) (s : Fin 8192) (n : Fin 2048) :
    rdq KV g (ix2 s n) = ∑ x : Fin 256, g (ix4 0 ⟨n / 512, by omega⟩ s x) * KV (ix2 x ⟨n, by omega⟩) := by
  pointwise [rdq, rk]

theorem rdkv_at (Q D : FVec Ideal S8192x2048 .bf16) (g p : FVec Ideal S1x4x8192x256 .f32) (j : Fin 256) (n : Fin 4096) :
    rdkv Q D g p (ix2 j n) = if h : (n : ℕ) < 2048
      then ∑ x : Fin 8192, g (ix4 0 ⟨n / 512, by omega⟩ x j) * Q (ix2 x ⟨n, h⟩)
      else ∑ x : Fin 8192, D (ix2 x ⟨n - 2048, by omega⟩) * p (ix4 0 ⟨(n - 2048) / 512, by omega⟩ x j) := by
  pointwise [rdkv, rd, rq]
  by_cases hn : (n : ℕ) < 2048
  · rw [dif_neg (by omega), dif_pos hn, dif_pos hn, zero_add]
    refine Finset.sum_congr rfl fun x _ => ?_
    simp only [Nat.div_add_mod']
  · rw [dif_pos ⟨by omega, by omega⟩, dif_neg hn, dif_neg hn, add_zero]
    refine Finset.sum_congr rfl fun x _ => ?_
    simp only [Nat.div_add_mod']

end Cert.Xattn
end
-- ==== Proof.XattnEq.lean ====
/- The reference's two results, at real queries and keys, are the gradients `DQ` and `DKV`. -/
module

public import proofs.«01_k».proof.Proof.XattnRef

@[expose] public section

noncomputable section

namespace Cert.Xattn

open Cert.ReferenceIdeal Cert.ReferenceIdeal.Gen Idealize.ShloMosaic Idealize.ShloMosaic.TcCoe Idealize.SL.Sem

/-- Every query is real, and every key (the left half of the memory's projection) is real. -/
def Real (Q : FVec Ideal SRows .bf16) (KV : FVec Ideal SMem .bf16) : Prop :=
  (∀ i, ∃ r : ℝ, Q i = (r : EReal)) ∧ ∀ (j : Fin 256) (n : Fin 4096), (n : ℕ) < 2048 → ∃ r : ℝ, KV (ix2 j n) = (r : EReal)

variable (Q D : FVec Ideal S8192x2048 .bf16) (KV : FVec Ideal S256x4096 .bf16)

/-- The reference's scores of one row and head. -/
theorem rscore_row (n : ℕ) (hn : n < 2048) (s : Fin 8192) :
    (fun x => rscore Q KV (ix4 0 ⟨n / 512, by omega⟩ s x)) = score Q KV s n hn := by
  funext j; rw [rscore_at]; rfl

/-- The reference's gradients of the weights of one row and head. -/
theorem rdp_row (n : ℕ) (hn : n < 2048) (s : Fin 8192) :
    (fun x => rdp D KV (ix4 0 ⟨n / 512, by omega⟩ s x)) = dweight D KV s n hn := by
  funext j; rw [rdp_at]; rfl

/-- The reference's gradients of the unscaled scores of one row and head. -/
theorem rslope_row (hr : Real Q KV) (n : ℕ) (hn : n < 2048) (s : Fin 8192) (j : Fin 256) :
    rslope (rlift (rscore Q KV)) (rdp D KV) (ix4 0 ⟨n / 512, by omega⟩ s j)
      = slope (score Q KV s n hn) (dweight D KV s n hn) j := by
  rw [rslopeQ_at, rscore_row Q KV n hn, rdp_row D KV n hn]
  exact slopeQ_eq _ _ (fun k => score_real Q KV hr.1 hr.2 s n hn k) j

theorem rdq_eq (hr : Real Q KV) : rdq KV (rslope (rlift (rscore Q KV)) (rdp D KV)) = DQ Q KV D := by
  funext i
  obtain ⟨s, n, rfl⟩ : ∃ (s : Fin 8192) (n : Fin 2048), i = ix2 s n := ⟨i 0, i 1, by funext a; match a with | ⟨0, _⟩ => rfl | ⟨1, _⟩ => rfl⟩
  rw [rdq_at]
  refine Finset.sum_congr rfl fun j _ => ?_
  rw [rslope_row Q D KV hr n n.isLt]
  rfl

theorem rdkv_eq (hr : Real Q KV) :
    rdkv Q D (rslope (rlift (rscore Q KV)) (rdp D KV)) (rprob (rlift (rscore Q KV))) = DKV Q KV D := by
  funext i
  obtain ⟨j, n, rfl⟩ : ∃ (j : Fin 256) (n : Fin 4096), i = ix2 j n := ⟨i 0, i 1, by funext a; match a with | ⟨0, _⟩ => rfl | ⟨1, _⟩ => rfl⟩
  rw [rdkv_at]
  show _ = ∑ s : Fin 8192, dkvRow Q KV D j n s
  by_cases hn : (n : ℕ) < 2048
  · rw [dif_pos hn]
    refine Finset.sum_congr rfl fun s _ => ?_
    rw [rslope_row Q D KV hr n hn, dkvRow, dif_pos hn]
  · rw [dif_neg hn]
    refine Finset.sum_congr rfl fun s _ => ?_
    rw [rprob_at, rscore_row Q KV (n - 2048) (by omega), dkvRow, dif_neg hn, mul_comm]

end Cert.Xattn
end
-- ==== Proof.XattnPre.lean ====
/- What the precondition says: finite queries and keys are real ones. -/
module

public import proofs.«01_k».proof.Pre_finite_qk
public import proofs.«01_k».proof.Proof.XattnEq

@[expose] public section

noncomputable section

namespace Cert.Xattn

open Cert.Pre_finite_qk Idealize.ShloMosaic

instance preFacts : Cert.Pre_finite_qk.Facts where
  slices_S256x4096_S256x2048_0_0 := by decide
  bitsLt_bf16_f32 := by decide
  bcast_S_S8192x2048 := by decide
  bcast_S_S256x2048 := by decide

/-- Below +∞ in absolute value means real. -/
theorem real_of_abs_lt (x : EReal)
    (h : BitVec.ofBool (decide ((FloatOps.absf (F := Ideal) (φ := .f32) x : EReal) < Ideal.ofBits .f32 0x7F800000#32)) = 1#1) :
    ∃ r : ℝ, x = (r : EReal) := by
  have hlt : (FloatOps.absf (F := Ideal) (φ := .f32) x : EReal) < Ideal.ofBits .f32 0x7F800000#32 := by
    by_contra hc
    rw [decide_eq_false hc] at h
    exact absurd h (by decide)
  have ht : Ideal.ofBits .f32 0x7F800000#32 = (⊤ : EReal) := by simp [Ideal.ofBits, Ideal.ieee]
  rw [ht] at hlt
  change max x (-x) < ⊤ at hlt
  induction x with
  | bot => exact absurd hlt (by simp)
  | top => exact absurd hlt (by simp)
  | coe r => exact ⟨r, rfl⟩

theorem real_of_pre (Q D : FVec Ideal S8192x2048 .bf16) (KV : FVec Ideal S256x4096 .bf16)
    (h0 : (fn (F := Ideal) Q KV D).1 = fun _ => 1#1) (h1 : (fn (F := Ideal) Q KV D).2 = fun _ => 1#1) : Real Q KV := by
  constructor
  · intro i
    have h := congrFun h0 i
    revert h
    pointwise [fn, Host.absf]
    exact real_of_abs_lt _
  · intro j n hn
    have h := congrFun h1 (ix2 j ⟨n, hn⟩)
    revert h
    pointwise [fn, Host.absf]
    exact real_of_abs_lt _

end Cert.Xattn
end
-- ==== Proof.FfnBody.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.TableIdle
public import Idealize.ShloMosaic.Lib.Pipeline.ValueKit.Acc

@[expose] public section

/-! # One grid point of the FFN input gradient

A row tile of 512 rows is visited nine times. Visit 0 casts the scaled cotangent, zeroes the running gradient of the
normed input and takes the first product `df · wd[0]ᵀ` into scratch; visits 1 to 7 turn the scratch into the gradients of
one block of 704 hidden columns, take the next product and add the block's two products to the running gradient; visit 8
does the last block. Each theorem states one of the three as a triple over any whole buffers, naming what every buffer
ends with. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
/-- Visit 0 of a row tile: the cast scaled cotangent, a zero running gradient, the first product in scratch. -/
theorem start (c : Dev nD) (i : grid0.Coords) (arg2 : Memref sig .tc .vmem S512x2048 .f32) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x2048x704 .bf16) (harg5 : arg5.IsWhole) (arg6 : Memref sig .tc .vmem S1x2048x704 .bf16) (harg6 : arg6.IsWhole) (arg7 : Memref sig .tc .vmem S1x704x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x704 .f32) (harg13 : arg13.IsWhole) (h1 : k0_cond1 i = 1#1) (h2 : ¬k0_cond2 i = 1#1) (h3 : ¬k0_cond3 i = 1#1)
    (dh : Vec F S512x2048 .f32) (wd : Vec F S1x704x2048 .bf16)  (E : Set ℕ)
    (K : PUnit → sProp (MT nD τ sig Unit (Elt F) ℕ (UR sig nD τ) ℕ)) :
    iprop(owns (c : Thread nD τ) arg2 fullShare dh ∗ owns (c : Thread nD τ) arg7 fullShare wd ∗ (∃ d, owns (c : Thread nD τ) arg8 fullShare d) ∗ (∃ d, owns (c : Thread nD τ) arg9 fullShare d) ∗ (∃ d, owns (c : Thread nD τ) arg13 fullShare d)
        ∗ (iprop(owns (c : Thread nD τ) arg2 fullShare dh ∗ owns (c : Thread nD τ) arg7 fullShare wd ∗ owns (c : Thread nD τ) arg8 fullShare k0_pay2 ∗ owns (c : Thread nD τ) arg9 fullShare (k0_pay1 dh) ∗ owns (c : Thread nD τ) arg13 fullShare (k0_pay3 (k0_pay1 dh) wd)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13) K := by
  simp only [cc0_ffn_bwd_dx_eq_skeleton]; unfold cc0_ffn_bwd_dx_skel
  simp only [k0_part1_eq_skeleton, k0_part2_eq_skeleton]
  unfold owns
  iintro ⟨⟨%f2, %hf2, H2⟩, ⟨%f7, %hf7, H7⟩, ⟨%d8, %f8, -, H8⟩, ⟨%d9, %f9, -, H9⟩, ⟨%d13, %f13, -, H13⟩, Hk⟩
  obtain rfl := harg2.eq_unread hf2; obtain rfl := harg7.eq_unread hf7
  sl_exec (disch := first | sl_exact h1 | sl_exact h2 | sl_exact h3)
  sl_step
  iapply Hk
  isplitl [H2]
  · iexists _; isplitr; · ipureintro; exact harg2.read_unread _
    iexact H2
  isplitl [H7]
  · iexists _; isplitr; · ipureintro; exact harg7.read_unread _
    iexact H7
  isplitl [H8]
  · iexists _; isplitr; swap; · iexact H8
    ipureintro
    rw [View.read_writes_full]; try simp (disch := decide) only [View.readAt_eq_ld, View.ld_unit_lit', View.readCov_unit_lit', View.readCov_cons_unit_lit', Memref.IsWhole.read_unread]
    all_goals rfl
  isplitl [H9]
  · iexists _; isplitr; swap; · iexact H9
    ipureintro
    unfold start.sl.H9_1; rw [View.read_writes_full]; try simp (disch := decide) only [View.readAt_eq_ld, View.ld_unit_lit', View.readCov_unit_lit', View.readCov_cons_unit_lit', Memref.IsWhole.read_unread]
    all_goals rfl
  iexists _; isplitr; swap; · iexact H13
  ipureintro
  rw [View.read_writes_full]; unfold start.sl.v18; try unfold start.sl.H9_1; try simp (disch := decide) only [View.readAt_eq_ld, View.ld_unit_lit', View.readCov_unit_lit', View.readCov_cons_unit_lit', Memref.IsWhole.read_unread]
  all_goals rfl

set_option maxHeartbeats 1000000 in
/-- Visits 1 to 7: one block's three gradients from the scratch, the next product, and the block's two products added. -/
theorem step (c : Dev nD) (i : grid0.Coords) (arg2 : Memref sig .tc .vmem S512x2048 .f32) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x2048x704 .bf16) (harg5 : arg5.IsWhole) (arg6 : Memref sig .tc .vmem S1x2048x704 .bf16) (harg6 : arg6.IsWhole) (arg7 : Memref sig .tc .vmem S1x704x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x704 .f32) (harg13 : arg13.IsWhole) (h1 : ¬k0_cond1 i = 1#1) (h2 : k0_cond2 i = 1#1) (h3 : ¬k0_cond3 i = 1#1)
    (a : Vec F S1x512x704 .bf16) (b : Vec F S1x512x704 .bf16) (wg : Vec F S1x2048x704 .bf16) (wu : Vec F S1x2048x704 .bf16) (wd : Vec F S1x704x2048 .bf16) (df : Vec F S512x2048 .bf16) (dn : Vec F S512x2048 .f32) (ds : Vec F S512x704 .f32) (E : Set ℕ)
    (K : PUnit → sProp (MT nD τ sig Unit (Elt F) ℕ (UR sig nD τ) ℕ)) :
    iprop(owns (c : Thread nD τ) arg3 fullShare a ∗ owns (c : Thread nD τ) arg4 fullShare b ∗ owns (c : Thread nD τ) arg5 fullShare wg ∗ owns (c : Thread nD τ) arg6 fullShare wu ∗ owns (c : Thread nD τ) arg7 fullShare wd ∗ owns (c : Thread nD τ) arg9 fullShare df ∗ owns (c : Thread nD τ) arg8 fullShare dn ∗ (∃ d, owns (c : Thread nD τ) arg10 fullShare d) ∗ (∃ d, owns (c : Thread nD τ) arg11 fullShare d) ∗ (∃ d, owns (c : Thread nD τ) arg12 fullShare d) ∗ owns (c : Thread nD τ) arg13 fullShare ds
        ∗ (iprop(owns (c : Thread nD τ) arg3 fullShare a ∗ owns (c : Thread nD τ) arg4 fullShare b ∗ owns (c : Thread nD τ) arg5 fullShare wg ∗ owns (c : Thread nD τ) arg6 fullShare wu ∗ owns (c : Thread nD τ) arg7 fullShare wd ∗ owns (c : Thread nD τ) arg9 fullShare df ∗ owns (c : Thread nD τ) arg8 fullShare (k0_pay5 (k0_pay11 ds a b) (k0_pay12 ds a) dn wg wu) ∗ owns (c : Thread nD τ) arg10 fullShare (k0_pay13 ds a b) ∗ owns (c : Thread nD τ) arg11 fullShare (k0_pay14 ds a) ∗ owns (c : Thread nD τ) arg12 fullShare (k0_pay15 a b) ∗ owns (c : Thread nD τ) arg13 fullShare (k0_pay3 df wd)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13) K := by
  simp only [cc0_ffn_bwd_dx_eq_skeleton]; unfold cc0_ffn_bwd_dx_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f9, %hf9, H9⟩, ⟨%f8, %hf8, H8⟩, ⟨%d10, %f10, -, H10⟩, ⟨%d11, %f11, -, H11⟩, ⟨%d12, %f12, -, H12⟩, ⟨%f13, %hf13, H13⟩, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg8.eq_unread hf8; obtain rfl := harg13.eq_unread hf13
  sl_exec (disch := first | sl_exact h1 | sl_exact h2 | sl_exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H8]
  · iexists _; isplitr; swap; · iexact H8
    ipureintro
    rw [View.read_writes_full]; unfold step.sl.r step.sl.r_1; try simp (disch := decide) only [View.readAt_eq_ld, View.ld_unit_lit', View.readCov_unit_lit', View.readCov_cons_unit_lit', Memref.IsWhole.read_unread]
    all_goals rfl
  isplitl [H10]
  · iexists _; isplitr; swap; · iexact H10
    ipureintro
    rw [View.read_writes_full]; try simp (disch := decide) only [View.readAt_eq_ld, View.ld_unit_lit', View.readCov_unit_lit', View.readCov_cons_unit_lit', Memref.IsWhole.read_unread]
    all_goals rfl
  isplitl [H11]
  · iexists _; isplitr; swap; · iexact H11
    ipureintro
    rw [View.read_writes_full]; try simp (disch := decide) only [View.readAt_eq_ld, View.ld_unit_lit', View.readCov_unit_lit', View.readCov_cons_unit_lit', Memref.IsWhole.read_unread]
    all_goals rfl
  isplitl [H12]
  · iexists _; isplitr; swap; · iexact H12
    ipureintro
    rw [View.read_writes_full]; try simp (disch := decide) only [View.readAt_eq_ld, View.ld_unit_lit', View.readCov_unit_lit', View.readCov_cons_unit_lit', Memref.IsWhole.read_unread]
    all_goals rfl
  iexists _; isplitr; swap; · iexact H13
  ipureintro
  rw [View.read_writes_full]; unfold step.sl.r_2; try simp (disch := decide) only [View.readAt_eq_ld, View.ld_unit_lit', View.readCov_unit_lit', View.readCov_cons_unit_lit', Memref.IsWhole.read_unread]
  all_goals rfl

set_option maxHeartbeats 1000000 in
/-- Visit 8: the last block's three gradients, and its two products added. -/
theorem finish (c : Dev nD) (i : grid0.Coords) (arg2 : Memref sig .tc .vmem S512x2048 .f32) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x2048x704 .bf16) (harg5 : arg5.IsWhole) (arg6 : Memref sig .tc .vmem S1x2048x704 .bf16) (harg6 : arg6.IsWhole) (arg7 : Memref sig .tc .vmem S1x704x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S1x512x704 .bf16) (harg12 : arg12.IsWhole) (arg13 : Memref sig .tc .vmem S512x704 .f32) (harg13 : arg13.IsWhole) (h1 : ¬k0_cond1 i = 1#1) (h2 : ¬k0_cond2 i = 1#1) (h3 : k0_cond3 i = 1#1)
    (a : Vec F S1x512x704 .bf16) (b : Vec F S1x512x704 .bf16) (wg : Vec F S1x2048x704 .bf16) (wu : Vec F S1x2048x704 .bf16) (ds : Vec F S512x704 .f32) (dn : Vec F S512x2048 .f32) (E : Set ℕ)
    (K : PUnit → sProp (MT nD τ sig Unit (Elt F) ℕ (UR sig nD τ) ℕ)) :
    iprop(owns (c : Thread nD τ) arg3 fullShare a ∗ owns (c : Thread nD τ) arg4 fullShare b ∗ owns (c : Thread nD τ) arg5 fullShare wg ∗ owns (c : Thread nD τ) arg6 fullShare wu ∗ owns (c : Thread nD τ) arg13 fullShare ds ∗ owns (c : Thread nD τ) arg8 fullShare dn ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare a ∗ owns (c : Thread nD τ) arg4 fullShare b ∗ owns (c : Thread nD τ) arg5 fullShare wg ∗ owns (c : Thread nD τ) arg6 fullShare wu ∗ owns (c : Thread nD τ) arg13 fullShare ds ∗ owns (c : Thread nD τ) arg8 fullShare (k0_pay5 (k0_pay11 ds a b) (k0_pay12 ds a) dn wg wu) ∗ owns (c : Thread nD τ) arg10 fullShare (k0_pay13 ds a b) ∗ owns (c : Thread nD τ) arg11 fullShare (k0_pay14 ds a) ∗ owns (c : Thread nD τ) arg12 fullShare (k0_pay15 a b)) -∗ K ⟨⟩))
      ⊢ wp frame (wpE (defs₀ (F := F)) Variants.none c none) E (cc0_ffn_bwd_dx i arg2 harg2 arg3 harg3 arg4 harg4 arg5 harg5 arg6 harg6 arg7 harg7 arg8 harg8 arg9 harg9 arg10 harg10 arg11 harg11 arg12 harg12 arg13 harg13) K := by
  simp only [cc0_ffn_bwd_dx_eq_skeleton]; unfold cc0_ffn_bwd_dx_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f13, %hf13, H13⟩, ⟨%f8, %hf8, H8⟩, ⟨%d10, %f10, -, H10⟩, ⟨%d11, %f11, -, H11⟩, ⟨%d12, %f12, -, H12⟩, Hk⟩
  obtain rfl := harg3.eq_unread hf3; obtain rfl := harg4.eq_unread hf4; obtain rfl := harg5.eq_unread hf5; obtain rfl := harg6.eq_unread hf6; obtain rfl := harg13.eq_unread hf13; obtain rfl := harg8.eq_unread hf8
  sl_exec (disch := first | sl_exact h1 | sl_exact h2 | sl_exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H13]
  · iexists _; isplitr; · ipureintro; exact harg13.read_unread _
    iexact H13
  isplitl [H8]
  · iexists _; isplitr; swap; · iexact H8
    ipureintro
    rw [View.read_writes_full]; unfold finish.sl.r finish.sl.r_1 finish.sl.r_2; try simp (disch := decide) only [View.readAt_eq_ld, View.ld_unit_lit', View.readCov_unit_lit', View.readCov_cons_unit_lit', Memref.IsWhole.read_unread]
    all_goals rfl
  isplitl [H10]
  · iexists _; isplitr; swap; · iexact H10
    ipureintro
    rw [View.read_writes_full]; try simp (disch := decide) only [View.readAt_eq_ld, View.ld_unit_lit', View.readCov_unit_lit', View.readCov_cons_unit_lit', Memref.IsWhole.read_unread]
    all_goals rfl
  isplitl [H11]
  · iexists _; isplitr; swap; · iexact H11
    ipureintro
    rw [View.read_writes_full]; try simp (disch := decide) only [View.readAt_eq_ld, View.ld_unit_lit', View.readCov_unit_lit', View.readCov_cons_unit_lit', Memref.IsWhole.read_unread]
    all_goals rfl
  iexists _; isplitr; swap; · iexact H12
  ipureintro
  rw [View.read_writes_full]; try simp (disch := decide) only [View.readAt_eq_ld, View.ld_unit_lit', View.readCov_unit_lit', View.readCov_cons_unit_lit', Memref.IsWhole.read_unread]
  all_goals rfl

end Cert.Kernel2Ideal.Ffn

end
-- ==== Proof.FfnRun.lean ====
module

public import proofs.«01_k».proof.Proof.FfnBody
public import Idealize.ShloMosaic.Lib.Claim

@[expose] public section

/-! # The run of the FFN input gradient

What every buffer holds after every grid point, and the run of the whole program from it. Point `t` is visit `t % 9` of
row tile `t / 9`. The scaled cotangent's tile is stored at visit 0 and read until the tile is left; the three hidden
gradients' blocks are stored at visits 1 to 8; the running gradient of the normed input is stored at every visit; the
scratch holds, between a tile's visits, the product the next visit reads. -/

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The schedule -/

theorem lt_N (t : Fin cfg0.N) : t.val < 144 := lt_of_lt_of_eq t.isLt (show cfg0.N = 144 from N_0)

/-- The visit number is the second grid coordinate. -/
theorem visit (t : Fin cfg0.N) : (grid0.coords t 1).val = t.val % 9 := by
  have e : (grid0.coords t 1).val = t.val / 1 % 9 := Pipeline.Grid.coords_val t 1 (by decide) rfl
  rw [e, Nat.div_one]

theorem cond_table : ∀ j : Fin 9, ∀ i : grid0.Coords, (i 1).val = j.val →
    ((k0_cond1 i = 1#1 ↔ j.val = 0) ∧ (k0_cond2 i = 1#1 ↔ (j.val ≠ 0 ∧ j.val ≠ 8)) ∧ (k0_cond3 i = 1#1 ↔ j.val = 8)) := by
  intro j i h
  unfold k0_cond1 k0_cond2 k0_cond3
  simp only [h]
  revert j
  intro j _
  fin_cases j <;> decide

/-- The first branch is taken at visit 0, -/
theorem cond1_iff (t : Fin cfg0.N) : k0_cond1 (grid0.coords t) = 1#1 ↔ t.val % 9 = 0 :=
  (cond_table ⟨t.val % 9, Nat.mod_lt _ (by decide)⟩ _ (visit t)).1
/-- the second at visits 1 to 7, -/
theorem cond2_iff (t : Fin cfg0.N) : k0_cond2 (grid0.coords t) = 1#1 ↔ (t.val % 9 ≠ 0 ∧ t.val % 9 ≠ 8) :=
  (cond_table ⟨t.val % 9, Nat.mod_lt _ (by decide)⟩ _ (visit t)).2.1
/-- and the third at visit 8. -/
theorem cond3_iff (t : Fin cfg0.N) : k0_cond3 (grid0.coords t) = 1#1 ↔ t.val % 9 = 8 :=
  (cond_table ⟨t.val % 9, Nat.mod_lt _ (by decide)⟩ _ (visit t)).2.2

/-- The running gradient is stored at every visit: its window is never idle. -/
theorem live6 (i : grid0.Coords) : cfg0.idle 6 i = false := by
  have h := cond_table (i 1) i rfl
  show (!(k0_cond1 i == 1#1) && !(k0_cond2 i == 1#1) && !(k0_cond3 i == 1#1)) = false
  by_cases h1 : k0_cond1 i = 1#1
  · simp [h1]
  by_cases h2 : k0_cond2 i = 1#1
  · simp [h2]
  have h3 : k0_cond3 i = 1#1 := by
    rw [h.2.2]; by_contra h3
    exact h2 (h.2.1.mpr ⟨fun e => h1 (h.1.mpr e), h3⟩)
  simp [h3]

/-- The scaled cotangent's window is idle after visit 0. -/
theorem idle7 (t : Fin cfg0.N) : cfg0.idle 7 (cfg0.grid.coords t) = !decide (t.val % 9 = 0) := by
  show (!(k0_cond1 (grid0.coords t) == 1#1)) = _
  have h := cond1_iff t
  by_cases h0 : t.val % 9 = 0
  · simp [h.mpr h0, h0]
  · have h1 : ¬k0_cond1 (grid0.coords t) = 1#1 := fun e => h0 (h.mp e)
    simp [h1, h0]

/-- The hidden gradients' windows are idle at visit 0. -/
theorem idle_hidden (t : Fin cfg0.N) :
    (!(k0_cond2 (grid0.coords t) == 1#1) && !(k0_cond3 (grid0.coords t) == 1#1)) = decide (t.val % 9 = 0) := by
  have h := cond2_iff t
  have h' := cond3_iff t
  by_cases h0 : t.val % 9 = 0
  · have h2 : ¬k0_cond2 (grid0.coords t) = 1#1 := fun e => (h.mp e).1 h0
    have h3 : ¬k0_cond3 (grid0.coords t) = 1#1 := fun e => by have := h'.mp e; omega
    simp [h2, h3, h0]
  · by_cases h8 : t.val % 9 = 8
    · simp [h'.mpr h8, h0]
    · simp [h.mpr ⟨h0, h8⟩, h0]
theorem idle8 (t : Fin cfg0.N) : cfg0.idle 8 (cfg0.grid.coords t) = decide (t.val % 9 = 0) := idle_hidden t
theorem idle9 (t : Fin cfg0.N) : cfg0.idle 9 (cfg0.grid.coords t) = decide (t.val % 9 = 0) := idle_hidden t
theorem idle10 (t : Fin cfg0.N) : cfg0.idle 10 (cfg0.grid.coords t) = decide (t.val % 9 = 0) := idle_hidden t

set_option maxRecDepth 65536 in
theorem flushF8 : ∀ t : Fin grid0.N, win0_8.flushF t = !decide (t.val % 9 = 0) := by decide +kernel
/-- The hidden gradients' blocks are written back at every visit but the first. -/
theorem flush8 (t : Fin cfg0.N) : (cfg0.win 8).flush t = !decide (t.val % 9 = 0) :=
  (Pipeline.Window.flush_eq_flushF win0_8 t).trans (flushF8 t)
set_option maxRecDepth 65536 in
theorem flushF9 : ∀ t : Fin grid0.N, win0_9.flushF t = !decide (t.val % 9 = 0) := by decide +kernel
theorem flush9 (t : Fin cfg0.N) : (cfg0.win 9).flush t = !decide (t.val % 9 = 0) :=
  (Pipeline.Window.flush_eq_flushF win0_9 t).trans (flushF9 t)
set_option maxRecDepth 65536 in
theorem flushF10 : ∀ t : Fin grid0.N, win0_10.flushF t = !decide (t.val % 9 = 0) := by decide +kernel
theorem flush10 (t : Fin cfg0.N) : (cfg0.win 10).flush t = !decide (t.val % 9 = 0) :=
  (Pipeline.Window.flush_eq_flushF win0_10 t).trans (flushF10 t)

theorem flush7 (t : Fin cfg0.N) : (cfg0.win 7).flush t = decide (t.val % 9 = 8) := by
  by_cases h : t.val % 9 = 8
  · simp [h, (flush0_7 t).mpr h]
  · have : ¬(cfg0.win 7).flush t = true := fun e => h ((flush0_7 t).mp e)
    simp [h, this]

/-! ## What every buffer holds -/

/-- The first point of the row tile `t` belongs to. -/
def first (t : Fin cfg0.N) : Fin cfg0.N := ⟨t.val - t.val % 9, Nat.lt_of_le_of_lt (Nat.sub_le _ _) t.isLt⟩
/-- The point before. -/
def prev (t : Fin cfg0.N) : Fin cfg0.N := ⟨t.val - 1, Nat.lt_of_le_of_lt (Nat.sub_le _ _) t.isLt⟩

/-- The row tile's cotangent, halved and cast. -/
def dfAt (c : Dev nD) (t : Fin cfg0.N) : Vec F S512x2048 .bf16 := k0_pay1 (iblk m c 0 (first t))
/-- The product of it with one block of `w_down`, left in scratch for the next visit. -/
def dsAt (c : Dev nD) (t : Fin cfg0.N) : Vec F S512x704 .f32 := k0_pay3 (dfAt m c t) (iblk m c 5 t)
/-- One block of the gate's gradient, -/
def daAt (c : Dev nD) (t : Fin cfg0.N) : Vec F S1x512x704 .bf16 := k0_pay13 (dsAt m c (prev t)) (iblk m c 1 t) (iblk m c 2 t)
/-- of the up projection's, -/
def dbAt (c : Dev nD) (t : Fin cfg0.N) : Vec F S1x512x704 .bf16 := k0_pay14 (dsAt m c (prev t)) (iblk m c 1 t)
/-- and of the hidden row itself. -/
def sAt (c : Dev nD) (t : Fin cfg0.N) : Vec F S1x512x704 .bf16 := k0_pay15 (iblk m c 1 t) (iblk m c 2 t)
/-- One visit's addition to the running gradient of the normed input. -/
def addDn (c : Dev nD) (t : Fin cfg0.N) (acc : Vec F S512x2048 .f32) : Vec F S512x2048 .f32 :=
  k0_pay5 (k0_pay11 (dsAt m c (prev t)) (iblk m c 1 t) (iblk m c 2 t)) (k0_pay12 (dsAt m c (prev t)) (iblk m c 1 t)) acc
    (iblk m c 3 t) (iblk m c 4 t)
/-- The running gradient after point `n`. -/
def dnAt (c : Dev nD) : (n : ℕ) → n < cfg0.N → Vec F S512x2048 .f32
  | 0, _ => k0_pay2
  | n + 1, h => if (n + 1) % 9 = 0 then k0_pay2 else addDn m c ⟨n + 1, h⟩ (dnAt c n (Nat.lt_of_succ_lt h))

theorem dnAt_first (c : Dev nD) (t : Fin cfg0.N) (h0 : t.val % 9 = 0) : dnAt m c t.val t.isLt = k0_pay2 := by
  obtain ⟨n, hn⟩ := t
  cases n with
  | zero => rfl
  | succ n => exact if_pos h0

theorem dnAt_next (c : Dev nD) (t : Fin cfg0.N) (h0 : ¬t.val % 9 = 0) :
    dnAt m c t.val t.isLt = addDn m c t (dnAt m c (prev t).val (prev t).isLt) := by
  obtain ⟨n, hn⟩ := t
  cases n with
  | zero => exact absurd (Nat.zero_mod 9) h0
  | succ n => exact if_neg h0

theorem first_of (t : Fin cfg0.N) (h0 : t.val % 9 = 0) : first t = t := Fin.ext (by show t.val - t.val % 9 = t.val; omega)
theorem first_prev (t : Fin cfg0.N) (h0 : ¬t.val % 9 = 0) : first (prev t) = first t :=
  Fin.ext (by show t.val - 1 - (t.val - 1) % 9 = t.val - t.val % 9; omega)
theorem dfAt_prev (c : Dev nD) (t : Fin cfg0.N) (h0 : ¬t.val % 9 = 0) : dfAt m c (prev t) = dfAt m c t := by
  unfold dfAt; rw [first_prev t h0]

/-- The scratch between two points: within a row tile the product the last visit left, between tiles anything. -/
def scratch (c : Dev nD) (p : Fin (cfg0.N + 1)) : sProp (MT nD τ sig Unit (Elt F) ℕ (UR sig nD τ) ℕ) :=
  if h : p.val % 9 = 0 then iprop(∃ d, owns (c : Thread nD τ) (Memref.whole cc0_scratch0 : Memref sig .tc .vmem S512x704 .f32) fullShare d)
  else owns (c : Thread nD τ) (Memref.whole cc0_scratch0 : Memref sig .tc .vmem S512x704 .f32) fullShare
    (dsAt m c ⟨p.val - 1, by have := p.isLt; omega⟩)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dnAt m c t.val t.isLt
    | ⟨7, _⟩ => dfAt m c t
    | ⟨8, _⟩ => daAt m c t
    | ⟨9, _⟩ => dbAt m c t
    | ⟨10, _⟩ => sAt m c t
  Φ p := iprop(scratch m c p ∗ ∃ r, prngReg c r)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dnAt m c t.val t.isLt := by dsimp only [dats]
theorem after7 (c : Dev nD) (t : Fin cfg0.N) : (dats m 0 c).after 7 t = dfAt m c t := by dsimp only [dats]
theorem after8 (c : Dev nD) (t : Fin cfg0.N) : (dats m 0 c).after 8 t = daAt m c t := by dsimp only [dats]
theorem after9 (c : Dev nD) (t : Fin cfg0.N) : (dats m 0 c).after 9 t = dbAt m c t := by dsimp only [dats]
theorem after10 (c : Dev nD) (t : Fin cfg0.N) : (dats m 0 c).after 10 t = sAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After visit 0 the running gradient's buffer holds what the point before left. -/
theorem before6 (c : Dev nD) (t : Fin cfg0.N) (h0 : ¬t.val % 9 = 0) (d) :
    (dats m 0 c).before 6 t d = dnAt m c (prev t).val (prev t).isLt := by
  have hN := lt_N t
  rw [Dat.before_out_kept _ 6 rfl t (by omega)
    (Bool.eq_false_iff.mpr fun h => by have := (flush0_6 _).mp h; dsimp only at this; omega) live6 (fun _ _ => rfl)]
  exact after6 m c (prev t)

theorem fresh7 : ∀ n, n ≤ cfg0.N → cfg0.fresh 7 n = decide (n % 9 = 0) :=
  cfg0.fresh_tab 7 (fun n => decide (n % 9 = 0)) rfl fun t => by
    rw [flush7, idle7]
    have h : (t.val + 1) % 9 = 0 ↔ t.val % 9 = 8 := by omega
    by_cases h0 : t.val % 9 = 0 <;> by_cases h8 : t.val % 9 = 8 <;> simp [h, h0, h8]

/-- After visit 0 the scaled cotangent's buffer holds what visit 0 stored. -/
theorem before7 (c : Dev nD) (t : Fin cfg0.N) (h0 : ¬t.val % 9 = 0) (d) :
    (dats m 0 c).before 7 t d = dfAt m c t := by
  rw [Dat.before_out_traj (dats m 0 c) 7 rfl (fun _ _ => rfl) (fun t ht hi hf => by
    have h0 : ¬t.val % 9 = 0 := fun h => by
      rw [fresh7 _ (Nat.le_of_lt t.isLt)] at hf; simp [h] at hf
    rw [after7]; exact (dfAt_prev m c t h0).symm.trans (after7 m c (prev t)).symm) t.val t rfl d,
    fresh7 _ (Nat.le_of_lt t.isLt), if_neg (by simp [h0])]
  exact (after7 m c (prev t)).trans (dfAt_prev m c t h0)

/-! ## The body at a generic point -/

/-- Window `w`'s current buffer as the body finds it, -/
def found (c : Dev nD) (t : Fin cfg0.N) (w : Fin cfg0.W) : sProp (MT nD τ sig Unit (Elt F) ℕ (UR sig nD τ) ℕ) :=
  iprop(∃ d, owns (c : Thread nD τ) ((cfg0.win w).stage (cfg0.slots t w)) fullShare ((dats m 0 c).before w t d))
/-- and as it leaves it. -/
def leaves (c : Dev nD) (t : Fin cfg0.N) (w : Fin cfg0.W) : sProp (MT nD τ sig Unit (Elt F) ℕ (UR sig nD τ) ℕ) :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live (c : Dev nD) (t : Fin cfg0.N) (w : Fin cfg0.W) (h : cfg0.idle w (cfg0.grid.coords t) = false) :
    leaves m c t w = owns (c : Thread nD τ) ((cfg0.win w).stage (cfg0.slots t w)) fullShare ((dats m 0 c).after w t) := by
  unfold leaves; rw [h]
theorem leaves_idle (c : Dev nD) (t : Fin cfg0.N) (w : Fin cfg0.W) (h : cfg0.idle w (cfg0.grid.coords t) = true)
    (hf : (cfg0.win w).flush t = false) : leaves m c t w = found m c t w := by
  unfold leaves found; rw [h, hf]
theorem leaves_flush (c : Dev nD) (t : Fin cfg0.N) (w : Fin cfg0.W) (h : cfg0.idle w (cfg0.grid.coords t) = true)
    (hf : (cfg0.win w).flush t = true) :
    leaves m c t w = owns (c : Thread nD τ) ((cfg0.win w).stage (cfg0.slots t w)) fullShare ((dats m 0 c).after w t) := by
  unfold leaves; rw [h, hf]

def bodyPre (c : Dev nD) (t : Fin cfg0.N) : sProp (MT nD τ sig Unit (Elt F) ℕ (UR sig nD τ) ℕ) :=
  iprop((dats m 0 c).Φ t.castSucc ∗ (dats m 0 c).owesAt () t.castSucc ∗ found m c t 0 ∗ found m c t 1 ∗ found m c t 2 ∗ found m c t 3 ∗ found m c t 4 ∗ found m c t 5 ∗ found m c t 6 ∗ found m c t 7 ∗ found m c t 8 ∗ found m c t 9 ∗ found m c t 10)
def bodyPost (c : Dev nD) (t : Fin cfg0.N) : sProp (MT nD τ sig Unit (Elt F) ℕ (UR sig nD τ) ℕ) :=
  iprop((dats m 0 c).Φ t.succ ∗ (dats m 0 c).owesAt () t.succ ∗ leaves m c t 0 ∗ leaves m c t 1 ∗ leaves m c t 2 ∗ leaves m c t 3 ∗ leaves m c t 4 ∗ leaves m c t 5 ∗ leaves m c t 6 ∗ leaves m c t 7 ∗ leaves m c t 8 ∗ leaves m c t 9 ∗ leaves m c t 10)

theorem phi_eq (c : Dev nD) (p : Fin (cfg0.N + 1)) : (dats m 0 c).Φ p = iprop(scratch m c p ∗ ∃ r, prngReg c r) := by
  dsimp only [dats]

theorem scratch_any (c : Dev nD) (p : Fin (cfg0.N + 1)) (h : p.val % 9 = 0) :
    scratch m c p = iprop(∃ d, owns (c : Thread nD τ) (Memref.whole cc0_scratch0 : Memref sig .tc .vmem S512x704 .f32) fullShare d) := dif_pos h
theorem scratch_before (c : Dev nD) (t : Fin cfg0.N) (h : ¬t.val % 9 = 0) :
    scratch m c t.castSucc = owns (c : Thread nD τ) (Memref.whole cc0_scratch0 : Memref sig .tc .vmem S512x704 .f32) fullShare (dsAt m c (prev t)) := dif_neg h
theorem scratch_after (c : Dev nD) (t : Fin cfg0.N) (h : ¬t.val % 9 = 8) :
    scratch m c t.succ = owns (c : Thread nD τ) (Memref.whole cc0_scratch0 : Memref sig .tc .vmem S512x704 .f32) fullShare (dsAt m c t) :=
  dif_neg (by show ¬(t.val + 1) % 9 = 0; omega)

set_option maxHeartbeats 1600000 in
/-- Visit 0. -/
theorem first_point (c : Dev nD) (t : Fin cfg0.N) (h0 : t.val % 9 = 0) :
    bodyPre m c t ⊢ wp frame (wpE (defs₀ (F := F)) Variants.none c none) Set.univ (bodyAt0 t) (fun _ => bodyPost m c t) := by
  have hN := lt_N t
  unfold bodyPre bodyPost bodyAt0
  rw [show (dats m 0 c).owesAt () t.succ = (dats m 0 c).owesAt () t.castSucc from rfl, phi_eq, phi_eq]
  rw [scratch_any m c t.castSucc h0, scratch_after m c t (by omega)]
  rw [leaves_live m c t 0 (rfl), leaves_live m c t 1 (rfl), leaves_live m c t 2 (rfl), leaves_live m c t 3 (rfl), leaves_live m c t 4 (rfl), leaves_live m c t 5 (rfl), leaves_live m c t 6 (live6 _), leaves_live m c t 7 (by rw [idle7]; simp [h0])]
  rw [leaves_idle m c t 8 (by rw [idle8]; simp [h0]) (by rw [flush8]; simp [h0]), leaves_idle m c t 9 (by rw [idle9]; simp [h0]) (by rw [flush9]; simp [h0]), leaves_idle m c t 10 (by rw [idle10]; simp [h0]) (by rw [flush10]; simp [h0])]
  unfold found
  simp only [before0, before1, before2, before3, before4, before5]
  rw [after0, after1, after2, after3, after4, after5, after6, after7, dnAt_first m c t h0]
  have e : dfAt m c t = k0_pay1 (iblk m c 0 t) := by unfold dfAt; rw [first_of t h0]
  unfold dsAt; rw [e]
  iintro ⟨⟨⟨%ds, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (start c (grid0.coords t) _ _ _ _ _ _ _ _ _ _ _ _ _ _ _ _ _ _ _ _ _ _ _ _ ((cond1_iff t).mpr h0) (fun e => ((cond2_iff t).mp e).1 h0) (fun e => by have := (cond3_iff t).mp e; omega) (iblk m c 0 t) (iblk m c 5 t) Set.univ _)
  isplitl [H0]; · iexact H0
  isplitl [H5]; · iexact H5
  isplitl [H6]; · iexists _; iexact H6
  isplitl [H7]; · iexists _; iexact H7
  isplitl [Hs]; · iexists _; iexact Hs
  iintro ⟨H0, H5, H6, H7, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 1600000 in
/-- Visits 1 to 7. -/
theorem middle_point (c : Dev nD) (t : Fin cfg0.N) (h0 : ¬t.val % 9 = 0) (h8 : ¬t.val % 9 = 8) :
    bodyPre m c t ⊢ wp frame (wpE (defs₀ (F := F)) Variants.none c none) Set.univ (bodyAt0 t) (fun _ => bodyPost m c t) := by
  have hN := lt_N t
  unfold bodyPre bodyPost bodyAt0
  rw [show (dats m 0 c).owesAt () t.succ = (dats m 0 c).owesAt () t.castSucc from rfl, phi_eq, phi_eq]
  rw [scratch_before m c t h0, scratch_after m c t h8]
  rw [leaves_live m c t 0 (rfl), leaves_live m c t 1 (rfl), leaves_live m c t 2 (rfl), leaves_live m c t 3 (rfl), leaves_live m c t 4 (rfl), leaves_live m c t 5 (rfl), leaves_live m c t 6 (live6 _), leaves_live m c t 8 (by rw [idle8]; simp [h0]), leaves_live m c t 9 (by rw [idle9]; simp [h0]), leaves_live m c t 10 (by rw [idle10]; simp [h0])]
  rw [leaves_idle m c t 7 (by rw [idle7]; simp [h0]) (by rw [flush7]; simp [h8])]
  unfold found
  simp only [before0, before1, before2, before3, before4, before5, before6 m c t h0, before7 m c t h0]
  rw [after0, after1, after2, after3, after4, after5, after6, after8, after9, after10, dnAt_next m c t h0]
  unfold addDn daAt dbAt sAt
  rw [show dsAt m c t = k0_pay3 (dfAt m c t) (iblk m c 5 t) from rfl]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (step c (grid0.coords t) _ _ _ _ _ _ _ _ _ _ _ _ _ _ _ _ _ _ _ _ _ _ _ _ (fun e => h0 ((cond1_iff t).mp e)) ((cond2_iff t).mpr ⟨h0, h8⟩) (fun e => h8 ((cond3_iff t).mp e)) (iblk m c 1 t) (iblk m c 2 t) (iblk m c 3 t) (iblk m c 4 t) (iblk m c 5 t) (dfAt m c t) (dnAt m c (prev t).val (prev t).isLt) (dsAt m c (prev t)) Set.univ _)
  isplitl [H1]; · iexact H1
  isplitl [H2]; · iexact H2
  isplitl [H3]; · iexact H3
  isplitl [H4]; · iexact H4
  isplitl [H5]; · iexact H5
  isplitl [H7]; · iexact H7
  isplitl [H6]; · iexact H6
  isplitl [H8]; · iexists _; iexact H8
  isplitl [H9]; · iexists _; iexact H9
  isplitl [H10]; · iexists _; iexact H10
  isplitl [Hs]; · iexact Hs
  iintro ⟨H1, H2, H3, H4, H5, H7, H6, H8, H9, H10, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]; · iexact H9
  iexact H10

set_option maxHeartbeats 1600000 in
/-- Visit 8. -/
theorem last_point (c : Dev nD) (t : Fin cfg0.N) (h8 : t.val % 9 = 8) :
    bodyPre m c t ⊢ wp frame (wpE (defs₀ (F := F)) Variants.none c none) Set.univ (bodyAt0 t) (fun _ => bodyPost m c t) := by
  have hN := lt_N t
  unfold bodyPre bodyPost bodyAt0
  have h0 : ¬t.val % 9 = 0 := by omega
  rw [show (dats m 0 c).owesAt () t.succ = (dats m 0 c).owesAt () t.castSucc from rfl, phi_eq, phi_eq]
  rw [scratch_before m c t h0, scratch_any m c t.succ (by show (t.val + 1) % 9 = 0; omega)]
  rw [leaves_live m c t 0 (rfl), leaves_live m c t 1 (rfl), leaves_live m c t 2 (rfl), leaves_live m c t 3 (rfl), leaves_live m c t 4 (rfl), leaves_live m c t 5 (rfl), leaves_live m c t 6 (live6 _), leaves_live m c t 8 (by rw [idle8]; simp [h0]), leaves_live m c t 9 (by rw [idle9]; simp [h0]), leaves_live m c t 10 (by rw [idle10]; simp [h0])]
  rw [leaves_flush m c t 7 (by rw [idle7]; simp [h0]) (by rw [flush7]; simp [h8])]
  unfold found
  simp only [before0, before1, before2, before3, before4, before5, before6 m c t h0, before7 m c t h0]
  rw [after0, after1, after2, after3, after4, after5, after6, after7, after8, after9, after10, dnAt_next m c t h0]
  unfold addDn daAt dbAt sAt
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (finish c (grid0.coords t) _ _ _ _ _ _ _ _ _ _ _ _ _ _ _ _ _ _ _ _ _ _ _ _ (fun e => h0 ((cond1_iff t).mp e)) (fun e => ((cond2_iff t).mp e).2 h8) ((cond3_iff t).mpr h8) (iblk m c 1 t) (iblk m c 2 t) (iblk m c 3 t) (iblk m c 4 t) (dsAt m c (prev t)) (dnAt m c (prev t).val (prev t).isLt) Set.univ _)
  isplitl [H1]; · iexact H1
  isplitl [H2]; · iexact H2
  isplitl [H3]; · iexact H3
  isplitl [H4]; · iexact H4
  isplitl [Hs]; · iexact Hs
  isplitl [H6]; · iexact H6
  isplitl [H8]; · iexists _; iexact H8
  isplitl [H9]; · iexists _; iexact H9
  isplitl [H10]; · iexists _; iexact H10
  iintro ⟨H1, H2, H3, H4, Hs, H6, H8, H9, H10⟩
  isplitl [Hs Hr]
  · isplitl [Hs]; · iexists _; iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  have h : bodyPre m c t ⊢ wp frame (wpE (defs₀ (F := F)) Variants.none c none) Set.univ (bodyAt0 t) (fun _ => bodyPost m c t) := by
    by_cases h0 : t.val % 9 = 0
    · exact first_point m c t h0
    by_cases h8 : t.val % 9 = 8
    · exact last_point m c t h8
    exact middle_point m c t h0 h8
  exact triple_restated h rfl .rfl fun _ => .rfl

/-- Before the first point the scratch holds anything, -/
theorem enter (c : Dev nD) : Pipeline.ΦA spec0 c ⊢ (dats m 0 c).Φ 0 := by
  rw [phi_eq, scratch_any m c 0 rfl]
  unfold Pipeline.ΦA
  rw [scopedRest0_eq]
  simp only [owns_whole]
  exact .rfl
/-- and after the last anything again. -/
theorem leave (c : Dev nD) : (dats m 0 c).Φ (Fin.last cfg0.N) ⊢ Pipeline.ΦA spec0 c := by
  rw [phi_eq, scratch_any m c (Fin.last cfg0.N) rfl]
  unfold Pipeline.ΦA
  rw [scopedRest0_eq]
  simp only [owns_whole]
  exact .rfl

set_option backward.isDefEq.respectTransparency.types false in
/-- The run, with every semaphore counter at zero at every final state. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- Every run ends with every array of the pipeline at what the proof data says, every other buffer as the region
    found it. -/
theorem run : θ_run defs (onTc (τ := τ) (main (F := F))) (s₀ m ρ) (Pipeline.FramePost cfgs (dats m) 0 (V m)) :=
  (θ_run defs _ _).mono (fun _ h => h.1) (run_quiescent m ρ)

/-- Every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel2Ideal.Ffn

end
-- ==== Proof.FfnHost.lean ====
/- The arrays the host prepares for the feed-forward gradient kernel, read at an entry of the shard they are cut into. -/
module

public import proofs.«01_k».proof.Proof.Gen.Kernel2Ideal.Frame
public import proofs.«01_k».proof.Proof.FfnSpec

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.StableHlo
open Cert.FfnMath
open Cert.Kernel2Ideal.Facts

variable (m : (ℓ : Loc nD τ sig) → Buf (Elt Ideal) ℓ)

/-- The arrays a device is launched with: the cotangent, the normed input, and the three projections. -/
abbrev DHa (c : Dev nD) : FVec Ideal SRow .f32 := m ((c : Thread nD τ).loc main_arg0)
abbrev Na (c : Dev nD) : FVec Ideal SRow .bf16 := m ((c : Thread nD τ).loc main_arg1)
abbrev WGa (c : Dev nD) : FVec Ideal SIn .bf16 := m ((c : Thread nD τ).loc main_arg2)
abbrev WUa (c : Dev nD) : FVec Ideal SIn .bf16 := m ((c : Thread nD τ).loc main_arg3)
abbrev WDa (c : Dev nD) : FVec Ideal SOut .bf16 := m ((c : Thread nD τ).loc main_arg4)

/-- Columns of a projection, shard by shard. -/
def shardW (w : FVec Ideal SIn .bf16) : FVec Ideal S8x2048x704 .bf16 :=
  transpose S8x2048x704 [1, 0, 2] (shapeCast _ w shapeCasts_S2048x5632_S2048x8x704) transposes_S2048x8x704_S8x2048x704_1_0_2
/-- A pre-activation, shard by shard. -/
def shardA (n : FVec Ideal SRow .bf16) (w : FVec Ideal SIn .bf16) : FVec Ideal S8x8192x704 .bf16 :=
  transpose S8x8192x704 [1, 0, 2] (shapeCast _ (truncf .bf16
    (Host.dotGeneral dot_S8192x2048_S2048x5632_S8192x5632_1_0_0_1_n_n none n w : FVec Ideal S8192x5632 .f32) bitsLt_bf16_f32)
      shapeCasts_S8192x5632_S8192x8x704) transposes_S8192x8x704_S8x8192x704_1_0_2
/-- Rows of the down projection, shard by shard. -/
def shardD (w : FVec Ideal SOut .bf16) : FVec Ideal S8x704x2048 .bf16 := shapeCast _ w shapeCasts_S5632x2048_S8x704x2048

theorem V_wg (c : Dev nD) : V m c main_v1 = shardW (WGa m c) := by
  unfold_abbrev_sides
  after_results
  rfl
theorem V_wu (c : Dev nD) : V m c main_v3 = shardW (WUa m c) := by
  unfold_abbrev_sides
  after_results
  rfl
theorem V_wd (c : Dev nD) : V m c main_v4 = shardD (WDa m c) := by
  unfold_abbrev_sides
  after_results
  rfl
theorem V_a (c : Dev nD) : V m c main_v10 = shardA (Na m c) (WGa m c) := by
  unfold_abbrev_sides
  after_results
  rfl
theorem V_b (c : Dev nD) : V m c main_v12 = shardA (Na m c) (WUa m c) := by
  unfold_abbrev_sides
  after_results
  rfl

theorem shardW_at (w : FVec Ideal SIn .bf16) (j : Fin 8) (k : Fin 2048) (f : Fin 704) :
    shardW w (ix3 j k f) = w (ix2 k (col j f)) := by
  pointwise [shardW, col]
theorem shardA_at (n : FVec Ideal SRow .bf16) (w : FVec Ideal SIn .bf16) (j : Fin 8) (r : Fin 8192) (f : Fin 704) :
    shardA n w (ix3 j r f) = pre n w r (col j f) := by
  pointwise [shardA, col]; rfl
theorem shardD_at (w : FVec Ideal SOut .bf16) (j : Fin 8) (f : Fin 704) (k : Fin 2048) :
    shardD w (ix3 j f k) = w (ix2 (col j f) k) := by
  pointwise [shardD, col]

end Cert.Kernel2Ideal.Ffn
end
-- ==== Proof.FfnTile.lean ====
/- What each visit of the feed-forward gradient kernel computes, read at an entry of its block. -/
module

public import proofs.«01_k».proof.Proof.Gen.Kernel2Ideal.Skeleton
public import proofs.«01_k».proof.Proof.FfnSpec

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.FfnMath

theorem pay1_at (u : FVec Ideal S512x2048 .f32) (x : S512x2048.Idx) : k0_pay1 (F := Ideal) u x = half * u x := by
  pointwise [k0_pay1]; rfl

theorem pay3_at (u : FVec Ideal S512x2048 .bf16) (w : FVec Ideal S1x704x2048 .bf16) (r : Fin 512) (f : Fin 704) :
    k0_pay3 (F := Ideal) u w (ix2 r f) = ∑ k : Fin 2048, u (ix2 r k) * w (ix3 0 f k) := by
  pointwise [k0_pay3]

theorem pay11_at (d : FVec Ideal S512x704 .f32) (a b : FVec Ideal S1x512x704 .bf16) (r : Fin 512) (f : Fin 704) :
    k0_pay11 (F := Ideal) d a b (ix2 r f) = dgate (a (ix3 0 r f)) (b (ix3 0 r f)) (d (ix2 r f)) := by
  pointwise [k0_pay11, k0_pay9, k0_pay8, k0_pay7]; rfl

theorem pay12_at (d : FVec Ideal S512x704 .f32) (a : FVec Ideal S1x512x704 .bf16) (r : Fin 512) (f : Fin 704) :
    k0_pay12 (F := Ideal) d a (ix2 r f) = dup (a (ix3 0 r f)) (d (ix2 r f)) := by
  pointwise [k0_pay12, k0_pay10, k0_pay9, k0_pay7]; rfl

theorem pay13_at (d : FVec Ideal S512x704 .f32) (a b : FVec Ideal S1x512x704 .bf16) (r : Fin 512) (f : Fin 704) :
    k0_pay13 (F := Ideal) d a b (ix3 0 r f) = dgate (a (ix3 0 r f)) (b (ix3 0 r f)) (d (ix2 r f)) := by
  rw [← pay11_at]
  pointwise [k0_pay13]

theorem pay14_at (d : FVec Ideal S512x704 .f32) (a : FVec Ideal S1x512x704 .bf16) (r : Fin 512) (f : Fin 704) :
    k0_pay14 (F := Ideal) d a (ix3 0 r f) = dup (a (ix3 0 r f)) (d (ix2 r f)) := by
  rw [← pay12_at]
  pointwise [k0_pay14]

theorem pay15_at (a b : FVec Ideal S1x512x704 .bf16) (r : Fin 512) (f : Fin 704) :
    k0_pay15 (F := Ideal) a b (ix3 0 r f) = hid (a (ix3 0 r f)) (b (ix3 0 r f)) := by
  pointwise [k0_pay15, k0_pay10, k0_pay9, k0_pay8, k0_pay7]; rfl

theorem pay5_at (p q : FVec Ideal S512x704 .bf16) (acc : FVec Ideal S512x2048 .f32) (g u : FVec Ideal S1x2048x704 .bf16)
    (r : Fin 512) (k : Fin 2048) :
    k0_pay5 (F := Ideal) p q acc g u (ix2 r k)
      = acc (ix2 r k) + ((∑ f : Fin 704, p (ix2 r f) * g (ix3 0 k f)) + ∑ f : Fin 704, q (ix2 r f) * u (ix3 0 k f)) := by
  pointwise [k0_pay5]

theorem pay2_at (x : S512x2048.Idx) : k0_pay2 (F := Ideal) x = 0 := by
  pointwise [k0_pay2]

end Cert.Kernel2Ideal.Ffn
end
-- ==== Proof.FfnArray.lean ====
/- What the feed-forward gradient kernel's buffers hold after each visit, as entries of the arrays of FfnSpec, and the five
   arrays it leaves. -/
module

public import proofs.«01_k».proof.Proof.FfnRun
public import proofs.«01_k».proof.Proof.FfnHost
public import proofs.«01_k».proof.Proof.FfnTile
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.FfnMath

variable (m : (ℓ : Loc nD τ sig) → Buf (Elt Ideal) ℓ)

set_option maxRecDepth 65536 in
/-- Point `t` stages row tile `t / 9`; the hidden windows lag one visit behind `w_down`'s. -/
theorem idx_at : ∀ t : Fin cfg0.N, win0_0.index t = ![t.val / 9, 0] ∧ win0_1.index t = ![t.val % 9 - 1, t.val / 9, 0]
    ∧ win0_2.index t = ![t.val % 9 - 1, t.val / 9, 0] ∧ win0_3.index t = ![t.val % 9 - 1, 0, 0]
    ∧ win0_4.index t = ![t.val % 9 - 1, 0, 0] ∧ win0_5.index t = ![min (t.val % 9) 7, 0, 0]
    ∧ win0_6.index t = ![t.val / 9, 0] ∧ win0_7.index t = ![t.val / 9, 0]
    ∧ win0_8.index t = ![t.val % 9 - 1, t.val / 9, 0] ∧ win0_9.index t = ![t.val % 9 - 1, t.val / 9, 0]
    ∧ win0_10.index t = ![t.val % 9 - 1, t.val / 9, 0] :=
  (by decide +kernel : ∀ t : Fin grid0.N, win0_0.index t = ![t.val / 9, 0] ∧ win0_1.index t = ![t.val % 9 - 1, t.val / 9, 0]
    ∧ win0_2.index t = ![t.val % 9 - 1, t.val / 9, 0] ∧ win0_3.index t = ![t.val % 9 - 1, 0, 0]
    ∧ win0_4.index t = ![t.val % 9 - 1, 0, 0] ∧ win0_5.index t = ![min (t.val % 9) 7, 0, 0]
    ∧ win0_6.index t = ![t.val / 9, 0] ∧ win0_7.index t = ![t.val / 9, 0]
    ∧ win0_8.index t = ![t.val % 9 - 1, t.val / 9, 0] ∧ win0_9.index t = ![t.val % 9 - 1, t.val / 9, 0]
    ∧ win0_10.index t = ![t.val % 9 - 1, t.val / 9, 0])

/-- Row `r` of point `t`'s tile, -/
def row (t : Fin cfg0.N) (r : Fin 512) : Fin 8192 := ⟨t.val / 9 * 512 + r, by have := lt_N t; omega⟩
/-- the shard point `t` finishes, -/
def shard (t : Fin cfg0.N) : Fin 8 := ⟨t.val % 9 - 1, by omega⟩
/-- and the shard whose product it starts. -/
def ahead (t : Fin cfg0.N) : Fin 8 := ⟨min (t.val % 9) 7, by omega⟩

/-! ## The staged blocks -/

theorem blk0_at (c : Dev nD) (t : Fin cfg0.N) (r : Fin 512) (k : Fin 2048) :
    (show FVec Ideal S512x2048 .f32 from iblk m c 0 t) (ix2 r k) = DHa m c (ix2 (row t r) k) := by
  blk_point [iblk, V_main_arg0, idx_at t, row]
theorem blk1_at (c : Dev nD) (t : Fin cfg0.N) (r : Fin 512) (f : Fin 704) :
    (show FVec Ideal S1x512x704 .bf16 from iblk m c 1 t) (ix3 0 r f) = pre (Na m c) (WGa m c) (row t r) (col (shard t) f) := by
  rw [← shardA_at, ← V_a]
  blk_point [iblk, idx_at t, row, shard]
theorem blk2_at (c : Dev nD) (t : Fin cfg0.N) (r : Fin 512) (f : Fin 704) :
    (show FVec Ideal S1x512x704 .bf16 from iblk m c 2 t) (ix3 0 r f) = pre (Na m c) (WUa m c) (row t r) (col (shard t) f) := by
  rw [← shardA_at, ← V_b]
  blk_point [iblk, idx_at t, row, shard]
theorem blk3_at (c : Dev nD) (t : Fin cfg0.N) (k : Fin 2048) (f : Fin 704) :
    (show FVec Ideal S1x2048x704 .bf16 from iblk m c 3 t) (ix3 0 k f) = WGa m c (ix2 k (col (shard t) f)) := by
  rw [← shardW_at (WGa m c) (shard t) k f, ← V_wg]
  blk_point [iblk, idx_at t, shard]
theorem blk4_at (c : Dev nD) (t : Fin cfg0.N) (k : Fin 2048) (f : Fin 704) :
    (show FVec Ideal S1x2048x704 .bf16 from iblk m c 4 t) (ix3 0 k f) = WUa m c (ix2 k (col (shard t) f)) := by
  rw [← shardW_at (WUa m c) (shard t) k f, ← V_wu]
  blk_point [iblk, idx_at t, shard]
theorem blk5_at (c : Dev nD) (t : Fin cfg0.N) (f : Fin 704) (k : Fin 2048) :
    (show FVec Ideal S1x704x2048 .bf16 from iblk m c 5 t) (ix3 0 f k) = WDa m c (ix2 (col (ahead t) f) k) := by
  rw [← shardD_at (WDa m c) (ahead t) f k, ← V_wd]
  blk_point [iblk, idx_at t, ahead]

/-! ## The buffers after each visit -/

theorem row_first (t : Fin cfg0.N) (r : Fin 512) : row (first t) r = row t r :=
  Fin.ext (by show (t.val - t.val % 9) / 9 * 512 + r.val = t.val / 9 * 512 + r.val; omega)
theorem row_prev (t : Fin cfg0.N) (h0 : ¬t.val % 9 = 0) (r : Fin 512) : row (prev t) r = row t r :=
  Fin.ext (by show (t.val - 1) / 9 * 512 + r.val = t.val / 9 * 512 + r.val; omega)
theorem ahead_prev (t : Fin cfg0.N) (h0 : ¬t.val % 9 = 0) : ahead (prev t) = shard t :=
  Fin.ext (by show min ((t.val - 1) % 9) 7 = t.val % 9 - 1; omega)

/-- The halved cotangent's tile. -/
theorem df_at (c : Dev nD) (t : Fin cfg0.N) (r : Fin 512) (k : Fin 2048) :
    (show FVec Ideal S512x2048 .bf16 from dfAt m c t) (ix2 r k) = half * DHa m c (ix2 (row t r) k) := by
  rw [← row_first, ← blk0_at]
  exact pay1_at _ _

/-- The hidden gradient the visit before left in scratch. -/
theorem ds_at (c : Dev nD) (t : Fin cfg0.N) (h0 : ¬t.val % 9 = 0) (r : Fin 512) (f : Fin 704) :
    (show FVec Ideal S512x704 .f32 from dsAt m c (prev t)) (ix2 r f) = dhid (DHa m c) (WDa m c) (row t r) (col (shard t) f) := by
  refine (pay3_at _ _ r f).trans (Finset.sum_congr rfl fun k _ => ?_)
  rw [← ahead_prev t h0, ← blk5_at, ← row_prev t h0, ← df_at]

/-- The gate's gradient, -/
theorem da_at (c : Dev nD) (t : Fin cfg0.N) (h0 : ¬t.val % 9 = 0) (r : Fin 512) (f : Fin 704) :
    dgate ((show FVec Ideal S1x512x704 .bf16 from iblk m c 1 t) (ix3 0 r f)) ((show FVec Ideal S1x512x704 .bf16 from iblk m c 2 t) (ix3 0 r f))
        ((show FVec Ideal S512x704 .f32 from dsAt m c (prev t)) (ix2 r f))
      = DA (DHa m c) (Na m c) (WGa m c) (WUa m c) (WDa m c) (row t r) (col (shard t) f) := by
  rw [blk1_at, blk2_at, ds_at m c t h0]; rfl
/-- and the up projection's. -/
theorem db_at (c : Dev nD) (t : Fin cfg0.N) (h0 : ¬t.val % 9 = 0) (r : Fin 512) (f : Fin 704) :
    dup ((show FVec Ideal S1x512x704 .bf16 from iblk m c 1 t) (ix3 0 r f)) ((show FVec Ideal S512x704 .f32 from dsAt m c (prev t)) (ix2 r f))
      = DB (DHa m c) (Na m c) (WGa m c) (WDa m c) (row t r) (col (shard t) f) := by
  rw [blk1_at, ds_at m c t h0]; rfl

/-- What shard `s` adds to the gradient of the normed input. -/
def shardSum (c : Dev nD) (r : Fin 8192) (k : Fin 2048) (s : Fin 8) : EReal :=
  ∑ f : Fin 704, dnTerm (DHa m c) (Na m c) (WGa m c) (WUa m c) (WDa m c) r k (col s f)

theorem add_at (c : Dev nD) (t : Fin cfg0.N) (h0 : ¬t.val % 9 = 0) (acc : FVec Ideal S512x2048 .f32) (r : Fin 512) (k : Fin 2048) :
    (show FVec Ideal S512x2048 .f32 from addDn m c t acc) (ix2 r k) = acc (ix2 r k) + shardSum m c (row t r) k (shard t) := by
  refine (pay5_at _ _ _ _ _ r k).trans (congrArg (acc (ix2 r k) + ·) ?_)
  rw [← Finset.sum_add_distrib]
  refine Finset.sum_congr rfl fun f _ => ?_
  rw [dnTerm, ← da_at m c t h0, ← db_at m c t h0, ← blk3_at, ← blk4_at, pay11_at, pay12_at]

/-- Shard `s`, counted round. -/
def nth (s : ℕ) : Fin 8 := ⟨s % 8, Nat.mod_lt _ (by decide)⟩

/-- After visit `j` the running gradient holds the first `j` shards' additions. -/
theorem dn_at (c : Dev nD) (r : Fin 512) (k : Fin 2048) : ∀ (j : ℕ) (t : Fin cfg0.N), t.val % 9 = j →
    (show FVec Ideal S512x2048 .f32 from dnAt m c t.val t.isLt) (ix2 r k) = ∑ s ∈ Finset.range j, shardSum m c (row t r) k (nth s)
  | 0, t, h => by
    rw [dnAt_first m c t h, Finset.sum_range_zero]
    exact pay2_at _
  | j + 1, t, h => by
    have h0 : ¬t.val % 9 = 0 := by omega
    have e : shard t = nth j := Fin.ext (by show t.val % 9 - 1 = j % 8; omega)
    rw [dnAt_next m c t h0, Finset.sum_range_succ, ← e, ← row_prev t h0, ← dn_at c r k j (prev t) (by show (t.val - 1) % 9 = j; omega),
      row_prev t h0]
    exact add_at m c t h0 _ r k

/-! ## The five arrays -/

theorem tile_entry (t : Fin cfg0.N) (y : S512x2048.Idx) (i : SRow.Idx) (hi0 : (i 0 : ℕ) = t.val / 9 * 512 + y 0)
    (hi1 : (i 1 : ℕ) = y 1) : ∃ (r : Fin 512) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

theorem block_entry (t : Fin cfg0.N) (y : S1x512x704.Idx) (i : SHid.Idx) (hi0 : (i 0 : ℕ) = t.val % 9 - 1)
    (hi1 : (i 1 : ℕ) = t.val / 9 * 512 + y 1) (hi2 : (i 2 : ℕ) = y 2) :
    ∃ (r : Fin 512) (f : Fin 704), y = ix3 0 r f ∧ i = ix3 (shard t) (row t r) f := by
  refine ⟨y 1, y 2, ?_, ?_⟩ <;> funext a <;> apply Fin.ext
  · match a with | ⟨0, _⟩ => exact congrArg Fin.val (Subsingleton.elim (α := Fin 1) _ _) | ⟨1, _⟩ => rfl | ⟨2, _⟩ => rfl
  · match a with | ⟨0, _⟩ => exact hi0 | ⟨1, _⟩ => exact hi1 | ⟨2, _⟩ => exact hi2

theorem dn_point (c : Dev nD) (t : Fin cfg0.N) (h8 : t.val % 9 = 8) (y : S512x2048.Idx) (i : SRow.Idx)
    (hi0 : (i 0 : ℕ) = t.val / 9 * 512 + y 0) (hi1 : (i 1 : ℕ) = y 1) :
    (show FVec Ideal S512x2048 .f32 from dnAt m c t.val t.isLt) y = DNarr (DHa m c) (Na m c) (WGa m c) (WUa m c) (WDa m c) i := by
  obtain ⟨r, k, rfl, rfl⟩ := tile_entry t y i hi0 hi1
  refine (dn_at m c r k 8 t h8).trans ?_
  rw [Finset.sum_range]
  refine (Finset.sum_congr rfl fun s _ => ?_).trans (sum_shards fun f => dnTerm (DHa m c) (Na m c) (WGa m c) (WUa m c) (WDa m c) (row t r) k f)
  rw [show nth s.val = s from Fin.ext (Nat.mod_eq_of_lt s.isLt)]; rfl

theorem df_point (c : Dev nD) (t : Fin cfg0.N) (y : S512x2048.Idx) (i : SRow.Idx)
    (hi0 : (i 0 : ℕ) = t.val / 9 * 512 + y 0) (hi1 : (i 1 : ℕ) = y 1) :
    (show FVec Ideal S512x2048 .bf16 from dfAt m c t) y = DFarr (DHa m c) i := by
  obtain ⟨r, k, rfl, rfl⟩ := tile_entry t y i hi0 hi1
  exact df_at m c t r k

theorem da_point (c : Dev nD) (t : Fin cfg0.N) (h0 : ¬t.val % 9 = 0) (y : S1x512x704.Idx) (i : SHid.Idx) (hi0 : (i 0 : ℕ) = t.val % 9 - 1)
    (hi1 : (i 1 : ℕ) = t.val / 9 * 512 + y 1) (hi2 : (i 2 : ℕ) = y 2) :
    (show FVec Ideal S1x512x704 .bf16 from daAt m c t) y = DAarr (DHa m c) (Na m c) (WGa m c) (WUa m c) (WDa m c) i := by
  obtain ⟨r, f, rfl, rfl⟩ := block_entry t y i hi0 hi1 hi2
  exact (pay13_at _ _ _ r f).trans (da_at m c t h0 r f)

theorem db_point (c : Dev nD) (t : Fin cfg0.N) (h0 : ¬t.val % 9 = 0) (y : S1x512x704.Idx) (i : SHid.Idx) (hi0 : (i 0 : ℕ) = t.val % 9 - 1)
    (hi1 : (i 1 : ℕ) = t.val / 9 * 512 + y 1) (hi2 : (i 2 : ℕ) = y 2) :
    (show FVec Ideal S1x512x704 .bf16 from dbAt m c t) y = DBarr (DHa m c) (Na m c) (WGa m c) (WDa m c) i := by
  obtain ⟨r, f, rfl, rfl⟩ := block_entry t y i hi0 hi1 hi2
  exact (pay14_at _ _ r f).trans (db_at m c t h0 r f)

theorem hid_point (c : Dev nD) (t : Fin cfg0.N) (y : S1x512x704.Idx) (i : SHid.Idx) (hi0 : (i 0 : ℕ) = t.val % 9 - 1)
    (hi1 : (i 1 : ℕ) = t.val / 9 * 512 + y 1) (hi2 : (i 2 : ℕ) = y 2) :
    (show FVec Ideal S1x512x704 .bf16 from sAt m c t) y = HIDarr (Na m c) (WGa m c) (WUa m c) i := by
  obtain ⟨r, f, rfl, rfl⟩ := block_entry t y i hi0 hi1 hi2
  exact (pay15_at _ _ r f).trans (congrArg₂ hid (blk1_at m c t r f) (blk2_at m c t r f))

/-- The kernel's first array is the gradient of the normed input, -/
theorem dn_final (c : Dev nD) : (dats m 0 c).arrAt 6 (cfgs 0).N = DNarr (DHa m c) (Na m c) (WGa m c) (WUa m c) (WDa m c) := by
  refine (dats m 0 c).arrAt_eq_of_covers 6 _ (by decide +kernel) fun t hf y => ?_
  have h8 := (flush0_6 t).mp hf
  blk_simp
  rw [after6]
  refine dn_point m c t h8 y _ ?_ ?_ <;> blk_simp [idx_at t]

/-- the second the halved cotangent, -/
theorem df_final (c : Dev nD) : (dats m 0 c).arrAt 7 (cfgs 0).N = DFarr (DHa m c) := by
  refine (dats m 0 c).arrAt_eq_of_covers 7 _ (by decide +kernel) fun t hf y => ?_
  blk_simp
  rw [after7]
  refine df_point m c t y _ ?_ ?_ <;> blk_simp [idx_at t]

/-- the third the gate's gradient, -/
theorem da_final (c : Dev nD) : (dats m 0 c).arrAt 8 (cfgs 0).N = DAarr (DHa m c) (Na m c) (WGa m c) (WUa m c) (WDa m c) := by
  refine (dats m 0 c).arrAt_eq_of_covers 8 _ (by decide +kernel) fun t hf y => ?_
  have h0 : ¬t.val % 9 = 0 := by rw [flush8] at hf; simpa using hf
  blk_simp
  rw [after8]
  refine da_point m c t h0 y _ ?_ ?_ ?_ <;> blk_simp [idx_at t]

/-- the fourth the up projection's, -/
theorem db_final (c : Dev nD) : (dats m 0 c).arrAt 9 (cfgs 0).N = DBarr (DHa m c) (Na m c) (WGa m c) (WDa m c) := by
  refine (dats m 0 c).arrAt_eq_of_covers 9 _ (by decide +kernel) fun t hf y => ?_
  have h0 : ¬t.val % 9 = 0 := by rw [flush9] at hf; simpa using hf
  blk_simp
  rw [after9]
  refine db_point m c t h0 y _ ?_ ?_ ?_ <;> blk_simp [idx_at t]

/-- and the fifth the hidden row. -/
theorem hid_final (c : Dev nD) : (dats m 0 c).arrAt 10 (cfgs 0).N = HIDarr (Na m c) (WGa m c) (WUa m c) := by
  refine (dats m 0 c).arrAt_eq_of_covers 10 _ (by decide +kernel) fun t hf y => ?_
  blk_simp
  rw [after10]
  refine hid_point m c t y _ ?_ ?_ ?_ <;> blk_simp [idx_at t]

end Cert.Kernel2Ideal.Ffn
end
-- ==== Proof.FfnRef.lean ====
/- The printed reference of the feed-forward gradient, cut into its stages, and each stage read at an entry. -/
module

public import proofs.«01_k».proof.Proof.Gen.Reference2Ideal.Run
public import proofs.«01_k».proof.Proof.FfnSpec

@[expose] public section

set_option maxRecDepth 16384

noncomputable section

namespace Cert.Reference2Ideal.Ffn

open Cert.Reference2Ideal Cert.Reference2Ideal.Gen Idealize.ShloMosaic Idealize.ShloMosaic.TcCoe Idealize.SL.Sem
open Cert.Reference2Ideal.Facts Cert.FfnMath

/-- A pre-activation. -/
def rpre (n : FVec Ideal S8192x2048 .bf16) (w : FVec Ideal S2048x5632 .bf16) : FVec Ideal S8192x5632 .f32 :=
  Host.dotGeneral dot_S8192x2048_S2048x5632_S8192x5632_1_0_0_1_n_n none (extf .f32 n bitsLt_bf16_f32) (extf .f32 w bitsLt_bf16_f32)
/-- The halved cotangent. -/
def rdf (d : FVec Ideal S8192x2048 .f32) : FVec Ideal S8192x2048 .f32 :=
  mulf (broadcastInDim S8192x2048 ![] bcast_S_S8192x2048 (constant S_ .f32 0x3F000000#32)) d
/-- The gradient of the hidden row. -/
def rds (d : FVec Ideal S8192x2048 .f32) (w : FVec Ideal S5632x2048 .bf16) : FVec Ideal S8192x5632 .f32 :=
  Host.dotGeneral dot_S8192x2048_S5632x2048_S8192x5632_1_1_0_0_n_n none (rdf d) (extf .f32 w bitsLt_bf16_f32)
/-- The gate's sigmoid. -/
def rsig (a : FVec Ideal S8192x5632 .f32) : FVec Ideal S8192x5632 .f32 :=
  Host.divf (broadcastInDim S8192x5632 ![] bcast_S_S8192x5632 (constant S_ .f32 0x3F800000#32))
    (addf (broadcastInDim S8192x5632 ![] bcast_S_S8192x5632 (constant S_ .f32 0x3F800000#32)) (Host.exp (Host.negf a)))
/-- The gate's gradient from the gate, the up projection and the hidden gradient. -/
def rda (a b d : FVec Ideal S8192x5632 .f32) : FVec Ideal S8192x5632 .f32 :=
  addf (mulf (mulf d b) (rsig a))
    (mulf (mulf a (mulf d b)) (mulf (rsig a)
      (subf (broadcastInDim S8192x5632 ![] bcast_S_S8192x5632 (constant S_ .f32 0x3F800000#32)) (rsig a))))
/-- The up projection's gradient, and the hidden row. -/
def rdb (a d : FVec Ideal S8192x5632 .f32) : FVec Ideal S8192x5632 .f32 := mulf (mulf a (rsig a)) d
/-- The gradient of the normed input from the two. -/
def rdn (da db : FVec Ideal S8192x5632 .f32) (wg wu : FVec Ideal S2048x5632 .bf16) : FVec Ideal S8192x2048 .f32 :=
  addf (Host.dotGeneral dot_S8192x5632_S2048x5632_S8192x2048_1_1_0_0_n_n none db (extf .f32 wu bitsLt_bf16_f32))
    (Host.dotGeneral dot_S8192x5632_S2048x5632_S8192x2048_1_1_0_0_n_n none da (extf .f32 wg bitsLt_bf16_f32))
/-- A hidden array as the eight shards. -/
def rshard (x : FVec Ideal S8192x5632 .f32) : FVec Ideal S8x8192x704 .bf16 :=
  truncf .bf16 (transpose S8x8192x704 [1, 0, 2] (shapeCast _ x shapeCasts_S8192x5632_S8192x8x704)
    transposes_S8192x8x704_S8x8192x704_1_0_2) bitsLt_bf16_f32

theorem rpre_at (n : FVec Ideal S8192x2048 .bf16) (w : FVec Ideal S2048x5632 .bf16) (r : Fin 8192) (f : Fin 5632) :
    rpre n w (ix2 r f) = pre n w r f := by
  pointwise [rpre]; rfl
theorem rdf_at (d : FVec Ideal S8192x2048 .f32) (i : S8192x2048.Idx) : rdf d i = half * d i := by
  pointwise [rdf]; rfl
theorem rds_at (d : FVec Ideal S8192x2048 .f32) (w : FVec Ideal S5632x2048 .bf16) (r : Fin 8192) (f : Fin 5632) :
    rds d w (ix2 r f) = dhid d w r f := by
  pointwise [rds, rdf]; rfl
theorem rsig_at (a : FVec Ideal S8192x5632 .f32) (i : S8192x5632.Idx) : rsig a i = Ideal.logistic (a i) := by
  pointwise [rsig, Host.exp, Host.negf, Host.divf]; rfl
theorem rda_at (a b d : FVec Ideal S8192x5632 .f32) (i : S8192x5632.Idx) : rda a b d i = dgate' (a i) (b i) (d i) := by
  simp only [dgate', ← rsig_at]
  pointwise [rda]
theorem rdb_at (a d : FVec Ideal S8192x5632 .f32) (i : S8192x5632.Idx) : rdb a d i = a i * Ideal.logistic (a i) * d i := by
  simp only [← rsig_at]
  pointwise [rdb]
theorem rdn_at (da db : FVec Ideal S8192x5632 .f32) (wg wu : FVec Ideal S2048x5632 .bf16) (r : Fin 8192) (k : Fin 2048) :
    rdn da db wg wu (ix2 r k)
      = (∑ f : Fin 5632, db (ix2 r f) * wu (ix2 k f)) + ∑ f : Fin 5632, da (ix2 r f) * wg (ix2 k f) := by
  pointwise [rdn]
theorem rshard_at (x : FVec Ideal S8192x5632 .f32) (j : Fin 8) (r : Fin 8192) (f : Fin 704) :
    rshard x (ix3 j r f) = x (ix2 r (col j f)) := by
  pointwise [rshard, col]

variable (DH : FVec Ideal S8192x2048 .f32) (N : FVec Ideal S8192x2048 .bf16) (WG WU : FVec Ideal S2048x5632 .bf16)
  (WD : FVec Ideal S5632x2048 .bf16)

/-- The reference's gate gradient, at one entry, is the kernel's. -/
theorem rda_eq (hD : ∀ i, ∃ r : ℝ, DH i = r) (hN : ∀ i, ∃ r : ℝ, N i = r) (hU : ∀ i, ∃ r : ℝ, WU i = r) (hW : ∀ i, ∃ r : ℝ, WD i = r)
    (r : Fin 8192) (f : Fin 5632) :
    rda (rpre N WG) (rpre N WU) (rds DH WD) (ix2 r f) = DA DH N WG WU WD r f := by
  rw [rda_at, rpre_at, rpre_at, rds_at, DA]
  obtain ⟨d, hd⟩ := dhid_real DH WD hD hW r f
  obtain ⟨b, hb⟩ := pre_real N WU hN hU r f
  rw [hd, hb, dgate'_eq]

theorem rdb_eq (r : Fin 8192) (f : Fin 5632) : rdb (rpre N WG) (rds DH WD) (ix2 r f) = DB DH N WG WD r f := by
  rw [rdb_at, rpre_at, rds_at, DB, dup, mul_comm]

theorem rhid_eq (r : Fin 8192) (f : Fin 5632) : rdb (rpre N WG) (rpre N WU) (ix2 r f) = HID N WG WU r f := by
  rw [rdb_at, rpre_at, rpre_at, HID, hid]

/-- An entry of an array of shards is given by its three coordinates, -/
theorem entry3 (i : S8x8192x704.Idx) : ∃ (j : Fin 8) (r : Fin 8192) (f : Fin 704), i = ix3 j r f :=
  ⟨i 0, i 1, i 2, by funext a; match a with | ⟨0, _⟩ => rfl | ⟨1, _⟩ => rfl | ⟨2, _⟩ => rfl⟩
/-- and one of a matrix by its two. -/
theorem entry2 (i : S8192x2048.Idx) : ∃ (r : Fin 8192) (k : Fin 2048), i = ix2 r k :=
  ⟨i 0, i 1, by funext a; match a with | ⟨0, _⟩ => rfl | ⟨1, _⟩ => rfl⟩

theorem da_eq (hD : ∀ i, ∃ r : ℝ, DH i = r) (hN : ∀ i, ∃ r : ℝ, N i = r) (hU : ∀ i, ∃ r : ℝ, WU i = r) (hW : ∀ i, ∃ r : ℝ, WD i = r) :
    rshard (rda (rpre N WG) (rpre N WU) (rds DH WD)) = DAarr DH N WG WU WD := by
  funext i
  obtain ⟨j, r, f, rfl⟩ := entry3 i
  rw [rshard_at, rda_eq DH N WG WU WD hD hN hU hW]; rfl

theorem db_eq : rshard (rdb (rpre N WG) (rds DH WD)) = DBarr DH N WG WD := by
  funext i
  obtain ⟨j, r, f, rfl⟩ := entry3 i
  rw [rshard_at, rdb_eq]; rfl

theorem hid_eq : rshard (rdb (rpre N WG) (rpre N WU)) = HIDarr N WG WU := by
  funext i
  obtain ⟨j, r, f, rfl⟩ := entry3 i
  rw [rshard_at, rhid_eq]; rfl

theorem dn_eq (hD : ∀ i, ∃ r : ℝ, DH i = r) (hN : ∀ i, ∃ r : ℝ, N i = r) (hU : ∀ i, ∃ r : ℝ, WU i = r) (hW : ∀ i, ∃ r : ℝ, WD i = r) :
    rdn (rda (rpre N WG) (rpre N WU) (rds DH WD)) (rdb (rpre N WG) (rds DH WD)) WG WU = DNarr DH N WG WU WD := by
  funext i
  obtain ⟨r, k, rfl⟩ := entry2 i
  rw [rdn_at, add_comm, ← Finset.sum_add_distrib]
  refine Finset.sum_congr rfl fun f _ => ?_
  rw [rda_eq DH N WG WU WD hD hN hU hW, rdb_eq]; rfl

theorem df_eq : truncf .bf16 (rdf DH) bitsLt_bf16_f32 = DFarr DH := by
  funext i
  pointwise [rdf]; rfl

end Cert.Reference2Ideal.Ffn
end
-- ==== Proof.FfnPre.lean ====
/- What the feed-forward precondition says: the finite arrays are real ones. -/
module

public import proofs.«01_k».proof.Pre_finite_ffn
public import proofs.«01_k».proof.Proof.XattnPre
public import proofs.«01_k».proof.Proof.FfnSpec

@[expose] public section

noncomputable section

namespace Cert.FfnMath

open Cert.Pre_finite_ffn Idealize.ShloMosaic

instance preFacts : Cert.Pre_finite_ffn.Facts where
  bcast_S_S8192x2048 := by decide
  bitsLt_bf16_f32 := by decide
  bcast_S_S2048x5632 := by decide
  bcast_S_S5632x2048 := by decide

variable (DH : FVec Ideal SRow .f32) (N : FVec Ideal SRow .bf16) (WG WU : FVec Ideal SIn .bf16) (WD : FVec Ideal SOut .bf16)

theorem real_dh (h : (fn (F := Ideal) DH N WG WU WD).1 = fun _ => 1#1) : ∀ i, ∃ r : ℝ, DH i = r := fun i => by
  have e := congrFun h i
  revert e
  pointwise [fn, Host.absf]
  exact Cert.Xattn.real_of_abs_lt _

theorem real_n (h : (fn (F := Ideal) DH N WG WU WD).2.1 = fun _ => 1#1) : ∀ i, ∃ r : ℝ, N i = r := fun i => by
  have e := congrFun h i
  revert e
  pointwise [fn, Host.absf]
  exact Cert.Xattn.real_of_abs_lt _

theorem real_up (h : (fn (F := Ideal) DH N WG WU WD).2.2.1 = fun _ => 1#1) : ∀ i, ∃ r : ℝ, WU i = r := fun i => by
  have e := congrFun h i
  revert e
  pointwise [fn, Host.absf]
  exact Cert.Xattn.real_of_abs_lt _

theorem real_down (h : (fn (F := Ideal) DH N WG WU WD).2.2.2 = fun _ => 1#1) : ∀ i, ∃ r : ℝ, WD i = r := fun i => by
  have e := congrFun h i
  revert e
  pointwise [fn, Host.absf]
  exact Cert.Xattn.real_of_abs_lt _

end Cert.FfnMath
end
-- ==== Proof.HalfBody.lean ====
module

public import proofs.«01_k».proof.Proof.Gen.Kernel3Ideal.Frame
public import proofs.«01_k».proof.Proof.Gen.Kernel3Ideal.Skeleton
public import Idealize.ShloMosaic.Lib.VecWindow
public import Idealize.ShloMosaic.Lib.Pipeline.TableIdle
public import Idealize.ShloMosaic.Lib.Pipeline.ValueKit.Acc
public import Idealize.ShloMosaic.Lib.Pipeline.ReadBack
public import proofs.«01_k».proof.Proof.CanonTake

@[expose] public section

/-! # One grid point of the feed-forward half

A row tile of 512 rows is visited eight times, once per block of 704 hidden columns. Visit 0 stores the normed rows and a
zero running sum; every visit computes, for the tile's lower and upper 256 rows in turn, the two pre-activations of its
block, stores them, and adds the hidden block's product to the running sum; visit 7 then adds half the sum to the residual
rows. Each theorem states one of the three kinds of visit as a triple over any whole buffers, naming what every buffer
ends with. -/

set_option maxRecDepth 16384

noncomputable section

namespace Cert.Kernel3Ideal.Half

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rectangle of a tile's rows 0 to 255, -/
abbrev rLo : Rect S512x2048 := Rect.unit (s := S512x2048) ![0, 0] S256x2048.size inb_S512x2048_S256x2048_0_0
/-- of its rows 256 to 511, -/
abbrev rHi : Rect S512x2048 := Rect.unit (s := S512x2048) ![256, 0] S256x2048.size inb_S512x2048_S256x2048_256_0
/-- and the same two of a block of hidden columns. -/
abbrev hLo : Rect S1x512x704 := Rect.unit (s := S1x512x704) ![0, 0, 0] S1x256x704.size inb_S1x512x704_S1x256x704_0_0_0
abbrev hHi : Rect S1x512x704 := Rect.unit (s := S1x512x704) ![0, 256, 0] S1x256x704.size inb_S1x512x704_S1x256x704_0_256_0

/-- A tile's rows 0 to 255 and 256 to 511. -/
def lower {e : EltTy} (x : Vec F S512x2048 e) : Vec F S256x2048 e := View.ld x rLo
def upper {e : EltTy} (x : Vec F S512x2048 e) : Vec F S256x2048 e := View.ld x rHi
/-- A tile from its two halves, -/
def joined (lo hi : Vec F S256x2048 .f32) : Vec F S512x2048 .f32 := View.canon [⟨rHi, hi⟩, ⟨rLo, lo⟩]
/-- and a block of hidden columns. -/
def joinedHid (lo hi : Vec F S1x256x704 .bf16) : Vec F S1x512x704 .bf16 := View.canon [⟨hHi, hi⟩, ⟨hLo, lo⟩]

/-- The block's first pre-activation, -/
def preA (n : Vec F S512x2048 .bf16) (w : Vec F S1x2048x704 .bf16) : Vec F S1x512x704 .bf16 :=
  joinedHid (k0_pay7 (lower n) w) (k0_pay13 (upper n) w)
/-- its second, -/
def preB (n : Vec F S512x2048 .bf16) (w : Vec F S1x2048x704 .bf16) : Vec F S1x512x704 .bf16 :=
  joinedHid (k0_pay8 (lower n) w) (k0_pay14 (upper n) w)
/-- and the running sum with the block's product added. -/
def summed (n : Vec F S512x2048 .bf16) (wg wu : Vec F S1x2048x704 .bf16) (o : Vec F S512x2048 .f32) (wd : Vec F S1x704x2048 .bf16) :
    Vec F S512x2048 .f32 :=
  joined (k0_pay9 (lower n) wg wu (lower o) wd) (k0_pay15 (upper n) wg wu (upper o) wd)

/-- The branch of the last visit. -/
abbrev cond2 (i : grid0.Coords) : Prop :=
  Scalar.cmpi .ne (Scalar.extui (Scalar.cmpi .eq (BitVec.ofNat 32 (i 1).val) 7#32)) 0#32 = 1#1

theorem mem_tile (y : S512x2048.Idx) : y ∈ rHi.set ∨ y ∈ rLo.set := by
  have h0 := (y 0).isLt; have h1 := (y 1).isLt
  simp only [Rect.mem_set_unit]
  by_cases h : (y 0).val < 256
  · right; intro a; fin_cases a <;> simp at * <;> omega
  · left; intro a; fin_cases a <;> simp at * <;> omega

theorem mem_hid (y : S1x512x704.Idx) : y ∈ hHi.set ∨ y ∈ hLo.set := by
  have h0 := (y 0).isLt; have h1 := (y 1).isLt; have h2 := (y 2).isLt
  simp only [Rect.mem_set_unit]
  by_cases h : (y 1).val < 256
  · right; intro a; fin_cases a <;> simp at * <;> omega
  · left; intro a; fin_cases a <;> simp at * <;> omega

/-- Two halves stored over anything leave the joined tile, -/
theorem canon_joined (lo hi : Vec F S256x2048 .f32) (L : List (View.Piece (Elt F) S512x2048 .f32)) :
    View.canon (⟨rHi, hi⟩ :: ⟨rLo, lo⟩ :: L) = joined lo hi := by
  funext y
  refine Cert.Xattn.canon_append_covered y L [⟨rHi, hi⟩, ⟨rLo, lo⟩] ?_
  rcases mem_tile y with h | h
  · exact ⟨⟨rHi, hi⟩, List.mem_cons_self, h⟩
  · exact ⟨⟨rLo, lo⟩, List.mem_cons_of_mem _ List.mem_cons_self, h⟩

theorem read_joined {sig' : RefSig} {κ : Kind} {sp : Space} (v : View sig' κ sp S512x2048 .f32) (f : v.ty.Contents (Elt F))
    (lo hi : Vec F S256x2048 .f32) (L : List (View.Piece (Elt F) S512x2048 .f32)) :
    v.read (Elt F) (v.writes (Elt F) f (⟨rHi, hi⟩ :: ⟨rLo, lo⟩ :: L)) = joined lo hi := by
  rw [View.read_writes_eq_canon, canon_joined]
  intro y
  rcases mem_tile y with h | h
  · exact ⟨⟨rHi, hi⟩, List.mem_cons_self, h⟩
  · exact ⟨⟨rLo, lo⟩, List.mem_cons_of_mem _ List.mem_cons_self, h⟩

/-- and the joined block. -/
theorem read_joinedHid {sig' : RefSig} {κ : Kind} {sp : Space} (v : View sig' κ sp S1x512x704 .bf16) (f : v.ty.Contents (Elt F))
    (lo hi : Vec F S1x256x704 .bf16) :
    v.read (Elt F) (v.writes (Elt F) f [⟨hHi, hi⟩, ⟨hLo, lo⟩]) = joinedHid lo hi := by
  refine View.read_writes_eq_canon _ _ _ fun y => ?_
  rcases mem_hid y with h | h
  · exact ⟨⟨hHi, hi⟩, List.mem_cons_self, h⟩
  · exact ⟨⟨hLo, lo⟩, List.mem_cons_of_mem _ List.mem_cons_self, h⟩

set_option maxHeartbeats 1000000 in
/-- Visit 0 of a row tile: the normed rows, and the first block's sum over zero. -/
theorem start (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x704 .bf16) (harg4 : arg4.IsWhole) (arg5 : Memref sig .tc .vmem S1x2048x704 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (h1 : k0_cond1 i = 1#1) (h2 : ¬cond2 i)
    (h : Vec F S512x2048 .f32) (g : Vec F S1x2048 .f32) (wg : Vec F S1x2048x704 .bf16) (wu : Vec F S1x2048x704 .bf16) (wd : Vec F S1x704x2048 .bf16)  (E : Set ℕ)
    (K : PUnit → sProp (MT nD τ sig Unit (Elt F) ℕ (UR sig nD τ) ℕ)) :
    iprop(owns (c : Thread nD τ) arg2 fullShare h ∗ owns (c : Thread nD τ) arg3 fullShare g ∗ owns (c : Thread nD τ) arg4 fullShare wg ∗ owns (c : Thread nD τ) arg5 fullShare wu ∗ owns (c : Thread nD τ) arg6 fullShare wd ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare h ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare (summed (k0_pay2 h g) wg wu k0_pay3 wd) ∗ owns (c : Thread nD τ) arg8 fullShare (k0_pay2 h g) ∗ owns (c : Thread nD τ) arg9 fullShare (preA (k0_pay2 h g) wg) ∗ owns (c : Thread nD τ) arg10 fullShare (preB (k0_pay2 h g) wu)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    unfold start.sl.v54 start.sl.H7_2 start.sl.v32; rw [read_joined]; unfold start.sl.r start.sl.v3 start.sl.H8_1; try unfold start.sl.v25
    try unfold start.sl.H7_1
    simp (disch := decide) only [View.readCov_skip, View.readCov_fill, View.readAt_eq_ld, View.ld_unit_lit', Memref.IsWhole.read_unread]
    all_goals rfl
  isplitl [H8]
  · iexists _; isplitr; swap; · iexact H8
    ipureintro
    try unfold start.sl.H8_1
    rw [View.read_writes_full]; simp (disch := decide) only [View.readAt_eq_ld, View.ld_unit_lit', View.readCov_unit_lit', View.readCov_cons_unit_lit', Memref.IsWhole.read_unread]
    all_goals rfl
  isplitl [H9]
  · iexists _; isplitr; swap; · iexact H9
    ipureintro
    rw [read_joinedHid]; unfold start.sl.v3 start.sl.v32; try unfold start.sl.H8_1
    simp (disch := decide) only [View.readCov_fill, View.readAt_eq_ld, View.ld_unit_lit', Memref.IsWhole.read_unread]
    all_goals rfl
  iexists _; isplitr; swap; · iexact H10
  ipureintro
  rw [read_joinedHid]; unfold start.sl.v3 start.sl.v32; try unfold start.sl.H8_1
  simp (disch := decide) only [View.readCov_fill, View.readAt_eq_ld, View.ld_unit_lit', Memref.IsWhole.read_unread]
  all_goals rfl

set_option maxHeartbeats 1000000 in
/-- Visits 1 to 6: one more block's sum. -/
theorem step (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x704 .bf16) (harg4 : arg4.IsWhole) (arg5 : Memref sig .tc .vmem S1x2048x704 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (h1 : ¬k0_cond1 i = 1#1) (h2 : ¬cond2 i)
    (wg : Vec F S1x2048x704 .bf16) (wu : Vec F S1x2048x704 .bf16) (wd : Vec F S1x704x2048 .bf16) (n : Vec F S512x2048 .bf16) (o : Vec F S512x2048 .f32) (E : Set ℕ)
    (K : PUnit → sProp (MT nD τ sig Unit (Elt F) ℕ (UR sig nD τ) ℕ)) :
    iprop(owns (c : Thread nD τ) arg4 fullShare wg ∗ owns (c : Thread nD τ) arg5 fullShare wu ∗ owns (c : Thread nD τ) arg6 fullShare wd ∗ owns (c : Thread nD τ) arg8 fullShare n ∗ owns (c : Thread nD τ) arg7 fullShare o ∗ (∃ d, owns (c : Thread nD τ) arg9 fullShare d) ∗ (∃ d, owns (c : Thread nD τ) arg10 fullShare d)
        ∗ (iprop(owns (c : Thread nD τ) arg4 fullShare wg ∗ owns (c : Thread nD τ) arg5 fullShare wu ∗ owns (c : Thread nD τ) arg6 fullShare wd ∗ owns (c : Thread nD τ) arg8 fullShare n ∗ owns (c : Thread nD τ) arg7 fullShare (summed n wg wu o wd) ∗ owns (c : Thread nD τ) arg9 fullShare (preA n wg) ∗ owns (c : Thread nD τ) arg10 fullShare (preB n wu)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton, k0_part2_eq_skeleton]
  unfold owns
  iintro ⟨⟨%f4, %hf4, H4⟩, ⟨%f5, %hf5, H5⟩, ⟨%f6, %hf6, H6⟩, ⟨%f8, %hf8, H8⟩, ⟨%f7, %hf7, H7⟩, ⟨%d9, %f9, -, H9⟩, ⟨%d10, %f10, -, H10⟩, Hk⟩
  obtain rfl := harg4.eq_unread hf4; obtain rfl := harg5.eq_unread hf5; obtain rfl := harg6.eq_unread hf6; obtain rfl := harg8.eq_unread hf8; obtain rfl := harg7.eq_unread hf7
  sl_exec (disch := first | sl_exact h1 | sl_exact h2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H7]
  · iexists _; isplitr; swap; · iexact H7
    ipureintro
    rw [read_joined]; unfold step.sl.v54 step.sl.r; simp (disch := decide) only [View.readAt_eq_ld, View.ld_unit_lit', View.readCov_unit_lit', View.readCov_cons_unit_lit', Memref.IsWhole.read_unread]
    all_goals rfl
  isplitl [H9]
  · iexists _; isplitr; swap; · iexact H9
    ipureintro
    rw [read_joinedHid]; simp (disch := decide) only [View.readAt_eq_ld, View.ld_unit_lit', View.readCov_unit_lit', View.readCov_cons_unit_lit', Memref.IsWhole.read_unread]
    all_goals rfl
  iexists _; isplitr; swap; · iexact H10
  ipureintro
  rw [read_joinedHid]; simp (disch := decide) only [View.readAt_eq_ld, View.ld_unit_lit', View.readCov_unit_lit', View.readCov_cons_unit_lit', Memref.IsWhole.read_unread]
  all_goals rfl

set_option maxHeartbeats 1000000 in
/-- Visit 7: the last block's sum, halved and added to the residual rows. -/
theorem finish (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x704 .bf16) (harg4 : arg4.IsWhole) (arg5 : Memref sig .tc .vmem S1x2048x704 .bf16) (harg5 : arg5.IsWhole) (arg6 : Memref sig .tc .vmem S1x704x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S1x512x704 .bf16) (harg9 : arg9.IsWhole) (arg10 : Memref sig .tc .vmem S1x512x704 .bf16) (harg10 : arg10.IsWhole) (h1 : ¬k0_cond1 i = 1#1) (h2 : cond2 i)
    (h : Vec F S512x2048 .f32) (wg : Vec F S1x2048x704 .bf16) (wu : Vec F S1x2048x704 .bf16) (wd : Vec F S1x704x2048 .bf16) (n : Vec F S512x2048 .bf16) (o : Vec F S512x2048 .f32) (E : Set ℕ)
    (K : PUnit → sProp (MT nD τ sig Unit (Elt F) ℕ (UR sig nD τ) ℕ)) :
    iprop(owns (c : Thread nD τ) arg2 fullShare h ∗ owns (c : Thread nD τ) arg4 fullShare wg ∗ owns (c : Thread nD τ) arg5 fullShare wu ∗ owns (c : Thread nD τ) arg6 fullShare wd ∗ owns (c : Thread nD τ) arg8 fullShare n ∗ owns (c : Thread nD τ) arg7 fullShare o ∗ (∃ d, owns (c : Thread nD τ) arg9 fullShare d) ∗ (∃ d, owns (c : Thread nD τ) arg10 fullShare d)
        ∗ (iprop(owns (c : Thread nD τ) arg2 fullShare h ∗ owns (c : Thread nD τ) arg4 fullShare wg ∗ owns (c : Thread nD τ) arg5 fullShare wu ∗ owns (c : Thread nD τ) arg6 fullShare wd ∗ owns (c : Thread nD τ) arg8 fullShare n ∗ owns (c : Thread nD τ) arg7 fullShare (k0_pay1 h (summed n wg wu o wd)) ∗ owns (c : Thread nD τ) arg9 fullShare (preA n wg) ∗ owns (c : Thread nD τ) arg10 fullShare (preB n wu)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10) K := by
  simp only [cc0_ffn_fwd_eq_skeleton]; unfold cc0_ffn_fwd_skel
  simp only [k0_part1_eq_skeleton, k0_part2_eq_skeleton]
  unfold owns
  iintro ⟨⟨%f2, %hf2, H2⟩, ⟨%f4, %hf4, H4⟩, ⟨%f5, %hf5, H5⟩, ⟨%f6, %hf6, H6⟩, ⟨%f8, %hf8, H8⟩, ⟨%f7, %hf7, H7⟩, ⟨%d9, %f9, -, H9⟩, ⟨%d10, %f10, -, H10⟩, Hk⟩
  obtain rfl := harg2.eq_unread hf2; obtain rfl := harg4.eq_unread hf4; obtain rfl := harg5.eq_unread hf5; obtain rfl := harg6.eq_unread hf6; obtain rfl := harg8.eq_unread hf8; obtain rfl := harg7.eq_unread hf7
  sl_exec (disch := first | sl_exact h1 | sl_exact h2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; · ipureintro; exact harg8.read_unread _
    iexact H8
  isplitl [H7]
  · iexists _; isplitr; swap; · iexact H7
    ipureintro
    unfold finish.sl.v65 finish.sl.H7_2; rw [View.read_writes_full, View.readCov_eq_canon', canon_joined]; unfold finish.sl.v54 finish.sl.r
    show k0_pay1 _ (View.ld (joined _ _) (Rect.unit ![0, 0] ![512, 2048] inb_S512x2048_S512x2048_0_0)) = _
    simp (disch := decide) only [View.readAt_eq_ld, View.ld_unit_lit', View.readCov_unit_lit', View.readCov_cons_unit_lit', Memref.IsWhole.read_unread]
    all_goals rfl
  isplitl [H9]
  · iexists _; isplitr; swap; · iexact H9
    ipureintro
    rw [read_joinedHid]; simp (disch := decide) only [View.readAt_eq_ld, View.ld_unit_lit', View.readCov_unit_lit', View.readCov_cons_unit_lit', Memref.IsWhole.read_unread]
    all_goals rfl
  iexists _; isplitr; swap; · iexact H10
  ipureintro
  rw [read_joinedHid]; simp (disch := decide) only [View.readAt_eq_ld, View.ld_unit_lit', View.readCov_unit_lit', View.readCov_cons_unit_lit', Memref.IsWhole.read_unread]
  all_goals rfl

end Cert.Kernel3Ideal.Half

end
-- ==== Proof.HalfRun.lean ====
module

public import proofs.«01_k».proof.Proof.HalfBody
public import Idealize.ShloMosaic.Lib.Claim

@[expose] public section

/-! # The run of the feed-forward half

What every buffer holds after every grid point, and the run of the whole program from it. Point `t` is visit `t % 8` of
row tile `t / 8`. The normed rows are stored at visit 0 and read until the tile is left; the running sum is stored at
every visit; the two blocks of pre-activations are stored and written back at every visit. -/

set_option maxRecDepth 16384

noncomputable section

namespace Cert.Kernel3Ideal.Half

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The schedule -/

theorem lt_N (t : Fin cfg0.N) : t.val < 128 := lt_of_lt_of_eq t.isLt (show cfg0.N = 128 from N_0)

/-- The visit number is the second grid coordinate. -/
theorem visit (t : Fin cfg0.N) : (grid0.coords t 1).val = t.val % 8 := by
  have e : (grid0.coords t 1).val = t.val / 1 % 8 := Pipeline.Grid.coords_val t 1 (by decide) rfl
  rw [e, Nat.div_one]

theorem cond_table : ∀ j : Fin 8, ∀ i : grid0.Coords, (i 1).val = j.val →
    ((k0_cond1 i = 1#1 ↔ j.val = 0) ∧ (cond2 i ↔ j.val = 7)) := by
  intro j i h
  unfold k0_cond1 cond2
  simp only [h]
  revert j
  intro j _
  fin_cases j <;> decide

/-- The first branch is taken at visit 0, -/
theorem cond1_iff (t : Fin cfg0.N) : k0_cond1 (grid0.coords t) = 1#1 ↔ t.val % 8 = 0 :=
  (cond_table ⟨t.val % 8, Nat.mod_lt _ (by decide)⟩ _ (visit t)).1
/-- and the second at visit 7. -/
theorem cond2_iff (t : Fin cfg0.N) : cond2 (grid0.coords t) ↔ t.val % 8 = 7 :=
  (cond_table ⟨t.val % 8, Nat.mod_lt _ (by decide)⟩ _ (visit t)).2

/-- The normed rows' window is idle after visit 0. -/
theorem idle6 (t : Fin cfg0.N) : cfg0.idle 6 (cfg0.grid.coords t) = !decide (t.val % 8 = 0) := by
  show (!(k0_cond1 (grid0.coords t) == 1#1)) = _
  have h := cond1_iff t
  by_cases h0 : t.val % 8 = 0
  · simp [h.mpr h0, h0]
  · have h1 : ¬k0_cond1 (grid0.coords t) = 1#1 := fun e => h0 (h.mp e)
    simp [h1, h0]

theorem flush6 (t : Fin cfg0.N) : (cfg0.win 6).flush t = decide (t.val % 8 = 7) := by
  by_cases h : t.val % 8 = 7
  · simp [h, (flush0_6 t).mpr h]
  · have : ¬(cfg0.win 6).flush t = true := fun e => h ((flush0_6 t).mp e)
    simp [h, this]

/-! ## What every buffer holds -/

/-- The first point of the row tile `t` belongs to. -/
def first (t : Fin cfg0.N) : Fin cfg0.N := ⟨t.val - t.val % 8, Nat.lt_of_le_of_lt (Nat.sub_le _ _) t.isLt⟩
/-- The point before. -/
def prev (t : Fin cfg0.N) : Fin cfg0.N := ⟨t.val - 1, Nat.lt_of_le_of_lt (Nat.sub_le _ _) t.isLt⟩

/-- The row tile, normed. -/
def nAt (c : Dev nD) (t : Fin cfg0.N) : Vec F S512x2048 .bf16 := k0_pay2 (iblk m c 0 (first t)) (iblk m c 1 (first t))
/-- One block of the first pre-activation, -/
def aAt (c : Dev nD) (t : Fin cfg0.N) : Vec F S1x512x704 .bf16 := preA (nAt m c t) (iblk m c 2 t)
/-- and of the second. -/
def bAt (c : Dev nD) (t : Fin cfg0.N) : Vec F S1x512x704 .bf16 := preB (nAt m c t) (iblk m c 3 t)
/-- The running sum with point `t`'s block added. -/
def addTo (c : Dev nD) (t : Fin cfg0.N) (acc : Vec F S512x2048 .f32) : Vec F S512x2048 .f32 :=
  summed (nAt m c t) (iblk m c 2 t) (iblk m c 3 t) acc (iblk m c 4 t)
/-- The running sum after point `n`, before the tile's last step. -/
def accAt (c : Dev nD) : (n : ℕ) → n < cfg0.N → Vec F S512x2048 .f32
  | 0, h => addTo m c ⟨0, h⟩ k0_pay3
  | n + 1, h => if (n + 1) % 8 = 0 then addTo m c ⟨n + 1, h⟩ k0_pay3 else addTo m c ⟨n + 1, h⟩ (accAt c n (Nat.lt_of_succ_lt h))
/-- The result buffer after point `t`: the running sum, and after the last visit the tile's result. -/
def outAt (c : Dev nD) (t : Fin cfg0.N) : Vec F S512x2048 .f32 :=
  if t.val % 8 = 7 then k0_pay1 (iblk m c 0 t) (accAt m c t.val t.isLt) else accAt m c t.val t.isLt

theorem accAt_first (c : Dev nD) (t : Fin cfg0.N) (h0 : t.val % 8 = 0) : accAt m c t.val t.isLt = addTo m c t k0_pay3 := by
  obtain ⟨n, hn⟩ := t
  cases n with
  | zero => rfl
  | succ n => exact if_pos h0

theorem accAt_next (c : Dev nD) (t : Fin cfg0.N) (h0 : ¬t.val % 8 = 0) :
    accAt m c t.val t.isLt = addTo m c t (accAt m c (prev t).val (prev t).isLt) := by
  obtain ⟨n, hn⟩ := t
  cases n with
  | zero => exact absurd (Nat.zero_mod 8) h0
  | succ n => exact if_neg h0

theorem first_of (t : Fin cfg0.N) (h0 : t.val % 8 = 0) : first t = t := Fin.ext (by show t.val - t.val % 8 = t.val; omega)
theorem first_prev (t : Fin cfg0.N) (h0 : ¬t.val % 8 = 0) : first (prev t) = first t :=
  Fin.ext (by show t.val - 1 - (t.val - 1) % 8 = t.val - t.val % 8; omega)
theorem nAt_prev (c : Dev nD) (t : Fin cfg0.N) (h0 : ¬t.val % 8 = 0) : nAt m c (prev t) = nAt m c t := by
  unfold nAt; rw [first_prev t h0]

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => nAt m c t
    | ⟨7, _⟩ => aAt m c t
    | ⟨8, _⟩ => bAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem after6 (c : Dev nD) (t : Fin cfg0.N) : (dats m 0 c).after 6 t = nAt m c t := by dsimp only [dats]
theorem after7 (c : Dev nD) (t : Fin cfg0.N) : (dats m 0 c).after 7 t = aAt m c t := by dsimp only [dats]
theorem after8 (c : Dev nD) (t : Fin cfg0.N) : (dats m 0 c).after 8 t = bAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After visit 0 the result's buffer holds the running sum the point before left. -/
theorem before5 (c : Dev nD) (t : Fin cfg0.N) (h0 : ¬t.val % 8 = 0) (d) :
    (dats m 0 c).before 5 t d = accAt m c (prev t).val (prev t).isLt := by
  have hN := lt_N t
  rw [Dat.before_out_kept _ 5 rfl t (by omega)
    (Bool.eq_false_iff.mpr fun h => by have := (flush0_5 _).mp h; dsimp only at this; omega) (fun _ => rfl) (fun _ _ => rfl)]
  refine (after5 m c (prev t)).trans ?_
  unfold outAt
  exact if_neg (by show ¬(t.val - 1) % 8 = 7; omega)

theorem fresh6 : ∀ n, n ≤ cfg0.N → cfg0.fresh 6 n = decide (n % 8 = 0) :=
  cfg0.fresh_tab 6 (fun n => decide (n % 8 = 0)) rfl fun t => by
    rw [flush6, idle6]
    have h : (t.val + 1) % 8 = 0 ↔ t.val % 8 = 7 := by omega
    by_cases h0 : t.val % 8 = 0 <;> by_cases h8 : t.val % 8 = 7 <;> simp [h, h0, h8]

/-- After visit 0 the normed rows' buffer holds what visit 0 stored. -/
theorem before6 (c : Dev nD) (t : Fin cfg0.N) (h0 : ¬t.val % 8 = 0) (d) :
    (dats m 0 c).before 6 t d = nAt m c t := by
  rw [Dat.before_out_traj (dats m 0 c) 6 rfl (fun _ _ => rfl) (fun t ht hi hf => by
    have h0 : ¬t.val % 8 = 0 := fun h => by
      rw [fresh6 _ (Nat.le_of_lt t.isLt)] at hf; simp [h] at hf
    rw [after6]; exact (nAt_prev m c t h0).symm.trans (after6 m c (prev t)).symm) t.val t rfl d,
    fresh6 _ (Nat.le_of_lt t.isLt), if_neg (by simp [h0])]
  exact (after6 m c (prev t)).trans (nAt_prev m c t h0)

/-! ## The body at a generic point -/

/-- Window `w`'s current buffer as the body finds it, -/
def found (c : Dev nD) (t : Fin cfg0.N) (w : Fin cfg0.W) : sProp (MT nD τ sig Unit (Elt F) ℕ (UR sig nD τ) ℕ) :=
  iprop(∃ d, owns (c : Thread nD τ) ((cfg0.win w).stage (cfg0.slots t w)) fullShare ((dats m 0 c).before w t d))
/-- and as it leaves it. -/
def leaves (c : Dev nD) (t : Fin cfg0.N) (w : Fin cfg0.W) : sProp (MT nD τ sig Unit (Elt F) ℕ (UR sig nD τ) ℕ) :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live (c : Dev nD) (t : Fin cfg0.N) (w : Fin cfg0.W) (h : cfg0.idle w (cfg0.grid.coords t) = false) :
    leaves m c t w = owns (c : Thread nD τ) ((cfg0.win w).stage (cfg0.slots t w)) fullShare ((dats m 0 c).after w t) := by
  unfold leaves; rw [h]
theorem leaves_idle (c : Dev nD) (t : Fin cfg0.N) (w : Fin cfg0.W) (h : cfg0.idle w (cfg0.grid.coords t) = true)
    (hf : (cfg0.win w).flush t = false) : leaves m c t w = found m c t w := by
  unfold leaves found; rw [h, hf]
theorem leaves_flush (c : Dev nD) (t : Fin cfg0.N) (w : Fin cfg0.W) (h : cfg0.idle w (cfg0.grid.coords t) = true)
    (hf : (cfg0.win w).flush t = true) :
    leaves m c t w = owns (c : Thread nD τ) ((cfg0.win w).stage (cfg0.slots t w)) fullShare ((dats m 0 c).after w t) := by
  unfold leaves; rw [h, hf]

def bodyPre (c : Dev nD) (t : Fin cfg0.N) : sProp (MT nD τ sig Unit (Elt F) ℕ (UR sig nD τ) ℕ) :=
  iprop((dats m 0 c).Φ t.castSucc ∗ (dats m 0 c).owesAt () t.castSucc ∗ found m c t 0 ∗ found m c t 1 ∗ found m c t 2 ∗ found m c t 3 ∗ found m c t 4 ∗ found m c t 5 ∗ found m c t 6 ∗ found m c t 7 ∗ found m c t 8)
def bodyPost (c : Dev nD) (t : Fin cfg0.N) : sProp (MT nD τ sig Unit (Elt F) ℕ (UR sig nD τ) ℕ) :=
  iprop((dats m 0 c).Φ t.succ ∗ (dats m 0 c).owesAt () t.succ ∗ leaves m c t 0 ∗ leaves m c t 1 ∗ leaves m c t 2 ∗ leaves m c t 3 ∗ leaves m c t 4 ∗ leaves m c t 5 ∗ leaves m c t 6 ∗ leaves m c t 7 ∗ leaves m c t 8)

set_option maxHeartbeats 1600000 in
/-- Visit 0. -/
theorem first_point (c : Dev nD) (t : Fin cfg0.N) (h0 : t.val % 8 = 0) :
    bodyPre m c t ⊢ wp frame (wpE (defs₀ (F := F)) Variants.none c none) Set.univ (bodyAt0 t) (fun _ => bodyPost m c t) := by
  have hN := lt_N t
  unfold bodyPre bodyPost bodyAt0
  rw [show (dats m 0 c).owesAt () t.succ = (dats m 0 c).owesAt () t.castSucc from rfl, show (dats m 0 c).Φ t.succ = (dats m 0 c).Φ t.castSucc from rfl]
  rw [leaves_live m c t 0 rfl, leaves_live m c t 1 rfl, leaves_live m c t 2 rfl, leaves_live m c t 3 rfl, leaves_live m c t 4 rfl, leaves_live m c t 5 rfl, leaves_live m c t 7 rfl, leaves_live m c t 8 rfl]
  rw [leaves_live m c t 6 (by rw [idle6]; simp [h0])]
  unfold found
  simp only [before0, before1, before2, before3, before4]
  rw [after0, after1, after2, after3, after4, after5, after6, after7, after8]
  have e : nAt m c t = k0_pay2 (iblk m c 0 t) (iblk m c 1 t) := by unfold nAt; rw [first_of t h0]
  rw [show outAt m c t = addTo m c t k0_pay3 from (if_neg (by omega)).trans (accAt_first m c t h0)]
  unfold addTo aAt bAt; rw [e]
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (start c (grid0.coords t) _ _ _ _ _ _ _ _ _ _ _ _ _ _ _ _ _ _ ((cond1_iff t).mpr h0) (fun e => by have := (cond2_iff t).mp e; omega) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- Visits 1 to 6. -/
theorem middle_point (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  have hN := lt_N t
  unfold bodyPre bodyPost bodyAt0
  rw [show (dats m 0 c).owesAt () t.succ = (dats m 0 c).owesAt () t.castSucc from rfl, show (dats m 0 c).Φ t.succ = (dats m 0 c).Φ t.castSucc from rfl]
  rw [leaves_live m c t 0 rfl, leaves_live m c t 1 rfl, leaves_live m c t 2 rfl, leaves_live m c t 3 rfl, leaves_live m c t 4 rfl, leaves_live m c t 5 rfl, leaves_live m c t 7 rfl, leaves_live m c t 8 rfl]
  rw [leaves_idle m c t 6 (by rw [idle6]; simp [h0]) (by rw [flush6]; simp [h7])]
  unfold found
  simp only [before0, before1, before2, before3, before4, before5 m c t h0, before6 m c t h0]
  rw [after0, after1, after2, after3, after4, after5, after7, after8]
  rw [show outAt m c t = addTo m c t (accAt m c (prev t).val (prev t).isLt) from (if_neg h7).trans (accAt_next m c t h0)]
  unfold addTo aAt bAt
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (step c (grid0.coords t) _ _ _ _ _ _ _ _ _ _ _ _ _ _ _ _ _ _ (fun e => h0 ((cond1_iff t).mp e)) (fun e => h7 ((cond2_iff t).mp e)) (iblk m c 2 t) (iblk m c 3 t) (iblk m c 4 t) (nAt m c t) (accAt m c (prev t).val (prev t).isLt) Set.univ _)
  isplitl [H2]; · iexact H2
  isplitl [H3]; · iexact H3
  isplitl [H4]; · iexact H4
  isplitl [H6]; · iexact H6
  isplitl [H5]; · iexact H5
  isplitl [H7]; · iexists _; iexact H7
  isplitl [H8]; · iexists _; iexact H8
  iintro ⟨H2, H3, H4, H6, H5, H7, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexact H7
  iexact H8

set_option maxHeartbeats 1600000 in
/-- Visit 7. -/
theorem last_point (c : Dev nD) (t : Fin cfg0.N) (h7 : t.val % 8 = 7) :
    bodyPre m c t ⊢ wp frame (wpE (defs₀ (F := F)) Variants.none c none) Set.univ (bodyAt0 t) (fun _ => bodyPost m c t) := by
  have hN := lt_N t
  have h0 : ¬t.val % 8 = 0 := by omega
  unfold bodyPre bodyPost bodyAt0
  rw [show (dats m 0 c).owesAt () t.succ = (dats m 0 c).owesAt () t.castSucc from rfl, show (dats m 0 c).Φ t.succ = (dats m 0 c).Φ t.castSucc from rfl]
  rw [leaves_live m c t 0 rfl, leaves_live m c t 1 rfl, leaves_live m c t 2 rfl, leaves_live m c t 3 rfl, leaves_live m c t 4 rfl, leaves_live m c t 5 rfl, leaves_live m c t 7 rfl, leaves_live m c t 8 rfl]
  rw [leaves_flush m c t 6 (by rw [idle6]; simp [h0]) (by rw [flush6]; simp [h7])]
  unfold found
  simp only [before0, before1, before2, before3, before4, before5 m c t h0, before6 m c t h0]
  rw [after0, after1, after2, after3, after4, after5, after6, after7, after8]
  rw [show outAt m c t = k0_pay1 (iblk m c 0 t) (addTo m c t (accAt m c (prev t).val (prev t).isLt)) from
    (if_pos h7).trans (congrArg (k0_pay1 (iblk m c 0 t)) (accAt_next m c t h0))]
  unfold addTo aAt bAt
  iintro ⟨Hf, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (finish c (grid0.coords t) _ _ _ _ _ _ _ _ _ _ _ _ _ _ _ _ _ _ (fun e => h0 ((cond1_iff t).mp e)) ((cond2_iff t).mpr h7) (iblk m c 0 t) (iblk m c 2 t) (iblk m c 3 t) (iblk m c 4 t) (nAt m c t) (accAt m c (prev t).val (prev t).isLt) Set.univ _)
  isplitl [H0]; · iexact H0
  isplitl [H2]; · iexact H2
  isplitl [H3]; · iexact H3
  isplitl [H4]; · iexact H4
  isplitl [H6]; · iexact H6
  isplitl [H5]; · iexact H5
  isplitl [H7]; · iexists _; iexact H7
  isplitl [H8]; · iexists _; iexact H8
  iintro ⟨H0, H2, H3, H4, H6, H5, H7, H8⟩
  isplitl [Hf]; · iexact Hf
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  have h : bodyPre m c t ⊢ wp frame (wpE (defs₀ (F := F)) Variants.none c none) Set.univ (bodyAt0 t) (fun _ => bodyPost m c t) := by
    by_cases h0 : t.val % 8 = 0
    · exact first_point m c t h0
    by_cases h7 : t.val % 8 = 7
    · exact last_point m c t h7
    exact middle_point m c t h0 h7
  exact triple_restated h rfl .rfl fun _ => .rfl

/-- Between the points nothing but the region's own leftovers is held. -/
theorem phi_eq (c : Dev nD) (p : Fin (cfg0.N + 1)) : (dats m 0 c).Φ p = Pipeline.ΦA spec0 c := by
  dsimp only [dats]
theorem enter (c : Dev nD) : Pipeline.ΦA spec0 c ⊢ (dats m 0 c).Φ 0 := by rw [phi_eq]
theorem leave (c : Dev nD) : (dats m 0 c).Φ (Fin.last cfg0.N) ⊢ Pipeline.ΦA spec0 c := by rw [phi_eq]

set_option backward.isDefEq.respectTransparency.types false in
/-- The run, with every semaphore counter at zero at every final state. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- Every run ends with every array of the pipeline at what the proof data says, every other buffer as the region
    found it. -/
theorem run : θ_run defs (onTc (τ := τ) (main (F := F))) (s₀ m ρ) (Pipeline.FramePost cfgs (dats m) 0 (V m)) :=
  (θ_run defs _ _).mono (fun _ h => h.1) (run_quiescent m ρ)

/-- Every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.Kernel3Ideal.Half

end
-- ==== Proof.HalfHost.lean ====
/- The arrays the host prepares for the feed-forward half, read at an entry of the shard they are cut into. -/
module

public import proofs.«01_k».proof.Proof.Gen.Kernel3Ideal.Frame
public import proofs.«01_k».proof.Proof.HalfSpec

@[expose] public section

set_option maxRecDepth 16384

noncomputable section

namespace Cert.Kernel3Ideal.Half

open Cert.Kernel3Ideal Cert.Kernel3Ideal.Gen Idealize.ShloMosaic Idealize.ShloMosaic.TcCoe Idealize.SL.Sem
open Idealize.ShloMosaic.StableHlo
open Cert.FfnMath Cert.HalfMath
open Cert.Kernel3Ideal.Facts

variable (m : (ℓ : Loc nD τ sig) → Buf (Elt Ideal) ℓ)

/-- The arrays a device is launched with: the residual rows, the norm's gain, and the three projections. -/
abbrev Ha (c : Dev nD) : FVec Ideal SRow .f32 := m ((c : Thread nD τ).loc main_arg0)
abbrev Ga (c : Dev nD) : FVec Ideal SGain .f32 := m ((c : Thread nD τ).loc main_arg1)
abbrev WGa (c : Dev nD) : FVec Ideal SIn .bf16 := m ((c : Thread nD τ).loc main_arg2)
abbrev WUa (c : Dev nD) : FVec Ideal SIn .bf16 := m ((c : Thread nD τ).loc main_arg3)
abbrev WDa (c : Dev nD) : FVec Ideal SOut .bf16 := m ((c : Thread nD τ).loc main_arg4)

/-- Columns of a projection, shard by shard. -/
def shardW (w : FVec Ideal SIn .bf16) : FVec Ideal S8x2048x704 .bf16 :=
  transpose S8x2048x704 [1, 0, 2] (shapeCast _ w shapeCasts_S2048x5632_S2048x8x704) transposes_S2048x8x704_S8x2048x704_1_0_2
/-- Rows of the down projection, shard by shard. -/
def shardD (w : FVec Ideal SOut .bf16) : FVec Ideal S8x704x2048 .bf16 := shapeCast _ w shapeCasts_S5632x2048_S8x704x2048

theorem V_wg (c : Dev nD) : V m c main_v2 = shardW (WGa m c) := by
  unfold_abbrev_sides
  after_results
  rfl
theorem V_wu (c : Dev nD) : V m c main_v4 = shardW (WUa m c) := by
  unfold_abbrev_sides
  after_results
  rfl
theorem V_wd (c : Dev nD) : V m c main_v0 = shardD (WDa m c) := by
  unfold_abbrev_sides
  after_results
  rfl

theorem shardW_at (w : FVec Ideal SIn .bf16) (j : Fin 8) (k : Fin 2048) (f : Fin 704) :
    shardW w (ix3 j k f) = w (ix2 k (col j f)) := by
  pointwise [shardW, col]
theorem shardD_at (w : FVec Ideal SOut .bf16) (j : Fin 8) (f : Fin 704) (k : Fin 2048) :
    shardD w (ix3 j f k) = w (ix2 (col j f) k) := by
  pointwise [shardD, col]

end Cert.Kernel3Ideal.Half
end
-- ==== Proof.HalfTile.lean ====
/- What each visit of the feed-forward half computes, read at an entry of its block. -/
module

public import proofs.«01_k».proof.Proof.HalfBody
public import proofs.«01_k».proof.Proof.HalfSpec

@[expose] public section

set_option maxRecDepth 16384

noncomputable section

namespace Cert.Kernel3Ideal.Half

open Cert.Kernel3Ideal Cert.Kernel3Ideal.Gen Idealize.ShloMosaic Idealize.ShloMosaic.TcCoe Idealize.SL.Sem
open Cert.FfnMath Cert.HalfMath

theorem pay1_at (h o : FVec Ideal S512x2048 .f32) (x : S512x2048.Idx) : k0_pay1 (F := Ideal) h o x = h x + half * o x := by
  pointwise [k0_pay1]; rfl

theorem pay2_at (h : FVec Ideal S512x2048 .f32) (g : FVec Ideal S1x2048 .f32) (r : Fin 512) (k : Fin 2048) :
    k0_pay2 (F := Ideal) h g (ix2 r k)
      = h (ix2 r k) * scale (∑ j : Fin 2048, h (ix2 r j) * h (ix2 r j)) * g (ix2 0 k) := by
  pointwise [k0_pay2]; rfl

theorem pay3_at (x : S512x2048.Idx) : k0_pay3 (F := Ideal) x = 0 := by
  pointwise [k0_pay3]

/-! ## The two halves of a tile, each of 256 rows -/

theorem pay7_at (n : FVec Ideal S256x2048 .bf16) (w : FVec Ideal S1x2048x704 .bf16) (r : Fin 256) (f : Fin 704) :
    k0_pay7 (F := Ideal) n w (ix3 0 r f) = ∑ k : Fin 2048, n (ix2 r k) * w (ix3 0 k f) := by
  pointwise [k0_pay7, k0_pay5, k0_pay4]
theorem pay8_at (n : FVec Ideal S256x2048 .bf16) (w : FVec Ideal S1x2048x704 .bf16) (r : Fin 256) (f : Fin 704) :
    k0_pay8 (F := Ideal) n w (ix3 0 r f) = ∑ k : Fin 2048, n (ix2 r k) * w (ix3 0 k f) := by
  pointwise [k0_pay8, k0_pay6, k0_pay4]
theorem pay13_at (n : FVec Ideal S256x2048 .bf16) (w : FVec Ideal S1x2048x704 .bf16) (r : Fin 256) (f : Fin 704) :
    k0_pay13 (F := Ideal) n w (ix3 0 r f) = ∑ k : Fin 2048, n (ix2 r k) * w (ix3 0 k f) := by
  pointwise [k0_pay13, k0_pay11, k0_pay10]
theorem pay14_at (n : FVec Ideal S256x2048 .bf16) (w : FVec Ideal S1x2048x704 .bf16) (r : Fin 256) (f : Fin 704) :
    k0_pay14 (F := Ideal) n w (ix3 0 r f) = ∑ k : Fin 2048, n (ix2 r k) * w (ix3 0 k f) := by
  pointwise [k0_pay14, k0_pay12, k0_pay10]

theorem pay5_at (n : FVec Ideal S256x2048 .bf16) (w : FVec Ideal S1x2048x704 .bf16) (r : Fin 256) (f : Fin 704) :
    k0_pay5 (F := Ideal) n w (ix2 r f) = ∑ k : Fin 2048, n (ix2 r k) * w (ix3 0 k f) := by
  pointwise [k0_pay5, k0_pay4]
theorem pay6_at (n : FVec Ideal S256x2048 .bf16) (w : FVec Ideal S1x2048x704 .bf16) (r : Fin 256) (f : Fin 704) :
    k0_pay6 (F := Ideal) n w (ix2 r f) = ∑ k : Fin 2048, n (ix2 r k) * w (ix3 0 k f) := by
  pointwise [k0_pay6, k0_pay4]
theorem pay11_at (n : FVec Ideal S256x2048 .bf16) (w : FVec Ideal S1x2048x704 .bf16) (r : Fin 256) (f : Fin 704) :
    k0_pay11 (F := Ideal) n w (ix2 r f) = ∑ k : Fin 2048, n (ix2 r k) * w (ix3 0 k f) := by
  pointwise [k0_pay11, k0_pay10]
theorem pay12_at (n : FVec Ideal S256x2048 .bf16) (w : FVec Ideal S1x2048x704 .bf16) (r : Fin 256) (f : Fin 704) :
    k0_pay12 (F := Ideal) n w (ix2 r f) = ∑ k : Fin 2048, n (ix2 r k) * w (ix3 0 k f) := by
  pointwise [k0_pay12, k0_pay10]

theorem pay9_at (n : FVec Ideal S256x2048 .bf16) (wg wu : FVec Ideal S1x2048x704 .bf16) (o : FVec Ideal S256x2048 .f32)
    (wd : FVec Ideal S1x704x2048 .bf16) (r : Fin 256) (k : Fin 2048) :
    k0_pay9 (F := Ideal) n wg wu o wd (ix2 r k) = o (ix2 r k) + ∑ f : Fin 704,
      hid (∑ j : Fin 2048, n (ix2 r j) * wg (ix3 0 j f)) (∑ j : Fin 2048, n (ix2 r j) * wu (ix3 0 j f)) * wd (ix3 0 f k) := by
  simp only [← pay5_at, ← pay6_at]
  pointwise [k0_pay9]; rfl
theorem pay15_at (n : FVec Ideal S256x2048 .bf16) (wg wu : FVec Ideal S1x2048x704 .bf16) (o : FVec Ideal S256x2048 .f32)
    (wd : FVec Ideal S1x704x2048 .bf16) (r : Fin 256) (k : Fin 2048) :
    k0_pay15 (F := Ideal) n wg wu o wd (ix2 r k) = o (ix2 r k) + ∑ f : Fin 704,
      hid (∑ j : Fin 2048, n (ix2 r j) * wg (ix3 0 j f)) (∑ j : Fin 2048, n (ix2 r j) * wu (ix3 0 j f)) * wd (ix3 0 f k) := by
  simp only [← pay11_at, ← pay12_at]
  pointwise [k0_pay15]; rfl

/-! ## The joined tile -/

/-- Row `r` of the lower half and of the upper one, in the tile. -/
def loRow (r : Fin 256) : Fin 512 := ⟨r, by omega⟩
def hiRow (r : Fin 256) : Fin 512 := ⟨256 + r, by omega⟩

theorem rLo_emb (r : Fin 256) (k : Fin 2048) : rLo.emb (ix2 r k) = ix2 (loRow r) k := by
  funext a; apply Fin.ext
  match a with | ⟨0, _⟩ => simp [loRow, ix2] | ⟨1, _⟩ => simp [ix2]
theorem rHi_emb (r : Fin 256) (k : Fin 2048) : rHi.emb (ix2 r k) = ix2 (hiRow r) k := by
  funext a; apply Fin.ext
  match a with | ⟨0, _⟩ => simp [hiRow, ix2] | ⟨1, _⟩ => simp [ix2]
theorem hLo_emb (r : Fin 256) (f : Fin 704) : hLo.emb (ix3 0 r f) = ix3 0 (loRow r) f := by
  funext a; apply Fin.ext
  match a with | ⟨0, _⟩ => simp [ix3] | ⟨1, _⟩ => simp [loRow, ix3] | ⟨2, _⟩ => simp [ix3]
theorem hHi_emb (r : Fin 256) (f : Fin 704) : hHi.emb (ix3 0 r f) = ix3 0 (hiRow r) f := by
  funext a; apply Fin.ext
  match a with | ⟨0, _⟩ => simp [ix3] | ⟨1, _⟩ => simp [hiRow, ix3] | ⟨2, _⟩ => simp [ix3]

theorem lower_at {e : EltTy} (x : Vec Ideal S512x2048 e) (r : Fin 256) (k : Fin 2048) : lower x (ix2 r k) = x (ix2 (loRow r) k) :=
  congrArg x (rLo_emb r k)
theorem upper_at {e : EltTy} (x : Vec Ideal S512x2048 e) (r : Fin 256) (k : Fin 2048) : upper x (ix2 r k) = x (ix2 (hiRow r) k) :=
  congrArg x (rHi_emb r k)

/-- An entry of 256 rows is given by its coordinates. -/
theorem sub_entry (i : S256x2048.Idx) : ∃ (r : Fin 256) (k : Fin 2048), i = ix2 r k :=
  ⟨i 0, i 1, by funext a; match a with | ⟨0, _⟩ => rfl | ⟨1, _⟩ => rfl⟩
theorem sub_entry3 (i : S1x256x704.Idx) : ∃ (r : Fin 256) (f : Fin 704), i = ix3 0 r f :=
  ⟨i 1, i 2, by funext a; match a with | ⟨0, _⟩ => exact Subsingleton.elim (α := Fin 1) _ _ | ⟨1, _⟩ => rfl | ⟨2, _⟩ => rfl⟩

/-- A tile joined from two halves of one array is that array, -/
theorem joined_eq (G : FVec Ideal S512x2048 .f32) (lo hi : FVec Ideal S256x2048 .f32)
    (hl : ∀ r k, lo (ix2 r k) = G (ix2 (loRow r) k)) (hh : ∀ r k, hi (ix2 r k) = G (ix2 (hiRow r) k)) :
    joined (F := Ideal) lo hi = G := by
  funext y
  have hp : ∀ p ∈ ([⟨rHi, hi⟩, ⟨rLo, lo⟩] : List (View.Piece (Elt Ideal) S512x2048 .f32)), ∀ x : p.1.shape.Idx, p.2 x = G (p.1.emb x) := by
    intro p hp
    rcases List.mem_cons.mp hp with rfl | hp
    · intro x
      obtain ⟨r, k, rfl⟩ := sub_entry x
      exact (hh r k).trans (congrArg G (rHi_emb r k).symm)
    · obtain rfl := List.mem_singleton.mp hp
      intro x
      obtain ⟨r, k, rfl⟩ := sub_entry x
      exact (hl r k).trans (congrArg G (rLo_emb r k).symm)
  have hc : ∃ p ∈ ([⟨rHi, hi⟩, ⟨rLo, lo⟩] : List (View.Piece (Elt Ideal) S512x2048 .f32)), y ∈ p.1.set := by
    rcases mem_tile y with h | h
    · exact ⟨_, List.mem_cons_self, h⟩
    · exact ⟨_, List.mem_cons_of_mem _ List.mem_cons_self, h⟩
  have h := View.canon_append_of_pieces G [] _ hp y hc
  rw [List.append_nil] at h
  exact h
/-- and so is a block of hidden columns. -/
theorem joinedHid_eq (G : FVec Ideal S1x512x704 .bf16) (lo hi : FVec Ideal S1x256x704 .bf16)
    (hl : ∀ r f, lo (ix3 0 r f) = G (ix3 0 (loRow r) f)) (hh : ∀ r f, hi (ix3 0 r f) = G (ix3 0 (hiRow r) f)) :
    joinedHid (F := Ideal) lo hi = G := by
  funext y
  have hp : ∀ p ∈ ([⟨hHi, hi⟩, ⟨hLo, lo⟩] : List (View.Piece (Elt Ideal) S1x512x704 .bf16)), ∀ x : p.1.shape.Idx, p.2 x = G (p.1.emb x) := by
    intro p hp
    rcases List.mem_cons.mp hp with rfl | hp
    · intro x
      obtain ⟨r, k, rfl⟩ := sub_entry3 x
      exact (hh r k).trans (congrArg G (hHi_emb r k).symm)
    · obtain rfl := List.mem_singleton.mp hp
      intro x
      obtain ⟨r, k, rfl⟩ := sub_entry3 x
      exact (hl r k).trans (congrArg G (hLo_emb r k).symm)
  have hc : ∃ p ∈ ([⟨hHi, hi⟩, ⟨hLo, lo⟩] : List (View.Piece (Elt Ideal) S1x512x704 .bf16)), y ∈ p.1.set := by
    rcases mem_hid y with h | h
    · exact ⟨_, List.mem_cons_self, h⟩
    · exact ⟨_, List.mem_cons_of_mem _ List.mem_cons_self, h⟩
  have h := View.canon_append_of_pieces G [] _ hp y hc
  rw [List.append_nil] at h
  exact h

/-- The product of the tile's rows with one block of a projection. -/
def blockDot (n : FVec Ideal S512x2048 .bf16) (w : FVec Ideal S1x2048x704 .bf16) (r : Fin 512) (f : Fin 704) : EReal :=
  ∑ k : Fin 2048, n (ix2 r k) * w (ix3 0 k f)

theorem preA_at (n : FVec Ideal S512x2048 .bf16) (w : FVec Ideal S1x2048x704 .bf16) (r : Fin 512) (f : Fin 704) :
    preA (F := Ideal) n w (ix3 0 r f) = blockDot n w r f := by
  have h := joinedHid_eq (fun y => blockDot n w (y 1) (y 2)) (k0_pay7 (F := Ideal) (lower n) w) (k0_pay13 (F := Ideal) (upper n) w)
    (fun r f => (pay7_at _ _ r f).trans (Finset.sum_congr rfl fun k _ => by rw [lower_at]; rfl))
    (fun r f => (pay13_at _ _ r f).trans (Finset.sum_congr rfl fun k _ => by rw [upper_at]; rfl))
  exact congrFun h (ix3 0 r f)
theorem preB_at (n : FVec Ideal S512x2048 .bf16) (w : FVec Ideal S1x2048x704 .bf16) (r : Fin 512) (f : Fin 704) :
    preB (F := Ideal) n w (ix3 0 r f) = blockDot n w r f := by
  have h := joinedHid_eq (fun y => blockDot n w (y 1) (y 2)) (k0_pay8 (F := Ideal) (lower n) w) (k0_pay14 (F := Ideal) (upper n) w)
    (fun r f => (pay8_at _ _ r f).trans (Finset.sum_congr rfl fun k _ => by rw [lower_at]; rfl))
    (fun r f => (pay14_at _ _ r f).trans (Finset.sum_congr rfl fun k _ => by rw [upper_at]; rfl))
  exact congrFun h (ix3 0 r f)

/-- The running sum with one block's part added, at an entry. -/
theorem summed_at (n : FVec Ideal S512x2048 .bf16) (wg wu : FVec Ideal S1x2048x704 .bf16) (o : FVec Ideal S512x2048 .f32)
    (wd : FVec Ideal S1x704x2048 .bf16) (r : Fin 512) (k : Fin 2048) :
    summed (F := Ideal) n wg wu o wd (ix2 r k)
      = o (ix2 r k) + ∑ f : Fin 704, hid (blockDot n wg r f) (blockDot n wu r f) * wd (ix3 0 f k) := by
  have h := joined_eq (fun y => o (ix2 (y 0) (y 1)) + ∑ f : Fin 704, hid (blockDot n wg (y 0) f) (blockDot n wu (y 0) f) * wd (ix3 0 f (y 1)))
    (k0_pay9 (F := Ideal) (lower n) wg wu (lower o) wd) (k0_pay15 (F := Ideal) (upper n) wg wu (upper o) wd)
    (fun r k => (pay9_at _ _ _ _ _ r k).trans (by simp only [lower_at]; rfl))
    (fun r k => (pay15_at _ _ _ _ _ r k).trans (by simp only [upper_at]; rfl))
  exact congrFun h (ix2 r k)

end Cert.Kernel3Ideal.Half
end
-- ==== Proof.HalfArray.lean ====
/- What the buffers of the feed-forward half hold after each visit, as entries of the arrays of HalfSpec, and the four
   arrays it leaves. -/
module

public import proofs.«01_k».proof.Proof.HalfRun
public import proofs.«01_k».proof.Proof.HalfHost
public import proofs.«01_k».proof.Proof.HalfTile
public import Idealize.ShloMosaic.Lib.Pipeline.ValueKit
public import Idealize.ShloMosaic.Lib.Pipeline.ReadBack

@[expose] public section

set_option maxRecDepth 16384

noncomputable section

namespace Cert.Kernel3Ideal.Half

open Cert.Kernel3Ideal Cert.Kernel3Ideal.Gen Idealize.ShloMosaic Idealize.ShloMosaic.TcCoe Idealize.SL.Sem
open Idealize.ShloMosaic.Pipeline (Dat)
open Cert.FfnMath Cert.HalfMath

variable (m : (ℓ : Loc nD τ sig) → Buf (Elt Ideal) ℓ)

set_option maxRecDepth 65536 in
/-- Point `t` stages row tile `t / 8` and shard `t % 8`. -/
theorem idx_at : ∀ t : Fin cfg0.N, win0_0.index t = ![t.val / 8, 0] ∧ win0_1.index t = ![0, 0]
    ∧ win0_2.index t = ![t.val % 8, 0, 0] ∧ win0_3.index t = ![t.val % 8, 0, 0] ∧ win0_4.index t = ![t.val % 8, 0, 0]
    ∧ win0_5.index t = ![t.val / 8, 0] ∧ win0_6.index t = ![t.val / 8, 0]
    ∧ win0_7.index t = ![t.val % 8, t.val / 8, 0] ∧ win0_8.index t = ![t.val % 8, t.val / 8, 0] :=
  (by decide +kernel : ∀ t : Fin grid0.N, win0_0.index t = ![t.val / 8, 0] ∧ win0_1.index t = ![0, 0]
    ∧ win0_2.index t = ![t.val % 8, 0, 0] ∧ win0_3.index t = ![t.val % 8, 0, 0] ∧ win0_4.index t = ![t.val % 8, 0, 0]
    ∧ win0_5.index t = ![t.val / 8, 0] ∧ win0_6.index t = ![t.val / 8, 0]
    ∧ win0_7.index t = ![t.val % 8, t.val / 8, 0] ∧ win0_8.index t = ![t.val % 8, t.val / 8, 0])

/-- Row `r` of point `t`'s tile, -/
def row (t : Fin cfg0.N) (r : Fin 512) : Fin 8192 := ⟨t.val / 8 * 512 + r, by have := lt_N t; omega⟩
/-- and its shard. -/
def shard (t : Fin cfg0.N) : Fin 8 := ⟨t.val % 8, Nat.mod_lt _ (by decide)⟩

/-! ## The staged blocks -/

theorem blk0_at (c : Dev nD) (t : Fin cfg0.N) (r : Fin 512) (k : Fin 2048) :
    (show FVec Ideal S512x2048 .f32 from iblk m c 0 t) (ix2 r k) = Ha m c (ix2 (row t r) k) := by
  blk_point [iblk, V_main_arg0, idx_at t, row]
theorem blk1_at (c : Dev nD) (t : Fin cfg0.N) (k : Fin 2048) :
    (show FVec Ideal S1x2048 .f32 from iblk m c 1 t) (ix2 0 k) = Ga m c (ix2 0 k) := by
  blk_point [iblk, V_main_arg1, idx_at t]
theorem blk2_at (c : Dev nD) (t : Fin cfg0.N) (k : Fin 2048) (f : Fin 704) :
    (show FVec Ideal S1x2048x704 .bf16 from iblk m c 2 t) (ix3 0 k f) = WGa m c (ix2 k (col (shard t) f)) := by
  rw [← shardW_at (WGa m c) (shard t) k f, ← V_wg]
  blk_point [iblk, idx_at t, shard]
theorem blk3_at (c : Dev nD) (t : Fin cfg0.N) (k : Fin 2048) (f : Fin 704) :
    (show FVec Ideal S1x2048x704 .bf16 from iblk m c 3 t) (ix3 0 k f) = WUa m c (ix2 k (col (shard t) f)) := by
  rw [← shardW_at (WUa m c) (shard t) k f, ← V_wu]
  blk_point [iblk, idx_at t, shard]
theorem blk4_at (c : Dev nD) (t : Fin cfg0.N) (f : Fin 704) (k : Fin 2048) :
    (show FVec Ideal S1x704x2048 .bf16 from iblk m c 4 t) (ix3 0 f k) = WDa m c (ix2 (col (shard t) f) k) := by
  rw [← shardD_at (WDa m c) (shard t) f k, ← V_wd]
  blk_point [iblk, idx_at t, shard]

/-! ## The buffers after each visit -/

theorem row_first (t : Fin cfg0.N) (r : Fin 512) : row (first t) r = row t r :=
  Fin.ext (by show (t.val - t.val % 8) / 8 * 512 + r.val = t.val / 8 * 512 + r.val; omega)
theorem row_prev (t : Fin cfg0.N) (h0 : ¬t.val % 8 = 0) (r : Fin 512) : row (prev t) r = row t r :=
  Fin.ext (by show (t.val - 1) / 8 * 512 + r.val = t.val / 8 * 512 + r.val; omega)

/-- The normed array. -/
abbrev Na (c : Dev nD) : FVec Ideal SRow .bf16 := NORM (Ha m c) (Ga m c)

/-- The normed tile. -/
theorem n_at (c : Dev nD) (t : Fin cfg0.N) (r : Fin 512) (k : Fin 2048) :
    (show FVec Ideal S512x2048 .bf16 from nAt m c t) (ix2 r k) = Na m c (ix2 (row t r) k) := by
  refine (pay2_at _ _ r k).trans ?_
  rw [← row_first]
  refine congrArg₂ (· * ·) (congrArg₂ (· * ·) (blk0_at m c (first t) r k) (congrArg scale ?_)) (blk1_at m c (first t) k)
  exact Finset.sum_congr rfl fun j _ => congrArg₂ (· * ·) (blk0_at m c (first t) r j) (blk0_at m c (first t) r j)

/-- The two pre-activations of a visit. -/
theorem dotA_at (c : Dev nD) (t : Fin cfg0.N) (r : Fin 512) (f : Fin 704) :
    blockDot (nAt m c t) (iblk m c 2 t) r f = pre (Na m c) (WGa m c) (row t r) (col (shard t) f) :=
  Finset.sum_congr rfl fun k _ => congrArg₂ (· * ·) (n_at m c t r k) (blk2_at m c t k f)
theorem dotB_at (c : Dev nD) (t : Fin cfg0.N) (r : Fin 512) (f : Fin 704) :
    blockDot (nAt m c t) (iblk m c 3 t) r f = pre (Na m c) (WUa m c) (row t r) (col (shard t) f) :=
  Finset.sum_congr rfl fun k _ => congrArg₂ (· * ·) (n_at m c t r k) (blk3_at m c t k f)

/-- What shard `s` adds to the running sum. -/
def shardSum (c : Dev nD) (r : Fin 8192) (k : Fin 2048) (s : Fin 8) : EReal :=
  ∑ f : Fin 704, outTerm (WGa m c) (WUa m c) (WDa m c) (Na m c) r k (col s f)

theorem add_at (c : Dev nD) (t : Fin cfg0.N) (acc : FVec Ideal S512x2048 .f32) (r : Fin 512) (k : Fin 2048) :
    (show FVec Ideal S512x2048 .f32 from addTo m c t acc) (ix2 r k) = acc (ix2 r k) + shardSum m c (row t r) k (shard t) := by
  refine (summed_at _ _ _ _ _ r k).trans (congrArg (acc (ix2 r k) + ·) (Finset.sum_congr rfl fun f _ => ?_))
  exact congrArg₂ (· * ·) (congrArg₂ hid (dotA_at m c t r f) (dotB_at m c t r f)) (blk4_at m c t f k)

/-- Shard `s`, counted round. -/
def nth (s : ℕ) : Fin 8 := ⟨s % 8, Nat.mod_lt _ (by decide)⟩

/-- After visit `j` the running sum holds the first `j + 1` shards' additions. -/
theorem acc_at (c : Dev nD) (r : Fin 512) (k : Fin 2048) : ∀ (j : ℕ) (t : Fin cfg0.N), t.val % 8 = j →
    (show FVec Ideal S512x2048 .f32 from accAt m c t.val t.isLt) (ix2 r k) = ∑ s ∈ Finset.range (j + 1), shardSum m c (row t r) k (nth s)
  | 0, t, h => by
    rw [accAt_first m c t h, Finset.sum_range_one]
    refine (add_at m c t _ r k).trans ?_
    rw [pay3_at, zero_add, show shard t = nth 0 from Fin.ext h]
  | j + 1, t, h => by
    have h0 : ¬t.val % 8 = 0 := by omega
    have e : shard t = nth (j + 1) := Fin.ext (by show t.val % 8 = (j + 1) % 8; omega)
    rw [accAt_next m c t h0, Finset.sum_range_succ, ← e, ← row_prev t h0, ← acc_at c r k j (prev t) (by show (t.val - 1) % 8 = j; omega),
      row_prev t h0]
    exact add_at m c t _ r k

/-! ## The four arrays -/

theorem tile_entry (t : Fin cfg0.N) (y : S512x2048.Idx) (i : SRow.Idx) (hi0 : (i 0 : ℕ) = t.val / 8 * 512 + y 0)
    (hi1 : (i 1 : ℕ) = y 1) : ∃ (r : Fin 512) (k : Fin 2048), y = ix2 r k ∧ i = ix2 (row t r) k := by
  refine ⟨y 0, y 1, ?_, ?_⟩ <;> funext a <;> apply Fin.ext
  · match a with | ⟨0, _⟩ => rfl | ⟨1, _⟩ => rfl
  · match a with | ⟨0, _⟩ => exact hi0 | ⟨1, _⟩ => exact hi1

theorem block_entry (t : Fin cfg0.N) (y : S1x512x704.Idx) (i : SHid.Idx) (hi0 : (i 0 : ℕ) = t.val % 8)
    (hi1 : (i 1 : ℕ) = t.val / 8 * 512 + y 1) (hi2 : (i 2 : ℕ) = y 2) :
    ∃ (r : Fin 512) (f : Fin 704), y = ix3 0 r f ∧ i = ix3 (shard t) (row t r) f := by
  refine ⟨y 1, y 2, ?_, ?_⟩ <;> funext a <;> apply Fin.ext
  · match a with | ⟨0, _⟩ => exact congrArg Fin.val (Subsingleton.elim (α := Fin 1) _ _) | ⟨1, _⟩ => rfl | ⟨2, _⟩ => rfl
  · match a with | ⟨0, _⟩ => exact hi0 | ⟨1, _⟩ => exact hi1 | ⟨2, _⟩ => exact hi2

theorem out_point (c : Dev nD) (t : Fin cfg0.N) (h7 : t.val % 8 = 7) (y : S512x2048.Idx) (i : SRow.Idx)
    (hi0 : (i 0 : ℕ) = t.val / 8 * 512 + y 0) (hi1 : (i 1 : ℕ) = y 1) :
    (show FVec Ideal S512x2048 .f32 from outAt m c t) y = OUT (Ha m c) (WGa m c) (WUa m c) (WDa m c) (Na m c) i := by
  obtain ⟨r, k, rfl, rfl⟩ := tile_entry t y i hi0 hi1
  rw [show outAt m c t = k0_pay1 (iblk m c 0 t) (accAt m c t.val t.isLt) from if_pos h7]
  refine (pay1_at _ _ _).trans ?_
  refine congrArg₂ (· + ·) (blk0_at m c t r k) (congrArg (half * ·) ?_)
  refine (acc_at m c r k 7 t h7).trans ?_
  rw [Finset.sum_range]
  refine (Finset.sum_congr rfl fun s _ => ?_).trans (sum_shards fun f => outTerm (WGa m c) (WUa m c) (WDa m c) (Na m c) (row t r) k f)
  rw [show nth s.val = s from Fin.ext (Nat.mod_eq_of_lt s.isLt)]; rfl

theorem n_point (c : Dev nD) (t : Fin cfg0.N) (y : S512x2048.Idx) (i : SRow.Idx)
    (hi0 : (i 0 : ℕ) = t.val / 8 * 512 + y 0) (hi1 : (i 1 : ℕ) = y 1) :
    (show FVec Ideal S512x2048 .bf16 from nAt m c t) y = Na m c i := by
  obtain ⟨r, k, rfl, rfl⟩ := tile_entry t y i hi0 hi1
  exact n_at m c t r k

theorem a_point (c : Dev nD) (t : Fin cfg0.N) (y : S1x512x704.Idx) (i : SHid.Idx) (hi0 : (i 0 : ℕ) = t.val % 8)
    (hi1 : (i 1 : ℕ) = t.val / 8 * 512 + y 1) (hi2 : (i 2 : ℕ) = y 2) :
    (show FVec Ideal S1x512x704 .bf16 from aAt m c t) y = PRE (Na m c) (WGa m c) i := by
  obtain ⟨r, f, rfl, rfl⟩ := block_entry t y i hi0 hi1 hi2
  exact (preA_at _ _ r f).trans (dotA_at m c t r f)

theorem b_point (c : Dev nD) (t : Fin cfg0.N) (y : S1x512x704.Idx) (i : SHid.Idx) (hi0 : (i 0 : ℕ) = t.val % 8)
    (hi1 : (i 1 : ℕ) = t.val / 8 * 512 + y 1) (hi2 : (i 2 : ℕ) = y 2) :
    (show FVec Ideal S1x512x704 .bf16 from bAt m c t) y = PRE (Na m c) (WUa m c) i := by
  obtain ⟨r, f, rfl, rfl⟩ := block_entry t y i hi0 hi1 hi2
  exact (preB_at _ _ r f).trans (dotB_at m c t r f)

/-- The kernel's first array is the half's output, -/
theorem out_final (c : Dev nD) : (dats m 0 c).arrAt 5 (cfgs 0).N = OUT (Ha m c) (WGa m c) (WUa m c) (WDa m c) (Na m c) := by
  refine (dats m 0 c).arrAt_eq_of_covers 5 _ (by decide +kernel) fun t hf y => ?_
  have h7 := (flush0_5 t).mp hf
  blk_simp
  rw [after5]
  refine out_point m c t h7 y _ ?_ ?_ <;> blk_simp [idx_at t]

/-- the second the normed rows, -/
theorem n_final (c : Dev nD) : (dats m 0 c).arrAt 6 (cfgs 0).N = Na m c := by
  refine (dats m 0 c).arrAt_eq_of_covers 6 _ (by decide +kernel) fun t hf y => ?_
  blk_simp
  rw [after6]
  refine n_point m c t y _ ?_ ?_ <;> blk_simp [idx_at t]

/-- and the last two the pre-activations. -/
theorem a_final (c : Dev nD) : (dats m 0 c).arrAt 7 (cfgs 0).N = PRE (Na m c) (WGa m c) := by
  refine (dats m 0 c).arrAt_eq_of_covers 7 _ (by decide +kernel) fun t hf y => ?_
  blk_simp
  rw [after7]
  refine a_point m c t y _ ?_ ?_ ?_ <;> blk_simp [idx_at t]
theorem b_final (c : Dev nD) : (dats m 0 c).arrAt 8 (cfgs 0).N = PRE (Na m c) (WUa m c) := by
  refine (dats m 0 c).arrAt_eq_of_covers 8 _ (by decide +kernel) fun t hf y => ?_
  blk_simp
  rw [after8]
  refine b_point m c t y _ ?_ ?_ ?_ <;> blk_simp [idx_at t]

end Cert.Kernel3Ideal.Half
end
-- ==== Proof.HalfRef.lean ====
/- The printed reference of the feed-forward half, cut into its stages, and each stage read at an entry. -/
module

public import proofs.«01_k».proof.Proof.Gen.Reference3Ideal.Run
public import proofs.«01_k».proof.Proof.HalfSpec

@[expose] public section

set_option maxRecDepth 16384

noncomputable section

namespace Cert.Reference3Ideal.Half

open Cert.Reference3Ideal Cert.Reference3Ideal.Gen Idealize.ShloMosaic Idealize.ShloMosaic.TcCoe Idealize.SL.Sem
open Cert.Reference3Ideal.Facts Cert.FfnMath Cert.HalfMath

/-- The reciprocal root mean square of each row. -/
def rscale (h : FVec Ideal S8192x2048 .f32) : FVec Ideal S8192x1 .f32 :=
  Host.rsqrt (addf (Host.divf (broadcastInDim S8192x1 ![0] bcast_S8192_S8192x1_0
      (Host.reduceAdd (mulf h h) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x3727C5AC#32)))
/-- The normed rows. -/
def rnorm (h : FVec Ideal S8192x2048 .f32) (g : FVec Ideal S1x2048 .f32) : FVec Ideal S8192x2048 .f32 :=
  mulf (mulf h (broadcastInDim S8192x2048 ![0, 1] bcast_S8192x1_S8192x2048_0_1 (rscale h)))
    (broadcastInDim S8192x2048 ![0, 1] bcast_S1x2048_S8192x2048_0_1
      (broadcastInDim S1x2048 ![1] bcast_S2048_S1x2048_1 (shapeCast _ g shapeCasts_S1x2048_S2048)))
/-- A pre-activation. -/
def rpre (n : FVec Ideal S8192x2048 .f32) (w : FVec Ideal S2048x5632 .bf16) : FVec Ideal S8192x5632 .f32 :=
  Host.dotGeneral dot_S8192x2048_S2048x5632_S8192x5632_1_0_0_1_n_n none n (extf .f32 w bitsLt_bf16_f32)
/-- The gate's sigmoid. -/
def rsig (a : FVec Ideal S8192x5632 .f32) : FVec Ideal S8192x5632 .f32 :=
  Host.divf (broadcastInDim S8192x5632 ![] bcast_S_S8192x5632 (constant S_ .f32 0x3F800000#32))
    (addf (broadcastInDim S8192x5632 ![] bcast_S_S8192x5632 (constant S_ .f32 0x3F800000#32)) (Host.exp (Host.negf a)))
/-- The hidden row. -/
def rhid (a b : FVec Ideal S8192x5632 .f32) : FVec Ideal S8192x5632 .f32 := mulf (mulf a (rsig a)) b
/-- The half's output. -/
def rout (h : FVec Ideal S8192x2048 .f32) (s : FVec Ideal S8192x5632 .f32) (w : FVec Ideal S5632x2048 .bf16) : FVec Ideal S8192x2048 .f32 :=
  addf h (mulf (broadcastInDim S8192x2048 ![] bcast_S_S8192x2048 (constant S_ .f32 0x3F000000#32))
    (Host.dotGeneral dot_S8192x5632_S5632x2048_S8192x2048_1_0_0_1_n_n none s (extf .f32 w bitsLt_bf16_f32)))
/-- A hidden array as the eight shards. -/
def rshard (x : FVec Ideal S8192x5632 .f32) : FVec Ideal S8x8192x704 .bf16 :=
  truncf .bf16 (transpose S8x8192x704 [1, 0, 2] (shapeCast _ x shapeCasts_S8192x5632_S8192x8x704)
    transposes_S8192x8x704_S8x8192x704_1_0_2) bitsLt_bf16_f32

theorem rscale_at (h : FVec Ideal S8192x2048 .f32) (r : Fin 8192) :
    rscale h (ix2 r 0) = scale (∑ k : Fin 2048, h (ix2 r k) * h (ix2 r k)) := by
  pointwise [rscale, Host.rsqrt, Host.divf]; rfl
theorem rnorm_at (h : FVec Ideal S8192x2048 .f32) (g : FVec Ideal S1x2048 .f32) (r : Fin 8192) (k : Fin 2048) :
    rnorm h g (ix2 r k) = NORM h g (ix2 r k) := by
  show _ = h (ix2 r k) * scale (∑ k : Fin 2048, h (ix2 r k) * h (ix2 r k)) * g (ix2 0 k)
  rw [← rscale_at]
  pointwise [rnorm]
theorem rpre_at (n : FVec Ideal S8192x2048 .f32) (w : FVec Ideal S2048x5632 .bf16) (r : Fin 8192) (f : Fin 5632) :
    rpre n w (ix2 r f) = ∑ k : Fin 2048, n (ix2 r k) * w (ix2 k f) := by
  pointwise [rpre]
theorem rsig_at (a : FVec Ideal S8192x5632 .f32) (i : S8192x5632.Idx) : rsig a i = Ideal.logistic (a i) := by
  pointwise [rsig, Host.exp, Host.negf, Host.divf]; rfl
theorem rhid_at (a b : FVec Ideal S8192x5632 .f32) (i : S8192x5632.Idx) : rhid a b i = hid (a i) (b i) := by
  simp only [hid, ← rsig_at]
  pointwise [rhid]
theorem rout_at (h : FVec Ideal S8192x2048 .f32) (s : FVec Ideal S8192x5632 .f32) (w : FVec Ideal S5632x2048 .bf16)
    (r : Fin 8192) (k : Fin 2048) :
    rout h s w (ix2 r k) = h (ix2 r k) + half * ∑ f : Fin 5632, s (ix2 r f) * w (ix2 f k) := by
  pointwise [rout]; rfl
theorem rshard_at (x : FVec Ideal S8192x5632 .f32) (j : Fin 8) (r : Fin 8192) (f : Fin 704) :
    rshard x (ix3 j r f) = x (ix2 r (col j f)) := by
  pointwise [rshard, col]

variable (H : FVec Ideal S8192x2048 .f32) (G : FVec Ideal S1x2048 .f32) (WG WU : FVec Ideal S2048x5632 .bf16)
  (WD : FVec Ideal S5632x2048 .bf16)

/-- An entry of an array of shards is given by its three coordinates, -/
theorem entry3 (i : S8x8192x704.Idx) : ∃ (j : Fin 8) (r : Fin 8192) (f : Fin 704), i = ix3 j r f :=
  ⟨i 0, i 1, i 2, by funext a; match a with | ⟨0, _⟩ => rfl | ⟨1, _⟩ => rfl | ⟨2, _⟩ => rfl⟩
/-- and one of a matrix by its two. -/
theorem entry2 (i : S8192x2048.Idx) : ∃ (r : Fin 8192) (k : Fin 2048), i = ix2 r k :=
  ⟨i 0, i 1, by funext a; match a with | ⟨0, _⟩ => rfl | ⟨1, _⟩ => rfl⟩

theorem pre_eq (W : FVec Ideal S2048x5632 .bf16) (r : Fin 8192) (f : Fin 5632) :
    rpre (rnorm H G) W (ix2 r f) = pre (NORM H G) W r f :=
  (rpre_at _ _ r f).trans (Finset.sum_congr rfl fun k _ => congrArg (· * W (ix2 k f)) (rnorm_at H G r k))

theorem n_eq : truncf .bf16 (rnorm H G) bitsLt_bf16_f32 = NORM H G := by
  funext i
  obtain ⟨r, k, rfl⟩ := entry2 i
  exact rnorm_at H G r k

theorem shard_eq (W : FVec Ideal S2048x5632 .bf16) : rshard (rpre (rnorm H G) W) = PRE (NORM H G) W := by
  funext i
  obtain ⟨j, r, f, rfl⟩ := entry3 i
  rw [rshard_at, pre_eq]; rfl

theorem out_eq : rout H (rhid (rpre (rnorm H G) WG) (rpre (rnorm H G) WU)) WD = OUT H WG WU WD (NORM H G) := by
  funext i
  obtain ⟨r, k, rfl⟩ := entry2 i
  rw [rout_at]
  refine congrArg (H (ix2 r k) + half * ·) (Finset.sum_congr rfl fun f _ => ?_)
  rw [rhid_at, pre_eq, pre_eq]; rfl

end Cert.Reference3Ideal.Half
end
-- ==== Proof.lean ====
/- The whole claim, put together: the witnesses of the programs' stated facts, then the frames, then the value
   claims, each proved in the module of its call. `Cert.Proof.claim` is the last theorem. -/
module

public import proofs.«01_k».proof.Defs
public import proofs.«01_k».proof.Proof.Gen.Kernel.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Adam4
public import proofs.«01_k».proof.Proof.Adam5
public import proofs.«01_k».proof.Proof.Adam6
public import proofs.«01_k».proof.Proof.Adam7
public import proofs.«01_k».proof.Proof.Adam8
public import proofs.«01_k».proof.Proof.Adam9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm21
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Norm22
public import proofs.«01_k».proof.Proof.Norm23
public import proofs.«01_k».proof.Proof.Norm24
public import proofs.«01_k».proof.Proof.Norm25
public import proofs.«01_k».proof.Proof.Norm26
public import proofs.«01_k».proof.Proof.Norm27
public import proofs.«01_k».proof.Proof.Norm28
public import proofs.«01_k».proof.Proof.Gen.Kernel29.Frame
public import proofs.«01_k».proof.Proof.SguRef
public import proofs.«01_k».proof.Proof.Gen.Kernel31.Frame
public import proofs.«01_k».proof.Proof.SguB
public import proofs.«01_k».proof.Proof.Gen.Kernel30.Frame
public import proofs.«01_k».proof.Proof.Paste30
public import proofs.«01_k».proof.Proof.XattnArray
public import proofs.«01_k».proof.Proof.XattnSum
public import proofs.«01_k».proof.Proof.XattnPre
public import proofs.«01_k».proof.Proof.FfnArray
public import proofs.«01_k».proof.Proof.FfnRef
public import proofs.«01_k».proof.Proof.FfnPre
public import proofs.«01_k».proof.Proof.FfnRunBits
public import proofs.«01_k».proof.Proof.HalfArray
public import proofs.«01_k».proof.Proof.HalfRef
public import proofs.«01_k».proof.Proof.HalfRunBits
public import Idealize.ShloMosaic.Adequacy
public import Idealize.ShloMosaic.Init

@[expose] public section

noncomputable section

namespace Cert.Proof

open Idealize.ShloMosaic Idealize.SL.Sem

set_option maxRecDepth 65536 in
set_option maxHeartbeats 1600000 in
/-- The reference runs, leaves its arguments unchanged and ends quiescent. -/
theorem frame_reference : quiescent_ReferenceIdeal := by
  intro m g _
  run_from ReferenceIdeal.Value.run m g
  · exact fun _ => ⟨trivial, trivial, trivial⟩
  · exact sem_eq_zero_of_no_sems (by decide) _

set_option maxRecDepth 65536 in
set_option maxHeartbeats 1600000 in
/-- On real queries and keys the kernel and the reference end with the same gradients. -/
theorem xattn_bwd : algebraic_KernelIdeal_ReferenceIdeal_pre_finite_qk := by
  pair_intro
  · run_from KernelIdeal.Gen.run_main m g
  · run_from ReferenceIdeal.Value.run m' g'
    · have hr := Xattn.real_of_pre _ _ _ (hpre c).1 (hpre c).2
      refine Eq.trans ?_ (Xattn.dq_final m c).symm
      refine (Xattn.res0_eq m' c).trans ?_
      rw [(hagree c).1, (hagree c).2.1, (hagree c).2.2]
      exact Xattn.rdq_eq _ _ _ hr
    · have hr := Xattn.real_of_pre _ _ _ (hpre c).1 (hpre c).2
      refine Eq.trans ?_ (Xattn.dkv_final m c).symm
      refine (Xattn.res1_eq m' c).trans ?_
      rw [(hagree c).1, (hagree c).2.1, (hagree c).2.2]
      exact Xattn.rdkv_eq _ _ _ hr

theorem frame_reference2 : quiescent_Reference2Ideal := by
  intro m g _
  run_from Reference2Ideal.Value.run m g
  · exact fun _ => ⟨trivial, trivial, trivial, trivial, trivial⟩
  · exact sem_eq_zero_of_no_sems (by decide) _

open Kernel2Ideal in
set_option maxRecDepth 65536 in
set_option maxHeartbeats 4000000 in
/-- On finite arrays (the gate's weights may be anything) the kernel and the reference end with the same five arrays. -/
theorem ffn_bwd_dx : algebraic_Kernel2Ideal_Reference2Ideal_pre_finite_ffn := by
  pair_intro
  · run_from Kernel2Ideal.Ffn.run m g
  · run_from Reference2Ideal.Value.run m' g'
    · refine Eq.trans (b := Reference2Ideal.Ffn.rdn (Reference2Ideal.Ffn.rda (Reference2Ideal.Ffn.rpre (m ((c.tc : Thread nD τ).loc main_arg1)) (m ((c.tc : Thread nD τ).loc main_arg2))) (Reference2Ideal.Ffn.rpre (m ((c.tc : Thread nD τ).loc main_arg1)) (m ((c.tc : Thread nD τ).loc main_arg3))) (Reference2Ideal.Ffn.rds (m ((c.tc : Thread nD τ).loc main_arg0)) (m ((c.tc : Thread nD τ).loc main_arg4)))) (Reference2Ideal.Ffn.rdb (Reference2Ideal.Ffn.rpre (m ((c.tc : Thread nD τ).loc main_arg1)) (m ((c.tc : Thread nD τ).loc main_arg2))) (Reference2Ideal.Ffn.rds (m ((c.tc : Thread nD τ).loc main_arg0)) (m ((c.tc : Thread nD τ).loc main_arg4)))) (m ((c.tc : Thread nD τ).loc main_arg2)) (m ((c.tc : Thread nD τ).loc main_arg3))) rfl (Eq.trans ?_ (Kernel2Ideal.Ffn.dn_final m c).symm)
      exact Reference2Ideal.Ffn.dn_eq _ _ _ _ _ (FfnMath.real_dh _ _ _ _ _ (hpre c).1) (FfnMath.real_n _ _ _ _ _ (hpre c).2.1) (FfnMath.real_up _ _ _ _ _ (hpre c).2.2.1) (FfnMath.real_down _ _ _ _ _ (hpre c).2.2.2)
    · refine Eq.trans (b := truncf .bf16 (Reference2Ideal.Ffn.rdf (m ((c.tc : Thread nD τ).loc main_arg0))) Reference2Ideal.Gen.bitsLt_bf16_f32) rfl (Eq.trans ?_ (Kernel2Ideal.Ffn.df_final m c).symm)
      exact Reference2Ideal.Ffn.df_eq _
    · refine Eq.trans (b := Reference2Ideal.Ffn.rshard (Reference2Ideal.Ffn.rda (Reference2Ideal.Ffn.rpre (m ((c.tc : Thread nD τ).loc main_arg1)) (m ((c.tc : Thread nD τ).loc main_arg2))) (Reference2Ideal.Ffn.rpre (m ((c.tc : Thread nD τ).loc main_arg1)) (m ((c.tc : Thread nD τ).loc main_arg3))) (Reference2Ideal.Ffn.rds (m ((c.tc : Thread nD τ).loc main_arg0)) (m ((c.tc : Thread nD τ).loc main_arg4))))) rfl (Eq.trans ?_ (Kernel2Ideal.Ffn.da_final m c).symm)
      exact Reference2Ideal.Ffn.da_eq _ _ _ _ _ (FfnMath.real_dh _ _ _ _ _ (hpre c).1) (FfnMath.real_n _ _ _ _ _ (hpre c).2.1) (FfnMath.real_up _ _ _ _ _ (hpre c).2.2.1) (FfnMath.real_down _ _ _ _ _ (hpre c).2.2.2)
    · refine Eq.trans (b := Reference2Ideal.Ffn.rshard (Reference2Ideal.Ffn.rdb (Reference2Ideal.Ffn.rpre (m ((c.tc : Thread nD τ).loc main_arg1)) (m ((c.tc : Thread nD τ).loc main_arg2))) (Reference2Ideal.Ffn.rds (m ((c.tc : Thread nD τ).loc main_arg0)) (m ((c.tc : Thread nD τ).loc main_arg4))))) rfl (Eq.trans ?_ (Kernel2Ideal.Ffn.db_final m c).symm)
      exact Reference2Ideal.Ffn.db_eq _ _ _ _
    · refine Eq.trans (b := Reference2Ideal.Ffn.rshard (Reference2Ideal.Ffn.rdb (Reference2Ideal.Ffn.rpre (m ((c.tc : Thread nD τ).loc main_arg1)) (m ((c.tc : Thread nD τ).loc main_arg2))) (Reference2Ideal.Ffn.rpre (m ((c.tc : Thread nD τ).loc main_arg1)) (m ((c.tc : Thread nD τ).loc main_arg3))))) rfl (Eq.trans ?_ (Kernel2Ideal.Ffn.hid_final m c).symm)
      exact Reference2Ideal.Ffn.hid_eq _ _ _

theorem frame_reference3 : quiescent_Reference3Ideal := by
  intro m g _
  run_from Reference3Ideal.Value.run m g
  · exact fun _ => ⟨trivial, trivial, trivial, trivial, trivial⟩
  · exact sem_eq_zero_of_no_sems (by decide) _

open Kernel3Ideal in
set_option maxRecDepth 65536 in
set_option maxHeartbeats 4000000 in
/-- The kernel and the reference end with the same output, normed rows and pre-activations. -/
theorem ffn_fwd : algebraic_Kernel3Ideal_Reference3Ideal := by
  pair_intro
  · run_from Kernel3Ideal.Half.run m g
  · run_from Reference3Ideal.Value.run m' g'
    · refine Eq.trans (b := Reference3Ideal.Half.rout (m ((c.tc : Thread nD τ).loc main_arg0)) (Reference3Ideal.Half.rhid (Reference3Ideal.Half.rpre (Reference3Ideal.Half.rnorm (m ((c.tc : Thread nD τ).loc main_arg0)) (m ((c.tc : Thread nD τ).loc main_arg1))) (m ((c.tc : Thread nD τ).loc main_arg2))) (Reference3Ideal.Half.rpre (Reference3Ideal.Half.rnorm (m ((c.tc : Thread nD τ).loc main_arg0)) (m ((c.tc : Thread nD τ).loc main_arg1))) (m ((c.tc : Thread nD τ).loc main_arg3)))) (m ((c.tc : Thread nD τ).loc main_arg4))) rfl (Eq.trans ?_ (Kernel3Ideal.Half.out_final m c).symm)
      exact Reference3Ideal.Half.out_eq _ _ _ _ _
    · refine Eq.trans (b := truncf .bf16 (Reference3Ideal.Half.rnorm (m ((c.tc : Thread nD τ).loc main_arg0)) (m ((c.tc : Thread nD τ).loc main_arg1))) Reference3Ideal.Gen.bitsLt_bf16_f32) rfl (Eq.trans ?_ (Kernel3Ideal.Half.n_final m c).symm)
      exact Reference3Ideal.Half.n_eq _ _
    · refine Eq.trans (b := Reference3Ideal.Half.rshard (Reference3Ideal.Half.rpre (Reference3Ideal.Half.rnorm (m ((c.tc : Thread nD τ).loc main_arg0)) (m ((c.tc : Thread nD τ).loc main_arg1))) (m ((c.tc : Thread nD τ).loc main_arg2)))) rfl (Eq.trans ?_ (Kernel3Ideal.Half.a_final m c).symm)
      exact Reference3Ideal.Half.shard_eq _ _ _
    · refine Eq.trans (b := Reference3Ideal.Half.rshard (Reference3Ideal.Half.rpre (Reference3Ideal.Half.rnorm (m ((c.tc : Thread nD τ).loc main_arg0)) (m ((c.tc : Thread nD τ).loc main_arg1))) (m ((c.tc : Thread nD τ).loc main_arg3)))) rfl (Eq.trans ?_ (Kernel3Ideal.Half.b_final m c).symm)
      exact Reference3Ideal.Half.shard_eq _ _ _

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Xattn.preFacts, FfnMath.preFacts,
  fun m ρ _ => Kernel.Gen.frame m ρ, fun m ρ _ => KernelIdeal.Gen.frame m ρ, fun m ρ _ => KernelIdeal.Gen.frame m ρ,
  frame_reference, fun m g _ => frame_reference m g trivial,
  fun m ρ _ => Kernel2.Ffn.frame m ρ, fun m ρ _ => Kernel2Ideal.Ffn.frame m ρ, fun m ρ _ => Kernel2Ideal.Ffn.frame m ρ,
  frame_reference2, fun m g _ => frame_reference2 m g trivial,
  fun m ρ _ => Kernel3.Half.frame m ρ, fun m ρ _ => Kernel3Ideal.Half.frame m ρ, frame_reference3,
  fun m ρ _ => Kernel4.Gen.frame m ρ, fun m ρ _ => Kernel4Ideal.Gen.frame m ρ, Optimiser.frame4,
  fun m ρ _ => Kernel5.Gen.frame m ρ, fun m ρ _ => Kernel5Ideal.Gen.frame m ρ, Optimiser.frame5,
  fun m ρ _ => Kernel6.Gen.frame m ρ, fun m ρ _ => Kernel6Ideal.Gen.frame m ρ, Optimiser.frame6,
  fun m ρ _ => Kernel7.Gen.frame m ρ, fun m ρ _ => Kernel7Ideal.Gen.frame m ρ, Optimiser.frame7,
  fun m ρ _ => Kernel8.Gen.frame m ρ, fun m ρ _ => Kernel8Ideal.Gen.frame m ρ, Optimiser.frame8,
  fun m ρ _ => Kernel9.Gen.frame m ρ, fun m ρ _ => Kernel9Ideal.Gen.frame m ρ, Optimiser.frame9,
  fun m ρ _ => Kernel10.Gen.frame m ρ, fun m ρ _ => Kernel10Ideal.Gen.frame m ρ, Products.frame10,
  fun m ρ _ => Kernel11.Gen.frame m ρ, fun m ρ _ => Kernel11Ideal.Gen.frame m ρ, Products.frame11,
  fun m ρ _ => Kernel12.Gen.frame m ρ, fun m ρ _ => Kernel12Ideal.Gen.frame m ρ, Products.frame12,
  fun m ρ _ => Kernel13.Gen.frame m ρ, fun m ρ _ => Kernel13Ideal.Gen.frame m ρ, Products.frame13,
  fun m ρ _ => Kernel14.Gen.frame m ρ, fun m ρ _ => Kernel14Ideal.Gen.frame m ρ, Products.frame14,
  fun m ρ _ => Kernel15.Gen.frame m ρ, fun m ρ _ => Kernel15Ideal.Gen.frame m ρ, Products.frame15,
  fun m ρ _ => Kernel16.Gen.frame m ρ, fun m ρ _ => Kernel16Ideal.Gen.frame m ρ, Products.frame16,
  fun m ρ _ => Kernel17.Gen.frame m ρ, fun m ρ _ => Kernel17Ideal.Gen.frame m ρ, Products.frame17,
  fun m ρ _ => Kernel18.Gen.frame m ρ, fun m ρ _ => Kernel18Ideal.Gen.frame m ρ, Products.frame18,
  fun m ρ _ => Kernel19.Gen.frame m ρ, fun m ρ _ => Kernel19Ideal.Gen.frame m ρ, Products.frame19,
  fun m ρ _ => Kernel20.Gen.frame m ρ, fun m ρ _ => Kernel20Ideal.Gen.frame m ρ, Products.frame20,
  fun m ρ _ => Kernel21.Gen.frame m ρ, fun m ρ _ => Kernel21Ideal.Gen.frame m ρ, Products.frame21,
  fun m ρ _ => Kernel22.Gen.frame m ρ, fun m ρ _ => Kernel22Ideal.Gen.frame m ρ, Norms.frame22,
  fun m ρ _ => Kernel23.Gen.frame m ρ, fun m ρ _ => Kernel23Ideal.Gen.frame m ρ, Norms.frame23,
  fun m ρ _ => Kernel24.Gen.frame m ρ, fun m ρ _ => Kernel24Ideal.Gen.frame m ρ, Norms.frame24,
  fun m ρ _ => Kernel25.Gen.frame m ρ, fun m ρ _ => Kernel25Ideal.Gen.frame m ρ, Norms.frame25,
  fun m ρ _ => Kernel26.Gen.frame m ρ, fun m ρ _ => Kernel26Ideal.Gen.frame m ρ, Norms.frame26,
  fun m ρ _ => Kernel27.Gen.frame m ρ, fun m ρ _ => Kernel27Ideal.Gen.frame m ρ, Norms.frame27,
  fun m ρ _ => Kernel28.Gen.frame m ρ, fun m ρ _ => Kernel28Ideal.Gen.frame m ρ, Norms.frame28,
  fun m ρ _ => Kernel29.Gen.frame m ρ, fun m ρ _ => Kernel29Ideal.Gen.frame m ρ, Norms.frame29,
  fun m ρ _ => Kernel30.Gen.frame m ρ, fun m ρ _ => Kernel30Ideal.Gen.frame m ρ, Norms.frame30,
  fun m ρ _ => Kernel31.Gen.frame m ρ, fun m ρ _ => Kernel31Ideal.Gen.frame m ρ, Norms.frame31,
  trivial, xattn_bwd, trivial, ffn_bwd_dx, trivial, ffn_fwd,
  trivial, Optimiser.value4,
  trivial, Optimiser.value5,
  trivial, Optimiser.value6,
  trivial, Optimiser.value7,
  trivial, Optimiser.value8,
  trivial, Optimiser.value9,
  trivial, Products.value10,
  trivial, Products.value11,
  trivial, Products.value12,
  trivial, Products.value13,
  trivial, Products.value14,
  trivial, Products.value15,
  trivial, Products.value16,
  trivial, Products.value17,
  trivial, Products.value18,
  trivial, Products.value19,
  trivial, Products.value20,
  trivial, Products.value21,
  trivial, Norms.value22,
  trivial, Norms.value23,
  trivial, Norms.value24,
  trivial, Norms.value25,
  trivial, Norms.value26,
  trivial, Norms.value27,
  trivial, Norms.value28,
  trivial, Norms.value29,
  trivial, Norms.value30,
  trivial, Norms.value31⟩

end Cert.Proof

end
